-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables : Cert.Pre_tables.Facts] (m : (ℓ : Loc Cert.Kernel3.nD Cert.Kernel3.τ Cert.Kernel3.sig) → Buf (Elt Bits) ℓ) : Prop :=
  ∀ c : Dev Cert.Kernel3.nD,
    (Cert.Pre_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))) = (fun _ => 1#1)

def Pre_Kernel3Ideal [hPre_tables : Cert.Pre_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables [hPre_tables : Cert.Pre_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_bounded [hPre_bounded : Cert.Pre_bounded.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_bounded.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12)) (m ((c.tc : Thread Cert.Kernel4Ideal.nD Cert.Kernel4Ideal.τ).loc Cert.Kernel4Ideal.main_arg13))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_bounded [hPre_bounded : Cert.Pre_bounded.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_bounded.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12)) (m ((c.tc : Thread Cert.Reference4Ideal.nD Cert.Reference4Ideal.τ).loc Cert.Reference4Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] [hPre_tables : Cert.Pre_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_tables [hReference3Ideal : Cert.Reference3Ideal.Facts] [hPre_tables : Cert.Pre_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Kernel4Ideal_pre_bounded [hKernel4Ideal : Cert.Kernel4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_bounded m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Reference4Ideal_pre_bounded [hReference4Ideal : Cert.Reference4Ideal.Facts] [hPre_bounded : Cert.Pre_bounded.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_bounded m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] [hPre_tables : Cert.Pre_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_bounded [hKernel4Ideal : Cert.Kernel4Ideal.Facts] [hReference4Ideal : Cert.Reference4Ideal.Facts] [hPre_bounded : Cert.Pre_bounded.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_bounded m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v12)) (v2 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v12) = v1 c
          ∧ r.2.mem ((c.tc : Thread Cert.Kernel4Ideal.nD Cert.Kernel4Ideal.τ).loc Cert.Kernel4Ideal.main_v15) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v161) = v0 c
          ∧ r.2.mem ((c.tc : Thread Cert.Reference4Ideal.nD Cert.Reference4Ideal.τ).loc Cert.Reference4Ideal.main_v162) = v1 c
          ∧ r.2.mem ((c.tc : Thread Cert.Reference4Ideal.nD Cert.Reference4Ideal.τ).loc Cert.Reference4Ideal.main_v163) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_tables : Cert.Pre_tables.Facts) (hPre_bounded : Cert.Pre_bounded.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables := hPre_tables)
    ∧ quiescent_Kernel3Ideal (hKernel3Ideal := hKernel3Ideal) (hPre_tables := hPre_tables)
    ∧ quiescent_Reference3Ideal (hReference3Ideal := hReference3Ideal)
    ∧ quiescent_Reference3Ideal_pre_tables (hReference3Ideal := hReference3Ideal) (hPre_tables := hPre_tables)
    ∧ quiescent_Kernel4 (hKernel4 := hKernel4)
    ∧ quiescent_Kernel4Ideal (hKernel4Ideal := hKernel4Ideal)
    ∧ quiescent_Kernel4Ideal_pre_bounded (hKernel4Ideal := hKernel4Ideal) (hPre_bounded := hPre_bounded)
    ∧ quiescent_Reference4Ideal (hReference4Ideal := hReference4Ideal)
    ∧ quiescent_Reference4Ideal_pre_bounded (hReference4Ideal := hReference4Ideal) (hPre_bounded := hPre_bounded)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_tables := hPre_tables)
    ∧ preserves_Kernel4_Kernel4Ideal
    ∧ algebraic_Kernel4Ideal_Reference4Ideal_pre_bounded (hKernel4Ideal := hKernel4Ideal) (hReference4Ideal := hReference4Ideal) (hPre_bounded := hPre_bounded)
-- ==== Pre_bounded.lean ====
abbrev S128x1024 : Shape := ⟨2, ![128, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S128x2x512 : Shape := ⟨3, ![128, 2, 512]⟩
abbrev S128x15x512 : Shape := ⟨3, ![128, 15, 512]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S128x15x512 : S_.BroadcastsInDim S128x15x512 (![] : Fin 0 → Fin S128x15x512.rank)
  reducesTo_S128x15x512_S_d0_1_2 : S128x15x512.ReducesTo [0, 1, 2] S_

variable [Facts]

def fn_part1 {F : FTy → Type} [FloatOps F] (main_arg5 : FVec F S1024x2048 .f32) (main_arg13 : FVec F S128x15x512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S128x15x512 .f32 := Host.absf main_arg13
  let main_cst_8 : FVec F S_ .f32 := constant S_ .f32 0x7F800000#32
  let main_v25 : FVec F S128x15x512 .f32 := broadcastInDim S128x15x512 ![] bcast_S_S128x15x512 main_cst_8
  let main_v26 : IVec S128x15x512 1 := cmpf .olt main_v24 main_v25
  let main_c_9 : IVec S_ 1 := constantI S_ 1 1#1
  let main_v27 : IVec S_ 1 := (fun x v => Host.reduce IntOp.andi x v reducesTo_S128x15x512_S_d0_1_2 h_S_) main_v26 main_c_9
  let main_v28 : IVec S_ 1 := andi main_v23 main_v27
  main_v28

def fn {F : FTy → Type} [FloatOps F] (main_arg0 : FVec F S128x1024 .f32) (main_arg1 : FVec F S128x1024 .f32) (main_arg2 : FVec F S128x1024 .f32) (main_arg3 : FVec F S128x1024 .f32) (main_arg4 : FVec F S1024 .f32) (main_arg5 : FVec F S1024x2048 .f32) (main_arg6 : FVec F S3x512 .f32) (main_arg7 : FVec F S4x128x128 .f32) (main_arg8 : FVec F S512 .f32) (main_arg9 : FVec F S512 .f32) (main_arg10 : FVec F S512 .f32) (main_arg11 : FVec F S1024x1024 .f32) (main_arg12 : FVec F S128x2x512 .f32) (main_arg13 : FVec F S128x15x512 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg13 main_v13 main_v16
-- ==== Pre_finite.lean ====
abbrev S8x2048x1024 : Shape := ⟨3, ![8, 2048, 1024]⟩
abbrev S8x1x1024 : Shape := ⟨3, ![8, 1, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1x1024 : S_.BroadcastsInDim S8x1x1024 (![] : Fin 0 → Fin S8x1x1024.rank)
  reducesTo_S8x1x1024_S_d0_1_2 : S8x1x1024.ReducesTo [0, 1, 2] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg5 : FVec F S1024x2048 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  main_v23

def fn {F : FTy → Type} [FloatOps F] (main_arg0 : FVec F S8x2048x1024 .f32) (main_arg1 : FVec F S8x1x1024 .f32) (main_arg2 : FVec F S8x1x1024 .f32) (main_arg3 : FVec F S8x1x1024 .f32) (main_arg4 : FVec F S1024 .f32) (main_arg5 : FVec F S1024x2048 .f32) (main_arg6 : FVec F S3x512 .f32) (main_arg7 : FVec F S4x128x128 .f32) (main_arg8 : FVec F S512 .f32) (main_arg9 : FVec F S512 .f32) (main_arg10 : FVec F S512 .f32) (main_arg11 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1x1024 .f32 := Host.absf main_arg1
  let main_cst_0 : FVec F S_ .f32 := constant S_ .f32 0x7F800000#32
  let main_v5 : FVec F S8x1x1024 .f32 := broadcastInDim S8x1x1024 ![] bcast_S_S8x1x1024 main_cst_0
  let main_v6 : IVec S8x1x1024 1 := cmpf .olt main_v4 main_v5
  let main_c_1 : IVec S_ 1 := constantI S_ 1 1#1
  let main_v7 : IVec S_ 1 := (fun x v => Host.reduce IntOp.andi x v reducesTo_S8x1x1024_S_d0_1_2 h_S_) main_v6 main_c_1
  let main_v8 : IVec S_ 1 := andi main_v3 main_v7
  let main_v9 : FVec F S8x1x1024 .f32 := Host.absf main_arg2
  let main_cst_2 : FVec F S_ .f32 := constant S_ .f32 0x7F800000#32
  let main_v10 : FVec F S8x1x1024 .f32 := broadcastInDim S8x1x1024 ![] bcast_S_S8x1x1024 main_cst_2
  let main_v11 : IVec S8x1x1024 1 := cmpf .olt main_v9 main_v10
  let main_c_3 : IVec S_ 1 := constantI S_ 1 1#1
  let main_v12 : IVec S_ 1 := (fun x v => Host.reduce IntOp.andi x v reducesTo_S8x1x1024_S_d0_1_2 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_v13 main_v16
-- ==== Pre_tables.lean ====
abbrev S16512x1024 : Shape := ⟨2, ![16512, 1024]⟩
abbrev S43 : Shape := ⟨1, ![43]⟩
abbrev S1 : Shape := ⟨1, ![1]⟩
abbrev S44032 : Shape := ⟨1, ![44032]⟩
abbrev S8x1024x3584 : Shape := ⟨3, ![8, 1024, 3584]⟩
abbrev S8x3584x1024 : Shape := ⟨3, ![8, 3584, 1024]⟩
abbrev S_ : Shape := ⟨0, ![]⟩
abbrev S43136 : Shape := ⟨1, ![43136]⟩
abbrev S44032x1 : Shape := ⟨2, ![44032, 1]⟩
abbrev S43136x1 : Shape := ⟨2, ![43136, 1]⟩

class Facts : Prop where
  shapeCasts_S1_S_ : S1.ShapeCasts S_
  bcast_S_S44032 : S_.BroadcastsInDim S44032 (![] : Fin 0 → Fin S44032.rank)
  bcast_S_S43136 : S_.BroadcastsInDim S43136 (![] : Fin 0 → Fin S43136.rank)
  bcast_S44032_S44032x1_0 : S44032.BroadcastsInDim S44032x1 (![0] : Fin 1 → Fin S44032x1.rank)
  bcast_S_S43 : S_.BroadcastsInDim S43 (![] : Fin 0 → Fin S43.rank)
  reducesTo_S43_S_d0 : S43.ReducesTo [0] S_
  h_S_ : 0 < S_.numel
  bcast_S_S1 : S_.BroadcastsInDim S1 (![] : Fin 0 → Fin S1.rank)
  reducesTo_S1_S_d0 : S1.ReducesTo [0] S_
  reducesTo_S44032_S_d0 : S44032.ReducesTo [0] S_
  bcast_S43136_S43136x1_0 : S43136.BroadcastsInDim S43136x1 (![0] : Fin 1 → Fin S43136x1.rank)
  reducesTo_S43136_S_d0 : S43136.ReducesTo [0] S_
  scatter_S43136_S44032x1_S44032_n_0_0_1_wf : ScatterDims.WF S43136 S44032x1 S44032 [] [0] [0] 1
  gather_S43136_S44032x1_S44032_n_0_n_n_0_1_1_wf : GatherDims.WF S43136 S44032x1 S44032 [] [0] [] [0] [] 1 ![1]
  gather_S44032_S43136x1_S43136_n_0_n_n_0_1_1_wf : GatherDims.WF S44032 S43136x1 S43136 [] [0] [] [0] [] 1 ![1]

variable [Facts]

def scatter_S43136_S44032x1_S44032_n_0_0_1 : ScatterDims S43136 S44032x1 S44032 where
  updateWindowDims := []
  insertedWindowDims := [0]
  scatterDimsToOperandDims := [0]
  indexVectorDim := 1
  wf := scatter_S43136_S44032x1_S44032_n_0_0_1_wf
def gather_S43136_S44032x1_S44032_n_0_n_n_0_1_1 : GatherDims S43136 S44032x1 S44032 where
  offsetDims := []
  collapsedSliceDims := [0]
  operandBatchingDims := []
  startIndicesBatchingDims := []
  startIndexMap := [0]
  indexVectorDim := 1
  sliceSizes := ![1]
  wf := gather_S43136_S44032x1_S44032_n_0_n_n_0_1_1_wf
def gather_S44032_S43136x1_S43136_n_0_n_n_0_1_1 : GatherDims S44032 S43136x1 S43136 where
  offsetDims := []
  collapsedSliceDims := [0]
  operandBatchingDims := []
  startIndicesBatchingDims := []
  startIndexMap := [0]
  indexVectorDim := 1
  sliceSizes := ![1]
  wf := gather_S44032_S43136x1_S43136_n_0_n_n_0_1_1_wf
def fn_where {F : FTy → Type} [FloatOps F] (arg0 : IVec S44032 1) (arg1 : IVec S44032 32) (arg2 : IVec S_ 32) : IVec S44032 32 :=
  let v0 : IVec S_ 32 := id arg2
  let v1 : IVec S44032 32 := broadcastInDim S44032 ![] bcast_S_S44032 v0
  let v2 : IVec S44032 32 := select arg0 arg1 v1
  v2

def fn_take {F : FTy → Type} [FloatOps F] (arg0 : IVec S43136 32) (arg1 : IVec S44032 32) : IVec S44032 32 :=
  let v0 : IVec S44032x1 32 := broadcastInDim S44032x1 ![0] bcast_S44032_S44032x1_0 arg1
  let v1 : IVec S44032 32 := (fun x i => Host.gather gather_S43136_S44032x1_S44032_n_0_n_n_0_1_1 x i) arg0 v0
  v1

def fn_take_0 {F : FTy → Type} [FloatOps F] (arg0 : IVec S44032 32) (arg1 : IVec S43136 32) : IVec S43136 32 :=
  let v0 : IVec S43136x1 32 := broadcastInDim S43136x1 ![0] bcast_S43136_S43136x1_0 arg1
  let v1 : IVec S43136 32 := (fun x i => Host.gather gather_S44032_S43136x1_S43136_n_0_n_n_0_1_1 x i) arg0 v0
  v1

def fn_part3 {F : FTy → Type} [FloatOps F] (main_arg2 : IVec S1 32) (main_arg4 : IVec S44032 32) (main_v14 : IVec S43136 32) (main_v15 : IVec S43136 32) (main_v48 : IVec S_ 1) (main_v50 : IVec S43136 1) (main_c_19 : IVec S_ 32) : IVec S_ 1 :=
  let main_v51 : IVec S43136 32 := broadcastInDim S43136 ![] bcast_S_S43136 main_c_19
  let main_v52 : IVec S43136 1 := cmpi .slt main_v15 main_v51
  let main_v53 : IVec S43136 1 := andi main_v50 main_v52
  let main_v54 : IVec S_ 32 := shapeCast S_ main_arg2 shapeCasts_S1_S_
  let main_c_20 : IVec S_ 32 := constantI S_ 32 1#32
  let main_v55 : IVec S_ 32 := addi main_v54 main_c_20
  let main_c_21 : IVec S_ 32 := constantI S_ 32 1024#32
  let main_v56 : IVec S_ 32 := muli main_v55 main_c_21
  let main_v57 : IVec S43136 32 := broadcastInDim S43136 ![] bcast_S_S43136 main_v56
  let main_v58 : IVec S43136 1 := cmpi .slt main_v14 main_v57
  let main_v59 : IVec S43136 32 := fn_take_0 (F := F) main_arg4 main_v14
  let main_v60 : IVec S43136 1 := cmpi .eq main_v59 main_v15
  let main_v61 : IVec S43136 1 := andi main_v58 main_v60
  let main_v62 : IVec S43136 1 := ori main_v53 main_v61
  let main_c_22 : IVec S_ 1 := constantI S_ 1 1#1
  let main_v63 : IVec S_ 1 := (fun x v => Host.reduce IntOp.andi x v reducesTo_S43136_S_d0 h_S_) main_v62 main_c_22
  let main_v64 : IVec S_ 1 := andi main_v48 main_v63
  main_v64

def fn_part2 {F : FTy → Type} [FloatOps F] (main_arg2 : IVec S1 32) (main_arg4 : IVec S44032 32) (main_v0 : IVec S44032 32) (main_v5 : IVec S44032 1) (main_v14 : IVec S43136 32) (main_v15 : IVec S43136 32) (main_v28 : IVec S_ 1) (main_v33 : IVec S44032 1) : IVec S_ 1 :=
  let main_c_13 : IVec S_ 1 := constantI S_ 1 1#1
  let main_v34 : IVec S_ 1 := (fun x v => Host.reduce IntOp.andi x v reducesTo_S44032_S_d0 h_S_) main_v33 main_c_13
  let main_v35 : IVec S_ 1 := andi main_v28 main_v34
  let main_c_14 : IVec S_ 32 := constantI S_ 32 0#32
  let main_v36 : IVec S44032 32 := broadcastInDim S44032 ![] bcast_S_S44032 main_c_14
  let main_v37 : IVec S44032 1 := cmpi .sge main_arg4 main_v36
  let main_c_15 : IVec S_ 32 := constantI S_ 32 43136#32
  let main_v38 : IVec S44032 32 := broadcastInDim S44032 ![] bcast_S_S44032 main_c_15
  let main_v39 : IVec S44032 1 := cmpi .slt main_arg4 main_v38
  let main_v40 : IVec S44032 1 := andi main_v37 main_v39
  let main_c_16 : IVec S_ 1 := constantI S_ 1 1#1
  let main_v41 : IVec S_ 1 := (fun x v => Host.reduce IntOp.andi x v reducesTo_S44032_S_d0 h_S_) main_v40 main_c_16
  let main_v42 : IVec S_ 1 := andi main_v35 main_v41
  let main_v43 : IVec S44032 1 := noti main_v5
  let main_v44 : IVec S44032 32 := fn_take (F := F) main_v14 main_arg4
  let main_v45 : IVec S44032 1 := cmpi .eq main_v44 main_v0
  let main_v46 : IVec S44032 1 := ori main_v43 main_v45
  let main_c_17 : IVec S_ 1 := constantI S_ 1 1#1
  let main_v47 : IVec S_ 1 := (fun x v => Host.reduce IntOp.andi x v reducesTo_S44032_S_d0 h_S_) main_v46 main_c_17
  let main_v48 : IVec S_ 1 := andi main_v42 main_v47
  let main_c_18 : IVec S_ 32 := constantI S_ 32 16512#32
  let main_v49 : IVec S43136 32 := broadcastInDim S43136 ![] bcast_S_S43136 main_c_18
  let main_v50 : IVec S43136 1 := cmpi .sge main_v15 main_v49
  let main_c_19 : IVec S_ 32 := constantI S_ 32 26624#32
  fn_part3 (F := F) main_arg2 main_arg4 main_v14 main_v15 main_v48 main_v50 main_c_19

def fn_part1 {F : FTy → Type} [FloatOps F] (main_arg1 : IVec S43 32) (main_arg2 : IVec S1 32) (main_arg3 : IVec S44032 32) (main_arg4 : IVec S44032 32) (main_v0 : IVec S44032 32) (main_v5 : IVec S44032 1) (main_v14 : IVec S43136 32) (main_v15 : IVec S43136 32) (main_v16 : IVec S43 32) : IVec S_ 1 :=
  let main_v17 : IVec S43 1 := cmpi .sge main_arg1 main_v16
  let main_c_6 : IVec S_ 32 := constantI S_ 32 8#32
  let main_v18 : IVec S43 32 := broadcastInDim S43 ![] bcast_S_S43 main_c_6
  let main_v19 : IVec S43 1 := cmpi .slt main_arg1 main_v18
  let main_v20 : IVec S43 1 := andi main_v17 main_v19
  let main_c_7 : IVec S_ 1 := constantI S_ 1 1#1
  let main_v21 : IVec S_ 1 := (fun x v => Host.reduce IntOp.andi x v reducesTo_S43_S_d0 h_S_) main_v20 main_c_7
  let main_c_8 : IVec S_ 32 := constantI S_ 32 0#32
  let main_v22 : IVec S1 32 := broadcastInDim S1 ![] bcast_S_S1 main_c_8
  let main_v23 : IVec S1 1 := cmpi .sge main_arg2 main_v22
  let main_c_9 : IVec S_ 32 := constantI S_ 32 40#32
  let main_v24 : IVec S1 32 := broadcastInDim S1 ![] bcast_S_S1 main_c_9
  let main_v25 : IVec S1 1 := cmpi .sle main_arg2 main_v24
  let main_v26 : IVec S1 1 := andi main_v23 main_v25
  let main_c_10 : IVec S_ 1 := constantI S_ 1 1#1
  let main_v27 : IVec S_ 1 := (fun x v => Host.reduce IntOp.andi x v reducesTo_S1_S_d0 h_S_) main_v26 main_c_10
  let main_v28 : IVec S_ 1 := andi main_v21 main_v27
  let main_c_11 : IVec S_ 32 := constantI S_ 32 0#32
  let main_v29 : IVec S44032 32 := broadcastInDim S44032 ![] bcast_S_S44032 main_c_11
  let main_v30 : IVec S44032 1 := cmpi .sge main_arg3 main_v29
  let main_c_12 : IVec S_ 32 := constantI S_ 32 16512#32
  let main_v31 : IVec S44032 32 := broadcastInDim S44032 ![] bcast_S_S44032 main_c_12
  let main_v32 : IVec S44032 1 := cmpi .slt main_arg3 main_v31
  let main_v33 : IVec S44032 1 := andi main_v30 main_v32
  fn_part2 (F := F) main_arg2 main_arg4 main_v0 main_v5 main_v14 main_v15 main_v28 main_v33

def fn {F : FTy → Type} [FloatOps F] (main_arg0 : FVec F S16512x1024 .f32) (main_arg1 : IVec S43 32) (main_arg2 : IVec S1 32) (main_arg3 : IVec S44032 32) (main_arg4 : IVec S44032 32) (main_arg5 : FVec F S8x1024x3584 .f32) (main_arg6 : FVec F S8x1024x3584 .f32) (main_arg7 : FVec F S8x3584x1024 .f32) : IVec S_ 1 :=
  let main_v0 : IVec S44032 32 := iotaInDim S44032 32 0
  let main_v1 : IVec S_ 32 := shapeCast S_ main_arg2 shapeCasts_S1_S_
  let main_c : IVec S_ 32 := constantI S_ 32 1#32
  let main_v2 : IVec S_ 32 := addi main_v1 main_c
  let main_c_0 : IVec S_ 32 := constantI S_ 32 1024#32
  let main_v3 : IVec S_ 32 := muli main_v2 main_c_0
  let main_v4 : IVec S44032 32 := broadcastInDim S44032 ![] bcast_S_S44032 main_v3
  let main_v5 : IVec S44032 1 := cmpi .slt main_v0 main_v4
  let main_c_1 : IVec S_ 32 := constantI S_ 32 0#32
  let main_v6 : IVec S43136 32 := broadcastInDim S43136 ![] bcast_S_S43136 main_c_1
  let main_c_2 : IVec S_ 32 := constantI S_ 32 43136#32
  let main_v7 : IVec S44032 32 := fn_where (F := F) main_v5 main_arg4 main_c_2
  let main_c_3 : IVec S_ 32 := constantI S_ 32 0#32
  let main_v8 : IVec S44032 32 := broadcastInDim S44032 ![] bcast_S_S44032 main_c_3
  let main_v9 : IVec S44032 1 := cmpi .slt main_v7 main_v8
  let main_c_4 : IVec S_ 32 := constantI S_ 32 43136#32
  let main_v10 : IVec S44032 32 := broadcastInDim S44032 ![] bcast_S_S44032 main_c_4
  let main_v11 : IVec S44032 32 := addi main_v7 main_v10
  let main_v12 : IVec S44032 32 := select main_v9 main_v11 main_v7
  let main_v13 : IVec S44032x1 32 := broadcastInDim S44032x1 ![0] bcast_S44032_S44032x1_0 main_v12
  let main_v14 : IVec S43136 32 := (fun x i u => Host.scatter scatter_S43136_S44032x1_S44032_n_0_0_1 (fun _ b => b) x i u) main_v6 main_v13 main_v0
  let main_v15 : IVec S43136 32 := iotaInDim S43136 32 0
  let main_c_5 : IVec S_ 32 := constantI S_ 32 0#32
  let main_v16 : IVec S43 32 := broadcastInDim S43 ![] bcast_S_S43 main_c_5
  fn_part1 (F := F) main_arg1 main_arg2 main_arg3 main_arg4 main_v0 main_v5 main_v14 main_v15 main_v16
-- ==== Kernel.lean ====
abbrev S8x2048x1024 : Shape := ⟨3, ![8, 2048, 1024]⟩
abbrev S8x1x1024 : Shape := ⟨3, ![8, 1, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S1x1024 : Shape := ⟨2, ![1, 1024]⟩
abbrev S1x512 : Shape := ⟨2, ![1, 512]⟩
abbrev S8x2x512 : Shape := ⟨3, ![8, 2, 512]⟩
abbrev S8x15x512 : Shape := ⟨3, ![8, 15, 512]⟩
abbrev S1x2048x1024 : Shape := ⟨3, ![1, 2048, 1024]⟩
abbrev S1x1x1024 : Shape := ⟨3, ![1, 1, 1024]⟩
abbrev S1x2x512 : Shape := ⟨3, ![1, 2, 512]⟩
abbrev S1x15x512 : Shape := ⟨3, ![1, 15, 512]⟩
abbrev S2056x512 : Shape := ⟨2, ![2056, 512]⟩
abbrev S2064x512 : Shape := ⟨2, ![2064, 512]⟩
abbrev S8x512 : Shape := ⟨2, ![8, 512]⟩
abbrev S16x512 : Shape := ⟨2, ![16, 512]⟩
abbrev S1x512x1024 : Shape := ⟨3, ![1, 512, 1024]⟩
abbrev S512x1024 : Shape := ⟨2, ![512, 1024]⟩
abbrev S512x1 : Shape := ⟨2, ![512, 1]⟩
abbrev S512x2048 : Shape := ⟨2, ![512, 2048]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S2x512 : Shape := ⟨2, ![2, 512]⟩
abbrev S15x512 : Shape := ⟨2, ![15, 512]⟩

abbrev nBuf : Space → Nat
  | .hbm => 22
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x2048, .f32⟩
  | .hbm, ⟨6, _⟩ => ⟨S3x512, .f32⟩
  | .hbm, ⟨7, _⟩ => ⟨S4x128x128, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024x2048, .bf16⟩
  | .hbm, ⟨13, _⟩ => ⟨S4x128x128, .bf16⟩
  | .hbm, ⟨14, _⟩ => ⟨S1024x1024, .bf16⟩
  | .hbm, ⟨15, _⟩ => ⟨S1x1024, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S8x2048x1024, .f32⟩
  | .hbm, ⟨20, _⟩ => ⟨S8x2x512, .f32⟩
  | .hbm, ⟨21, _⟩ => ⟨S8x15x512, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2048, .bf16⟩
  | .local _ .vmem, ⟨10, _⟩ => ⟨S3x512, .f32⟩
  | .local _ .vmem, ⟨11, _⟩ => ⟨S4x128x128, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1024x1024, .bf16⟩
  | .local _ .vmem, ⟨16, _⟩ => ⟨S1x2048x1024, .f32⟩
  | .local _ .vmem, ⟨17, _⟩ => ⟨S1x2048x1024, .f32⟩
  | .local _ .vmem, ⟨18, _⟩ => ⟨S1x2x512, .f32⟩
  | .local _ .vmem, ⟨19, _⟩ => ⟨S1x2x512, .f32⟩
  | .local _ .vmem, ⟨20, _⟩ => ⟨S1x15x512, .f32⟩
  | .local _ .vmem, ⟨21, _⟩ => ⟨S1x15x512, .f32⟩
  | .local _ .vmem, ⟨22, _⟩ => ⟨S2056x512, .f32⟩
  | .local _ .vmem, ⟨23, _⟩ => ⟨S2064x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x2048x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x15x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ReferenceIdeal.lean ====
abbrev S8x2048x1024 : Shape := ⟨3, ![8, 2048, 1024]⟩
abbrev S8x1x1024 : Shape := ⟨3, ![8, 1, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩
abbrev S8x2048x512 : Shape := ⟨3, ![8, 2048, 512]⟩
abbrev S8x2x512 : Shape := ⟨3, ![8, 2, 512]⟩
abbrev S8x2050x512 : Shape := ⟨3, ![8, 2050, 512]⟩
abbrev S1x512 : Shape := ⟨2, ![1, 512]⟩
abbrev S1x1x512 : Shape := ⟨3, ![1, 1, 512]⟩
abbrev S8x15x512 : Shape := ⟨3, ![8, 15, 512]⟩
abbrev S8x2063x512 : Shape := ⟨3, ![8, 2063, 512]⟩
abbrev S8x2064x512 : Shape := ⟨3, ![8, 2064, 512]⟩
abbrev S2048 : Shape := ⟨1, ![2048]⟩
abbrev S8x2048x128 : Shape := ⟨3, ![8, 2048, 128]⟩
abbrev S1x2048x1 : Shape := ⟨3, ![1, 2048, 1]⟩
abbrev S1x128x128 : Shape := ⟨3, ![1, 128, 128]⟩
abbrev S128x128 : Shape := ⟨2, ![128, 128]⟩

abbrev nBuf : Space → Nat
  | .hbm => 190
  | .vmem => 0
  | .smem => 0
  | _ => 0

abbrev hbmTy0_0 (i : Nat) : BufTy := match i % 128 with
  | 0 => ⟨S8x2048x1024, .f32⟩
  | 1 => ⟨S8x1x1024, .f32⟩
  | 2 => ⟨S8x1x1024, .f32⟩
  | 3 => ⟨S8x1x1024, .f32⟩
  | 4 => ⟨S1024, .f32⟩
  | 5 => ⟨S1024x2048, .f32⟩
  | 6 => ⟨S3x512, .f32⟩
  | 7 => ⟨S4x128x128, .f32⟩
  | 8 => ⟨S512, .f32⟩
  | 9 => ⟨S512, .f32⟩
  | 10 => ⟨S512, .f32⟩
  | 11 => ⟨S1024x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S_, .f32⟩
  | 29 => ⟨S8x1x1024, .f32⟩
  | 30 => ⟨S8x1x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S8x2048x2048, .f32⟩
  | 36 => ⟨S8x2048x512, .f32⟩
  | 37 => ⟨S8x2048x512, .f32⟩
  | 38 => ⟨S8x2048x512, .f32⟩
  | 39 => ⟨S8x2048x512, .f32⟩
  | 40 => ⟨S_, .f32⟩
  | 41 => ⟨S8x2x512, .f32⟩
  | 42 => ⟨S8x2048x512, .f32⟩
  | 43 => ⟨S8x2050x512, .f32⟩
  | 44 => ⟨S8x2048x512, .f32⟩
  | 45 => ⟨S1x512, .f32⟩
  | 46 => ⟨S512, .f32⟩
  | 47 => ⟨S1x1x512, .f32⟩
  | 48 => ⟨S8x2048x512, .f32⟩
  | 49 => ⟨S8x2048x512, .f32⟩
  | 50 => ⟨S8x2048x512, .f32⟩
  | 51 => ⟨S1x512, .f32⟩
  | 52 => ⟨S512, .f32⟩
  | 53 => ⟨S1x1x512, .f32⟩
  | 54 => ⟨S8x2048x512, .f32⟩
  | 55 => ⟨S8x2048x512, .f32⟩
  | 56 => ⟨S8x2048x512, .f32⟩
  | 57 => ⟨S8x2048x512, .f32⟩
  | 58 => ⟨S1x512, .f32⟩
  | 59 => ⟨S512, .f32⟩
  | 60 => ⟨S1x1x512, .f32⟩
  | 61 => ⟨S8x2048x512, .f32⟩
  | 62 => ⟨S8x2048x512, .f32⟩
  | 63 => ⟨S8x2048x512, .f32⟩
  | 64 => ⟨S8x2048x512, .f32⟩
  | 65 => ⟨S8x2x512, .f32⟩
  | 66 => ⟨S_, .f32⟩
  | 67 => ⟨S8x15x512, .f32⟩
  | 68 => ⟨S8x2063x512, .f32⟩
  | 69 => ⟨S_, .f32⟩
  | 70 => ⟨S_, .f32⟩
  | 71 => ⟨S8x2063x512, .f32⟩
  | 72 => ⟨S_, .i32⟩
  | 73 => ⟨S_, .f32⟩
  | 74 => ⟨S8x2064x512, .f32⟩
  | 75 => ⟨S2048, .i32⟩
  | 76 => ⟨S8x2048x128, .f32⟩
  | 77 => ⟨S8x2048x128, .f32⟩
  | 78 => ⟨S8x2048x128, .f32⟩
  | 79 => ⟨S_, .i32⟩
  | 80 => ⟨S2048, .i32⟩
  | 81 => ⟨S2048, .i32⟩
  | 82 => ⟨S_, .i32⟩
  | 83 => ⟨S2048, .i32⟩
  | 84 => ⟨S2048, .i32⟩
  | 85 => ⟨S2048, .f32⟩
  | 86 => ⟨S1x2048x1, .f32⟩
  | 87 => ⟨S8x2048x128, .f32⟩
  | 88 => ⟨S8x2048x128, .f32⟩
  | 89 => ⟨S8x2048x128, .f32⟩
  | 90 => ⟨S8x2048x128, .f32⟩
  | 91 => ⟨S1x128x128, .f32⟩
  | 92 => ⟨S128x128, .f32⟩
  | 93 => ⟨S8x2048x128, .f32⟩
  | 94 => ⟨S8x2048x128, .f32⟩
  | 95 => ⟨S8x2048x128, .f32⟩
  | 96 => ⟨S8x2048x128, .f32⟩
  | 97 => ⟨S_, .i32⟩
  | 98 => ⟨S2048, .i32⟩
  | 99 => ⟨S2048, .i32⟩
  | 100 => ⟨S_, .i32⟩
  | 101 => ⟨S2048, .i32⟩
  | 102 => ⟨S2048, .i32⟩
  | 103 => ⟨S2048, .f32⟩
  | 104 => ⟨S1x2048x1, .f32⟩
  | 105 => ⟨S8x2048x128, .f32⟩
  | 106 => ⟨S8x2048x128, .f32⟩
  | 107 => ⟨S8x2048x128, .f32⟩
  | 108 => ⟨S8x2048x128, .f32⟩
  | 109 => ⟨S1x128x128, .f32⟩
  | 110 => ⟨S128x128, .f32⟩
  | 111 => ⟨S8x2048x128, .f32⟩
  | 112 => ⟨S8x2048x128, .f32⟩
  | 113 => ⟨S8x2048x128, .f32⟩
  | 114 => ⟨S8x2048x128, .f32⟩
  | 115 => ⟨S_, .i32⟩
  | 116 => ⟨S2048, .i32⟩
  | 117 => ⟨S2048, .i32⟩
  | 118 => ⟨S_, .i32⟩
  | 119 => ⟨S2048, .i32⟩
  | 120 => ⟨S2048, .i32⟩
  | 121 => ⟨S2048, .f32⟩
  | 122 => ⟨S1x2048x1, .f32⟩
  | 123 => ⟨S8x2048x128, .f32⟩
  | 124 => ⟨S8x2048x128, .f32⟩
  | 125 => ⟨S8x2048x128, .f32⟩
  | 126 => ⟨S8x2048x128, .f32⟩
  | 127 => ⟨S1x128x128, .f32⟩
  | _ => ⟨S8x2048x1024, .f32⟩

abbrev hbmTy0_1 (i : Nat) : BufTy := match i % 128 with
  | 0 => ⟨S128x128, .f32⟩
  | 1 => ⟨S8x2048x128, .f32⟩
  | 2 => ⟨S8x2048x128, .f32⟩
  | 3 => ⟨S8x2048x128, .f32⟩
  | 4 => ⟨S8x2048x128, .f32⟩
  | 5 => ⟨S_, .i32⟩
  | 6 => ⟨S2048, .i32⟩
  | 7 => ⟨S2048, .i32⟩
  | 8 => ⟨S_, .i32⟩
  | 9 => ⟨S2048, .i32⟩
  | 10 => ⟨S2048, .i32⟩
  | 11 => ⟨S2048, .f32⟩
  | 12 => ⟨S1x2048x1, .f32⟩
  | 13 => ⟨S8x2048x128, .f32⟩
  | 14 => ⟨S8x2048x128, .f32⟩
  | 15 => ⟨S8x2048x128, .f32⟩
  | 16 => ⟨S8x2048x128, .f32⟩
  | 17 => ⟨S1x128x128, .f32⟩
  | 18 => ⟨S128x128, .f32⟩
  | 19 => ⟨S8x2048x128, .f32⟩
  | 20 => ⟨S8x2048x512, .f32⟩
  | 21 => ⟨S1x1x512, .f32⟩
  | 22 => ⟨S8x2048x512, .f32⟩
  | 23 => ⟨S8x2048x512, .f32⟩
  | 24 => ⟨S8x15x512, .f32⟩
  | 25 => ⟨S8x2048x512, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x1, .f32⟩
  | 36 => ⟨S8x2048x512, .f32⟩
  | 37 => ⟨S8x2048x512, .f32⟩
  | 38 => ⟨S1x1x512, .f32⟩
  | 39 => ⟨S8x2048x512, .f32⟩
  | 40 => ⟨S8x2048x512, .f32⟩
  | 41 => ⟨S8x2048x512, .f32⟩
  | 42 => ⟨S_, .f32⟩
  | 43 => ⟨S8x2048, .f32⟩
  | 44 => ⟨S8x2048x1, .f32⟩
  | 45 => ⟨S_, .f32⟩
  | 46 => ⟨S8x2048x1, .f32⟩
  | 47 => ⟨S8x2048x1, .f32⟩
  | 48 => ⟨S_, .f32⟩
  | 49 => ⟨S8x2048x1, .f32⟩
  | 50 => ⟨S8x2048x1, .f32⟩
  | 51 => ⟨S8x2048x1, .f32⟩
  | 52 => ⟨S8x2048x512, .f32⟩
  | 53 => ⟨S8x2048x512, .f32⟩
  | 54 => ⟨S1x1x512, .f32⟩
  | 55 => ⟨S8x2048x512, .f32⟩
  | 56 => ⟨S8x2048x512, .f32⟩
  | 57 => ⟨S8x2048x1024, .f32⟩
  | 58 => ⟨S8x2048x1024, .f32⟩
  | 59 => ⟨S8x2048x1024, .f32⟩
  | 60 => ⟨S8x2048x1024, .f32⟩
  | 61 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_call0_call0_cst : Ref sig .tc := ⟨.hbm, 69, rfl⟩
abbrev main_call0_call0_v0 : Ref sig .tc := ⟨.hbm, 70, rfl⟩
abbrev main_v51 : Ref sig .tc := ⟨.hbm, 71, rfl⟩
abbrev main_c : Ref sig .tc := ⟨.hbm, 72, rfl⟩
abbrev main_call1_v0 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_5 : Ref sig .tc := ⟨.hbm, 79, rfl⟩
abbrev main_v57 : Ref sig .tc := ⟨.hbm, 80, rfl⟩
abbrev main_v58 : Ref sig .tc := ⟨.hbm, 81, rfl⟩
abbrev main_c_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_7 : Ref sig .tc := ⟨.hbm, 97, rfl⟩
abbrev main_v73 : Ref sig .tc := ⟨.hbm, 98, rfl⟩
abbrev main_v74 : Ref sig .tc := ⟨.hbm, 99, rfl⟩
abbrev main_c_8 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_c_9 : Ref sig .tc := ⟨.hbm, 115, rfl⟩
abbrev main_v89 : Ref sig .tc := ⟨.hbm, 116, rfl⟩
abbrev main_v90 : Ref sig .tc := ⟨.hbm, 117, rfl⟩
abbrev main_c_10 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_c_11 : Ref sig .tc := ⟨.hbm, 133, rfl⟩
abbrev main_v105 : Ref sig .tc := ⟨.hbm, 134, rfl⟩
abbrev main_v106 : Ref sig .tc := ⟨.hbm, 135, rfl⟩
abbrev main_c_12 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_13 : Ref sig .tc := ⟨.hbm, 154, rfl⟩
abbrev main_v124 : Ref sig .tc := ⟨.hbm, 155, rfl⟩
abbrev main_v125 : Ref sig .tc := ⟨.hbm, 156, rfl⟩
abbrev main_cst_14 : Ref sig .tc := ⟨.hbm, 157, rfl⟩
abbrev main_v126 : Ref sig .tc := ⟨.hbm, 158, rfl⟩
abbrev main_v127 : Ref sig .tc := ⟨.hbm, 159, rfl⟩
abbrev main_cst_15 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_16 : Ref sig .tc := ⟨.hbm, 170, rfl⟩
abbrev main_v137 : Ref sig .tc := ⟨.hbm, 171, rfl⟩
abbrev main_v138 : Ref sig .tc := ⟨.hbm, 172, rfl⟩
abbrev main_cst_17 : Ref sig .tc := ⟨.hbm, 173, rfl⟩
abbrev main_v139 : Ref sig .tc := ⟨.hbm, 174, rfl⟩
abbrev main_v140 : Ref sig .tc := ⟨.hbm, 175, rfl⟩
abbrev main_cst_18 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1024x768 : Shape := ⟨2, ![1024, 768]⟩
abbrev S768x1024 : Shape := ⟨2, ![768, 1024]⟩
abbrev S1024x512 : Shape := ⟨2, ![1024, 512]⟩
abbrev S512x1024 : Shape := ⟨2, ![512, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024x1024, .f32⟩
  | .local _ .vmem, ⟨13, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S8x1x1024 : Shape := ⟨3, ![8, 1, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S_, .f32⟩
  | .hbm, ⟨36, _⟩ => ⟨S8x2048x2816, .f32⟩
  | .hbm, ⟨37, _⟩ => ⟨S8x2048x2816, .f32⟩
  | .hbm, ⟨38, _⟩ => ⟨S_, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel3.lean ====
abbrev S16512x1024 : Shape := ⟨2, ![16512, 1024]⟩
abbrev S43 : Shape := ⟨1, ![43]⟩
abbrev S1 : Shape := ⟨1, ![1]⟩
abbrev S44032 : Shape := ⟨1, ![44032]⟩
abbrev S8x1024x3584 : Shape := ⟨3, ![8, 1024, 3584]⟩
abbrev S8x3584x1024 : Shape := ⟨3, ![8, 3584, 1024]⟩
abbrev S43136x1024 : Shape := ⟨2, ![43136, 1024]⟩
abbrev S1x1024x512 : Shape := ⟨3, ![1, 1024, 512]⟩
abbrev S1x512x1024 : Shape := ⟨3, ![1, 512, 1024]⟩
abbrev S3x1024x1024 : Shape := ⟨3, ![3, 1024, 1024]⟩
abbrev S1024x1024 : Shape := ⟨2, ![1024, 1024]⟩
abbrev S3 : Shape := ⟨1, ![3]⟩
abbrev S_ : Shape := ⟨0, ![]⟩
abbrev S1x1024x1024 : Shape := ⟨3, ![1, 1024, 1024]⟩
abbrev S128x1024 : Shape := ⟨2, ![128, 1024]⟩
abbrev S1x128x1024 : Shape := ⟨3, ![1, 128, 1024]⟩
abbrev S1x1024 : Shape := ⟨2, ![1, 1024]⟩
abbrev S1024x512 : Shape := ⟨2, ![1024, 512]⟩
abbrev S512x1024 : Shape := ⟨2, ![512, 1024]⟩

abbrev nBuf : Space → Nat
  | .hbm => 5
  | .vmem => 9
  | .smem => 4
  | _ => 0

abbrev bufTy : (tb : Table) → Fin (tcTables nBuf tb) → BufTy
  | .hbm, ⟨0, _⟩ => ⟨S16512x1024, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S43136x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S3x1024x1024, .f32⟩
  | .local _ .vmem, ⟨7, _⟩ => ⟨S1024x1024, .bf16⟩
  | .local _ .vmem, ⟨8, _⟩ => ⟨S3x1024x1024, .f32⟩
  | .local _ .smem, ⟨0, _⟩ => ⟨S43, .i32⟩
  | .local _ .smem, ⟨1, _⟩ => ⟨S1, .i32⟩
  | .local _ .smem, ⟨2, _⟩ => ⟨S44032, .i32⟩
  | .local _ .smem, ⟨3, _⟩ => ⟨S44032, .i32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![43, 7], ![false, false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32_3 : BitVec 32 := 0#32
  let v11 : BitVec 1 := Scalar.cmpi .eq arg1 c0_i32_3
  let v12 : BitVec 32 := Scalar.extui v11
  let c0_i32_4 : BitVec 32 := 0#32
  let v13 : BitVec 1 := Scalar.cmpi .ne v12 c0_i32_4
  v13

def k0_cond2 (i : grid0.Coords) : BitVec 1 :=
  let arg0 : BitVec 32 := BitVec.ofNat 32 (i 0).val
  let c0_i32_6 : BitVec 32 := 0#32
  let v17 : BitVec 1 := Scalar.cmpi .eq arg0 c0_i32_6
  let v18 : BitVec 32 := Scalar.extui v17
  let c0_i32_7 : BitVec 32 := 0#32
  let v19 : BitVec 1 := Scalar.cmpi .ne v18 c0_i32_7
  v19

@[reducible] def k0_t1_loop : Scf.Loop 32 :=
  let c0_i32_727 : BitVec 32 := 0#32
  let c1024_i32 : BitVec 32 := 1024#32
  let v514 : BitVec 32 := Scalar.addi c0_i32_727 c1024_i32
  let c1_i32_728 : BitVec 32 := 1#32
  ⟨c0_i32_727, v514, c1_i32_728⟩
def k0_off2 (k0_t1 : Fin k0_t1_loop.trips) : Fin 1 → Nat :=
  let c0_i32_730 : BitVec 32 := 0#32
  let c0_i32_727 : BitVec 32 := 0#32
  let c1_i32_728 : BitVec 32 := 1#32
  let arg17 : BitVec 32 := Scf.iv c0_i32_727 c1_i32_728 k0_t1
  let v515 : BitVec 32 := Scalar.addi c0_i32_730 arg17
  let v516 : Index := Scalar.indexCast v515
  ![v516.toNat]
def k0_off3 (k0_t1 : Fin k0_t1_loop.trips) : Fin 2 → Nat :=
  let c0_i32_727 : BitVec 32 := 0#32
  let c1_i32_728 : BitVec 32 := 1#32
  let arg17 : BitVec 32 := Scf.iv c0_i32_727 c1_i32_728 k0_t1
  let c0_i32_735 : BitVec 32 := 0#32
  ![arg17.toNat, 0]
def k0_off4 (v517 : BitVec 32) : Fin 2 → Nat :=
  let c0_i32_736 : BitVec 32 := 0#32
  ![v517.toNat, 0]

def k0_chk1 (i : grid0.Coords) (v517 : BitVec 32) : Prop :=
  (∀ (k0_h1 : k0_cond1 i = 1#1), ∀ (k0_h2 : k0_cond2 i = 1#1), ∀ a, (k0_off4 v517) a + S1x1024.size a ≤ S16512x1024.size a)
theorem k0_off4_inb : ∀ (i : grid0.Coords) (v517 : BitVec 32) (k0_hw1 : k0_chk1 i v517), ∀ (k0_h1 : k0_cond1 i = 1#1), ∀ (k0_h2 : k0_cond2 i = 1#1), ∀ a, (k0_off4 v517) a + S1x1024.size a ≤ S16512x1024.size a := fun i v517 k0_hw1 k0_h1 k0_h2 => k0_hw1 k0_h1 k0_h2

def k0_off5 (k0_t1 : Fin k0_t1_loop.trips) : Fin 1 → Nat :=
  let c1024_i32_737 : BitVec 32 := 1024#32
  let c0_i32_727 : BitVec 32 := 0#32
  let c1_i32_728 : BitVec 32 := 1#32
  let arg17 : BitVec 32 := Scf.iv c0_i32_727 c1_i32_728 k0_t1
  let v524 : BitVec 32 := Scalar.addi c1024_i32_737 arg17
  let v525 : Index := Scalar.indexCast v524
  ![v525.toNat]
def k0_off6 (k0_t1 : Fin k0_t1_loop.trips) : Fin 2 → Nat :=
  let c0_i32_727 : BitVec 32 := 0#32
  let c1_i32_728 : BitVec 32 := 1#32
  let arg17 : BitVec 32 := Scf.iv c0_i32_727 c1_i32_728 k0_t1
  let c0_i32_742 : BitVec 32 := 0#32
  ![arg17.toNat, 0]
def k0_off7 (v526 : BitVec 32) : Fin 2 → Nat :=
  let c0_i32_743 : BitVec 32 := 0#32
  ![v526.toNat, 0]

def k0_chk2 (i : grid0.Coords) (v526 : BitVec 32) : Prop :=
  (∀ (k0_h1 : k0_cond1 i = 1#1), ∀ (k0_h2 : k0_cond2 i = 1#1), ∀ a, (k0_off7 v526) a + S1x1024.size a ≤ S16512x1024.size a)
theorem k0_off7_inb : ∀ (i : grid0.Coords) (v526 : BitVec 32) (k0_hw2 : k0_chk2 i v526), ∀ (k0_h1 : k0_cond1 i = 1#1), ∀ (k0_h2 : k0_cond2 i = 1#1), ∀ a, (k0_off7 v526) a + S1x1024.size a ≤ S16512x1024.size a := fun i v526 k0_hw2 k0_h1 k0_h2 => k0_hw2 k0_h1 k0_h2

@[reducible] def k0_t2_loop : Scf.Loop 32 :=
  let c0_i32_14 : BitVec 32 := 0#32
  let c1024_i32 : BitVec 32 := 1024#32
  let v36 : BitVec 32 := Scalar.addi c0_i32_14 c1024_i32
  let c1_i32_15 : BitVec 32 := 1#32
  ⟨c0_i32_14, v36, c1_i32_15⟩
def k0_off8 (i : grid0.Coords) : Fin 1 → Nat :=
  let arg0 : BitVec 32 := BitVec.ofNat 32 (i 0).val
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off9 (i : grid0.Coords) : Fin 3 → Nat :=
  let arg0 : BitVec 32 := BitVec.ofNat 32 (i 0).val
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_17 : BitVec 32 := 0#32
  let c0_i32_18 : BitVec 32 := 0#32
  ![v10.toNat, 0, 0]
def k0_off10 (k0_t2 : Fin k0_t2_loop.trips) : Fin 2 → Nat :=
  let c0_i32_14 : BitVec 32 := 0#32
  let c1_i32_15 : BitVec 32 := 1#32
  let arg17 : BitVec 32 := Scf.iv c0_i32_14 c1_i32_15 k0_t2
  let c0_i32_19 : BitVec 32 := 0#32
  ![arg17.toNat, 0]
def k0_off11 (k0_t2 : Fin k0_t2_loop.trips) : Fin 2 → Nat :=
  let c0_i32_14 : BitVec 32 := 0#32
  let c1_i32_15 : BitVec 32 := 1#32
  let arg17 : BitVec 32 := Scf.iv c0_i32_14 c1_i32_15 k0_t2
  let c0_i32_20 : BitVec 32 := 0#32
  ![arg17.toNat, 0]
@[reducible] def k0_t3_loop : Scf.Loop 32 :=
  let c0_i32_14 : BitVec 32 := 0#32
  let c1024_i32 : BitVec 32 := 1024#32
  let v36 : BitVec 32 := Scalar.addi c0_i32_14 c1024_i32
  let c1_i32_15 : BitVec 32 := 1#32
  ⟨c0_i32_14, v36, c1_i32_15⟩
def k0_off12 (i : grid0.Coords) : Fin 1 → Nat :=
  let arg0 : BitVec 32 := BitVec.ofNat 32 (i 0).val
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off13 (k0_t3 : Fin k0_t3_loop.trips) : Fin 2 → Nat :=
  let c0_i32_14 : BitVec 32 := 0#32
  let c1_i32_15 : BitVec 32 := 1#32
  let arg17 : BitVec 32 := Scf.iv c0_i32_14 c1_i32_15 k0_t3
  let c0_i32_17 : BitVec 32 := 0#32
  ![arg17.toNat, 0]
def k0_off14 (i : grid0.Coords) : Fin 3 → Nat :=
  let arg0 : BitVec 32 := BitVec.ofNat 32 (i 0).val
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_18 : BitVec 32 := 0#32
  let c0_i32_19 : BitVec 32 := 0#32
  ![v10.toNat, 0, 0]
def k0_off15 (k0_t3 : Fin k0_t3_loop.trips) : Fin 2 → Nat :=
  let c0_i32_14 : BitVec 32 := 0#32
  let c1_i32_15 : BitVec 32 := 1#32
  let arg17 : BitVec 32 := Scf.iv c0_i32_14 c1_i32_15 k0_t3
  let c0_i32_20 : BitVec 32 := 0#32
  ![arg17.toNat, 0]
def k0_off16 (i : grid0.Coords) : Fin 3 → Nat :=
  let arg0 : BitVec 32 := BitVec.ofNat 32 (i 0).val
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v37 : Index := Scalar.indexCast v10
  let c0_14 : Index := 0#32
  let c0_15 : Index := 0#32
  ![v37.toNat, 0, 0]
def k0_off17 (i : grid0.Coords) : Fin 1 → Nat :=
  let arg0 : BitVec 32 := BitVec.ofNat 32 (i 0).val
  let c2_i32_20 : BitVec 32 := 2#32
  let v48 : BitVec 32 := Scalar.addi arg0 c2_i32_20
  let c1024_i32 : BitVec 32 := 1024#32
  let v59 : BitVec 32 := Scalar.muli v48 c1024_i32
  let c1022_i32 : BitVec 32 := 1022#32
  let v60 : BitVec 32 := Scalar.addi v59 c1022_i32
  let v61 : Index := Scalar.indexCast v60
  ![v61.toNat]
def k0_cond5 (i : grid0.Coords) (v0 : BitVec 32) : BitVec 1 :=
  let arg0 : BitVec 32 := BitVec.ofNat 32 (i 0).val
  let v30 : BitVec 1 := Scalar.cmpi .slt arg0 v0
  let v31 : BitVec 32 := Scalar.extui v30
  let c0_i32_12 : BitVec 32 := 0#32
  let v32 : BitVec 1 := Scalar.cmpi .ne v31 c0_i32_12
  v32

def k0_off18 (i : grid0.Coords) : Fin 1 → Nat :=
  let arg0 : BitVec 32 := BitVec.ofNat 32 (i 0).val
  let c2_i32_20 : BitVec 32 := 2#32
  let v48 : BitVec 32 := Scalar.addi arg0 c2_i32_20
  let c3_i32_21 : BitVec 32 := 3#32
  let c0_i32_22 : BitVec 32 := 0#32
  let v49 : BitVec 1 := Scalar.cmpi .eq c3_i32_21 c0_i32_22
  let c1_i32_23 : BitVec 32 := 1#32
  let v50 : BitVec 32 := Scalar.select v49 c1_i32_23 c3_i32_21
  let v51 : BitVec 32 := Scalar.remsi v48 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  ![v58.toNat]
def k0_off19 (i : grid0.Coords) : Fin 3 → Nat :=
  let arg0 : BitVec 32 := BitVec.ofNat 32 (i 0).val
  let c2_i32_20 : BitVec 32 := 2#32
  let v48 : BitVec 32 := Scalar.addi arg0 c2_i32_20
  let c3_i32_21 : BitVec 32 := 3#32
  let c0_i32_22 : BitVec 32 := 0#32
  let v49 : BitVec 1 := Scalar.cmpi .eq c3_i32_21 c0_i32_22
  let c1_i32_23 : BitVec 32 := 1#32
  let v50 : BitVec 32 := Scalar.select v49 c1_i32_23 c3_i32_21
  let v51 : BitVec 32 := Scalar.remsi v48 v50
  let c0_i32_25 : BitVec 32 := 0#32
  let v53 : BitVec 1 := Scalar.cmpi .slt v51 c0_i32_25
  let c0_i32_26 : BitVec 32 := 0#32
  let v54 : BitVec 1 := Scalar.cmpi .slt v50 c0_i32_26
  let v55 : BitVec 1 := Scalar.xori v53 v54
  let c0_i32_24 : BitVec 32 := 0#32
  let v52 : BitVec 1 := Scalar.cmpi .ne v51 c0_i32_24
  let v56 : BitVec 1 := Scalar.andi v55 v52
  let v57 : BitVec 32 := Scalar.addi v51 v50
  let v58 : BitVec 32 := Scalar.select v56 v57 v51
  let c0_i32_27 : BitVec 32 := 0#32
  let c0_i32_28 : BitVec 32 := 0#32
  ![v58.toNat, 0, 0]
def k0_off20 (v62 : BitVec 32) : Fin 2 → Nat :=
  let c0_i32_31 : BitVec 32 := 0#32
  ![v62.toNat, 0]

def k0_chk4 (i : grid0.Coords) (v0 : BitVec 32) (v62 : BitVec 32) : Prop :=
  (∀ (k0_h1 : k0_cond1 i = 1#1), ∀ (k0_h5 : k0_cond5 i v0 = 1#1), ∀ a, (k0_off20 v62) a + S1x1024.size a ≤ S16512x1024.size a)
theorem k0_off20_inb : ∀ (i : grid0.Coords) (v0 : BitVec 32) (v62 : BitVec 32) (k0_hw4 : k0_chk4 i v0 v62), ∀ (k0_h1 : k0_cond1 i = 1#1), ∀ (k0_h5 : k0_cond5 i v0 = 1#1), ∀ a, (k0_off20 v62) a + S1x1024.size a ≤ S16512x1024.size a := fun i v0 v62 k0_hw4 k0_h1 k0_h5 => k0_hw4 k0_h1 k0_h5

def k0_off21 (i : grid0.Coords) : Fin 1 → Nat :=
  let arg0 : BitVec 32 := BitVec.ofNat 32 (i 0).val
  let c1_i32_32 : BitVec 32 := 1#32
  let v69 : BitVec 32 := Scalar.subi arg0 c1_i32_32
  let c1_i32_40 : BitVec 32 := 1#32
  let v81 : BitVec 32 := Scalar.addi v69 c1_i32_40
  let c1024_i32_41 : BitVec 32 := 1024#32
  let v82 : BitVec 32 := Scalar.muli v81 c1024_i32_41
  let c1022_i32_42 : BitVec 32 := 1022#32
  let v83 : BitVec 32 := Scalar.addi v82 c1022_i32_42
  let v84 : Index := Scalar.indexCast v83
  ![v84.toNat]
def k0_off22 (i : grid0.Coords) : Fin 1 → Nat :=
  let arg0 : BitVec 32 := BitVec.ofNat 32 (i 0).val
  let c1_i32_32 : BitVec 32 := 1#32
  let v69 : BitVec 32 := Scalar.subi arg0 c1_i32_32
  let c3_i32_33 : BitVec 32 := 3#32
  let v70 : BitVec 32 := Scalar.addi v69 c3_i32_33
  let c3_i32_34 : BitVec 32 := 3#32
  let c0_i32_35 : BitVec 32 := 0#32
  let v71 : BitVec 1 := Scalar.cmpi .eq c3_i32_34 c0_i32_35
  let c1_i32_36 : BitVec 32 := 1#32
  let v72 : BitVec 32 := Scalar.select v71 c1_i32_36 c3_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  ![v80.toNat]
def k0_off23 (v85 : BitVec 32) : Fin 2 → Nat :=
  let c0_i32_43 : BitVec 32 := 0#32
  ![v85.toNat, 0]

def k0_chk5 (i : grid0.Coords) (v0 : BitVec 32) (v85 : BitVec 32) : Prop :=
  (∀ (k0_h1 : k0_cond1 i = 1#1), ∀ (k0_h5 : k0_cond5 i v0 = 1#1), ∀ a, (k0_off23 v85) a + S1x1024.size a ≤ S43136x1024.size a)
theorem k0_off23_inb : ∀ (i : grid0.Coords) (v0 : BitVec 32) (v85 : BitVec 32) (k0_hw5 : k0_chk5 i v0 v85), ∀ (k0_h1 : k0_cond1 i = 1#1), ∀ (k0_h5 : k0_cond5 i v0 = 1#1), ∀ a, (k0_off23 v85) a + S1x1024.size a ≤ S43136x1024.size a := fun i v0 v85 k0_hw5 k0_h1 k0_h5 => k0_hw5 k0_h1 k0_h5

def k0_off24 (i : grid0.Coords) : Fin 3 → Nat :=
  let arg0 : BitVec 32 := BitVec.ofNat 32 (i 0).val
  let c1_i32_32 : BitVec 32 := 1#32
  let v69 : BitVec 32 := Scalar.subi arg0 c1_i32_32
  let c3_i32_33 : BitVec 32 := 3#32
  let v70 : BitVec 32 := Scalar.addi v69 c3_i32_33
  let c3_i32_34 : BitVec 32 := 3#32
  let c0_i32_35 : BitVec 32 := 0#32
  let v71 : BitVec 1 := Scalar.cmpi .eq c3_i32_34 c0_i32_35
  let c1_i32_36 : BitVec 32 := 1#32
  let v72 : BitVec 32 := Scalar.select v71 c1_i32_36 c3_i32_34
  let v73 : BitVec 32 := Scalar.remsi v70 v72
  let c0_i32_38 : BitVec 32 := 0#32
  let v75 : BitVec 1 := Scalar.cmpi .slt v73 c0_i32_38
  let c0_i32_39 : BitVec 32 := 0#32
  let v76 : BitVec 1 := Scalar.cmpi .slt v72 c0_i32_39
  let v77 : BitVec 1 := Scalar.xori v75 v76
  let c0_i32_37 : BitVec 32 := 0#32
  let v74 : BitVec 1 := Scalar.cmpi .ne v73 c0_i32_37
  let v78 : BitVec 1 := Scalar.andi v77 v74
  let v79 : BitVec 32 := Scalar.addi v73 v72
  let v80 : BitVec 32 := Scalar.select v78 v79 v73
  let c0_i32_44 : BitVec 32 := 0#32
  let c0_i32_45 : BitVec 32 := 0#32
  ![v80.toNat, 0, 0]
def k0_off25 (i : grid0.Coords) : Fin 1 → Nat :=
  let arg0 : BitVec 32 := BitVec.ofNat 32 (i 0).val
  let c2_i32_48 : BitVec 32 := 2#32
  let v92 : BitVec 32 := Scalar.addi arg0 c2_i32_48
  let c1024_i32_55 : BitVec 32 := 1024#32
  let v103 : BitVec 32 := Scalar.muli v92 c1024_i32_55
  let c1023_i32 : BitVec 32 := 1023#32
  let v104 : BitVec 32 := Scalar.addi v103 c1023_i32
  let v105 : Index := Scalar.indexCast v104
  ![v105.toNat]
def k0_off26 (i : grid0.Coords) : Fin 1 → Nat :=
  let arg0 : BitVec 32 := BitVec.ofNat 32 (i 0).val
  let c2_i32_48 : BitVec 32 := 2#32
  let v92 : BitVec 32 := Scalar.addi arg0 c2_i32_48
  let c3_i32_49 : BitVec 32 := 3#32
  let c0_i32_50 : BitVec 32 := 0#32
  let v93 : BitVec 1 := Scalar.cmpi .eq c3_i32_49 c0_i32_50
  let c1_i32_51 : BitVec 32 := 1#32
  let v94 : BitVec 32 := Scalar.select v93 c1_i32_51 c3_i32_49
  let v95 : BitVec 32 := Scalar.remsi v92 v94
  let c0_i32_53 : BitVec 32 := 0#32
  let v97 : BitVec 1 := Scalar.cmpi .slt v95 c0_i32_53
  let c0_i32_54 : BitVec 32 := 0#32
  let v98 : BitVec 1 := Scalar.cmpi .slt v94 c0_i32_54
  let v99 : BitVec 1 := Scalar.xori v97 v98
  let c0_i32_52 : BitVec 32 := 0#32
  let v96 : BitVec 1 := Scalar.cmpi .ne v95 c0_i32_52
  let v100 : BitVec 1 := Scalar.andi v99 v96
  let v101 : BitVec 32 := Scalar.addi v95 v94
  let v102 : BitVec 32 := Scalar.select v100 v101 v95
  ![v102.toNat]
def k0_off27 (i : grid0.Coords) : Fin 3 → Nat :=
  let arg0 : BitVec 32 := BitVec.ofNat 32 (i 0).val
  let c2_i32_48 : BitVec 32 := 2#32
  let v92 : BitVec 32 := Scalar.addi arg0 c2_i32_48
  let c3_i32_49 : BitVec 32 := 3#32
  let c0_i32_50 : BitVec 32 := 0#32
  let v93 : BitVec 1 := Scalar.cmpi .eq c3_i32_49 c0_i32_50
  let c1_i32_51 : BitVec 32 := 1#32
  let v94 : BitVec 32 := Scalar.select v93 c1_i32_51 c3_i32_49
  let v95 : BitVec 32 := Scalar.remsi v92 v94
  let c0_i32_53 : BitVec 32 := 0#32
  let v97 : BitVec 1 := Scalar.cmpi .slt v95 c0_i32_53
  let c0_i32_54 : BitVec 32 := 0#32
  let v98 : BitVec 1 := Scalar.cmpi .slt v94 c0_i32_54
  let v99 : BitVec 1 := Scalar.xori v97 v98
  let c0_i32_52 : BitVec 32 := 0#32
  let v96 : BitVec 1 := Scalar.cmpi .ne v95 c0_i32_52
  let v100 : BitVec 1 := Scalar.andi v99 v96
  let v101 : BitVec 32 := Scalar.addi v95 v94
  let v102 : BitVec 32 := Scalar.select v100 v101 v95
  let c0_i32_56 : BitVec 32 := 0#32
  let c0_i32_57 : BitVec 32 := 0#32
  ![v102.toNat, 0, 0]
def k0_off28 (v106 : BitVec 32) : Fin 2 → Nat :=
  let c0_i32_60 : BitVec 32 := 0#32
  ![v106.toNat, 0]

def k0_chk6 (i : grid0.Coords) (v0 : BitVec 32) (v106 : BitVec 32) : Prop :=
  (∀ (k0_h1 : k0_cond1 i = 1#1), ∀ (k0_h5 : k0_cond5 i v0 = 1#1), ∀ a, (k0_off28 v106) a + S1x1024.size a ≤ S16512x1024.size a)
theorem k0_off28_inb : ∀ (i : grid0.Coords) (v0 : BitVec 32) (v106 : BitVec 32) (k0_hw6 : k0_chk6 i v0 v106), ∀ (k0_h1 : k0_cond1 i = 1#1), ∀ (k0_h5 : k0_cond5 i v0 = 1#1), ∀ a, (k0_off28 v106) a + S1x1024.size a ≤ S16512x1024.size a := fun i v0 v106 k0_hw6 k0_h1 k0_h5 => k0_hw6 k0_h1 k0_h5

def k0_off29 (i : grid0.Coords) : Fin 1 → Nat :=
  let arg0 : BitVec 32 := BitVec.ofNat 32 (i 0).val
  let c1_i32_61 : BitVec 32 := 1#32
  let v113 : BitVec 32 := Scalar.subi arg0 c1_i32_61
  let c1_i32_69 : BitVec 32 := 1#32
  let v125 : BitVec 32 := Scalar.addi v113 c1_i32_69
  let c1024_i32_70 : BitVec 32 := 1024#32
  let v126 : BitVec 32 := Scalar.muli v125 c1024_i32_70
  let c1023_i32_71 : BitVec 32 := 1023#32
  let v127 : BitVec 32 := Scalar.addi v126 c1023_i32_71
  let v128 : Index := Scalar.indexCast v127
  ![v128.toNat]
def k0_off30 (i : grid0.Coords) : Fin 1 → Nat :=
  let arg0 : BitVec 32 := BitVec.ofNat 32 (i 0).val
  let c1_i32_61 : BitVec 32 := 1#32
  let v113 : BitVec 32 := Scalar.subi arg0 c1_i32_61
  let c3_i32_62 : BitVec 32 := 3#32
  let v114 : BitVec 32 := Scalar.addi v113 c3_i32_62
  let c3_i32_63 : BitVec 32 := 3#32
  let c0_i32_64 : BitVec 32 := 0#32
  let v115 : BitVec 1 := Scalar.cmpi .eq c3_i32_63 c0_i32_64
  let c1_i32_65 : BitVec 32 := 1#32
  let v116 : BitVec 32 := Scalar.select v115 c1_i32_65 c3_i32_63
  let v117 : BitVec 32 := Scalar.remsi v114 v116
  let c0_i32_67 : BitVec 32 := 0#32
  let v119 : BitVec 1 := Scalar.cmpi .slt v117 c0_i32_67
  let c0_i32_68 : BitVec 32 := 0#32
  let v120 : BitVec 1 := Scalar.cmpi .slt v116 c0_i32_68
  let v121 : BitVec 1 := Scalar.xori v119 v120
  let c0_i32_66 : BitVec 32 := 0#32
  let v118 : BitVec 1 := Scalar.cmpi .ne v117 c0_i32_66
  let v122 : BitVec 1 := Scalar.andi v121 v118
  let v123 : BitVec 32 := Scalar.addi v117 v116
  let v124 : BitVec 32 := Scalar.select v122 v123 v117
  ![v124.toNat]
def k0_off31 (v129 : BitVec 32) : Fin 2 → Nat :=
  let c0_i32_72 : BitVec 32 := 0#32
  ![v129.toNat, 0]

def k0_chk7 (i : grid0.Coords) (v0 : BitVec 32) (v129 : BitVec 32) : Prop :=
  (∀ (k0_h1 : k0_cond1 i = 1#1), ∀ (k0_h5 : k0_cond5 i v0 = 1#1), ∀ a, (k0_off31 v129) a + S1x1024.size a ≤ S43136x1024.size a)
theorem k0_off31_inb : ∀ (i : grid0.Coords) (v0 : BitVec 32) (v129 : BitVec 32) (k0_hw7 : k0_chk7 i v0 v129), ∀ (k0_h1 : k0_cond1 i = 1#1), ∀ (k0_h5 : k0_cond5 i v0 = 1#1), ∀ a, (k0_off31 v129) a + S1x1024.size a ≤ S43136x1024.size a := fun i v0 v129 k0_hw7 k0_h1 k0_h5 => k0_hw7 k0_h1 k0_h5

def k0_off32 (i : grid0.Coords) : Fin 3 → Nat :=
  let arg0 : BitVec 32 := BitVec.ofNat 32 (i 0).val
  let c1_i32_61 : BitVec 32 := 1#32
  let v113 : BitVec 32 := Scalar.subi arg0 c1_i32_61
  let c3_i32_62 : BitVec 32 := 3#32
  let v114 : BitVec 32 := Scalar.addi v113 c3_i32_62
  let c3_i32_63 : BitVec 32 := 3#32
  let c0_i32_64 : BitVec 32 := 0#32
  let v115 : BitVec 1 := Scalar.cmpi .eq c3_i32_63 c0_i32_64
  let c1_i32_65 : BitVec 32 := 1#32
  let v116 : BitVec 32 := Scalar.select v115 c1_i32_65 c3_i32_63
  let v117 : BitVec 32 := Scalar.remsi v114 v116
  let c0_i32_67 : BitVec 32 := 0#32
  let v119 : BitVec 1 := Scalar.cmpi .slt v117 c0_i32_67
  let c0_i32_68 : BitVec 32 := 0#32
  let v120 : BitVec 1 := Scalar.cmpi .slt v116 c0_i32_68
  let v121 : BitVec 1 := Scalar.xori v119 v120
  let c0_i32_66 : BitVec 32 := 0#32
  let v118 : BitVec 1 := Scalar.cmpi .ne v117 c0_i32_66
  let v122 : BitVec 1 := Scalar.andi v121 v118
  let v123 : BitVec 32 := Scalar.addi v117 v116
  let v124 : BitVec 32 := Scalar.select v122 v123 v117
  let c0_i32_73 : BitVec 32 := 0#32
  let c0_i32_74 : BitVec 32 := 0#32
  ![v124.toNat, 0, 0]
@[reducible] def k0_t4_loop : Scf.Loop 32 :=
  let c0_i32_14 : BitVec 32 := 0#32
  let c1024_i32 : BitVec 32 := 1024#32
  let v36 : BitVec 32 := Scalar.addi c0_i32_14 c1024_i32
  let c1_i32_15 : BitVec 32 := 1#32
  ⟨c0_i32_14, v36, c1_i32_15⟩
def k0_off33 (i : grid0.Coords) (k0_t4 : Fin k0_t4_loop.trips) : Fin 1 → Nat :=
  let arg0 : BitVec 32 := BitVec.ofNat 32 (i 0).val
  let c1_i32_17 : BitVec 32 := 1#32
  let v37 : BitVec 32 := Scalar.subi arg0 c1_i32_17
  let c1_i32_25 : BitVec 32 := 1#32
  let v49 : BitVec 32 := Scalar.addi v37 c1_i32_25
  let c1024_i32_26 : BitVec 32 := 1024#32
  let v50 : BitVec 32 := Scalar.muli v49 c1024_i32_26
  let c0_i32_14 : BitVec 32 := 0#32
  let c1_i32_15 : BitVec 32 := 1#32
  let arg17 : BitVec 32 := Scf.iv c0_i32_14 c1_i32_15 k0_t4
  let v51 : BitVec 32 := Scalar.addi v50 arg17
  let v52 : Index := Scalar.indexCast v51
  ![v52.toNat]
def k0_off34 (i : grid0.Coords) : Fin 1 → Nat :=
  let arg0 : BitVec 32 := BitVec.ofNat 32 (i 0).val
  let c1_i32_17 : BitVec 32 := 1#32
  let v37 : BitVec 32 := Scalar.subi arg0 c1_i32_17
  let c3_i32_18 : BitVec 32 := 3#32
  let v38 : BitVec 32 := Scalar.addi v37 c3_i32_18
  let c3_i32_19 : BitVec 32 := 3#32
  let c0_i32_20 : BitVec 32 := 0#32
  let v39 : BitVec 1 := Scalar.cmpi .eq c3_i32_19 c0_i32_20
  let c1_i32_21 : BitVec 32 := 1#32
  let v40 : BitVec 32 := Scalar.select v39 c1_i32_21 c3_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  ![v48.toNat]
def k0_off35 (v53 : BitVec 32) : Fin 2 → Nat :=
  let c0_i32_27 : BitVec 32 := 0#32
  ![v53.toNat, 0]
def k0_cond6 (i : grid0.Coords) (v0 : BitVec 32) : BitVec 1 :=
  let arg0 : BitVec 32 := BitVec.ofNat 32 (i 0).val
  let v33 : BitVec 1 := Scalar.cmpi .eq arg0 v0
  let v34 : BitVec 32 := Scalar.extui v33
  let c0_i32_13 : BitVec 32 := 0#32
  let v35 : BitVec 1 := Scalar.cmpi .ne v34 c0_i32_13
  v35

def k0_chk8 (i : grid0.Coords) (v0 : BitVec 32) (v53 : BitVec 32) : Prop :=
  (∀ (k0_h1 : k0_cond1 i = 1#1), ∀ (k0_h6 : k0_cond6 i v0 = 1#1), ∀ a, (k0_off35 v53) a + S1x1024.size a ≤ S43136x1024.size a)
theorem k0_off35_inb : ∀ (i : grid0.Coords) (v0 : BitVec 32) (v53 : BitVec 32) (k0_hw8 : k0_chk8 i v0 v53), ∀ (k0_h1 : k0_cond1 i = 1#1), ∀ (k0_h6 : k0_cond6 i v0 = 1#1), ∀ a, (k0_off35 v53) a + S1x1024.size a ≤ S43136x1024.size a := fun i v0 v53 k0_hw8 k0_h1 k0_h6 => k0_hw8 k0_h1 k0_h6

def k0_off36 (i : grid0.Coords) : Fin 3 → Nat :=
  let arg0 : BitVec 32 := BitVec.ofNat 32 (i 0).val
  let c1_i32_17 : BitVec 32 := 1#32
  let v37 : BitVec 32 := Scalar.subi arg0 c1_i32_17
  let c3_i32_18 : BitVec 32 := 3#32
  let v38 : BitVec 32 := Scalar.addi v37 c3_i32_18
  let c3_i32_19 : BitVec 32 := 3#32
  let c0_i32_20 : BitVec 32 := 0#32
  let v39 : BitVec 1 := Scalar.cmpi .eq c3_i32_19 c0_i32_20
  let c1_i32_21 : BitVec 32 := 1#32
  let v40 : BitVec 32 := Scalar.select v39 c1_i32_21 c3_i32_19
  let v41 : BitVec 32 := Scalar.remsi v38 v40
  let c0_i32_23 : BitVec 32 := 0#32
  let v43 : BitVec 1 := Scalar.cmpi .slt v41 c0_i32_23
  let c0_i32_24 : BitVec 32 := 0#32
  let v44 : BitVec 1 := Scalar.cmpi .slt v40 c0_i32_24
  let v45 : BitVec 1 := Scalar.xori v43 v44
  let c0_i32_22 : BitVec 32 := 0#32
  let v42 : BitVec 1 := Scalar.cmpi .ne v41 c0_i32_22
  let v46 : BitVec 1 := Scalar.andi v45 v42
  let v47 : BitVec 32 := Scalar.addi v41 v40
  let v48 : BitVec 32 := Scalar.select v46 v47 v41
  let c0_i32_28 : BitVec 32 := 0#32
  let c0_i32_29 : BitVec 32 := 0#32
  ![v48.toNat, 0, 0]
def k0_off37 (k0_t4 : Fin k0_t4_loop.trips) : Fin 2 → Nat :=
  let c0_i32_14 : BitVec 32 := 0#32
  let c1_i32_15 : BitVec 32 := 1#32
  let arg17 : BitVec 32 := Scf.iv c0_i32_14 c1_i32_15 k0_t4
  let c0_i32_30 : BitVec 32 := 0#32
  ![arg17.toNat, 0]
@[reducible] def k0_t5_loop : Scf.Loop 32 :=
  let c0_i32_6 : BitVec 32 := 0#32
  let c146_i32 : BitVec 32 := 146#32
  let v17 : BitVec 32 := Scalar.addi c0_i32_6 c146_i32
  let c1_i32_7 : BitVec 32 := 1#32
  ⟨c0_i32_6, v17, c1_i32_7⟩
def k0_off38 (i : grid0.Coords) (k0_t5 : Fin k0_t5_loop.trips) : Fin 1 → Nat :=
  let arg0 : BitVec 32 := BitVec.ofNat 32 (i 0).val
  let c2_i32 : BitVec 32 := 2#32
  let v45 : BitVec 32 := Scalar.addi arg0 c2_i32
  let c1024_i32 : BitVec 32 := 1024#32
  let v56 : BitVec 32 := Scalar.muli v45 c1024_i32
  let arg1 : BitVec 32 := BitVec.ofNat 32 (i 1).val
  let c146_i32_26 : BitVec 32 := 146#32
  let v43 : BitVec 32 := Scalar.muli arg1 c146_i32_26
  let c0_i32_6 : BitVec 32 := 0#32
  let c1_i32_7 : BitVec 32 := 1#32
  let arg17 : BitVec 32 := Scf.iv c0_i32_6 c1_i32_7 k0_t5
  let v44 : BitVec 32 := Scalar.addi v43 arg17
  let v57 : BitVec 32 := Scalar.addi v56 v44
  let v58 : Index := Scalar.indexCast v57
  ![v58.toNat]
def k0_cond7 (i : grid0.Coords) (v0 : BitVec 32) : BitVec 1 :=
  let arg0 : BitVec 32 := BitVec.ofNat 32 (i 0).val
  let v14 : BitVec 1 := Scalar.cmpi .slt arg0 v0
  let v15 : BitVec 32 := Scalar.extui v14
  let c0_i32_5 : BitVec 32 := 0#32
  let v16 : BitVec 1 := Scalar.cmpi .ne v15 c0_i32_5
  v16

def k0_chk3 (i : grid0.Coords) (v0 : BitVec 32) : Prop :=
  (∀ (k0_h1 : k0_cond1 i = 1#1), ∀ (k0_h5 : k0_cond5 i v0 = 1#1), ∀ a, (k0_off17 i) a + S1.size a ≤ S44032.size a) ∧
  (∀ (k0_h1 : k0_cond1 i = 1#1), ∀ (k0_h5 : k0_cond5 i v0 = 1#1), ∀ a, (k0_off25 i) a + S1.size a ≤ S44032.size a) ∧
  (∀ k0_t5 : Fin k0_t5_loop.trips, ∀ (k0_h7 : k0_cond7 i v0 = 1#1), ∀ a, (k0_off38 i k0_t5) a + S1.size a ≤ S44032.size a)
theorem k0_off17_inb : ∀ (i : grid0.Coords) (v0 : BitVec 32) (k0_hw3 : k0_chk3 i v0), ∀ (k0_h1 : k0_cond1 i = 1#1), ∀ (k0_h5 : k0_cond5 i v0 = 1#1), ∀ a, (k0_off17 i) a + S1.size a ≤ S44032.size a := fun i v0 k0_hw3 k0_h1 k0_h5 => k0_hw3.1 k0_h1 k0_h5
theorem k0_off25_inb : ∀ (i : grid0.Coords) (v0 : BitVec 32) (k0_hw3 : k0_chk3 i v0), ∀ (k0_h1 : k0_cond1 i = 1#1), ∀ (k0_h5 : k0_cond5 i v0 = 1#1), ∀ a, (k0_off25 i) a + S1.size a ≤ S44032.size a := fun i v0 k0_hw3 k0_h1 k0_h5 => k0_hw3.2.1 k0_h1 k0_h5
theorem k0_off38_inb : ∀ (i : grid0.Coords) (v0 : BitVec 32) (k0_hw3 : k0_chk3 i v0) (k0_t5 : Fin k0_t5_loop.trips), ∀ (k0_h7 : k0_cond7 i v0 = 1#1), ∀ a, (k0_off38 i k0_t5) a + S1.size a ≤ S44032.size a := fun i v0 k0_hw3 k0_t5 k0_h7 => k0_hw3.2.2 k0_t5 k0_h7

def k0_off39 (i : grid0.Coords) : Fin 1 → Nat :=
  let arg0 : BitVec 32 := BitVec.ofNat 32 (i 0).val
  let c2_i32 : BitVec 32 := 2#32
  let v45 : BitVec 32 := Scalar.addi arg0 c2_i32
  let c3_i32_27 : BitVec 32 := 3#32
  let c0_i32_28 : BitVec 32 := 0#32
  let v46 : BitVec 1 := Scalar.cmpi .eq c3_i32_27 c0_i32_28
  let c1_i32_29 : BitVec 32 := 1#32
  let v47 : BitVec 32 := Scalar.select v46 c1_i32_29 c3_i32_27
  let v48 : BitVec 32 := Scalar.remsi v45 v47
  let c0_i32_31 : BitVec 32 := 0#32
  let v50 : BitVec 1 := Scalar.cmpi .slt v48 c0_i32_31
  let c0_i32_32 : BitVec 32 := 0#32
  let v51 : BitVec 1 := Scalar.cmpi .slt v47 c0_i32_32
  let v52 : BitVec 1 := Scalar.xori v50 v51
  let c0_i32_30 : BitVec 32 := 0#32
  let v49 : BitVec 1 := Scalar.cmpi .ne v48 c0_i32_30
  let v53 : BitVec 1 := Scalar.andi v52 v49
  let v54 : BitVec 32 := Scalar.addi v48 v47
  let v55 : BitVec 32 := Scalar.select v53 v54 v48
  ![v55.toNat]
def k0_off40 (i : grid0.Coords) : Fin 3 → Nat :=
  let arg0 : BitVec 32 := BitVec.ofNat 32 (i 0).val
  let c2_i32 : BitVec 32 := 2#32
  let v45 : BitVec 32 := Scalar.addi arg0 c2_i32
  let c3_i32_27 : BitVec 32 := 3#32
  let c0_i32_28 : BitVec 32 := 0#32
  let v46 : BitVec 1 := Scalar.cmpi .eq c3_i32_27 c0_i32_28
  let c1_i32_29 : BitVec 32 := 1#32
  let v47 : BitVec 32 := Scalar.select v46 c1_i32_29 c3_i32_27
  let v48 : BitVec 32 := Scalar.remsi v45 v47
  let c0_i32_31 : BitVec 32 := 0#32
  let v50 : BitVec 1 := Scalar.cmpi .slt v48 c0_i32_31
  let c0_i32_32 : BitVec 32 := 0#32
  let v51 : BitVec 1 := Scalar.cmpi .slt v47 c0_i32_32
  let v52 : BitVec 1 := Scalar.xori v50 v51
  let c0_i32_30 : BitVec 32 := 0#32
  let v49 : BitVec 1 := Scalar.cmpi .ne v48 c0_i32_30
  let v53 : BitVec 1 := Scalar.andi v52 v49
  let v54 : BitVec 32 := Scalar.addi v48 v47
  let v55 : BitVec 32 := Scalar.select v53 v54 v48
  let c0_i32_33 : BitVec 32 := 0#32
  let c0_i32_34 : BitVec 32 := 0#32
  ![v55.toNat, 0, 0]
def k0_off41 (i : grid0.Coords) (k0_t5 : Fin k0_t5_loop.trips) : Fin 2 → Nat :=
  let arg1 : BitVec 32 := BitVec.ofNat 32 (i 1).val
  let c146_i32_26 : BitVec 32 := 146#32
  let v43 : BitVec 32 := Scalar.muli arg1 c146_i32_26
  let c0_i32_6 : BitVec 32 := 0#32
  let c1_i32_7 : BitVec 32 := 1#32
  let arg17 : BitVec 32 := Scf.iv c0_i32_6 c1_i32_7 k0_t5
  let v44 : BitVec 32 := Scalar.addi v43 arg17
  let c0_i32_35 : BitVec 32 := 0#32
  ![v44.toNat, 0]
def k0_off42 (v59 : BitVec 32) : Fin 2 → Nat :=
  let c0_i32_36 : BitVec 32 := 0#32
  ![v59.toNat, 0]

def k0_chk9 (i : grid0.Coords) (v0 : BitVec 32) (v59 : BitVec 32) : Prop :=
  (∀ (k0_h7 : k0_cond7 i v0 = 1#1), ∀ a, (k0_off42 v59) a + S1x1024.size a ≤ S16512x1024.size a)
theorem k0_off42_inb : ∀ (i : grid0.Coords) (v0 : BitVec 32) (v59 : BitVec 32) (k0_hw9 : k0_chk9 i v0 v59), ∀ (k0_h7 : k0_cond7 i v0 = 1#1), ∀ a, (k0_off42 v59) a + S1x1024.size a ≤ S16512x1024.size a := fun i v0 v59 k0_hw9 k0_h7 => k0_hw9 k0_h7

def k0_off43 (i : grid0.Coords) (k0_t5 : Fin k0_t5_loop.trips) : Fin 1 → Nat :=
  let arg0 : BitVec 32 := BitVec.ofNat 32 (i 0).val
  let c1_i32_37 : BitVec 32 := 1#32
  let v66 : BitVec 32 := Scalar.subi arg0 c1_i32_37
  let c1_i32_45 : BitVec 32 := 1#32
  let v78 : BitVec 32 := Scalar.addi v66 c1_i32_45
  let c1024_i32_46 : BitVec 32 := 1024#32
  let v79 : BitVec 32 := Scalar.muli v78 c1024_i32_46
  let arg1 : BitVec 32 := BitVec.ofNat 32 (i 1).val
  let c146_i32_26 : BitVec 32 := 146#32
  let v43 : BitVec 32 := Scalar.muli arg1 c146_i32_26
  let c0_i32_6 : BitVec 32 := 0#32
  let c1_i32_7 : BitVec 32 := 1#32
  let arg17 : BitVec 32 := Scf.iv c0_i32_6 c1_i32_7 k0_t5
  let v44 : BitVec 32 := Scalar.addi v43 arg17
  let v80 : BitVec 32 := Scalar.addi v79 v44
  let v81 : Index := Scalar.indexCast v80
  ![v81.toNat]
def k0_off44 (i : grid0.Coords) : Fin 1 → Nat :=
  let arg0 : BitVec 32 := BitVec.ofNat 32 (i 0).val
  let c1_i32_37 : BitVec 32 := 1#32
  let v66 : BitVec 32 := Scalar.subi arg0 c1_i32_37
  let c3_i32_38 : BitVec 32 := 3#32
  let v67 : BitVec 32 := Scalar.addi v66 c3_i32_38
  let c3_i32_39 : BitVec 32 := 3#32
  let c0_i32_40 : BitVec 32 := 0#32
  let v68 : BitVec 1 := Scalar.cmpi .eq c3_i32_39 c0_i32_40
  let c1_i32_41 : BitVec 32 := 1#32
  let v69 : BitVec 32 := Scalar.select v68 c1_i32_41 c3_i32_39
  let v70 : BitVec 32 := Scalar.remsi v67 v69
  let c0_i32_43 : BitVec 32 := 0#32
  let v72 : BitVec 1 := Scalar.cmpi .slt v70 c0_i32_43
  let c0_i32_44 : BitVec 32 := 0#32
  let v73 : BitVec 1 := Scalar.cmpi .slt v69 c0_i32_44
  let v74 : BitVec 1 := Scalar.xori v72 v73
  let c0_i32_42 : BitVec 32 := 0#32
  let v71 : BitVec 1 := Scalar.cmpi .ne v70 c0_i32_42
  let v75 : BitVec 1 := Scalar.andi v74 v71
  let v76 : BitVec 32 := Scalar.addi v70 v69
  let v77 : BitVec 32 := Scalar.select v75 v76 v70
  ![v77.toNat]
def k0_off45 (v82 : BitVec 32) : Fin 2 → Nat :=
  let c0_i32_47 : BitVec 32 := 0#32
  ![v82.toNat, 0]

def k0_chk10 (i : grid0.Coords) (v0 : BitVec 32) (v82 : BitVec 32) : Prop :=
  (∀ (k0_h7 : k0_cond7 i v0 = 1#1), ∀ a, (k0_off45 v82) a + S1x1024.size a ≤ S43136x1024.size a)
theorem k0_off45_inb : ∀ (i : grid0.Coords) (v0 : BitVec 32) (v82 : BitVec 32) (k0_hw10 : k0_chk10 i v0 v82), ∀ (k0_h7 : k0_cond7 i v0 = 1#1), ∀ a, (k0_off45 v82) a + S1x1024.size a ≤ S43136x1024.size a := fun i v0 v82 k0_hw10 k0_h7 => k0_hw10 k0_h7

def k0_off46 (i : grid0.Coords) : Fin 3 → Nat :=
  let arg0 : BitVec 32 := BitVec.ofNat 32 (i 0).val
  let c1_i32_37 : BitVec 32 := 1#32
  let v66 : BitVec 32 := Scalar.subi arg0 c1_i32_37
  let c3_i32_38 : BitVec 32 := 3#32
  let v67 : BitVec 32 := Scalar.addi v66 c3_i32_38
  let c3_i32_39 : BitVec 32 := 3#32
  let c0_i32_40 : BitVec 32 := 0#32
  let v68 : BitVec 1 := Scalar.cmpi .eq c3_i32_39 c0_i32_40
  let c1_i32_41 : BitVec 32 := 1#32
  let v69 : BitVec 32 := Scalar.select v68 c1_i32_41 c3_i32_39
  let v70 : BitVec 32 := Scalar.remsi v67 v69
  let c0_i32_43 : BitVec 32 := 0#32
  let v72 : BitVec 1 := Scalar.cmpi .slt v70 c0_i32_43
  let c0_i32_44 : BitVec 32 := 0#32
  let v73 : BitVec 1 := Scalar.cmpi .slt v69 c0_i32_44
  let v74 : BitVec 1 := Scalar.xori v72 v73
  let c0_i32_42 : BitVec 32 := 0#32
  let v71 : BitVec 1 := Scalar.cmpi .ne v70 c0_i32_42
  let v75 : BitVec 1 := Scalar.andi v74 v71
  let v76 : BitVec 32 := Scalar.addi v70 v69
  let v77 : BitVec 32 := Scalar.select v75 v76 v70
  let c0_i32_48 : BitVec 32 := 0#32
  let c0_i32_49 : BitVec 32 := 0#32
  ![v77.toNat, 0, 0]
def k0_off47 (i : grid0.Coords) (k0_t5 : Fin k0_t5_loop.trips) : Fin 2 → Nat :=
  let arg1 : BitVec 32 := BitVec.ofNat 32 (i 1).val
  let c146_i32_26 : BitVec 32 := 146#32
  let v43 : BitVec 32 := Scalar.muli arg1 c146_i32_26
  let c0_i32_6 : BitVec 32 := 0#32
  let c1_i32_7 : BitVec 32 := 1#32
  let arg17 : BitVec 32 := Scf.iv c0_i32_6 c1_i32_7 k0_t5
  let v44 : BitVec 32 := Scalar.addi v43 arg17
  let c0_i32_50 : BitVec 32 := 0#32
  ![v44.toNat, 0]
def k0_off48 (i : grid0.Coords) : Fin 3 → Nat :=
  let arg0 : BitVec 32 := BitVec.ofNat 32 (i 0).val
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v27 : Index := Scalar.indexCast v10
  let c0_18 : Index := 0#32
  let c0_19 : Index := 0#32
  ![v27.toNat, 0, 0]
def cc0_transform_1 (k0_off1_inb : ∀ i : grid0.Coords, ∀ a, (k0_off1 i) a + S1.size a ≤ S43.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S43.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S43.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S43) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16512x1024 : Shape := ⟨2, ![16512, 1024]⟩
abbrev S43 : Shape := ⟨1, ![43]⟩
abbrev S1 : Shape := ⟨1, ![1]⟩
abbrev S44032 : Shape := ⟨1, ![44032]⟩
abbrev S8x1024x3584 : Shape := ⟨3, ![8, 1024, 3584]⟩
abbrev S8x3584x1024 : Shape := ⟨3, ![8, 3584, 1024]⟩
abbrev S44032x1 : Shape := ⟨2, ![44032, 1]⟩
abbrev S44032x1024 : Shape := ⟨2, ![44032, 1024]⟩
abbrev S43x1024x1024 : Shape := ⟨3, ![43, 1024, 1024]⟩
abbrev S43x1 : Shape := ⟨2, ![43, 1]⟩
abbrev S43x1024x3584 : Shape := ⟨3, ![43, 1024, 3584]⟩
abbrev S_ : Shape := ⟨0, ![]⟩
abbrev S43x3584x1024 : Shape := ⟨3, ![43, 3584, 1024]⟩
abbrev S1024x1024 : Shape := ⟨2, ![1024, 1024]⟩
abbrev S43008x1024 : Shape := ⟨2, ![43008, 1024]⟩
abbrev S43136x1024 : Shape := ⟨2, ![43136, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S43, .i32⟩
  | .hbm, ⟨2, _⟩ => ⟨S1, .i32⟩
  | .hbm, ⟨3, _⟩ => ⟨S44032, .i32⟩
  | .hbm, ⟨4, _⟩ => ⟨S44032, .i32⟩
  | .hbm, ⟨5, _⟩ => ⟨S8x1024x3584, .f32⟩
  | .hbm, ⟨6, _⟩ => ⟨S8x1024x3584, .f32⟩
  | .hbm, ⟨7, _⟩ => ⟨S8x3584x1024, .f32⟩
  | .hbm, ⟨8, _⟩ => ⟨S44032x1, .i32⟩
  | .hbm, ⟨9, _⟩ => ⟨S44032x1024, .f32⟩
  | .hbm, ⟨10, _⟩ => ⟨S43x1024x1024, .f32⟩
  | .hbm, ⟨11, _⟩ => ⟨S43x1, .i32⟩
  | .hbm, ⟨12, _⟩ => ⟨S43x1024x3584, .f32⟩
  | .hbm, ⟨13, _⟩ => ⟨S43x1024x3584, .f32⟩
  | .hbm, ⟨14, _⟩ => ⟨S43x1, .i32⟩
  | .hbm, ⟨15, _⟩ => ⟨S43x1024x3584, .f32⟩
  | .hbm, ⟨16, _⟩ => ⟨S43x1024x3584, .f32⟩
  | .hbm, ⟨17, _⟩ => ⟨S43x1024x3584, .f32⟩
  | .hbm, ⟨18, _⟩ => ⟨S43x1024x3584, .f32⟩
  | .hbm, ⟨19, _⟩ => ⟨S_, .f32⟩
  | .hbm, ⟨20, _⟩ => ⟨S43x1024x3584, .f32⟩
  | .hbm, ⟨21, _⟩ => ⟨S43x1024x3584, .f32⟩
  | .hbm, ⟨22, _⟩ => ⟨S_, .f32⟩
  | .hbm, ⟨23, _⟩ => ⟨S43x1024x3584, .f32⟩
  | .hbm, ⟨24, _⟩ => ⟨S43x1024x3584, .f32⟩
  | .hbm, ⟨25, _⟩ => ⟨S43x1024x3584, .f32⟩
  | .hbm, ⟨26, _⟩ => ⟨S43x1024x3584, .f32⟩
  | .hbm, ⟨27, _⟩ => ⟨S43x1, .i32⟩
  | .hbm, ⟨28, _⟩ => ⟨S43x3584x1024, .f32⟩
  | .hbm, ⟨29, _⟩ => ⟨S43x1024x1024, .f32⟩
  | .hbm, ⟨30, _⟩ => ⟨S_, .f32⟩
  | .hbm, ⟨31, _⟩ => ⟨S1024x1024, .f32⟩
  | .hbm, ⟨32, _⟩ => ⟨S44032x1024, .f32⟩
  | .hbm, ⟨33, _⟩ => ⟨S43008x1024, .f32⟩
  | .hbm, ⟨34, _⟩ => ⟨S44032x1024, .f32⟩
  | .hbm, ⟨35, _⟩ => ⟨S44032, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S44032, .i32⟩
  | .hbm, ⟨42, _⟩ => ⟨S44032, .i1⟩
  | .hbm, ⟨43, _⟩ => ⟨S_, .i32⟩
  | .hbm, ⟨44, _⟩ => ⟨S_, .i32⟩
  | .hbm, ⟨45, _⟩ => ⟨S44032, .i32⟩
  | .hbm, ⟨46, _⟩ => ⟨S44032, .i32⟩
  | .hbm, ⟨47, _⟩ => ⟨S_, .f32⟩
  | .hbm, ⟨48, _⟩ => ⟨S43136x1024, .f32⟩
  | .hbm, ⟨49, _⟩ => ⟨S_, .i32⟩
  | .hbm, ⟨50, _⟩ => ⟨S44032, .i32⟩
  | .hbm, ⟨51, _⟩ => ⟨S44032, .i1⟩
  | .hbm, ⟨52, _⟩ => ⟨S_, .i32⟩
  | .hbm, ⟨53, _⟩ => ⟨S44032, .i32⟩
  | .hbm, ⟨54, _⟩ => ⟨S44032, .i32⟩
  | .hbm, ⟨55, _⟩ => ⟨S44032, .i32⟩
  | .hbm, ⟨56, _⟩ => ⟨S44032x1, .i32⟩
  | .hbm, ⟨57, _⟩ => ⟨S43136x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_call3_v0 : Ref sig .tc := ⟨.hbm, 17, rfl⟩
abbrev main_call3_v1 : Ref sig .tc := ⟨.hbm, 18, rfl⟩
abbrev main_call3_cst : Ref sig .tc := ⟨.hbm, 19, rfl⟩
abbrev main_call3_v2 : Ref sig .tc := ⟨.hbm, 20, rfl⟩
abbrev main_call3_v3 : Ref sig .tc := ⟨.hbm, 21, rfl⟩
abbrev main_call3_cst_0 : Ref sig .tc := ⟨.hbm, 22, rfl⟩
abbrev main_call3_v4 : Ref sig .tc := ⟨.hbm, 23, rfl⟩
abbrev main_call3_v5 : Ref sig .tc := ⟨.hbm, 24, rfl⟩
abbrev main_v6 : Ref sig .tc := ⟨.hbm, 25, rfl⟩
abbrev main_v7 : Ref sig .tc := ⟨.hbm, 26, rfl⟩
abbrev main_call4_v0 : Ref sig .tc := ⟨.hbm, 27, rfl⟩
abbrev main_v8 : Ref sig .tc := ⟨.hbm, 28, rfl⟩
abbrev main_v9 : Ref sig .tc := ⟨.hbm, 29, rfl⟩
abbrev main_cst : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_c_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_1 : Ref sig .tc := ⟨.hbm, 43, rfl⟩
abbrev main_call5_v0 : Ref sig .tc := ⟨.hbm, 44, rfl⟩
abbrev main_call5_v1 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_c_3 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩

abbrev nD : Nat := 1
abbrev τ : Topo := Topo.v7x

variable {F : FTy → Type} [FloatOps F]
-- ==== Kernel4.lean ====
abbrev S128x1024 : Shape := ⟨2, ![128, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S128x2x512 : Shape := ⟨3, ![128, 2, 512]⟩
abbrev S128x15x512 : Shape := ⟨3, ![128, 15, 512]⟩
abbrev S2x128x512 : Shape := ⟨3, ![2, 128, 512]⟩
abbrev S15x128x512 : Shape := ⟨3, ![15, 128, 512]⟩
abbrev S1x1024 : Shape := ⟨2, ![1, 1024]⟩
abbrev S1x512 : Shape := ⟨2, ![1, 512]⟩
abbrev S128x512 : Shape := ⟨2, ![128, 512]⟩
abbrev S128 : Shape := ⟨1, ![128]⟩
abbrev S128x1 : Shape := ⟨2, ![128, 1]⟩
abbrev S128x2048 : Shape := ⟨2, ![128, 2048]⟩
abbrev S1x128x512 : Shape := ⟨3, ![1, 128, 512]⟩
abbrev S128x128 : Shape := ⟨2, ![128, 128]⟩
abbrev S1x128x128 : Shape := ⟨3, ![1, 128, 128]⟩
abbrev S512x1024 : Shape := ⟨2, ![512, 1024]⟩
abbrev S128x1x512 : Shape := ⟨3, ![128, 1, 512]⟩
abbrev S128x14x512 : Shape := ⟨3, ![128, 14, 512]⟩

abbrev nBuf : Space → Nat
  | .hbm => 32
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024, .f32⟩
  | .hbm, ⟨5, _⟩ => ⟨S1024x2048, .f32⟩
  | .hbm, ⟨6, _⟩ => ⟨S3x512, .f32⟩
  | .hbm, ⟨7, _⟩ => ⟨S4x128x128, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S128x2x512, .f32⟩
  | .hbm, ⟨13, _⟩ => ⟨S128x15x512, .f32⟩
  | .hbm, ⟨14, _⟩ => ⟨S1024x2048, .bf16⟩
  | .hbm, ⟨15, _⟩ => ⟨S4x128x128, .bf16⟩
  | .hbm, ⟨16, _⟩ => ⟨S1024x1024, .bf16⟩
  | .hbm, ⟨17, _⟩ => ⟨S2x128x512, .f32⟩
  | .hbm, ⟨18, _⟩ => ⟨S15x128x512, .f32⟩
  | .hbm, ⟨19, _⟩ => ⟨S1x1024, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S128x1024, .f32⟩
  | .hbm, ⟨24, _⟩ => ⟨S128x512, .f32⟩
  | .hbm, ⟨25, _⟩ => ⟨S128x512, .f32⟩
  | .hbm, ⟨26, _⟩ => ⟨S128x1x512, .f32⟩
  | .hbm, ⟨27, _⟩ => ⟨S128x1x512, .f32⟩
  | .hbm, ⟨28, _⟩ => ⟨S128x2x512, .f32⟩
  | .hbm, ⟨29, _⟩ => ⟨S128x14x512, .f32⟩
  | .hbm, ⟨30, _⟩ => ⟨S128x1x512, .f32⟩
  | .hbm, ⟨31, _⟩ => ⟨S128x15x512, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1024x2048, .bf16⟩
  | .local _ .vmem, ⟨6, _⟩ => ⟨S3x512, .f32⟩
  | .local _ .vmem, ⟨7, _⟩ => ⟨S4x128x128, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x1024, .bf16⟩
  | .local _ .vmem, ⟨12, _⟩ => ⟨S2x128x512, .f32⟩
  | .local _ .vmem, ⟨13, _⟩ => ⟨S15x128x512, .f32⟩
  | .local _ .vmem, ⟨14, _⟩ => ⟨S128x1024, .f32⟩
  | .local _ .vmem, ⟨15, _⟩ => ⟨S128x512, .f32⟩
  | .local _ .vmem, ⟨16, _⟩ => ⟨S128x512, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S15x128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Reference4Ideal.lean ====
abbrev S128x1024 : Shape := ⟨2, ![128, 1024]⟩
abbrev S1024 : Shape := ⟨1, ![1024]⟩
abbrev S1024x2048 : Shape := ⟨2, ![1024, 2048]⟩
abbrev S3x512 : Shape := ⟨2, ![3, 512]⟩
abbrev S4x128x128 : Shape := ⟨3, ![4, 128, 128]⟩
abbrev S512 : Shape := ⟨1, ![512]⟩
abbrev S1024x1024 : Shape := ⟨2, ![1024, 1024]⟩
abbrev S128x2x512 : Shape := ⟨3, ![128, 2, 512]⟩
abbrev S128x15x512 : Shape := ⟨3, ![128, 15, 512]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2048 : Shape := ⟨2, ![128, 2048]⟩
abbrev S128x512 : Shape := ⟨2, ![128, 512]⟩
abbrev S128x1x512 : Shape := ⟨3, ![128, 1, 512]⟩
abbrev S128x3x512 : Shape := ⟨3, ![128, 3, 512]⟩
abbrev S1x512 : Shape := ⟨2, ![1, 512]⟩
abbrev S128x16x512 : Shape := ⟨3, ![128, 16, 512]⟩
abbrev S128x17x512 : Shape := ⟨3, ![128, 17, 512]⟩
abbrev S1 : Shape := ⟨1, ![1]⟩
abbrev S128x1x128 : Shape := ⟨3, ![128, 1, 128]⟩
abbrev S128x128 : Shape := ⟨2, ![128, 128]⟩
abbrev S1x1 : Shape := ⟨2, ![1, 1]⟩
abbrev S1x128x128 : Shape := ⟨3, ![1, 128, 128]⟩

abbrev nBuf : Space → Nat
  | .hbm => 201
  | .vmem => 0
  | .smem => 0
  | _ => 0

abbrev hbmTy0_0 (i : Nat) : BufTy := match i % 128 with
  | 0 => ⟨S128x1024, .f32⟩
  | 1 => ⟨S128x1024, .f32⟩
  | 2 => ⟨S128x1024, .f32⟩
  | 3 => ⟨S128x1024, .f32⟩
  | 4 => ⟨S1024, .f32⟩
  | 5 => ⟨S1024x2048, .f32⟩
  | 6 => ⟨S3x512, .f32⟩
  | 7 => ⟨S4x128x128, .f32⟩
  | 8 => ⟨S512, .f32⟩
  | 9 => ⟨S512, .f32⟩
  | 10 => ⟨S512, .f32⟩
  | 11 => ⟨S1024x1024, .f32⟩
  | 12 => ⟨S128x2x512, .f32⟩
  | 13 => ⟨S128x15x512, .f32⟩
  | 14 => ⟨S128x1024, .f32⟩
  | 15 => ⟨S_, .f32⟩
  | 16 => ⟨S128, .f32⟩
  | 17 => ⟨S128x1, .f32⟩
  | 18 => ⟨S_, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S128x1, .f32⟩
  | 25 => ⟨S128x1024, .f32⟩
  | 26 => ⟨S128x1024, .f32⟩
  | 27 => ⟨S1x1024, .f32⟩
  | 28 => ⟨S128x1024, .f32⟩
  | 29 => ⟨S128x1024, .f32⟩
  | 30 => ⟨S_, .f32⟩
  | 31 => ⟨S128x1024, .f32⟩
  | 32 => ⟨S128x1024, .f32⟩
  | 33 => ⟨S128x1024, .f32⟩
  | 34 => ⟨S128x1024, .f32⟩
  | 35 => ⟨S128x2048, .f32⟩
  | 36 => ⟨S128x512, .f32⟩
  | 37 => ⟨S128x512, .f32⟩
  | 38 => ⟨S128x512, .f32⟩
  | 39 => ⟨S128x512, .f32⟩
  | 40 => ⟨S128x512, .f32⟩
  | 41 => ⟨S128x1x512, .f32⟩
  | 42 => ⟨S128x3x512, .f32⟩
  | 43 => ⟨S128x1x512, .f32⟩
  | 44 => ⟨S128x512, .f32⟩
  | 45 => ⟨S1x512, .f32⟩
  | 46 => ⟨S512, .f32⟩
  | 47 => ⟨S1x512, .f32⟩
  | 48 => ⟨S128x512, .f32⟩
  | 49 => ⟨S128x512, .f32⟩
  | 50 => ⟨S128x1x512, .f32⟩
  | 51 => ⟨S128x512, .f32⟩
  | 52 => ⟨S1x512, .f32⟩
  | 53 => ⟨S512, .f32⟩
  | 54 => ⟨S1x512, .f32⟩
  | 55 => ⟨S128x512, .f32⟩
  | 56 => ⟨S128x512, .f32⟩
  | 57 => ⟨S128x512, .f32⟩
  | 58 => ⟨S128x1x512, .f32⟩
  | 59 => ⟨S128x512, .f32⟩
  | 60 => ⟨S1x512, .f32⟩
  | 61 => ⟨S512, .f32⟩
  | 62 => ⟨S1x512, .f32⟩
  | 63 => ⟨S128x512, .f32⟩
  | 64 => ⟨S128x512, .f32⟩
  | 65 => ⟨S128x512, .f32⟩
  | 66 => ⟨S128x512, .f32⟩
  | 67 => ⟨S128x1x512, .f32⟩
  | 68 => ⟨S128x16x512, .f32⟩
  | 69 => ⟨S_, .f32⟩
  | 70 => ⟨S_, .f32⟩
  | 71 => ⟨S128x16x512, .f32⟩
  | 72 => ⟨S_, .i32⟩
  | 73 => ⟨S_, .f32⟩
  | 74 => ⟨S128x17x512, .f32⟩
  | 75 => ⟨S1, .i32⟩
  | 76 => ⟨S_, .i32⟩
  | 77 => ⟨S1, .i32⟩
  | 78 => ⟨S1, .i32⟩
  | 79 => ⟨S128x1x128, .f32⟩
  | 80 => ⟨S128x128, .f32⟩
  | 81 => ⟨S128x1x128, .f32⟩
  | 82 => ⟨S128x128, .f32⟩
  | 83 => ⟨S128x128, .f32⟩
  | 84 => ⟨S_, .i32⟩
  | 85 => ⟨S1, .i32⟩
  | 86 => ⟨S1, .i32⟩
  | 87 => ⟨S_, .i32⟩
  | 88 => ⟨S1, .i32⟩
  | 89 => ⟨S1, .i32⟩
  | 90 => ⟨S1, .f32⟩
  | 91 => ⟨S1x1, .f32⟩
  | 92 => ⟨S128x128, .f32⟩
  | 93 => ⟨S128x128, .f32⟩
  | 94 => ⟨S128x128, .f32⟩
  | 95 => ⟨S128x128, .f32⟩
  | 96 => ⟨S1x128x128, .f32⟩
  | 97 => ⟨S128x128, .f32⟩
  | 98 => ⟨S128x128, .f32⟩
  | 99 => ⟨S128x1x128, .f32⟩
  | 100 => ⟨S128x128, .f32⟩
  | 101 => ⟨S128x1x128, .f32⟩
  | 102 => ⟨S128x128, .f32⟩
  | 103 => ⟨S128x128, .f32⟩
  | 104 => ⟨S_, .i32⟩
  | 105 => ⟨S1, .i32⟩
  | 106 => ⟨S1, .i32⟩
  | 107 => ⟨S_, .i32⟩
  | 108 => ⟨S1, .i32⟩
  | 109 => ⟨S1, .i32⟩
  | 110 => ⟨S1, .f32⟩
  | 111 => ⟨S1x1, .f32⟩
  | 112 => ⟨S128x128, .f32⟩
  | 113 => ⟨S128x128, .f32⟩
  | 114 => ⟨S128x128, .f32⟩
  | 115 => ⟨S128x128, .f32⟩
  | 116 => ⟨S1x128x128, .f32⟩
  | 117 => ⟨S128x128, .f32⟩
  | 118 => ⟨S128x128, .f32⟩
  | 119 => ⟨S128x1x128, .f32⟩
  | 120 => ⟨S128x128, .f32⟩
  | 121 => ⟨S128x1x128, .f32⟩
  | 122 => ⟨S128x128, .f32⟩
  | 123 => ⟨S128x128, .f32⟩
  | 124 => ⟨S_, .i32⟩
  | 125 => ⟨S1, .i32⟩
  | 126 => ⟨S1, .i32⟩
  | 127 => ⟨S_, .i32⟩
  | _ => ⟨S128x1024, .f32⟩

abbrev hbmTy0_1 (i : Nat) : BufTy := match i % 128 with
  | 0 => ⟨S1, .i32⟩
  | 1 => ⟨S1, .i32⟩
  | 2 => ⟨S1, .f32⟩
  | 3 => ⟨S1x1, .f32⟩
  | 4 => ⟨S128x128, .f32⟩
  | 5 => ⟨S128x128, .f32⟩
  | 6 => ⟨S128x128, .f32⟩
  | 7 => ⟨S128x128, .f32⟩
  | 8 => ⟨S1x128x128, .f32⟩
  | 9 => ⟨S128x128, .f32⟩
  | 10 => ⟨S128x128, .f32⟩
  | 11 => ⟨S128x1x128, .f32⟩
  | 12 => ⟨S128x128, .f32⟩
  | 13 => ⟨S128x1x128, .f32⟩
  | 14 => ⟨S128x128, .f32⟩
  | 15 => ⟨S128x128, .f32⟩
  | 16 => ⟨S_, .i32⟩
  | 17 => ⟨S1, .i32⟩
  | 18 => ⟨S1, .i32⟩
  | 19 => ⟨S_, .i32⟩
  | 20 => ⟨S1, .i32⟩
  | 21 => ⟨S1, .i32⟩
  | 22 => ⟨S1, .f32⟩
  | 23 => ⟨S1x1, .f32⟩
  | 24 => ⟨S128x128, .f32⟩
  | 25 => ⟨S128x128, .f32⟩
  | 26 => ⟨S128x128, .f32⟩
  | 27 => ⟨S128x128, .f32⟩
  | 28 => ⟨S1x128x128, .f32⟩
  | 29 => ⟨S128x128, .f32⟩
  | 30 => ⟨S128x128, .f32⟩
  | 31 => ⟨S128x512, .f32⟩
  | 32 => ⟨S1x512, .f32⟩
  | 33 => ⟨S128x512, .f32⟩
  | 34 => ⟨S128x512, .f32⟩
  | 35 => ⟨S128x512, .f32⟩
  | 36 => ⟨S_, .f32⟩
  | 37 => ⟨S128, .f32⟩
  | 38 => ⟨S128x1, .f32⟩
  | 39 => ⟨S_, .f32⟩
  | 40 => ⟨S128x1, .f32⟩
  | 41 => ⟨S128x1, .f32⟩
  | 42 => ⟨S_, .f32⟩
  | 43 => ⟨S128x1, .f32⟩
  | 44 => ⟨S128x1, .f32⟩
  | 45 => ⟨S128x1, .f32⟩
  | 46 => ⟨S128x512, .f32⟩
  | 47 => ⟨S128x512, .f32⟩
  | 48 => ⟨S1x512, .f32⟩
  | 49 => ⟨S128x512, .f32⟩
  | 50 => ⟨S128x512, .f32⟩
  | 51 => ⟨S128x512, .f32⟩
  | 52 => ⟨S_, .f32⟩
  | 53 => ⟨S128, .f32⟩
  | 54 => ⟨S128x1, .f32⟩
  | 55 => ⟨S_, .f32⟩
  | 56 => ⟨S128x1, .f32⟩
  | 57 => ⟨S128x1, .f32⟩
  | 58 => ⟨S_, .f32⟩
  | 59 => ⟨S128x1, .f32⟩
  | 60 => ⟨S128x1, .f32⟩
  | 61 => ⟨S128x1, .f32⟩
  | 62 => ⟨S128x512, .f32⟩
  | 63 => ⟨S128x512, .f32⟩
  | 64 => ⟨S1x512, .f32⟩
  | 65 => ⟨S128x512, .f32⟩
  | 66 => ⟨S128x512, .f32⟩
  | 67 => ⟨S128x1024, .f32⟩
  | 68 => ⟨S128x1024, .f32⟩
  | 69 => ⟨S128x1024, .f32⟩
  | 70 => ⟨S128x1024, .f32⟩
  | 71 => ⟨S128x2x512, .f32⟩
  | 72 => ⟨S128x15x512, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_call0_call0_cst : Ref sig .tc := ⟨.hbm, 69, rfl⟩
abbrev main_call0_call0_v0 : Ref sig .tc := ⟨.hbm, 70, rfl⟩
abbrev main_v51 : Ref sig .tc := ⟨.hbm, 71, rfl⟩
abbrev main_c : Ref sig .tc := ⟨.hbm, 72, rfl⟩
abbrev main_call1_v0 : Ref sig .tc := ⟨.hbm, 73, rfl⟩
abbrev main_v52 : Ref sig .tc := ⟨.hbm, 74, rfl⟩
abbrev main_v53 : Ref sig .tc := ⟨.hbm, 75, rfl⟩
abbrev main_c_3 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_4 : Ref sig .tc := ⟨.hbm, 84, rfl⟩
abbrev main_v61 : Ref sig .tc := ⟨.hbm, 85, rfl⟩
abbrev main_v62 : Ref sig .tc := ⟨.hbm, 86, rfl⟩
abbrev main_c_5 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_6 : Ref sig .tc := ⟨.hbm, 104, rfl⟩
abbrev main_v79 : Ref sig .tc := ⟨.hbm, 105, rfl⟩
abbrev main_v80 : Ref sig .tc := ⟨.hbm, 106, rfl⟩
abbrev main_c_7 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_8 : Ref sig .tc := ⟨.hbm, 124, rfl⟩
abbrev main_v97 : Ref sig .tc := ⟨.hbm, 125, rfl⟩
abbrev main_v98 : Ref sig .tc := ⟨.hbm, 126, rfl⟩
abbrev main_c_9 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_c_10 : Ref sig .tc := ⟨.hbm, 144, rfl⟩
abbrev main_v115 : Ref sig .tc := ⟨.hbm, 145, rfl⟩
abbrev main_v116 : Ref sig .tc := ⟨.hbm, 146, rfl⟩
abbrev main_c_11 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_12 : Ref sig .tc := ⟨.hbm, 164, rfl⟩
abbrev main_v133 : Ref sig .tc := ⟨.hbm, 165, rfl⟩
abbrev main_v134 : Ref sig .tc := ⟨.hbm, 166, rfl⟩
abbrev main_cst_13 : Ref sig .tc := ⟨.hbm, 167, rfl⟩
abbrev main_v135 : Ref sig .tc := ⟨.hbm, 168, rfl⟩
abbrev main_v136 : Ref sig .tc := ⟨.hbm, 169, rfl⟩
abbrev main_cst_14 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_cst_15 : Ref sig .tc := ⟨.hbm, 180, rfl⟩
abbrev main_v146 : Ref sig .tc := ⟨.hbm, 181, rfl⟩
abbrev main_v147 : Ref sig .tc := ⟨.hbm, 182, rfl⟩
abbrev main_cst_16 : Ref sig .tc := ⟨.hbm, 183, rfl⟩
abbrev main_v148 : Ref sig .tc := ⟨.hbm, 184, rfl⟩
abbrev main_v149 : Ref sig .tc := ⟨.hbm, 185, rfl⟩
abbrev main_cst_17 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩

abbrev nD : Nat := 1
abbrev τ : Topo := Topo.v7x

variable {F : FTy → Type} [FloatOps F]
-- ==== Proof.Rows.lean ====
module

public import Idealize.ShloMosaic.Lib.Pipeline.ValueKit

@[expose] public section

set_option maxRecDepth 16384

noncomputable section

open Idealize.ShloMosaic

namespace Cert.Proof

/-- The inverse square root of the mean of the squares of a row of 1024 numbers plus a small constant. -/
def invRms (x : Fin 1024 → EReal) : EReal :=
  Ideal.rsqrt (Ideal.div (∑ k, x k * x k) (Ideal.ofBits .f32 0x44800000#32) + Ideal.ofBits .f32 0x358637BD#32)

/-- Normalisation of a row by its root mean square, then the modulation by a scale and a shift. -/
def modRow (x g sc sh : Fin 1024 → EReal) (d : Fin 1024) : EReal :=
  x d * invRms x * g d * (1 + sc d) + sh d

/-- One hidden unit of the gated feed-forward layer: `silu (h · wg) * (h · wu)`. -/
def gated (h wg wu : Fin 1024 → EReal) : EReal :=
  (∑ k, h k * wg k) * Ideal.logistic (∑ k, h k * wg k) * ∑ k, h k * wu k

/-- One row of the feed-forward layer: the modulated row through the gated hidden layer, weighted and added back. -/
def ffnRow (x g sc sh gt : Fin 1024 → EReal) (wg wu : Fin 1024 → Fin 2816 → EReal) (wd : Fin 2816 → Fin 1024 → EReal)
    (d : Fin 1024) : EReal :=
  x d + gt d * ∑ f, gated (modRow x g sc sh) (fun k => wg k f) (fun k => wu k f) * wd f d

/-- A sum over 2816 units, in chunks of 768, 768, 768 and 512. -/
theorem sum_chunks (f : Fin 2816 → EReal) :
    ∑ k, f k = ∑ k : Fin 768, f ⟨k, by omega⟩ + ∑ k : Fin 768, f ⟨768 + k, by omega⟩
      + ∑ k : Fin 768, f ⟨1536 + k, by omega⟩ + ∑ k : Fin 512, f ⟨2304 + k, by omega⟩ := by
  rw [show ∑ k, f k = _ from Fin.sum_univ_add (a := 2304) (b := 512) f,
    show ∑ k : Fin 2304, f (Fin.castAdd 512 k) = _ from
      Fin.sum_univ_add (a := 1536) (b := 768) fun k : Fin 2304 => f (Fin.castAdd 512 k),
    show ∑ k : Fin 1536, f (Fin.castAdd 512 (Fin.castAdd 768 k)) = _ from
      Fin.sum_univ_add (a := 768) (b := 768) fun k : Fin 1536 => f (Fin.castAdd 512 (Fin.castAdd 768 k))]
  rfl

end Cert.Proof
-- ==== Proof.MixRows.lean ====
module

public import proofs.«01_k».proof.Proof.Rows

@[expose] public section

set_option maxRecDepth 16384

noncomputable section

open Idealize.ShloMosaic

namespace Cert.Proof

/-- Row `n` of a buffer that holds `P` rows of zeros before the 2048 rows of `f`. -/
def padRows (P : ℕ) (f : Fin 2048 → EReal) (n : ℕ) : EReal :=
  if h : P ≤ n ∧ n - P < 2048 then f ⟨n - P, h.2⟩ else 0

/-- The row `k` places before row `s`, zero before the first row. -/
def back (f : Fin 2048 → EReal) (s : Fin 2048) (k : ℕ) : EReal :=
  if h : k ≤ s.val then f ⟨s.val - k, by omega⟩ else 0

theorem padRows_eq_back (P : ℕ) (f : Fin 2048 → EReal) (n : ℕ) (s : Fin 2048) (k : ℕ) (h : n + k = P + s.val) :
    padRows P f n = back f s k := by
  unfold padRows back
  by_cases hk : k ≤ s.val
  · rw [dif_pos hk, dif_pos (by omega)]
    congr 1
    exact Fin.ext (by show n - P = s.val - k; omega)
  · rw [dif_neg hk, dif_neg (by omega)]

theorem back_zero (f : Fin 2048 → EReal) (s : Fin 2048) : back f s 0 = f s := by
  unfold back
  rw [dif_pos (Nat.zero_le _)]
  rfl

/-- One entry of the projection of the modulated rows. -/
def proj (x : Fin 2048 → Fin 1024 → EReal) (g sc sh : Fin 1024 → EReal) (win : Fin 1024 → Fin 2048 → EReal)
    (s n : Fin 2048) : EReal :=
  ∑ k, modRow (x s) g sc sh k * win k n

/-- The gated value the convolution runs over. -/
def gateRow (p : Fin 2048 → Fin 2048 → EReal) (c : Fin 512) (s : Fin 2048) : EReal :=
  p s ⟨512 + c.val, by omega⟩ * p s ⟨1024 + c.val, by omega⟩

/-- The value the windows run over. -/
def poolRow (p : Fin 2048 → Fin 2048 → EReal) (c : Fin 512) (s : Fin 2048) : EReal :=
  p s ⟨1536 + c.val, by omega⟩

/-- The number of rows a window of `w` rows has read at row `s`: the smaller of `s + 1` and `w`. -/
def cnt (w s : ℕ) : EReal :=
  FloatOps.sitofp (F := Ideal) FTy.f32 (IntOp.minsi (IntOp.addi (BitVec.ofNat 32 s) 1#32) (BitVec.ofNat 32 w))

/-- The short convolution of a row and of the two rows before it. -/
def convRow (cw : Fin 3 → EReal) (v : Fin 3 → EReal) : EReal :=
  cw 2 * v ⟨0, by decide⟩ + cw 1 * v ⟨1, by decide⟩ + cw 0 * v ⟨2, by decide⟩

/-- The sum of a row and of the 1 rows before it. -/
def win2 (u : Fin 16 → EReal) : EReal :=
  u ⟨0, by decide⟩ + u ⟨1, by decide⟩

/-- The sum of a row and of the 3 rows before it. -/
def win4 (u : Fin 16 → EReal) : EReal :=
  u ⟨0, by decide⟩ + u ⟨1, by decide⟩ + u ⟨2, by decide⟩ + u ⟨3, by decide⟩

/-- The sum of a row and of the 7 rows before it. -/
def win8 (u : Fin 16 → EReal) : EReal :=
  u ⟨0, by decide⟩ + u ⟨1, by decide⟩ + u ⟨2, by decide⟩ + u ⟨3, by decide⟩ + u ⟨4, by decide⟩ + u ⟨5, by decide⟩ + u ⟨6, by decide⟩ + u ⟨7, by decide⟩

/-- The sum of a row and of the 15 rows before it. -/
def win16 (u : Fin 16 → EReal) : EReal :=
  u ⟨0, by decide⟩ + u ⟨1, by decide⟩ + u ⟨2, by decide⟩ + u ⟨3, by decide⟩ + u ⟨4, by decide⟩ + u ⟨5, by decide⟩ + u ⟨6, by decide⟩ + u ⟨7, by decide⟩ + u ⟨8, by decide⟩ + u ⟨9, by decide⟩ + u ⟨10, by decide⟩ + u ⟨11, by decide⟩ + u ⟨12, by decide⟩ + u ⟨13, by decide⟩ + u ⟨14, by decide⟩ + u ⟨15, by decide⟩

/-- Four rows of 128 numbers, one after the other. -/
def cat4 (f0 f1 f2 f3 : Fin 128 → EReal) (k : Fin 512) : EReal :=
  if h : k.val < 128 then f0 ⟨k.val, h⟩
  else if h : k.val - 128 < 128 then f1 ⟨k.val - 128, h⟩
  else if h : k.val - 128 - 128 < 128 then f2 ⟨k.val - 128 - 128, h⟩
  else f3 ⟨k.val - 128 - 128 - 128, by omega⟩

/-- The four window means, less the row itself, each through its own matrix, and the scale. -/
def poolOut (u : Fin 16 → Fin 512 → EReal) (n : ℕ → EReal) (pw : Fin 4 → Fin 128 → Fin 128 → EReal) (ps : Fin 512 → EReal)
    (c : Fin 512) : EReal :=
  cat4
    (fun j => ∑ i : Fin 128, (Ideal.div (win2 fun k => u k ⟨i.val, by omega⟩) (n 2) - u ⟨0, by decide⟩ ⟨i.val, by omega⟩)
      * pw 0 i j)
    (fun j => ∑ i : Fin 128, (Ideal.div (win4 fun k => u k ⟨128 + i.val, by omega⟩) (n 4)
      - u ⟨0, by decide⟩ ⟨128 + i.val, by omega⟩) * pw 1 i j)
    (fun j => ∑ i : Fin 128, (Ideal.div (win8 fun k => u k ⟨256 + i.val, by omega⟩) (n 8)
      - u ⟨0, by decide⟩ ⟨256 + i.val, by omega⟩) * pw 2 i j)
    (fun j => ∑ i : Fin 128, (Ideal.div (win16 fun k => u k ⟨384 + i.val, by omega⟩) (n 16)
      - u ⟨0, by decide⟩ ⟨384 + i.val, by omega⟩) * pw 3 i j) c * ps c

/-- A row of 512 numbers normalised by its root mean square, with a gain. -/
def rms512 (y g : Fin 512 → EReal) (c : Fin 512) : EReal :=
  y c * Ideal.rsqrt (Ideal.div (∑ k, y k * y k) (Ideal.ofBits .f32 0x44000000#32) + Ideal.ofBits .f32 0x358637BD#32) * g c

/-- One row of the mixing layer from the gate, the gated rows `v` and the pooled rows `u`, each counted backwards. -/
def mixRow (x gt : Fin 1024 → EReal) (bg : Fin 512 → EReal) (cw : Fin 3 → Fin 512 → EReal) (v : Fin 3 → Fin 512 → EReal)
    (u : Fin 16 → Fin 512 → EReal) (n : ℕ → EReal) (pw : Fin 4 → Fin 128 → Fin 128 → EReal) (ps gco gpo : Fin 512 → EReal)
    (wout : Fin 1024 → Fin 1024 → EReal) (d : Fin 1024) : EReal :=
  x d + gt d * (∑ c : Fin 512, rms512 (fun c => bg c * convRow (fun k => cw k c) fun k => v k c) gco c * wout ⟨c.val, by omega⟩ d
    + ∑ c : Fin 512, rms512 (poolOut u n pw ps) gpo c * wout ⟨512 + c.val, by omega⟩ d)

end Cert.Proof
-- ==== Proof.MixScratch.lean ====
module

public import proofs.«01_k».proof.Proof.Gen.KernelIdeal.Value
public import proofs.«01_k».proof.Proof.MixRows

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Proof

variable (m : (ℓ : Loc nD τ sig) → Buf (Elt Ideal) ℓ)

/-- The projected rows of a block. -/
def prj (x0 : FVec Ideal S1x2048x1024 .f32) (x1 x2 : FVec Ideal S1x1x1024 .f32) (x4 : FVec Ideal S1x1024 .f32)
    (x5 : FVec Ideal S1024x2048 .bf16) : Fin 2048 → Fin 2048 → EReal :=
  proj (fun s k => x0 (ix3 0 s k)) (fun k => x4 (ix2 0 k)) (fun k => x2 (ix3 0 0 k)) (fun k => x1 (ix3 0 0 k))
    (fun k n => x5 (ix2 k n))

/-- The gated rows after their 8 rows of zeros. -/
def bufV (p : Fin 2048 → Fin 2048 → EReal) : FVec Ideal S2056x512 .f32 := fun i => padRows 8 (gateRow p (i 1)) (i 0).val

/-- The pooled rows after their 16 rows of zeros. -/
def bufU (p : Fin 2048 → Fin 2048 → EReal) : FVec Ideal S2064x512 .f32 := fun i => padRows 16 (poolRow p (i 1)) (i 0).val

theorem readCov_ld {sig : RefSig} {κ : Kind} {sp : Space} {s : Shape} {e : EltTy} (v : View sig κ sp s e)
    (L : List (View.Piece (Elt Ideal) s e)) (r : Rect s) : v.readCov L r.toLoadRect = View.ld (View.canon L) r :=
  View.readCov_eq_canon' v L _

/-- The projected row, in the order the body multiplies. -/
theorem prj_at (x0 : FVec Ideal S1x2048x1024 .f32) (x1 x2 : FVec Ideal S1x1x1024 .f32) (x4 : FVec Ideal S1x1024 .f32)
    (x5 : FVec Ideal S1024x2048 .bf16) (s n : Fin 2048) :
    prj x0 x1 x2 x4 x5 s n = ∑ k, (x0 (ix3 0 s k) * invRms (fun k => x0 (ix3 0 s k)) * (x4 (ix2 0 k) * (1 + x2 (ix3 0 0 k)))
      + x1 (ix3 0 0 k)) * x5 (ix2 k n) := by
  unfold prj proj modRow
  refine Finset.sum_congr rfl fun k _ => ?_
  rw [mul_assoc _ (x4 _)]

/-- A row of the padded buffer past its zeros. -/
theorem padRows_in (P : ℕ) (f : Fin 2048 → EReal) (n : ℕ) (s : Fin 2048) (h : n = P + s.val) : padRows P f n = f s := by
  rw [padRows_eq_back P f n s 0 (by omega), back_zero]

theorem padRows_out (P : ℕ) (f : Fin 2048 → EReal) (n : ℕ) (h : n < P) : padRows P f n = 0 := by
  unfold padRows
  rw [dif_neg (by omega)]

theorem cover_v (p4 p3 p2 p1) (p0) (y : S2056x512.Idx) :
    ∃ pc ∈ ([⟨Rect.unit ![1544, 0] ![512, 512] inb_S2056x512_S512x512_1544_0, p4⟩,
      ⟨Rect.unit ![1032, 0] ![512, 512] inb_S2056x512_S512x512_1032_0, p3⟩,
      ⟨Rect.unit ![520, 0] ![512, 512] inb_S2056x512_S512x512_520_0, p2⟩,
      ⟨Rect.unit ![8, 0] ![512, 512] inb_S2056x512_S512x512_8_0, p1⟩,
      ⟨Rect.unit ![0, 0] ![8, 512] inb_S2056x512_S8x512_0_0, p0⟩] : List (View.Piece (Elt Ideal) S2056x512 .f32)),
      y ∈ pc.1.set := by
  have h0 : (y 0).val < 2056 := (y 0).isLt
  have h1 : (y 1).val < 512 := (y 1).isLt
  simp only [List.mem_cons, List.not_mem_nil, or_false, exists_eq_or_imp, exists_eq_left, Rect.mem_set_unit]
  simp [Fin.forall_fin_two, S2056x512]
  omega

theorem cover_u (p4 p3 p2 p1) (p0) (y : S2064x512.Idx) :
    ∃ pc ∈ ([⟨Rect.unit ![1552, 0] ![512, 512] inb_S2064x512_S512x512_1552_0, p4⟩,
      ⟨Rect.unit ![1040, 0] ![512, 512] inb_S2064x512_S512x512_1040_0, p3⟩,
      ⟨Rect.unit ![528, 0] ![512, 512] inb_S2064x512_S512x512_528_0, p2⟩,
      ⟨Rect.unit ![16, 0] ![512, 512] inb_S2064x512_S512x512_16_0, p1⟩,
      ⟨Rect.unit ![0, 0] ![16, 512] inb_S2064x512_S16x512_0_0, p0⟩] : List (View.Piece (Elt Ideal) S2064x512 .f32)),
      y ∈ pc.1.set := by
  have h0 : (y 0).val < 2064 := (y 0).isLt
  have h1 : (y 1).val < 512 := (y 1).isLt
  simp only [List.mem_cons, List.not_mem_nil, or_false, exists_eq_or_imp, exists_eq_left, Rect.mem_set_unit]
  simp [Fin.forall_fin_two, S2064x512]
  omega

theorem canon_v (x0 : FVec Ideal S1x2048x1024 .f32) (x1 x2 : FVec Ideal S1x1x1024 .f32) (x4 : FVec Ideal S1x1024 .f32)
    (x5 : FVec Ideal S1024x2048 .bf16) :
    View.canon (Val := Elt Ideal) (s := S2056x512) (e := .f32) [
      ⟨Rect.unit ![1544, 0] ![512, 512] inb_S2056x512_S512x512_1544_0,
        k0_pay22 (F := Ideal) (k0_pay19 (F := Ideal) (View.ld (Val := Elt Ideal) (S := S1x2048x1024) (e' := .f32) x0 (Rect.unit ![0, 1536, 0] ![1, 512, 1024] inb_S1x2048x1024_S1x512x1024_0_1536_0)) x4 x2 x1) x5⟩,
      ⟨Rect.unit ![1032, 0] ![512, 512] inb_S2056x512_S512x512_1032_0,
        k0_pay17 (F := Ideal) (k0_pay14 (F := Ideal) (View.ld (Val := Elt Ideal) (S := S1x2048x1024) (e' := .f32) x0 (Rect.unit ![0, 1024, 0] ![1, 512, 1024] inb_S1x2048x1024_S1x512x1024_0_1024_0)) x4 x2 x1) x5⟩,
      ⟨Rect.unit ![520, 0] ![512, 512] inb_S2056x512_S512x512_520_0,
        k0_pay12 (F := Ideal) (k0_pay10 (F := Ideal) (View.ld (Val := Elt Ideal) (S := S1x2048x1024) (e' := .f32) x0 (Rect.unit ![0, 512, 0] ![1, 512, 1024] inb_S1x2048x1024_S1x512x1024_0_512_0)) x4 x2 x1 x5)⟩,
      ⟨Rect.unit ![8, 0] ![512, 512] inb_S2056x512_S512x512_8_0,
        k0_pay8 (F := Ideal) (k0_pay7 (F := Ideal) (View.ld (Val := Elt Ideal) (S := S1x2048x1024) (e' := .f32) x0 (Rect.unit ![0, 0, 0] ![1, 512, 1024] inb_S1x2048x1024_S1x512x1024_0_0_0)) x4 x2 x1 x5)⟩,
      ⟨Rect.unit ![0, 0] ![8, 512] inb_S2056x512_S8x512_0_0, k0_pay3 (F := Ideal)⟩]
      = bufV (prj x0 x1 x2 x4 x5) := by
  funext y
  idx_vars y
  canon_tiles x h using cover_v _ _ _ _ _ _
  case piece0 =>
    idx_vars x
    obtain rfl : y1 = x1 := Fin.ext h1
    refine Eq.trans ?_ (padRows_in 8 (gateRow _ y1) _ ⟨1536 + x0, by omega⟩ (by show y0.val = 8 + (1536 + x0.val); omega)).symm
    unfold gateRow
    rw [prj_at, prj_at]
    open_payloads
    pointwise [invRms]
  case piece1 =>
    idx_vars x
    obtain rfl : y1 = x1 := Fin.ext h1
    refine Eq.trans ?_ (padRows_in 8 (gateRow _ y1) _ ⟨1024 + x0, by omega⟩ (by show y0.val = 8 + (1024 + x0.val); omega)).symm
    unfold gateRow
    rw [prj_at, prj_at]
    open_payloads
    pointwise [invRms]
  case piece2 =>
    idx_vars x
    obtain rfl : y1 = x1 := Fin.ext h1
    refine Eq.trans ?_ (padRows_in 8 (gateRow _ y1) _ ⟨512 + x0, by omega⟩ (by show y0.val = 8 + (512 + x0.val); omega)).symm
    unfold gateRow
    rw [prj_at, prj_at]
    open_payloads
    pointwise [invRms]
  case piece3 =>
    idx_vars x
    obtain rfl : y1 = x1 := Fin.ext h1
    refine Eq.trans ?_ (padRows_in 8 (gateRow _ y1) _ ⟨0 + x0, by omega⟩ (by show y0.val = 8 + (0 + x0.val); omega)).symm
    unfold gateRow
    rw [prj_at, prj_at]
    open_payloads
    pointwise [invRms]
  case piece4 =>
    idx_vars x
    obtain rfl : y1 = x1 := Fin.ext h1
    refine Eq.trans ?_ (padRows_out 8 (gateRow _ y1) _ (by show y0.val < 8; omega)).symm
    pointwise [k0_pay3]

theorem canon_u (x0 : FVec Ideal S1x2048x1024 .f32) (x1 x2 : FVec Ideal S1x1x1024 .f32) (x4 : FVec Ideal S1x1024 .f32)
    (x5 : FVec Ideal S1024x2048 .bf16) :
    View.canon (Val := Elt Ideal) (s := S2064x512) (e := .f32) [
      ⟨Rect.unit ![1552, 0] ![512, 512] inb_S2064x512_S512x512_1552_0,
        k0_pay23 (F := Ideal) (k0_pay19 (F := Ideal) (View.ld (Val := Elt Ideal) (S := S1x2048x1024) (e' := .f32) x0 (Rect.unit ![0, 1536, 0] ![1, 512, 1024] inb_S1x2048x1024_S1x512x1024_0_1536_0)) x4 x2 x1) x5⟩,
      ⟨Rect.unit ![1040, 0] ![512, 512] inb_S2064x512_S512x512_1040_0,
        k0_pay18 (F := Ideal) (k0_pay14 (F := Ideal) (View.ld (Val := Elt Ideal) (S := S1x2048x1024) (e' := .f32) x0 (Rect.unit ![0, 1024, 0] ![1, 512, 1024] inb_S1x2048x1024_S1x512x1024_0_1024_0)) x4 x2 x1) x5⟩,
      ⟨Rect.unit ![528, 0] ![512, 512] inb_S2064x512_S512x512_528_0,
        k0_pay13 (F := Ideal) (k0_pay10 (F := Ideal) (View.ld (Val := Elt Ideal) (S := S1x2048x1024) (e' := .f32) x0 (Rect.unit ![0, 512, 0] ![1, 512, 1024] inb_S1x2048x1024_S1x512x1024_0_512_0)) x4 x2 x1 x5)⟩,
      ⟨Rect.unit ![16, 0] ![512, 512] inb_S2064x512_S512x512_16_0,
        k0_pay9 (F := Ideal) (k0_pay5 (F := Ideal) (View.ld (Val := Elt Ideal) (S := S1x2048x1024) (e' := .f32) x0 (Rect.unit ![0, 0, 0] ![1, 512, 1024] inb_S1x2048x1024_S1x512x1024_0_0_0)) x4 x2 x1 x5)⟩,
      ⟨Rect.unit ![0, 0] ![16, 512] inb_S2064x512_S16x512_0_0, k0_pay4 (F := Ideal)⟩]
      = bufU (prj x0 x1 x2 x4 x5) := by
  funext y
  idx_vars y
  canon_tiles x h using cover_u _ _ _ _ _ _
  case piece0 =>
    idx_vars x
    obtain rfl : y1 = x1 := Fin.ext h1
    refine Eq.trans ?_ (padRows_in 16 (poolRow _ y1) _ ⟨1536 + x0, by omega⟩ (by show y0.val = 16 + (1536 + x0.val); omega)).symm
    unfold poolRow
    rw [prj_at]
    open_payloads
    pointwise [invRms]
  case piece1 =>
    idx_vars x
    obtain rfl : y1 = x1 := Fin.ext h1
    refine Eq.trans ?_ (padRows_in 16 (poolRow _ y1) _ ⟨1024 + x0, by omega⟩ (by show y0.val = 16 + (1024 + x0.val); omega)).symm
    unfold poolRow
    rw [prj_at]
    open_payloads
    pointwise [invRms]
  case piece2 =>
    idx_vars x
    obtain rfl : y1 = x1 := Fin.ext h1
    refine Eq.trans ?_ (padRows_in 16 (poolRow _ y1) _ ⟨512 + x0, by omega⟩ (by show y0.val = 16 + (512 + x0.val); omega)).symm
    unfold poolRow
    rw [prj_at]
    open_payloads
    pointwise [invRms]
  case piece3 =>
    idx_vars x
    obtain rfl : y1 = x1 := Fin.ext h1
    refine Eq.trans ?_ (padRows_in 16 (poolRow _ y1) _ ⟨0 + x0, by omega⟩ (by show y0.val = 16 + (0 + x0.val); omega)).symm
    unfold poolRow
    rw [prj_at]
    open_payloads
    pointwise [invRms]
  case piece4 =>
    idx_vars x
    obtain rfl : y1 = x1 := Fin.ext h1
    refine Eq.trans ?_ (padRows_out 16 (poolRow _ y1) _ (by show y0.val < 16; omega)).symm
    pointwise [k0_pay4]

end Cert.KernelIdeal.Value
-- ==== Proof.MixBlock.lean ====
module

public import proofs.«01_k».proof.Proof.MixScratch

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Proof

variable (m : (ℓ : Loc nD τ sig) → Buf (Elt Ideal) ℓ)

theorem bufV_at (p) (i : Fin 2056) (j : Fin 512) : bufV p (ix2 i j) = padRows 8 (gateRow p j) i.val := rfl

theorem bufU_at (p) (i : Fin 2064) (j : Fin 512) : bufU p (ix2 i j) = padRows 16 (poolRow p j) i.val := rfl

/-- The row of the block that holds one result row. -/
def mixBlk (x0 : FVec Ideal S1x2048x1024 .f32) (x1 x2 x3 : FVec Ideal S1x1x1024 .f32) (x4 : FVec Ideal S1x1024 .f32)
    (x5 : FVec Ideal S1024x2048 .bf16) (x6 : FVec Ideal S3x512 .f32) (x7 : FVec Ideal S4x128x128 .bf16)
    (x8 x9 x10 : FVec Ideal S1x512 .f32) (x11 : FVec Ideal S1024x1024 .bf16) : FVec Ideal S1x2048x1024 .f32 := fun i =>
  mixRow (fun d => x0 (ix3 0 (i 1) d)) (fun d => x3 (ix3 0 0 d)) (fun c => prj x0 x1 x2 x4 x5 (i 1) ⟨c.val, by omega⟩)
    (fun k c => x6 (ix2 k c)) (fun k c => back (gateRow (prj x0 x1 x2 x4 x5) c) (i 1) k.val)
    (fun k c => back (poolRow (prj x0 x1 x2 x4 x5) c) (i 1) k.val) (fun w => cnt w (i 1).val)
    (fun k i j => x7 (ix3 k i j)) (fun c => x8 (ix2 0 c)) (fun c => x9 (ix2 0 c)) (fun c => x10 (ix2 0 c))
    (fun k d => x11 (ix2 k d)) (i 2)

theorem back_v (lo : ℕ) (hlo : lo ≤ 1536) (f : Fin 2048 → EReal) (r : Fin 512) (k : Fin 3) :
    back f ⟨lo + r.val, by omega⟩ k.val = padRows 8 f (8 + lo - k.val + r.val) :=
  (padRows_eq_back 8 f _ _ _ (by show 8 + lo - k.val + r.val + k.val = 8 + (lo + r.val); omega)).symm

theorem back_u (lo : ℕ) (hlo : lo ≤ 1536) (f : Fin 2048 → EReal) (r : Fin 512) (k : Fin 16) :
    back f ⟨lo + r.val, by omega⟩ k.val = padRows 16 f (16 + lo - k.val + r.val) :=
  (padRows_eq_back 16 f _ _ _ (by show 16 + lo - k.val + r.val + k.val = 16 + (lo + r.val); omega)).symm

theorem pos_at (lo r : ℕ) : IntOp.addi (Scalar.addi (Scalar.muli 0#32 2048#32) (BitVec.ofNat 32 lo)) (BitVec.ofNat 32 r)
    = BitVec.ofNat 32 (lo + r) := by
  show (0#32 * 2048#32 + BitVec.ofNat 32 lo) + BitVec.ofNat 32 r = _
  rw [BitVec.ofNat_add]
  simp

theorem coord (t : Fin cfg0.N) : BitVec.ofNat 32 (grid0.coords t 1).val = 0#32 :=
  (by decide +kernel : ∀ t : Fin grid0.N, BitVec.ofNat 32 (grid0.coords t 1).val = 0#32) t

theorem gate_0 (x0 : FVec Ideal S1x2048x1024 .f32) (x1 x2 : FVec Ideal S1x1x1024 .f32) (x4 : FVec Ideal S1x1024 .f32)
    (x5 : FVec Ideal S1024x2048 .bf16) (r c : Fin 512) :
    k0_pay6 (F := Ideal) (View.ld (Val := Elt Ideal) (S := S1x2048x1024) (e' := .f32) x0 (Rect.unit ![0, 0, 0] ![1, 512, 1024] inb_S1x2048x1024_S1x512x1024_0_0_0)) x4 x2 x1 x5 (ix2 r c)
      = prj x0 x1 x2 x4 x5 ⟨0 + r.val, by omega⟩ ⟨c.val, by omega⟩ := by
  rw [prj_at]
  open_payloads
  pointwise [invRms]

theorem gate_512 (x0 : FVec Ideal S1x2048x1024 .f32) (x1 x2 : FVec Ideal S1x1x1024 .f32) (x4 : FVec Ideal S1x1024 .f32)
    (x5 : FVec Ideal S1024x2048 .bf16) (r c : Fin 512) :
    k0_pay11 (F := Ideal) (View.ld (Val := Elt Ideal) (S := S1x2048x1024) (e' := .f32) x0 (Rect.unit ![0, 512, 0] ![1, 512, 1024] inb_S1x2048x1024_S1x512x1024_0_512_0)) x4 x2 x1 x5 (ix2 r c)
      = prj x0 x1 x2 x4 x5 ⟨512 + r.val, by omega⟩ ⟨c.val, by omega⟩ := by
  rw [prj_at]
  open_payloads
  pointwise [invRms]

theorem gate_1024 (x0 : FVec Ideal S1x2048x1024 .f32) (x1 x2 : FVec Ideal S1x1x1024 .f32) (x4 : FVec Ideal S1x1024 .f32)
    (x5 : FVec Ideal S1024x2048 .bf16) (r c : Fin 512) :
    k0_pay16 (F := Ideal) (k0_pay14 (F := Ideal) (View.ld (Val := Elt Ideal) (S := S1x2048x1024) (e' := .f32) x0 (Rect.unit ![0, 1024, 0] ![1, 512, 1024] inb_S1x2048x1024_S1x512x1024_0_1024_0)) x4 x2 x1) x5 (ix2 r c)
      = prj x0 x1 x2 x4 x5 ⟨1024 + r.val, by omega⟩ ⟨c.val, by omega⟩ := by
  rw [prj_at]
  open_payloads
  pointwise [invRms]

theorem gate_1536 (x0 : FVec Ideal S1x2048x1024 .f32) (x1 x2 : FVec Ideal S1x1x1024 .f32) (x4 : FVec Ideal S1x1024 .f32)
    (x5 : FVec Ideal S1024x2048 .bf16) (r c : Fin 512) :
    k0_pay21 (F := Ideal) (k0_pay19 (F := Ideal) (View.ld (Val := Elt Ideal) (S := S1x2048x1024) (e' := .f32) x0 (Rect.unit ![0, 1536, 0] ![1, 512, 1024] inb_S1x2048x1024_S1x512x1024_0_1536_0)) x4 x2 x1) x5 (ix2 r c)
      = prj x0 x1 x2 x4 x5 ⟨1536 + r.val, by omega⟩ ⟨c.val, by omega⟩ := by
  rw [prj_at]
  open_payloads
  pointwise [invRms]

theorem mixBlk_0 (x0 : FVec Ideal S1x2048x1024 .f32) (x1 x2 x3 : FVec Ideal S1x1x1024 .f32) (x4 : FVec Ideal S1x1024 .f32)
    (x5 : FVec Ideal S1024x2048 .bf16) (x6 : FVec Ideal S3x512 .f32) (x7 : FVec Ideal S4x128x128 .bf16)
    (x8 x9 x10 : FVec Ideal S1x512 .f32) (x11 : FVec Ideal S1024x1024 .bf16) (b : Fin 1) (r : Fin 512) (d : Fin 1024) :
    mixBlk x0 x1 x2 x3 x4 x5 x6 x7 x8 x9 x10 x11 (ix3 b ⟨0 + r.val, by omega⟩ d)
      = mixRow (fun d => x0 (ix3 0 ⟨0 + r.val, by omega⟩ d)) (fun d => x3 (ix3 0 0 d))
        (fun c => prj x0 x1 x2 x4 x5 ⟨0 + r.val, by omega⟩ ⟨c.val, by omega⟩)
        (fun k c => x6 (ix2 k c)) (fun k c => padRows 8 (gateRow (prj x0 x1 x2 x4 x5) c) (8 - k.val + r.val))
        (fun k c => padRows 16 (poolRow (prj x0 x1 x2 x4 x5) c) (16 - k.val + r.val)) (fun w => cnt w (0 + r.val))
        (fun k i j => x7 (ix3 k i j)) (fun c => x8 (ix2 0 c)) (fun c => x9 (ix2 0 c)) (fun c => x10 (ix2 0 c))
        (fun k d => x11 (ix2 k d)) d := by
  have hv : (fun (k : Fin 3) c => back (gateRow (prj x0 x1 x2 x4 x5) c) ⟨0 + r.val, by omega⟩ k.val)
      = fun k c => padRows 8 (gateRow (prj x0 x1 x2 x4 x5) c) (8 - k.val + r.val) := by
    funext k c
    exact back_v 0 (by decide) _ r k
  have hu : (fun (k : Fin 16) c => back (poolRow (prj x0 x1 x2 x4 x5) c) ⟨0 + r.val, by omega⟩ k.val)
      = fun k c => padRows 16 (poolRow (prj x0 x1 x2 x4 x5) c) (16 - k.val + r.val) := by
    funext k c
    exact back_u 0 (by decide) _ r k
  rw [← hv, ← hu]
  rfl

theorem mixBlk_512 (x0 : FVec Ideal S1x2048x1024 .f32) (x1 x2 x3 : FVec Ideal S1x1x1024 .f32) (x4 : FVec Ideal S1x1024 .f32)
    (x5 : FVec Ideal S1024x2048 .bf16) (x6 : FVec Ideal S3x512 .f32) (x7 : FVec Ideal S4x128x128 .bf16)
    (x8 x9 x10 : FVec Ideal S1x512 .f32) (x11 : FVec Ideal S1024x1024 .bf16) (b : Fin 1) (r : Fin 512) (d : Fin 1024) :
    mixBlk x0 x1 x2 x3 x4 x5 x6 x7 x8 x9 x10 x11 (ix3 b ⟨512 + r.val, by omega⟩ d)
      = mixRow (fun d => x0 (ix3 0 ⟨512 + r.val, by omega⟩ d)) (fun d => x3 (ix3 0 0 d))
        (fun c => prj x0 x1 x2 x4 x5 ⟨512 + r.val, by omega⟩ ⟨c.val, by omega⟩)
        (fun k c => x6 (ix2 k c)) (fun k c => padRows 8 (gateRow (prj x0 x1 x2 x4 x5) c) (520 - k.val + r.val))
        (fun k c => padRows 16 (poolRow (prj x0 x1 x2 x4 x5) c) (528 - k.val + r.val)) (fun w => cnt w (512 + r.val))
        (fun k i j => x7 (ix3 k i j)) (fun c => x8 (ix2 0 c)) (fun c => x9 (ix2 0 c)) (fun c => x10 (ix2 0 c))
        (fun k d => x11 (ix2 k d)) d := by
  have hv : (fun (k : Fin 3) c => back (gateRow (prj x0 x1 x2 x4 x5) c) ⟨512 + r.val, by omega⟩ k.val)
      = fun k c => padRows 8 (gateRow (prj x0 x1 x2 x4 x5) c) (520 - k.val + r.val) := by
    funext k c
    exact back_v 512 (by decide) _ r k
  have hu : (fun (k : Fin 16) c => back (poolRow (prj x0 x1 x2 x4 x5) c) ⟨512 + r.val, by omega⟩ k.val)
      = fun k c => padRows 16 (poolRow (prj x0 x1 x2 x4 x5) c) (528 - k.val + r.val) := by
    funext k c
    exact back_u 512 (by decide) _ r k
  rw [← hv, ← hu]
  rfl

theorem mixBlk_1024 (x0 : FVec Ideal S1x2048x1024 .f32) (x1 x2 x3 : FVec Ideal S1x1x1024 .f32) (x4 : FVec Ideal S1x1024 .f32)
    (x5 : FVec Ideal S1024x2048 .bf16) (x6 : FVec Ideal S3x512 .f32) (x7 : FVec Ideal S4x128x128 .bf16)
    (x8 x9 x10 : FVec Ideal S1x512 .f32) (x11 : FVec Ideal S1024x1024 .bf16) (b : Fin 1) (r : Fin 512) (d : Fin 1024) :
    mixBlk x0 x1 x2 x3 x4 x5 x6 x7 x8 x9 x10 x11 (ix3 b ⟨1024 + r.val, by omega⟩ d)
      = mixRow (fun d => x0 (ix3 0 ⟨1024 + r.val, by omega⟩ d)) (fun d => x3 (ix3 0 0 d))
        (fun c => prj x0 x1 x2 x4 x5 ⟨1024 + r.val, by omega⟩ ⟨c.val, by omega⟩)
        (fun k c => x6 (ix2 k c)) (fun k c => padRows 8 (gateRow (prj x0 x1 x2 x4 x5) c) (1032 - k.val + r.val))
        (fun k c => padRows 16 (poolRow (prj x0 x1 x2 x4 x5) c) (1040 - k.val + r.val)) (fun w => cnt w (1024 + r.val))
        (fun k i j => x7 (ix3 k i j)) (fun c => x8 (ix2 0 c)) (fun c => x9 (ix2 0 c)) (fun c => x10 (ix2 0 c))
        (fun k d => x11 (ix2 k d)) d := by
  have hv : (fun (k : Fin 3) c => back (gateRow (prj x0 x1 x2 x4 x5) c) ⟨1024 + r.val, by omega⟩ k.val)
      = fun k c => padRows 8 (gateRow (prj x0 x1 x2 x4 x5) c) (1032 - k.val + r.val) := by
    funext k c
    exact back_v 1024 (by decide) _ r k
  have hu : (fun (k : Fin 16) c => back (poolRow (prj x0 x1 x2 x4 x5) c) ⟨1024 + r.val, by omega⟩ k.val)
      = fun k c => padRows 16 (poolRow (prj x0 x1 x2 x4 x5) c) (1040 - k.val + r.val) := by
    funext k c
    exact back_u 1024 (by decide) _ r k
  rw [← hv, ← hu]
  rfl

theorem mixBlk_1536 (x0 : FVec Ideal S1x2048x1024 .f32) (x1 x2 x3 : FVec Ideal S1x1x1024 .f32) (x4 : FVec Ideal S1x1024 .f32)
    (x5 : FVec Ideal S1024x2048 .bf16) (x6 : FVec Ideal S3x512 .f32) (x7 : FVec Ideal S4x128x128 .bf16)
    (x8 x9 x10 : FVec Ideal S1x512 .f32) (x11 : FVec Ideal S1024x1024 .bf16) (b : Fin 1) (r : Fin 512) (d : Fin 1024) :
    mixBlk x0 x1 x2 x3 x4 x5 x6 x7 x8 x9 x10 x11 (ix3 b ⟨1536 + r.val, by omega⟩ d)
      = mixRow (fun d => x0 (ix3 0 ⟨1536 + r.val, by omega⟩ d)) (fun d => x3 (ix3 0 0 d))
        (fun c => prj x0 x1 x2 x4 x5 ⟨1536 + r.val, by omega⟩ ⟨c.val, by omega⟩)
        (fun k c => x6 (ix2 k c)) (fun k c => padRows 8 (gateRow (prj x0 x1 x2 x4 x5) c) (1544 - k.val + r.val))
        (fun k c => padRows 16 (poolRow (prj x0 x1 x2 x4 x5) c) (1552 - k.val + r.val)) (fun w => cnt w (1536 + r.val))
        (fun k i j => x7 (ix3 k i j)) (fun c => x8 (ix2 0 c)) (fun c => x9 (ix2 0 c)) (fun c => x10 (ix2 0 c))
        (fun k d => x11 (ix2 k d)) d := by
  have hv : (fun (k : Fin 3) c => back (gateRow (prj x0 x1 x2 x4 x5) c) ⟨1536 + r.val, by omega⟩ k.val)
      = fun k c => padRows 8 (gateRow (prj x0 x1 x2 x4 x5) c) (1544 - k.val + r.val) := by
    funext k c
    exact back_v 1536 (by decide) _ r k
  have hu : (fun (k : Fin 16) c => back (poolRow (prj x0 x1 x2 x4 x5) c) ⟨1536 + r.val, by omega⟩ k.val)
      = fun k c => padRows 16 (poolRow (prj x0 x1 x2 x4 x5) c) (1552 - k.val + r.val) := by
    funext k c
    exact back_u 1536 (by decide) _ r k
  rw [← hv, ← hu]
  rfl

/-- What grid point `t` leaves in the block of the result. -/
theorem after12 (c : Dev nD) (t : Fin cfg0.N) (y) : (outsAt0 m c t).1 y
    = mixBlk (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y := by
  unfold outsAt0
  frame_out
  simp only [readCov_ld, canon_v, canon_u, coord]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  idx_vars y
  canon_tiles z h
  case piece0 =>
    idx_vars z
    obtain rfl : y2 = z2 := Fin.ext h2
    obtain rfl : z0 = 0 := Subsingleton.elim _ _
    have e : y1 = ⟨1536 + z1.val, by omega⟩ := Fin.ext (by show y1.val = 1536 + z1.val; omega)
    rw [e]
    refine Eq.trans ?_ (mixBlk_1536 x0 x1 x2 x3 x4 x5 x6 x7 x8 x9 x10 x11 y0 z1 y2).symm
    pointwise [gate_1536, bufV_at, bufU_at, pos_at, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, mixRow, rms512, convRow, poolOut, cat4, win2, win4, win8, win16, cnt]
  case piece1 =>
    idx_vars z
    obtain rfl : y2 = z2 := Fin.ext h2
    obtain rfl : z0 = 0 := Subsingleton.elim _ _
    have e : y1 = ⟨1024 + z1.val, by omega⟩ := Fin.ext (by show y1.val = 1024 + z1.val; omega)
    rw [e]
    refine Eq.trans ?_ (mixBlk_1024 x0 x1 x2 x3 x4 x5 x6 x7 x8 x9 x10 x11 y0 z1 y2).symm
    pointwise [gate_1024, bufV_at, bufU_at, pos_at, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, mixRow, rms512, convRow, poolOut, cat4, win2, win4, win8, win16, cnt]
  case piece2 =>
    idx_vars z
    obtain rfl : y2 = z2 := Fin.ext h2
    obtain rfl : z0 = 0 := Subsingleton.elim _ _
    have e : y1 = ⟨512 + z1.val, by omega⟩ := Fin.ext (by show y1.val = 512 + z1.val; omega)
    rw [e]
    refine Eq.trans ?_ (mixBlk_512 x0 x1 x2 x3 x4 x5 x6 x7 x8 x9 x10 x11 y0 z1 y2).symm
    pointwise [gate_512, bufV_at, bufU_at, pos_at, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, mixRow, rms512, convRow, poolOut, cat4, win2, win4, win8, win16, cnt]
  case piece3 =>
    idx_vars z
    obtain rfl : y2 = z2 := Fin.ext h2
    obtain rfl : z0 = 0 := Subsingleton.elim _ _
    have e : y1 = ⟨0 + z1.val, by omega⟩ := Fin.ext (by show y1.val = 0 + z1.val; omega)
    rw [e]
    refine Eq.trans ?_ (mixBlk_0 x0 x1 x2 x3 x4 x5 x6 x7 x8 x9 x10 x11 y0 z1 y2).symm
    pointwise [gate_0, bufV_at, bufU_at, pos_at, k0_pay24, k0_pay25, k0_pay26, k0_pay27, k0_pay28, k0_pay29, k0_pay30, k0_pay31, k0_pay32, k0_pay33, k0_pay34, k0_pay35, k0_pay36, k0_pay37, k0_pay38, k0_pay39, k0_pay40, mixRow, rms512, convRow, poolOut, cat4, win2, win4, win8, win16, cnt]

/-- The last two gated rows of a block. -/
def convBlk (x0 : FVec Ideal S1x2048x1024 .f32) (x1 x2 : FVec Ideal S1x1x1024 .f32) (x4 : FVec Ideal S1x1024 .f32)
    (x5 : FVec Ideal S1024x2048 .bf16) : FVec Ideal S1x2x512 .f32 := fun i =>
  gateRow (prj x0 x1 x2 x4 x5) (i 2) ⟨2046 + (i 1).val, by have : (i 1).val < 2 := (i 1).isLt; omega⟩

/-- The last fifteen pooled rows of a block. -/
def poolBlk (x0 : FVec Ideal S1x2048x1024 .f32) (x1 x2 : FVec Ideal S1x1x1024 .f32) (x4 : FVec Ideal S1x1024 .f32)
    (x5 : FVec Ideal S1024x2048 .bf16) : FVec Ideal S1x15x512 .f32 := fun i =>
  poolRow (prj x0 x1 x2 x4 x5) (i 2) ⟨2033 + (i 1).val, by have : (i 1).val < 15 := (i 1).isLt; omega⟩

theorem after13 (c : Dev nD) (t : Fin cfg0.N) (y) : (outsAt0 m c t).2.1 y
    = convBlk (iblk m c 0 t) (iblk m c 1 t) (iblk m c 2 t) (iblk m c 4 t) (iblk m c 5 t) y := by
  unfold outsAt0
  frame_out
  simp only [readCov_ld, canon_v, canon_u, coord]
  idx_vars y
  pointwise [k0_pay101, bufV_at]
  exact padRows_in 8 _ _ _ (by show 2054 + y1.val = 8 + (2046 + y1.val); omega)

theorem after14 (c : Dev nD) (t : Fin cfg0.N) (y) : (outsAt0 m c t).2.2 y
    = poolBlk (iblk m c 0 t) (iblk m c 1 t) (iblk m c 2 t) (iblk m c 4 t) (iblk m c 5 t) y := by
  unfold outsAt0
  frame_out
  simp only [readCov_ld, canon_v, canon_u, coord]
  idx_vars y
  pointwise [k0_pay102, bufU_at]
  exact padRows_in 16 _ _ _ (by show 2049 + y1.val = 16 + (2033 + y1.val); omega)

end Cert.KernelIdeal.Value
-- ==== Proof.MixKernel.lean ====
module

public import proofs.«01_k».proof.Proof.MixBlock

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen Cert.Proof

variable (m : (ℓ : Loc nD τ sig) → Buf (Elt Ideal) ℓ)

/-- The windows' block indices at every grid point. -/
theorem idx : ∀ t : Fin cfg0.N,
    win0_0.index t = ![t.val, 0, 0] ∧ win0_1.index t = ![t.val, 0, 0] ∧ win0_2.index t = ![t.val, 0, 0]
      ∧ win0_3.index t = ![t.val, 0, 0] ∧ win0_4.index t = ![0, 0] ∧ win0_5.index t = ![0, 0]
      ∧ win0_6.index t = ![0, 0] ∧ win0_7.index t = ![0, 0, 0] ∧ win0_8.index t = ![0, 0] ∧ win0_9.index t = ![0, 0]
      ∧ win0_10.index t = ![0, 0] ∧ win0_11.index t = ![0, 0] ∧ win0_12.index t = ![t.val, 0, 0]
      ∧ win0_13.index t = ![t.val, 0, 0] ∧ win0_14.index t = ![t.val, 0, 0] :=
  (by decide +kernel : ∀ t : Fin grid0.N, _)

/-- The projected rows of sequence `b`. -/
def prjArr (X : FVec Ideal S8x2048x1024 .f32) (SH SC : FVec Ideal S8x1x1024 .f32) (G : FVec Ideal S1024 .f32)
    (WIN : FVec Ideal S1024x2048 .f32) (b : Fin 8) : Fin 2048 → Fin 2048 → EReal :=
  proj (fun s k => X (ix3 b s k)) (fun k => G (ix1 k)) (fun k => SC (ix3 b 0 k)) (fun k => SH (ix3 b 0 k))
    (fun k n => WIN (ix2 k n))

/-- The mixing layer over whole arrays. -/
def mixArr (X : FVec Ideal S8x2048x1024 .f32) (SH SC GT : FVec Ideal S8x1x1024 .f32) (G : FVec Ideal S1024 .f32)
    (WIN : FVec Ideal S1024x2048 .f32) (CW : FVec Ideal S3x512 .f32) (PW : FVec Ideal S4x128x128 .f32)
    (PS GCO GPO : FVec Ideal S512 .f32) (WOUT : FVec Ideal S1024x1024 .f32) : FVec Ideal S8x2048x1024 .f32 := fun i =>
  mixRow (fun d => X (ix3 (i 0) (i 1) d)) (fun d => GT (ix3 (i 0) 0 d))
    (fun c => prjArr X SH SC G WIN (i 0) (i 1) ⟨c.val, by omega⟩) (fun k c => CW (ix2 k c))
    (fun k c => back (gateRow (prjArr X SH SC G WIN (i 0)) c) (i 1) k.val)
    (fun k c => back (poolRow (prjArr X SH SC G WIN (i 0)) c) (i 1) k.val) (fun w => cnt w (i 1).val)
    (fun k i j => PW (ix3 k i j)) (fun c => PS (ix1 c)) (fun c => GCO (ix1 c)) (fun c => GPO (ix1 c))
    (fun k d => WOUT (ix2 k d)) (i 2)

/-- The last two gated rows of every sequence. -/
def convArr (X : FVec Ideal S8x2048x1024 .f32) (SH SC : FVec Ideal S8x1x1024 .f32) (G : FVec Ideal S1024 .f32)
    (WIN : FVec Ideal S1024x2048 .f32) : FVec Ideal S8x2x512 .f32 := fun i =>
  gateRow (prjArr X SH SC G WIN (i 0)) (i 2) ⟨2046 + (i 1).val, by have : (i 1).val < 2 := (i 1).isLt; omega⟩

/-- The last fifteen pooled rows of every sequence. -/
def poolArr (X : FVec Ideal S8x2048x1024 .f32) (SH SC : FVec Ideal S8x1x1024 .f32) (G : FVec Ideal S1024 .f32)
    (WIN : FVec Ideal S1024x2048 .f32) : FVec Ideal S8x15x512 .f32 := fun i =>
  poolRow (prjArr X SH SC G WIN (i 0)) (i 2) ⟨2033 + (i 1).val, by have : (i 1).val < 15 := (i 1).isLt; omega⟩

theorem w0 (c : Dev nD) (t : Fin cfg0.N) (s : Fin 2048) (k : Fin 1024) : iblk m c 0 t (ix3 0 s k) = m ((c : Thread nD τ).loc main_arg0) (ix3 ⟨t.val, t.isLt⟩ s k) := by
  blk_point [iblk, V, idx t]

theorem w1 (c : Dev nD) (t : Fin cfg0.N) (k : Fin 1024) : iblk m c 1 t (ix3 0 0 k) = m ((c : Thread nD τ).loc main_arg1) (ix3 ⟨t.val, t.isLt⟩ 0 k) := by
  blk_point [iblk, V, idx t]

theorem w2 (c : Dev nD) (t : Fin cfg0.N) (k : Fin 1024) : iblk m c 2 t (ix3 0 0 k) = m ((c : Thread nD τ).loc main_arg2) (ix3 ⟨t.val, t.isLt⟩ 0 k) := by
  blk_point [iblk, V, idx t]

theorem w3 (c : Dev nD) (t : Fin cfg0.N) (k : Fin 1024) : iblk m c 3 t (ix3 0 0 k) = m ((c : Thread nD τ).loc main_arg3) (ix3 ⟨t.val, t.isLt⟩ 0 k) := by
  blk_point [iblk, V, idx t]

theorem w4 (c : Dev nD) (t : Fin cfg0.N) (k : Fin 1024) : iblk m c 4 t (ix2 0 k) = m ((c : Thread nD τ).loc main_arg4) (ix1 k) := by
  blk_point [iblk, V, idx t]

theorem w5 (c : Dev nD) (t : Fin cfg0.N) (k : Fin 1024) (n : Fin 2048) : iblk m c 5 t (ix2 k n) = m ((c : Thread nD τ).loc main_arg5) (ix2 k n) := by
  blk_point [iblk, V, idx t]

theorem w6 (c : Dev nD) (t : Fin cfg0.N) (k : Fin 3) (n : Fin 512) : iblk m c 6 t (ix2 k n) = m ((c : Thread nD τ).loc main_arg6) (ix2 k n) := by
  blk_point [iblk, V, idx t]

theorem w7 (c : Dev nD) (t : Fin cfg0.N) (g : Fin 4) (i j : Fin 128) : iblk m c 7 t (ix3 g i j) = m ((c : Thread nD τ).loc main_arg7) (ix3 g i j) := by
  blk_point [iblk, V, idx t]

theorem w8 (c : Dev nD) (t : Fin cfg0.N) (k : Fin 512) : iblk m c 8 t (ix2 0 k) = m ((c : Thread nD τ).loc main_arg8) (ix1 k) := by
  blk_point [iblk, V, idx t]

theorem w9 (c : Dev nD) (t : Fin cfg0.N) (k : Fin 512) : iblk m c 9 t (ix2 0 k) = m ((c : Thread nD τ).loc main_arg9) (ix1 k) := by
  blk_point [iblk, V, idx t]

theorem w10 (c : Dev nD) (t : Fin cfg0.N) (k : Fin 512) : iblk m c 10 t (ix2 0 k) = m ((c : Thread nD τ).loc main_arg10) (ix1 k) := by
  blk_point [iblk, V, idx t]

theorem w11 (c : Dev nD) (t : Fin cfg0.N) (k n : Fin 1024) : iblk m c 11 t (ix2 k n) = m ((c : Thread nD τ).loc main_arg11) (ix2 k n) := by
  blk_point [iblk, V, idx t]

theorem prj_blk (c : Dev nD) (t : Fin cfg0.N) : prj (iblk m c 0 t) (iblk m c 1 t) (iblk m c 2 t) (iblk m c 4 t) (iblk m c 5 t)
    = prjArr (m ((c : Thread nD τ).loc main_arg0)) (m ((c : Thread nD τ).loc main_arg1)) (m ((c : Thread nD τ).loc main_arg2)) (m ((c : Thread nD τ).loc main_arg4)) (m ((c : Thread nD τ).loc main_arg5)) ⟨t.val, t.isLt⟩ := by
  funext s n
  unfold prj prjArr
  simp only [w0, w1, w2, w4, w5]

theorem final12 (c : Dev nD) : (dats m 0 c).arrAt 12 (cfgs 0).N = mixArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t _ y => ?_
  blk_simp
  rw [after0_12, after12]
  rw [show ((cfg0.win 12).blk t).view.emb y = ix3 ⟨t.val, t.isLt⟩ (y 1) (y 2) from by
    idx_vars y
    blk_point [idx t]]
  unfold mixBlk mixArr
  rw [prj_blk m c t]
  rw [show (fun d : Fin 1024 => iblk m c 0 t (ix3 0 (y 1) d)) = fun d => m ((c : Thread nD τ).loc main_arg0) (ix3 ⟨t.val, t.isLt⟩ (y 1) d)
    from funext fun d => w0 m c t (y 1) d]
  simp only [w3, w6, w7, w8, w9, w10, w11]
  rfl

theorem final13 (c : Dev nD) : (dats m 0 c).arrAt 13 (cfgs 0).N = convArr (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 13 _ (by decide +kernel) fun t _ y => ?_
  blk_simp
  rw [after0_13, after13]
  rw [show ((cfg0.win 13).blk t).view.emb y = ix3 ⟨t.val, t.isLt⟩ (y 1) (y 2) from by
    idx_vars y
    blk_point [idx t]]
  unfold convBlk convArr
  rw [prj_blk m c t]
  rfl

theorem final14 (c : Dev nD) : (dats m 0 c).arrAt 14 (cfgs 0).N = poolArr (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 14 _ (by decide +kernel) fun t _ y => ?_
  blk_simp
  rw [after0_14, after14]
  rw [show ((cfg0.win 14).blk t).view.emb y = ix3 ⟨t.val, t.isLt⟩ (y 1) (y 2) from by
    idx_vars y
    blk_point [idx t]]
  unfold poolBlk poolArr
  rw [prj_blk m c t]
  rfl

end Cert.KernelIdeal.Value
-- ==== Proof.MixSums.lean ====
module

public import proofs.«01_k».proof.Proof.MixRows
public import Idealize.ShloMosaic.Lib.Pipeline.Value

@[expose] public section

set_option maxRecDepth 16384

noncomputable section

open Idealize.ShloMosaic

namespace Cert.Proof

/-- The value is a real number, neither of the infinities. -/
def Fin' (x : EReal) : Prop := ∃ r : ℝ, x = (r : EReal)

theorem fin_zero : Fin' 0 := ⟨0, rfl⟩
theorem fin_one : Fin' 1 := ⟨1, rfl⟩

theorem fin_mul {x y : EReal} : Fin' x → Fin' y → Fin' (x * y) := by
  rintro ⟨a, rfl⟩ ⟨b, rfl⟩
  exact ⟨a * b, (EReal.coe_mul a b).symm⟩

theorem fin_add {x y : EReal} : Fin' x → Fin' y → Fin' (x + y) := by
  rintro ⟨a, rfl⟩ ⟨b, rfl⟩
  exact ⟨a + b, (EReal.coe_add a b).symm⟩

theorem fin_sum {ι : Type} (s : Finset ι) (f : ι → EReal) (h : ∀ i ∈ s, Fin' (f i)) : Fin' (∑ i ∈ s, f i) :=
  Finset.sum_induction f Fin' (fun _ _ => fin_add) fin_zero h

/-- A value whose magnitude is below `+∞` is a real number. -/
theorem fin_of_abs {x : EReal} (h : max x (-x) < ⊤) : Fin' x := by
  induction x with
  | bot => exact absurd h (by simp)
  | top => exact absurd h (by simp)
  | coe r => exact ⟨r, rfl⟩

theorem sub_cancel {a : EReal} (h : Fin' a) (b : EReal) : (a + b) - a = b := by
  obtain ⟨r, rfl⟩ := h
  induction b with
  | bot => simp
  | top => rw [EReal.coe_add_top, EReal.top_sub_coe]
  | coe s => rw [← EReal.coe_add, ← EReal.coe_sub, add_sub_cancel_left]

/-- The sum of the rows of a padded buffer before row `n`. -/
def csum (U : ℕ → EReal) (n : ℕ) : EReal := ∑ i ∈ Finset.range n, U i

theorem csum_fin (U : ℕ → EReal) (h : ∀ n, Fin' (U n)) (n : ℕ) : Fin' (csum U n) := fin_sum _ _ fun i _ => h i

theorem padRows_fin (P : ℕ) (f : Fin 2048 → EReal) (h : ∀ s, Fin' (f s)) (n : ℕ) : Fin' (padRows P f n) := by
  unfold padRows
  split
  · exact h _
  · exact fin_zero

/-- A difference of two running sums is the sum of the rows between them. -/
theorem csum_sub (f : Fin 2048 → EReal) (hf : ∀ s, Fin' (f s)) (s : Fin 2048) (w m : ℕ) (h : m + w = 16 + s.val) :
    csum (padRows 15 f) (16 + s.val) - csum (padRows 15 f) m = ∑ j ∈ Finset.range w, back f s j := by
  rw [← h, csum, Finset.sum_range_add, ← csum, sub_cancel (csum_fin _ (padRows_fin 15 f hf) m), ← Finset.sum_range_reflect]
  refine Finset.sum_congr rfl fun j hj => padRows_eq_back 15 f _ s j ?_
  have := Finset.mem_range.mp hj
  omega

theorem sum_win2 (b : ℕ → EReal) : ∑ j ∈ Finset.range 2, b j = win2 fun k => b k.val := by
  simp only [Finset.sum_range_succ, Finset.sum_range_zero, zero_add, win2]
theorem sum_win4 (b : ℕ → EReal) : ∑ j ∈ Finset.range 4, b j = win4 fun k => b k.val := by
  simp only [Finset.sum_range_succ, Finset.sum_range_zero, zero_add, win4]
theorem sum_win8 (b : ℕ → EReal) : ∑ j ∈ Finset.range 8, b j = win8 fun k => b k.val := by
  simp only [Finset.sum_range_succ, Finset.sum_range_zero, zero_add, win8]
theorem sum_win16 (b : ℕ → EReal) : ∑ j ∈ Finset.range 16, b j = win16 fun k => b k.val := by
  simp only [Finset.sum_range_succ, Finset.sum_range_zero, zero_add, win16]

/-- Folding an addition along a list adds the list's sum. -/
theorem foldl_add {β : Type} (l : List β) (g : β → EReal) (v : EReal) :
    l.foldl (fun r n => r + g n) v = v + (l.map g).sum := by
  induction l generalizing v with
  | nil => simp
  | cons a l ih => rw [List.foldl_cons, ih, List.map_cons, List.sum_cons, add_assoc]

/-- The positions of a window that is one element wide but on its middle axis. -/
theorem mid_symm {N : ℕ} (n : Fin (⟨3, ![1, N, 1]⟩ : Shape).numel) :
    (((⟨3, ![1, N, 1]⟩ : Shape).rowMajor.symm n) 0).val = 0 ∧ (((⟨3, ![1, N, 1]⟩ : Shape).rowMajor.symm n) 1).val = n.val
      ∧ (((⟨3, ![1, N, 1]⟩ : Shape).rowMajor.symm n) 2).val = 0 := by
  have e := Shape.rowMajor_val_three ((⟨3, ![1, N, 1]⟩ : Shape).rowMajor.symm n)
  rw [Equiv.apply_symm_apply] at e
  have h0 : (((⟨3, ![1, N, 1]⟩ : Shape).rowMajor.symm n) 0).val < 1 := (((⟨3, ![1, N, 1]⟩ : Shape).rowMajor.symm n) 0).isLt
  have h2 : (((⟨3, ![1, N, 1]⟩ : Shape).rowMajor.symm n) 2).val < 1 := (((⟨3, ![1, N, 1]⟩ : Shape).rowMajor.symm n) 2).isLt
  refine ⟨by omega, ?_, by omega⟩
  change n.val = ((((⟨3, ![1, N, 1]⟩ : Shape).rowMajor.symm n) 0).val * N + (((⟨3, ![1, N, 1]⟩ : Shape).rowMajor.symm n) 1).val) * 1
    + (((⟨3, ![1, N, 1]⟩ : Shape).rowMajor.symm n) 2).val at e
  rw [Nat.lt_one_iff.mp h0, Nat.lt_one_iff.mp h2] at e
  omega

theorem mid_numel (N : ℕ) : (⟨3, ![1, N, 1]⟩ : Shape).numel = N := by
  simp [Shape.numel, Fin.prod_univ_succ]

/-- A running sum along the middle axis, as a window of the whole height that ends at the row: entry `n` is the sum of
    the entries up to and including row `n`. -/
theorem running_mid' {A M C : ℕ} (x : (⟨3, ![A, M + 1, C]⟩ : Shape).Idx → EReal) (f : ℕ → EReal)
    (init : (⟨0, ![]⟩ : Shape).Idx → EReal) (hinit : ∀ i, init i = 0)
    (h : (⟨3, ![A, M + 1, C]⟩ : Shape).ReduceWindows (![1, M + 1, 1] : Fin 3 → ℕ) ![1, 1, 1] ![0, M, 0] ![0, 0, 0]
      ⟨3, ![A, M + 1, C]⟩) (hu : 0 < (⟨0, ![]⟩ : Shape).numel) (b : Fin A) (n : Fin (M + 1)) (c : Fin C)
    (hx : ∀ k : Fin (M + 1), x (ix3 b k c) = f k.val) :
    Host.reduceWindow (· + ·) ![1, M + 1, 1] ![1, 1, 1] ![0, M, 0] ![0, 0, 0] x init h hu (ix3 b n c) = csum f (n.val + 1) := by
  have hn := n.isLt
  have hb := b.isLt
  have hc := c.isLt
  unfold Host.reduceWindow
  dsimp only
  rw [foldl_add, hinit, zero_add]
  refine (congrArg List.sum (List.map_congr_left (g := fun w : Fin (⟨3, ![1, M + 1, 1]⟩ : Shape).numel =>
    (fun w : ℕ => if M ≤ n.val + w then f (n.val + w - M) else 0) w.val) fun w _ => ?_)).trans ?_
  · obtain ⟨w0, w1, w2⟩ := mid_symm w
    have hw : w.val < M + 1 := lt_of_lt_of_eq w.isLt (mid_numel _)
    dsimp only
    split
    · next hin =>
      have h1 := hin 1
      change M ≤ n.val * 1 + ((⟨3, ![1, M + 1, 1]⟩ : Shape).rowMajor.symm w 1).val
        ∧ n.val * 1 + ((⟨3, ![1, M + 1, 1]⟩ : Shape).rowMajor.symm w 1).val - M < M + 1 at h1
      rw [w1] at h1
      rw [if_pos (by omega)]
      refine (congrArg x (funext fun a => Fin.ext ?_)).trans (hx ⟨n.val + w.val - M, by omega⟩)
      match a with
      | ⟨0, _⟩ =>
        show b.val * 1 + ((⟨3, ![1, M + 1, 1]⟩ : Shape).rowMajor.symm w 0).val - 0 = b.val
        rw [w0]; omega
      | ⟨1, _⟩ =>
        show n.val * 1 + ((⟨3, ![1, M + 1, 1]⟩ : Shape).rowMajor.symm w 1).val - M = n.val + w.val - M
        rw [w1]; omega
      | ⟨2, _⟩ =>
        show c.val * 1 + ((⟨3, ![1, M + 1, 1]⟩ : Shape).rowMajor.symm w 2).val - 0 = c.val
        rw [w2]; omega
    · next hin =>
      rw [if_neg fun hle => hin fun a => by
        match a with
        | ⟨0, _⟩ =>
          show 0 ≤ b.val * 1 + ((⟨3, ![1, M + 1, 1]⟩ : Shape).rowMajor.symm w 0).val
            ∧ b.val * 1 + ((⟨3, ![1, M + 1, 1]⟩ : Shape).rowMajor.symm w 0).val - 0 < A
          rw [w0]; omega
        | ⟨1, _⟩ =>
          show M ≤ n.val * 1 + ((⟨3, ![1, M + 1, 1]⟩ : Shape).rowMajor.symm w 1).val
            ∧ n.val * 1 + ((⟨3, ![1, M + 1, 1]⟩ : Shape).rowMajor.symm w 1).val - M < M + 1
          rw [w1]; omega
        | ⟨2, _⟩ =>
          show 0 ≤ c.val * 1 + ((⟨3, ![1, M + 1, 1]⟩ : Shape).rowMajor.symm w 2).val
            ∧ c.val * 1 + ((⟨3, ![1, M + 1, 1]⟩ : Shape).rowMajor.symm w 2).val - 0 < C
          rw [w2]; omega]
  rw [← Fin.sum_univ_def, Fin.sum_univ_eq_sum_range (fun w : ℕ => if M ≤ n.val + w then f (n.val + w - M) else 0), mid_numel,
    show Finset.range (M + 1) = Finset.range ((M - n.val) + (n.val + 1)) from congrArg _ (by omega), Finset.sum_range_add,
    Finset.sum_eq_zero fun w hw => if_neg (by have := Finset.mem_range.mp hw; omega), zero_add, csum]
  refine Finset.sum_congr rfl fun w hw => ?_
  have := Finset.mem_range.mp hw
  rw [if_pos (by omega)]
  congr 1
  omega

/-- The same with the height as it is written. -/
theorem running_mid {A M N C : ℕ} (hN : M + 1 = N) (x : FVec Ideal (⟨3, ![A, N, C]⟩ : Shape) .f32) (f : ℕ → EReal)
    (init : FVec Ideal (⟨0, ![]⟩ : Shape) .f32) (hinit : ∀ i, init i = 0)
    (h : (⟨3, ![A, N, C]⟩ : Shape).ReduceWindows (![1, N, 1] : Fin 3 → ℕ) ![1, 1, 1] ![0, M, 0] ![0, 0, 0] ⟨3, ![A, N, C]⟩)
    (hu : 0 < (⟨0, ![]⟩ : Shape).numel) (b : Fin A) (n : Fin N) (c : Fin C) (hx : ∀ k : Fin N, x (ix3 b k c) = f k.val) :
    Host.reduceWindowAdd ![1, N, 1] ![1, 1, 1] ![0, M, 0] ![0, 0, 0] x init h hu (ix3 b n c) = csum f (n.val + 1) := by
  subst hN
  exact running_mid' x f _ (fun _ => hinit _) h (by decide) b n c hx

theorem rsqrt_fin {r : ℝ} (h : 0 < r) : Fin' (Ideal.rsqrt (r : EReal)) := by
  rw [Ideal.rsqrt_coe, if_neg (by linarith), if_neg (by linarith)]
  exact ⟨_, rfl⟩

/-- The inverse square root of a row of real numbers is a real number. -/
theorem invRms_fin (x : Fin 1024 → EReal) (h : ∀ d, Fin' (x d)) : Fin' (invRms x) := by
  choose r hr using h
  have e : ∑ k, x k * x k = ((∑ k, r k * r k : ℝ) : EReal) := by
    rw [show ((∑ k, r k * r k : ℝ) : EReal) = _ from map_sum (⟨⟨Real.toEReal, EReal.coe_zero⟩, EReal.coe_add⟩ : ℝ →+ EReal) _ _]
    exact Finset.sum_congr rfl fun k _ => by rw [hr]; exact (EReal.coe_mul _ _).symm
  have p : 0 ≤ ∑ k, r k * r k := Finset.sum_nonneg fun k _ => mul_self_nonneg _
  unfold invRms
  have d1 : Ideal.ofBits .f32 0x44800000#32 = ((1024 : ℝ) : EReal) := by
    simp [Ideal.ofBits, Ideal.ieee, -EReal.coe_mul]; norm_num
  obtain ⟨eps, d2, he⟩ : ∃ eps : ℝ, Ideal.ofBits .f32 0x358637BD#32 = (eps : EReal) ∧ 0 < eps := by
    simp only [Ideal.ofBits, Ideal.ieee]
    simp [-EReal.coe_mul]
  rw [e, d1, d2, Ideal.div_coe (by norm_num), ← EReal.coe_mul, ← EReal.coe_add]
  exact rsqrt_fin (by positivity)

theorem modRow_fin (x g sc sh : Fin 1024 → EReal) (hx : ∀ d, Fin' (x d)) (hg : ∀ d, Fin' (g d)) (hsc : ∀ d, Fin' (sc d))
    (hsh : ∀ d, Fin' (sh d)) (d : Fin 1024) : Fin' (modRow x g sc sh d) :=
  fin_add (fin_mul (fin_mul (fin_mul (hx d) (invRms_fin x hx)) (hg d)) (fin_add fin_one (hsc d))) (hsh d)

theorem proj_fin (x : Fin 2048 → Fin 1024 → EReal) (g sc sh : Fin 1024 → EReal) (win : Fin 1024 → Fin 2048 → EReal)
    (hx : ∀ s d, Fin' (x s d)) (hg : ∀ d, Fin' (g d)) (hsc : ∀ d, Fin' (sc d)) (hsh : ∀ d, Fin' (sh d))
    (hw : ∀ k n, Fin' (win k n)) (s n : Fin 2048) : Fin' (proj x g sc sh win s n) :=
  fin_sum _ _ fun k _ => fin_mul (modRow_fin _ _ _ _ (hx s) hg hsc hsh k) (hw k n)

end Cert.Proof
-- ==== Proof.MixReference.lean ====
module

public import proofs.«01_k».proof.Proof.Gen.ReferenceIdeal.Read
public import proofs.«01_k».proof.Proof.MixRows
public import proofs.«01_k».proof.Proof.MixSums

@[expose] public section

set_option maxRecDepth 16384

noncomputable section

open Idealize.ShloMosaic Idealize.ShloMosaic.TcCoe Idealize.SL.Sem

namespace Cert.ReferenceIdeal.Read
open Cert.ReferenceIdeal Cert.ReferenceIdeal.Gen Cert.Proof

/-- The reference's modulated row. -/
theorem norm_at (x0 : FVec Ideal S8x2048x1024 .f32) (x1 x2 : FVec Ideal S8x1x1024 .f32) (x4 : FVec Ideal S1024 .f32)
    (b : Fin 8) (s : Fin 2048) (d : Fin 1024) :
    val_main_v18 (F := Ideal) x0 x1 x2 x4 (ix3 b s d) = modRow (fun k => x0 (ix3 b s k)) (fun k => x4 (ix1 k))
      (fun k => x2 (ix3 b 0 k)) (fun k => x1 (ix3 b 0 k)) d := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2, modRow, invRms]

/-- The projection of a sequence's rows, from the arguments. -/
def prjOf (x0 : FVec Ideal S8x2048x1024 .f32) (x1 x2 : FVec Ideal S8x1x1024 .f32) (x4 : FVec Ideal S1024 .f32)
    (x5 : FVec Ideal S1024x2048 .f32) (b : Fin 8) : Fin 2048 → Fin 2048 → EReal :=
  proj (fun s d => x0 (ix3 b s d)) (fun k => x4 (ix1 k)) (fun k => x2 (ix3 b 0 k)) (fun k => x1 (ix3 b 0 k))
    fun k n => x5 (ix2 k n)

section
variable (x0 : FVec Ideal S8x2048x1024 .f32) (x1 x2 : FVec Ideal S8x1x1024 .f32) (x4 : FVec Ideal S1024 .f32)
    (x5 : FVec Ideal S1024x2048 .f32) (b : Fin 8)

theorem proj_at (s : Fin 2048) (n : Fin 2048) :
    val_main_v19 (F := Ideal) x0 x1 x2 x4 x5 (ix3 b s n) = prjOf x0 x1 x2 x4 x5 b s n := by
  pointwise [val_main_v19, norm_at, prjOf, proj]

theorem bgate_at (s : Fin 2048) (c : Fin 512) :
    val_main_v20 (F := Ideal) x0 x1 x2 x4 x5 (ix3 b s c) = prjOf x0 x1 x2 x4 x5 b s ⟨c.val, by omega⟩ := by
  pointwise [val_main_v20, proj_at]

theorem gate_at (s : Fin 2048) (c : Fin 512) :
    val_main_v25 (F := Ideal) x0 x1 x2 x4 x5 (ix3 b s c) = gateRow (prjOf x0 x1 x2 x4 x5 b) c s := by
  pointwise [val_main_v25, val_main_v21, val_main_v22, proj_at, gateRow]

theorem pool_at (s : Fin 2048) (c : Fin 512) :
    val_main_v23 (F := Ideal) x0 x1 x2 x4 x5 (ix3 b s c) = poolRow (prjOf x0 x1 x2 x4 x5 b) c s := by
  pointwise [val_main_v23, proj_at, poolRow]

/-- The gated rows after the two rows of zeros. -/
theorem gates_at (n : Fin 2050) (c : Fin 512) :
    val_main_v26 (F := Ideal) x0 x1 x2 x4 x5 (ix3 b n c) = padRows 2 (gateRow (prjOf x0 x1 x2 x4 x5 b) c) n.val := by
  pointwise [val_main_v26, val_main_v24, val_main_cst_3, gate_at, padRows]
  by_cases h : n.val < 2
  · rw [dif_pos h, dif_neg (by omega)]
  · rw [dif_neg h, dif_pos (by omega)]

/-- The pooled rows after the fifteen rows of zeros. -/
theorem pools_at (n : Fin 2063) (c : Fin 512) :
    val_main_v50 (F := Ideal) x0 x1 x2 x4 x5 (ix3 b n c) = padRows 15 (poolRow (prjOf x0 x1 x2 x4 x5 b) c) n.val := by
  pointwise [val_main_v50, val_main_v49, val_main_cst_4, pool_at, padRows]
  by_cases h : n.val < 15
  · rw [dif_pos h, dif_neg (by omega)]
  · rw [dif_neg h, dif_pos (by omega)]

theorem tail_conv (r : Fin 2) (c : Fin 512) :
    val_main_v48 (F := Ideal) x0 x1 x2 x4 x5 (ix3 b r c) = gateRow (prjOf x0 x1 x2 x4 x5 b) c ⟨2046 + r.val, by omega⟩ := by
  pointwise [val_main_v48, gates_at]
  unfold padRows
  rw [dif_pos (by omega)]
  congr 1
  exact Fin.ext (by show 2048 + r.val - 2 = 2046 + r.val; omega)

theorem tail_pool (r : Fin 15) (c : Fin 512) :
    val_main_v122 (F := Ideal) x0 x1 x2 x4 x5 (ix3 b r c) = poolRow (prjOf x0 x1 x2 x4 x5 b) c ⟨2033 + r.val, by omega⟩ := by
  pointwise [val_main_v122, pools_at]
  unfold padRows
  rw [dif_pos (by omega)]
  congr 1
  exact Fin.ext (by show 2048 + r.val - 15 = 2033 + r.val; omega)

/-- The gated short convolution. -/
theorem conv_at (x6 : FVec Ideal S3x512 .f32) (s : Fin 2048) (c : Fin 512) :
    val_main_v47 (F := Ideal) x0 x1 x2 x4 x5 x6 (ix3 b s c) = prjOf x0 x1 x2 x4 x5 b s ⟨c.val, by omega⟩
      * convRow (fun k => x6 (ix2 k c)) fun k => back (gateRow (prjOf x0 x1 x2 x4 x5 b) c) s k.val := by
  pointwise [val_main_v47, val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v29, val_main_v28, val_main_v27, bgate_at, gates_at, convRow]
  rw [padRows_eq_back 2 _ _ s 2 (by omega), padRows_eq_back 2 _ _ s 1 (by omega), padRows_eq_back 2 _ _ s 0 (by omega)]
  congr 1
  simp only [mul_comm (x6 _)]
  abel

/-- The running sums. -/
theorem run_at (n : Fin 2063) (c : Fin 512) :
    val_main_v51 (F := Ideal) x0 x1 x2 x4 x5 (ix3 b n c)
      = csum (padRows 15 (poolRow (prjOf x0 x1 x2 x4 x5 b) c)) (n.val + 1) := by
  have hx := fun k => pools_at x0 x1 x2 x4 x5 b k c
  have hi : ∀ i, val_main_call0_call0_v0 (F := Ideal) i = 0 := fun i => by
    pointwise [val_main_call0_call0_v0, val_main_call0_call0_cst]
  unfold val_main_v51
  generalize val_main_v50 (F := Ideal) x0 x1 x2 x4 x5 = y at hx ⊢
  generalize val_main_call0_call0_v0 (F := Ideal) = z at hi ⊢
  exact running_mid (A := 8) (M := 2062) (N := 2063) (C := 512) rfl y _ z hi _ _ b n c hx

/-- The running sums with a row of zeros before them. -/
theorem runs_at (n : Fin 2064) (c : Fin 512) :
    val_main_v52 (F := Ideal) x0 x1 x2 x4 x5 (ix3 b n c)
      = csum (padRows 15 (poolRow (prjOf x0 x1 x2 x4 x5 b) c)) n.val := by
  pointwise [val_main_v52, val_main_call1_v0, val_main_c, run_at]
  by_cases h : 1 ≤ n.val
  · rw [dif_pos (by omega), Nat.sub_add_cancel h]
  · rw [dif_neg (by omega), show n.val = 0 by omega]
    rw [csum, Finset.range_zero, Finset.sum_empty]
    show (((0#32 : BitVec 32).toInt : ℝ) : EReal) = 0
    simp

/-- The mean over 2 rows, less the row. -/
theorem g0_at (hf : ∀ s n, Fin' (prjOf x0 x1 x2 x4 x5 b s n)) (s : Fin 2048) (i : Fin 128) :
    val_main_v66 (F := Ideal) x0 x1 x2 x4 x5 (ix3 b s i)
      = Ideal.div (win2 fun k => back (poolRow (prjOf x0 x1 x2 x4 x5 b) ⟨i.val, by omega⟩) s k.val) (cnt 2 s.val)
        - back (poolRow (prjOf x0 x1 x2 x4 x5 b) ⟨i.val, by omega⟩) s 0 := by
  rw [back_zero, ← sum_win2, ← csum_sub (poolRow (prjOf x0 x1 x2 x4 x5 b) ⟨i.val, by omega⟩) (fun s => hf _ _) s 2 (14 + s.val) (by omega)]
  pointwise [val_main_v66, val_main_v65, val_main_v64, val_main_v63, val_main_v62, val_main_v61, val_main_v60, val_main_v59, val_main_v58, val_main_v57, val_main_v56, val_main_v55, val_main_v54, val_main_v53, val_main_c_5, val_main_c_6,
    runs_at, pool_at, cnt]

theorem m0_at (x7 : FVec Ideal S4x128x128 .f32) (hf : ∀ s n, Fin' (prjOf x0 x1 x2 x4 x5 b s n)) (s : Fin 2048) (j : Fin 128) :
    val_main_v69 (F := Ideal) x0 x1 x2 x4 x5 x7 (ix3 b s j) = ∑ i : Fin 128,
      (Ideal.div (win2 fun k => back (poolRow (prjOf x0 x1 x2 x4 x5 b) ⟨i.val, by omega⟩) s k.val) (cnt 2 s.val)
        - back (poolRow (prjOf x0 x1 x2 x4 x5 b) ⟨i.val, by omega⟩) s 0) * x7 (ix3 0 i j) := by
  have h := fun i => g0_at x0 x1 x2 x4 x5 b hf s i
  pointwise [val_main_v69, val_main_v68, val_main_v67, h]

/-- The mean over 4 rows, less the row. -/
theorem g1_at (hf : ∀ s n, Fin' (prjOf x0 x1 x2 x4 x5 b s n)) (s : Fin 2048) (i : Fin 128) :
    val_main_v82 (F := Ideal) x0 x1 x2 x4 x5 (ix3 b s i)
      = Ideal.div (win4 fun k => back (poolRow (prjOf x0 x1 x2 x4 x5 b) ⟨128 + i.val, by omega⟩) s k.val) (cnt 4 s.val)
        - back (poolRow (prjOf x0 x1 x2 x4 x5 b) ⟨128 + i.val, by omega⟩) s 0 := by
  rw [back_zero, ← sum_win4, ← csum_sub (poolRow (prjOf x0 x1 x2 x4 x5 b) ⟨128 + i.val, by omega⟩) (fun s => hf _ _) s 4 (12 + s.val) (by omega)]
  pointwise [val_main_v82, val_main_v81, val_main_v80, val_main_v79, val_main_v78, val_main_v77, val_main_v76, val_main_v75, val_main_v74, val_main_v73, val_main_v72, val_main_v71, val_main_v70, val_main_v53, val_main_c_7, val_main_c_8,
    runs_at, pool_at, cnt]

theorem m1_at (x7 : FVec Ideal S4x128x128 .f32) (hf : ∀ s n, Fin' (prjOf x0 x1 x2 x4 x5 b s n)) (s : Fin 2048) (j : Fin 128) :
    val_main_v85 (F := Ideal) x0 x1 x2 x4 x5 x7 (ix3 b s j) = ∑ i : Fin 128,
      (Ideal.div (win4 fun k => back (poolRow (prjOf x0 x1 x2 x4 x5 b) ⟨128 + i.val, by omega⟩) s k.val) (cnt 4 s.val)
        - back (poolRow (prjOf x0 x1 x2 x4 x5 b) ⟨128 + i.val, by omega⟩) s 0) * x7 (ix3 1 i j) := by
  have h := fun i => g1_at x0 x1 x2 x4 x5 b hf s i
  pointwise [val_main_v85, val_main_v84, val_main_v83, h]

/-- The mean over 8 rows, less the row. -/
theorem g2_at (hf : ∀ s n, Fin' (prjOf x0 x1 x2 x4 x5 b s n)) (s : Fin 2048) (i : Fin 128) :
    val_main_v98 (F := Ideal) x0 x1 x2 x4 x5 (ix3 b s i)
      = Ideal.div (win8 fun k => back (poolRow (prjOf x0 x1 x2 x4 x5 b) ⟨256 + i.val, by omega⟩) s k.val) (cnt 8 s.val)
        - back (poolRow (prjOf x0 x1 x2 x4 x5 b) ⟨256 + i.val, by omega⟩) s 0 := by
  rw [back_zero, ← sum_win8, ← csum_sub (poolRow (prjOf x0 x1 x2 x4 x5 b) ⟨256 + i.val, by omega⟩) (fun s => hf _ _) s 8 (8 + s.val) (by omega)]
  pointwise [val_main_v98, val_main_v97, val_main_v96, val_main_v95, val_main_v94, val_main_v93, val_main_v92, val_main_v91, val_main_v90, val_main_v89, val_main_v88, val_main_v87, val_main_v86, val_main_v53, val_main_c_9, val_main_c_10,
    runs_at, pool_at, cnt]

theorem m2_at (x7 : FVec Ideal S4x128x128 .f32) (hf : ∀ s n, Fin' (prjOf x0 x1 x2 x4 x5 b s n)) (s : Fin 2048) (j : Fin 128) :
    val_main_v101 (F := Ideal) x0 x1 x2 x4 x5 x7 (ix3 b s j) = ∑ i : Fin 128,
      (Ideal.div (win8 fun k => back (poolRow (prjOf x0 x1 x2 x4 x5 b) ⟨256 + i.val, by omega⟩) s k.val) (cnt 8 s.val)
        - back (poolRow (prjOf x0 x1 x2 x4 x5 b) ⟨256 + i.val, by omega⟩) s 0) * x7 (ix3 2 i j) := by
  have h := fun i => g2_at x0 x1 x2 x4 x5 b hf s i
  pointwise [val_main_v101, val_main_v100, val_main_v99, h]

/-- The mean over 16 rows, less the row. -/
theorem g3_at (hf : ∀ s n, Fin' (prjOf x0 x1 x2 x4 x5 b s n)) (s : Fin 2048) (i : Fin 128) :
    val_main_v114 (F := Ideal) x0 x1 x2 x4 x5 (ix3 b s i)
      = Ideal.div (win16 fun k => back (poolRow (prjOf x0 x1 x2 x4 x5 b) ⟨384 + i.val, by omega⟩) s k.val) (cnt 16 s.val)
        - back (poolRow (prjOf x0 x1 x2 x4 x5 b) ⟨384 + i.val, by omega⟩) s 0 := by
  rw [back_zero, ← sum_win16, ← csum_sub (poolRow (prjOf x0 x1 x2 x4 x5 b) ⟨384 + i.val, by omega⟩) (fun s => hf _ _) s 16 (s.val) (by omega)]
  pointwise [val_main_v114, val_main_v113, val_main_v112, val_main_v111, val_main_v110, val_main_v109, val_main_v108, val_main_v107, val_main_v106, val_main_v105, val_main_v104, val_main_v103, val_main_v102, val_main_v53, val_main_c_11, val_main_c_12,
    runs_at, pool_at, cnt]

theorem m3_at (x7 : FVec Ideal S4x128x128 .f32) (hf : ∀ s n, Fin' (prjOf x0 x1 x2 x4 x5 b s n)) (s : Fin 2048) (j : Fin 128) :
    val_main_v117 (F := Ideal) x0 x1 x2 x4 x5 x7 (ix3 b s j) = ∑ i : Fin 128,
      (Ideal.div (win16 fun k => back (poolRow (prjOf x0 x1 x2 x4 x5 b) ⟨384 + i.val, by omega⟩) s k.val) (cnt 16 s.val)
        - back (poolRow (prjOf x0 x1 x2 x4 x5 b) ⟨384 + i.val, by omega⟩) s 0) * x7 (ix3 3 i j) := by
  have h := fun i => g3_at x0 x1 x2 x4 x5 b hf s i
  pointwise [val_main_v117, val_main_v116, val_main_v115, h]

/-- The four window means through their matrices, scaled. -/
theorem scaled_at (x7 : FVec Ideal S4x128x128 .f32) (x8 : FVec Ideal S512 .f32)
    (hf : ∀ s n, Fin' (prjOf x0 x1 x2 x4 x5 b s n)) (s : Fin 2048) (c : Fin 512) :
    val_main_v121 (F := Ideal) x0 x1 x2 x4 x5 x7 x8 (ix3 b s c)
      = poolOut (fun k c => back (poolRow (prjOf x0 x1 x2 x4 x5 b) c) s k.val) (fun w => cnt w s.val)
        (fun g i j => x7 (ix3 g i j)) (fun c => x8 (ix1 c)) c := by
  have h0 := fun j => m0_at x0 x1 x2 x4 x5 b x7 hf s j
  have h1 := fun j => m1_at x0 x1 x2 x4 x5 b x7 hf s j
  have h2 := fun j => m2_at x0 x1 x2 x4 x5 b x7 hf s j
  have h3 := fun j => m3_at x0 x1 x2 x4 x5 b x7 hf s j
  pointwise [val_main_v121, val_main_v120, val_main_v119, val_main_v118, h0, h1, h2, h3, poolOut, cat4]

theorem rmsA_at (x6 : FVec Ideal S3x512 .f32) (x9 : FVec Ideal S512 .f32) (s : Fin 2048) (c : Fin 512) :
    val_main_v135 (F := Ideal) x0 x1 x2 x4 x5 x6 x9 (ix3 b s c)
      = rms512 (fun c => prjOf x0 x1 x2 x4 x5 b s ⟨c.val, by omega⟩
      * convRow (fun k => x6 (ix2 k c)) fun k => back (gateRow (prjOf x0 x1 x2 x4 x5 b) c) s k.val) (fun c => x9 (ix1 c)) c := by
  pointwise [val_main_v135, val_main_v134, val_main_v133, val_main_v132, val_main_v131, val_main_v130, val_main_v129, val_main_v128, val_main_v127, val_main_v126, val_main_v125, val_main_v124, val_main_v123, val_main_cst_13, val_main_cst_14, val_main_cst_15, conv_at, rms512]

theorem rmsB_at (x7 : FVec Ideal S4x128x128 .f32) (x8 x10 : FVec Ideal S512 .f32)
    (hf : ∀ s n, Fin' (prjOf x0 x1 x2 x4 x5 b s n)) (s : Fin 2048) (c : Fin 512) :
    val_main_v148 (F := Ideal) x0 x1 x2 x4 x5 x7 x8 x10 (ix3 b s c)
      = rms512 (poolOut (fun k c => back (poolRow (prjOf x0 x1 x2 x4 x5 b) c) s k.val) (fun w => cnt w s.val)
        (fun g i j => x7 (ix3 g i j)) (fun c => x8 (ix1 c))) (fun c => x10 (ix1 c)) c := by
  have h := fun c => scaled_at x0 x1 x2 x4 x5 b x7 x8 hf s c
  pointwise [val_main_v148, val_main_v147, val_main_v146, val_main_v145, val_main_v144, val_main_v143, val_main_v142, val_main_v141, val_main_v140, val_main_v139, val_main_v138, val_main_v137, val_main_v136, val_main_cst_16, val_main_cst_17, val_main_cst_18, h, rms512]

theorem sum_halves (f : Fin 1024 → EReal) :
    ∑ k, f k = ∑ k : Fin 512, f ⟨k.val, by omega⟩ + ∑ k : Fin 512, f ⟨512 + k.val, by omega⟩ :=
  (Fin.sum_univ_add (a := 512) (b := 512) f).trans rfl

/-- The two normalised halves, side by side. -/
theorem halves_at (x6 : FVec Ideal S3x512 .f32) (x7 : FVec Ideal S4x128x128 .f32) (x8 x9 x10 : FVec Ideal S512 .f32)
    (s : Fin 2048) (c : Fin 512) :
    val_main_v149 (F := Ideal) x0 x1 x2 x4 x5 x6 x7 x8 x9 x10 (ix3 b s ⟨c.val, by omega⟩)
      = val_main_v135 (F := Ideal) x0 x1 x2 x4 x5 x6 x9 (ix3 b s c)
    ∧ val_main_v149 (F := Ideal) x0 x1 x2 x4 x5 x6 x7 x8 x9 x10 (ix3 b s ⟨512 + c.val, by omega⟩)
      = val_main_v148 (F := Ideal) x0 x1 x2 x4 x5 x7 x8 x10 (ix3 b s c) := by
  have hc := c.isLt
  constructor
  · pointwise [val_main_v149]
  · pointwise [val_main_v149]

theorem out_at (x3 : FVec Ideal S8x1x1024 .f32) (x6 : FVec Ideal S3x512 .f32) (x7 : FVec Ideal S4x128x128 .f32) (x8 x9 x10 : FVec Ideal S512 .f32)
    (x11 : FVec Ideal S1024x1024 .f32) (hf : ∀ s n, Fin' (prjOf x0 x1 x2 x4 x5 b s n)) (s : Fin 2048) (d : Fin 1024) :
    val_main_v153 (F := Ideal) x0 x1 x2 x3 x4 x5 x6 x7 x8 x9 x10 x11 (ix3 b s d)
      = mixRow (fun d => x0 (ix3 b s d)) (fun d => x3 (ix3 b 0 d)) (fun c => prjOf x0 x1 x2 x4 x5 b s ⟨c.val, by omega⟩)
        (fun k c => x6 (ix2 k c)) (fun k c => back (gateRow (prjOf x0 x1 x2 x4 x5 b) c) s k.val)
        (fun k c => back (poolRow (prjOf x0 x1 x2 x4 x5 b) c) s k.val) (fun w => cnt w s.val)
        (fun g i j => x7 (ix3 g i j)) (fun c => x8 (ix1 c)) (fun c => x9 (ix1 c)) (fun c => x10 (ix1 c))
        (fun k d => x11 (ix2 k d)) d := by
  pointwise [val_main_v153, val_main_v152, val_main_v151, val_main_v150, mixRow]
  rw [sum_halves]
  simp only [(halves_at x0 x1 x2 x4 x5 b x6 x7 x8 x9 x10 s _).1, (halves_at x0 x1 x2 x4 x5 b x6 x7 x8 x9 x10 s _).2,
    rmsA_at, rmsB_at _ _ _ _ _ _ _ _ _ hf]

end

end Cert.ReferenceIdeal.Read
-- ==== Proof.MixClaim.lean ====
module

public import proofs.«01_k».proof.Defs
public import proofs.«01_k».proof.Proof.MixKernel
public import proofs.«01_k».proof.Proof.MixReference
public import proofs.«01_k».proof.Proof.Gen.ReferenceIdeal.Run
public import Idealize.ShloMosaic.Lib.ReduceAll

@[expose] public section

set_option maxRecDepth 16384

noncomputable section

open Idealize.ShloMosaic Idealize.ShloMosaic.TcCoe Idealize.SL.Sem

namespace Cert.Proof

/-- A magnitude compared below `+∞`, read at one index. -/
theorem fin_of_olt {s : Shape} (x y : FVec Ideal s .f32) (i : s.Idx) (hy : y i = ⊤)
    (h : cmpf .olt (Host.absf x) y i = 1#1) : Fin' (x i) := by
  refine fin_of_abs ?_
  have h' : Ideal.cmp .olt (max (x i) (-(x i))) (y i) = 1#1 := h
  rw [hy] at h'
  by_contra hn
  simp [Ideal.cmp, hn] at h'

theorem top_bits : Ideal.ofBits .f32 0x7F800000#32 = ⊤ := by simp [Ideal.ofBits, Ideal.ieee]

/-- What the precondition says of the five arrays it reads. -/
theorem pre_fin [hP : Cert.Pre_finite.Facts] (x0 : FVec Ideal ⟨3, ![8, 2048, 1024]⟩ .f32) (x1 x2 x3 : FVec Ideal ⟨3, ![8, 1, 1024]⟩ .f32)
    (x4 : FVec Ideal ⟨1, ![1024]⟩ .f32) (x5 : FVec Ideal ⟨2, ![1024, 2048]⟩ .f32) (x6 : FVec Ideal ⟨2, ![3, 512]⟩ .f32)
    (x7 : FVec Ideal ⟨3, ![4, 128, 128]⟩ .f32) (x8 x9 x10 : FVec Ideal ⟨1, ![512]⟩ .f32) (x11 : FVec Ideal ⟨2, ![1024, 1024]⟩ .f32)
    (h : Cert.Pre_finite.fn (F := Ideal) x0 x1 x2 x3 x4 x5 x6 x7 x8 x9 x10 x11 ix0 = 1#1) :
    (∀ i, Fin' (x0 i)) ∧ (∀ i, Fin' (x1 i)) ∧ (∀ i, Fin' (x2 i)) ∧ (∀ i, Fin' (x4 i)) ∧ (∀ i, Fin' (x5 i)) := by
  have e : ∀ a b : BitVec 1, IntOp.andi a b = 1#1 → a = 1#1 ∧ b = 1#1 := by decide
  unfold Cert.Pre_finite.fn Cert.Pre_finite.fn_part1 at h
  dsimp only at h
  obtain ⟨h, h5⟩ := e _ _ h
  obtain ⟨h, h4⟩ := e _ _ h
  obtain ⟨h, h2⟩ := e _ _ h
  obtain ⟨h0, h1⟩ := e _ _ h
  haveI : Subsingleton Cert.Pre_finite.S_.Idx := ⟨fun a b => funext fun k => k.elim0⟩
  exact ⟨fun i => fin_of_olt _ _ i top_bits (Host.reduce_andi_all _ _ _ _ _ h0 i),
    fun i => fin_of_olt _ _ i top_bits (Host.reduce_andi_all _ _ _ _ _ h1 i),
    fun i => fin_of_olt _ _ i top_bits (Host.reduce_andi_all _ _ _ _ _ h2 i),
    fun i => fin_of_olt _ _ i top_bits (Host.reduce_andi_all _ _ _ _ _ h4 i),
    fun i => fin_of_olt _ _ i top_bits (Host.reduce_andi_all _ _ _ _ _ h5 i)⟩

open Cert.KernelIdeal.Value Cert.ReferenceIdeal.Read in
theorem mix_eq [hP : Cert.Pre_finite.Facts] (x0 : FVec Ideal ⟨3, ![8, 2048, 1024]⟩ .f32) (x1 x2 x3 : FVec Ideal ⟨3, ![8, 1, 1024]⟩ .f32)
    (x4 : FVec Ideal ⟨1, ![1024]⟩ .f32) (x5 : FVec Ideal ⟨2, ![1024, 2048]⟩ .f32) (x6 : FVec Ideal ⟨2, ![3, 512]⟩ .f32)
    (x7 : FVec Ideal ⟨3, ![4, 128, 128]⟩ .f32) (x8 x9 x10 : FVec Ideal ⟨1, ![512]⟩ .f32) (x11 : FVec Ideal ⟨2, ![1024, 1024]⟩ .f32)
    (h : Cert.Pre_finite.fn (F := Ideal) x0 x1 x2 x3 x4 x5 x6 x7 x8 x9 x10 x11 ix0 = 1#1) :
    val_main_v153 (F := Ideal) x0 x1 x2 x3 x4 x5 x6 x7 x8 x9 x10 x11 = mixArr x0 x1 x2 x3 x4 x5 x6 x7 x8 x9 x10 x11 := by
  obtain ⟨h0, h1, h2, h4, h5⟩ := pre_fin x0 x1 x2 x3 x4 x5 x6 x7 x8 x9 x10 x11 h
  funext i
  rw [eq_ix3 i]
  exact out_at x0 x1 x2 x4 x5 (i 0) x3 x6 x7 x8 x9 x10 x11
    (proj_fin _ _ _ _ _ (fun _ _ => h0 _) (fun _ => h4 _) (fun _ => h2 _) (fun _ => h1 _) fun _ _ => h5 _) (i 1) (i 2)

open Cert.KernelIdeal.Value Cert.ReferenceIdeal.Read in
theorem conv_eq (x0 : FVec Ideal ⟨3, ![8, 2048, 1024]⟩ .f32) (x1 x2 : FVec Ideal ⟨3, ![8, 1, 1024]⟩ .f32)
    (x4 : FVec Ideal ⟨1, ![1024]⟩ .f32) (x5 : FVec Ideal ⟨2, ![1024, 2048]⟩ .f32) :
    val_main_v48 (F := Ideal) x0 x1 x2 x4 x5 = convArr x0 x1 x2 x4 x5 := by
  funext i
  rw [eq_ix3 i]
  exact tail_conv x0 x1 x2 x4 x5 (i 0) (i 1) (i 2)

open Cert.KernelIdeal.Value Cert.ReferenceIdeal.Read in
theorem pool_eq (x0 : FVec Ideal ⟨3, ![8, 2048, 1024]⟩ .f32) (x1 x2 : FVec Ideal ⟨3, ![8, 1, 1024]⟩ .f32)
    (x4 : FVec Ideal ⟨1, ![1024]⟩ .f32) (x5 : FVec Ideal ⟨2, ![1024, 2048]⟩ .f32) :
    val_main_v122 (F := Ideal) x0 x1 x2 x4 x5 = poolArr x0 x1 x2 x4 x5 := by
  funext i
  rw [eq_ix3 i]
  exact tail_pool x0 x1 x2 x4 x5 (i 0) (i 1) (i 2)

section
open Cert.ReferenceIdeal Cert.ReferenceIdeal.Gen Cert.ReferenceIdeal.Read Cert.KernelIdeal.Value

/-- The reference's run, with its three results as the mixing layer's arrays. -/
theorem mix_run [hP : Cert.Pre_finite.Facts] (m : (ℓ : Loc nD τ sig) → Buf (Elt Ideal) ℓ) (ρ : Dev nD → PrngReg)
    (h : ∀ c : Dev nD, Cert.Pre_finite.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) ix0 = 1#1) :
    θ_run defs (onTc (τ := τ) (main (F := Ideal))) ⟨m, fun _ => 0, ρ⟩ fun r => ∀ c : Dev nD,
      r.2.mem ((c.tc : Thread nD τ).loc main_v153) = mixArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v48) = convArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_v122) = poolArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ k c => ⟨((k c).1.trans (val_main_v153_eq (StableHlo.launchContents m c))).trans
      (mix_eq _ _ _ _ _ _ _ _ _ _ _ _ (h c)),
    ((k c).2.1.trans (val_main_v48_eq (StableHlo.launchContents m c))).trans (conv_eq _ _ _ _ _),
    ((k c).2.2.1.trans (val_main_v122_eq (StableHlo.launchContents m c))).trans (pool_eq _ _ _ _ _), (k c).2.2.2⟩)
    (Cert.ReferenceIdeal.Value.run m ρ)

end

end Cert.Proof
-- ==== Proof.FfnKernel.lean ====
module

public import proofs.«01_k».proof.Proof.Gen.Kernel2Ideal.Value
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen Cert.Proof

variable (m : (ℓ : Loc nD τ sig) → Buf (Elt Ideal) ℓ)

/-- The normalised and modulated row the body computes. -/
theorem norm_at (x0 : FVec Ideal S1x1024x1024 .f32) (x4 : FVec Ideal S1x1024 .f32) (x2 x1 : FVec Ideal S1x1x1024 .f32)
    (r d : Fin 1024) :
    k0_pay3 (F := Ideal) x0 x4 x2 x1 (ix2 r d) = modRow (fun k => x0 (ix3 0 r k)) (fun k => x4 (ix2 0 k))
      (fun k => x2 (ix3 0 0 k)) (fun k => x1 (ix3 0 0 k)) d := by
  pointwise [k0_pay3, k0_pay2, modRow, invRms]
  rw [mul_assoc _ (x4 _)]

/-- What the body leaves in the output block, row by row. -/
theorem out_at (x0 : FVec Ideal S1x1024x1024 .f32) (x1 x2 x3 : FVec Ideal S1x1x1024 .f32) (x4 : FVec Ideal S1x1024 .f32)
    (x5 x6 : FVec Ideal S1024x2816 .bf16) (x7 : FVec Ideal S2816x1024 .bf16) (r d : Fin 1024) :
    out0_8 (F := Ideal) x0 x1 x2 x3 x4 x5 x6 x7 (ix3 0 r d)
      = ffnRow (fun k => x0 (ix3 0 r k)) (fun k => x4 (ix2 0 k)) (fun k => x2 (ix3 0 0 k)) (fun k => x1 (ix3 0 0 k))
        (fun k => x3 (ix3 0 0 k)) (fun k f => x5 (ix2 k f)) (fun k f => x6 (ix2 k f)) (fun f k => x7 (ix2 f k)) d := by
  unfold ffnRow
  rw [sum_chunks]
  frame_out
  pointwise [k0_pay1, k0_pay2, k0_pay4, k0_pay5, k0_pay6, k0_pay7, norm_at, gated]

/-- The windows' block indices at every grid point. -/
theorem idx : ∀ t : Fin cfg0.N,
    win0_0.index t = ![t.val / 2, t.val % 2, 0] ∧ win0_1.index t = ![t.val / 2, 0, 0] ∧ win0_2.index t = ![t.val / 2, 0, 0]
      ∧ win0_3.index t = ![t.val / 2, 0, 0] ∧ win0_4.index t = ![0, 0] ∧ win0_5.index t = ![0, 0]
      ∧ win0_6.index t = ![0, 0] ∧ win0_7.index t = ![0, 0] ∧ win0_8.index t = ![t.val / 2, t.val % 2, 0] :=
  (by decide +kernel : ∀ t : Fin grid0.N, _)

/-- The feed-forward layer over whole arrays. -/
def ffnArr (X : FVec Ideal S8x2048x1024 .f32) (SH SC GT : FVec Ideal S8x1x1024 .f32) (G : FVec Ideal S1024 .f32)
    (WG WU : FVec Ideal S1024x2816 .f32) (WD : FVec Ideal S2816x1024 .f32) : FVec Ideal S8x2048x1024 .f32 := fun i =>
  ffnRow (fun k => X (ix3 (i 0) (i 1) k)) (fun k => G (ix1 k)) (fun k => SC (ix3 (i 0) 0 k)) (fun k => SH (ix3 (i 0) 0 k))
    (fun k => GT (ix3 (i 0) 0 k)) (fun k f => WG (ix2 k f)) (fun k f => WU (ix2 k f)) (fun f k => WD (ix2 f k)) (i 2)

/-- What grid point `t` leaves at index `y` of its block. -/
theorem point (c : Dev nD) (t : Fin cfg0.N) (y : S1x1024x1024.Idx) :
    out0_8 (F := Ideal) (iblk m c 0 t) (iblk m c 1 t) (iblk m c 2 t) (iblk m c 3 t) (iblk m c 4 t) (iblk m c 5 t)
        (iblk m c 6 t) (iblk m c 7 t) y
      = ffnArr (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (((cfg0.win 8).blk t).view.emb y) := by
  idx_vars y
  rw [show (ix3 _ _ _ : S1x1024x1024.Idx) = ix3 0 _ _ from by congr 1; exact Subsingleton.elim _ _]
  refine (out_at ..).trans ?_
  unfold ffnArr ffnRow
  pointwise [gated, modRow, invRms]
  blk_point [iblk, V, idx t]

/-- The output array after the run. -/
theorem final (c : Dev nD) : (dats m 0 c).arrAt 8 (cfgs 0).N
    = ffnArr (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  exact point m c t y

end Cert.Kernel2Ideal.Value
-- ==== Proof.FfnReference.lean ====
module

public import proofs.«01_k».proof.Proof.Gen.Reference2Ideal.Read
public import proofs.«01_k».proof.Proof.Rows

@[expose] public section

set_option maxRecDepth 16384

noncomputable section

open Idealize.ShloMosaic Idealize.ShloMosaic.TcCoe Idealize.SL.Sem

namespace Cert.Reference2Ideal.Read
open Cert.Reference2Ideal Cert.Reference2Ideal.Gen Cert.Proof

/-- The reference's modulated row. -/
theorem norm_at (x0 : FVec Ideal S8x2048x1024 .f32) (x1 x2 : FVec Ideal S8x1x1024 .f32) (x4 : FVec Ideal S1024 .f32)
    (b : Fin 8) (s : Fin 2048) (d : Fin 1024) :
    val_main_v18 (F := Ideal) x0 x1 x2 x4 (ix3 b s d) = modRow (fun k => x0 (ix3 b s k)) (fun k => x4 (ix1 k))
      (fun k => x2 (ix3 b 0 k)) (fun k => x1 (ix3 b 0 k)) d := by
  pointwise [val_main_v18, val_main_v17, val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2, modRow, invRms]

/-- The reference's result, row by row. -/
theorem out_at (x0 : FVec Ideal S8x2048x1024 .f32) (x1 x2 x3 : FVec Ideal S8x1x1024 .f32) (x4 : FVec Ideal S1024 .f32)
    (x5 x6 : FVec Ideal S1024x2816 .f32) (x7 : FVec Ideal S2816x1024 .f32) (b : Fin 8) (s : Fin 2048) (d : Fin 1024) :
    val_main_v26 (F := Ideal) x0 x1 x2 x3 x4 x5 x6 x7 (ix3 b s d)
      = ffnRow (fun k => x0 (ix3 b s k)) (fun k => x4 (ix1 k)) (fun k => x2 (ix3 b 0 k)) (fun k => x1 (ix3 b 0 k))
        (fun k => x3 (ix3 b 0 k)) (fun k f => x5 (ix2 k f)) (fun k f => x6 (ix2 k f)) (fun f k => x7 (ix2 f k)) d := by
  unfold ffnRow
  pointwise [val_main_v26, val_main_v25, val_main_v24, val_main_v23, val_main_v22, val_main_v21, val_main_call0_v5,
    val_main_call0_v4, val_main_call0_v3, val_main_call0_v2, val_main_call0_v1, val_main_call0_v0, val_main_call0_cst,
    val_main_call0_cst_0, val_main_v20, val_main_v19, norm_at, gated, Ideal.logistic]

end Cert.Reference2Ideal.Read
-- ==== Proof.FfnClaim.lean ====
module

public import proofs.«01_k».proof.Proof.FfnKernel
public import proofs.«01_k».proof.Proof.FfnReference

@[expose] public section

set_option maxRecDepth 16384

noncomputable section

open Idealize.ShloMosaic Idealize.ShloMosaic.TcCoe Idealize.SL.Sem

namespace Cert.Proof

open Cert.Kernel2Ideal.Value Cert.Reference2Ideal.Read in
theorem ffn_eq (x0 : FVec Ideal ⟨3, ![8, 2048, 1024]⟩ .f32) (x1 x2 x3 : FVec Ideal ⟨3, ![8, 1, 1024]⟩ .f32)
    (x4 : FVec Ideal ⟨1, ![1024]⟩ .f32) (x5 x6 : FVec Ideal ⟨2, ![1024, 2816]⟩ .f32) (x7 : FVec Ideal ⟨2, ![2816, 1024]⟩ .f32) :
    val_main_v26 (F := Ideal) x0 x1 x2 x3 x4 x5 x6 x7 = ffnArr x0 x1 x2 x3 x4 x5 x6 x7 := by
  funext i
  rw [eq_ix3 i]
  exact out_at x0 x1 x2 x3 x4 x5 x6 x7 (i 0) (i 1) (i 2)

end Cert.Proof
-- ==== Proof.MoeTables.lean ====
module

public import proofs.«01_k».proof.Defs
public import proofs.«01_k».proof.Proof.Gen.Pre_tables
public import Idealize.ShloMosaic.Lib.ReduceAll
public import Idealize.ShloMosaic.Lib.StableHlo.Predicate
public import Idealize.ShloMosaic.Lib.WordArith
public import Idealize.ShloMosaic.Lib.ValueIdxCore

/-! What the precondition on the four tables says, read off the printed predicate. -/

@[expose] public section

namespace Cert.Pre_tables
open Idealize Idealize.ShloMosaic

variable [Facts] {F : FTy → Type} [FloatOps F]

/-- The precondition as plain bounds: the tables' ranges, the used destinations pairwise distinct,
and every row of the result outside the zero rows a used destination. -/
structure Says (te : IVec S43 32) (na : IVec S1 32) (src dst : IVec S44032 32) : Prop where
  te_lt : ∀ t : Fin 43, (te (ValueIdx.ix1 t)).toNat < 8
  na_le : (na (ValueIdx.ix1 0)).toNat ≤ 40
  src_lt : ∀ p : Fin 44032, (src (ValueIdx.ix1 p)).toNat < 16512
  dst_lt : ∀ p : Fin 44032, (dst (ValueIdx.ix1 p)).toNat < 43136
  inj : ∀ p q : Fin 44032, p.val < ((na (ValueIdx.ix1 0)).toNat + 1) * 1024 → q.val < ((na (ValueIdx.ix1 0)).toNat + 1) * 1024 →
    (dst (ValueIdx.ix1 p)).toNat = (dst (ValueIdx.ix1 q)).toNat → p = q
  cover : ∀ r : Fin 43136, (16512 ≤ r.val ∧ r.val < 26624) ∨
    ∃ p : Fin 44032, p.val < ((na (ValueIdx.ix1 0)).toNat + 1) * 1024 ∧ (dst (ValueIdx.ix1 p)).toNat = r.val

theorem and_split {s : Shape} {x y : IVec s 1} {j : s.Idx} (h : andi x y j = 1#1) : x j = 1#1 ∧ y j = 1#1 := by
  change x j &&& y j = 1#1 at h
  revert h; generalize x j = a; generalize y j = b; revert a b; decide

theorem or_split {s : Shape} {x y : IVec s 1} {j : s.Idx} (h : ori x y j = 1#1) : x j = 1#1 ∨ y j = 1#1 := by
  change x j ||| y j = 1#1 at h
  revert h; generalize x j = a; generalize y j = b; revert a b; decide

theorem not_split {s : Shape} {x : IVec s 1} {j : s.Idx} (h : noti x j = 1#1) : x j ≠ 1#1 := by
  change ~~~ (x j) = 1#1 at h
  revert h; generalize x j = a; revert a; decide

theorem of_bit {b : Bool} (h : BitVec.ofBool b = 1#1) : b = true := by
  revert h; cases b <;> decide

/-- A word at least zero and below a bound, both signed. -/
theorem range_lt {x : BitVec 32} {k : ℕ} (hk : k < 2 ^ 31) (h0 : IntOp.cmpi .sge x 0#32 = 1#1)
    (h1 : IntOp.cmpi .slt x (BitVec.ofNat 32 k) = 1#1) : x.toNat < k :=
  WordArith.toNat_lt_of_zero_sle_of_slt_ofNat x k hk (of_bit h0) (of_bit h1)

theorem range_le {x : BitVec 32} (h0 : IntOp.cmpi .sge x 0#32 = 1#1)
    (h1 : IntOp.cmpi .sle x 40#32 = 1#1) : x.toNat ≤ 40 := by
  have a := of_bit h0
  have b := of_bit h1
  simp only [BitVec.sle, decide_eq_true_eq, BitVec.toInt_eq_toNat_cond, BitVec.toNat_ofNat] at a b
  have := x.isLt
  split at b <;> omega

theorem lt_nat {a b : BitVec 32} (h : IntOp.cmpi .slt a b = 1#1) (hb : b.toNat < 2 ^ 31) : a.toInt.toNat < b.toNat ∨ a.toInt.toNat = 0 := by
  have h := of_bit h
  simp only [BitVec.slt, decide_eq_true_eq, BitVec.toInt_eq_toNat_cond] at h ⊢
  have := a.isLt
  split at h <;> split at h <;> split <;> omega

/-- The number of used slots, as the predicate computes it. -/
def cnt (na : IVec S1 32) : IVec S_ 32 :=
  muli (addi (shapeCast S_ na Facts.shapeCasts_S1_S_) (constantI S_ 32 1#32)) (constantI S_ 32 1024#32)

instance : Subsingleton S1.Idx := ⟨fun a b => funext fun x => by
  have h : x = (0 : Fin 1) := Subsingleton.elim _ _
  subst h
  exact Fin.ext (by have := (a 0).isLt; have := (b 0).isLt; change (a 0).val < 1 at *; change (b 0).val < 1 at *; omega)⟩

theorem cnt_eq (na : IVec S1 32) (j) (h : (na (ValueIdx.ix1 0)).toNat ≤ 40) : (cnt na j).toNat = ((na (ValueIdx.ix1 0)).toNat + 1) * 1024 := by
  have e : cnt na j = (na (ValueIdx.ix1 0) + 1#32) * 1024#32 := by
    change (shapeCast S_ na Facts.shapeCasts_S1_S_ j + 1#32) * 1024#32 = _
    unfold shapeCast
    congr 3
    exact Subsingleton.elim _ _
  rw [e, BitVec.toNat_mul, BitVec.toNat_add]
  simp only [BitVec.toNat_ofNat]
  omega

theorem ix1_ofFin {n : ℕ} (p : Fin n) : (ValueIdx.ix1 p : (⟨1, ![n]⟩ : Shape).Idx) = Shape.Idx.ofFin p := by
  funext a
  match a with
  | ⟨0, _⟩ => rfl

theorem take_at (x : IVec S43136 32) (d : IVec S44032 32) (p : Fin 44032) :
    fn_take (F := F) x d (ValueIdx.ix1 p) = x (ValueIdx.ix1 ⟨min (d (ValueIdx.ix1 p)).toInt.toNat (43136 - 1), by omega⟩) := by
  have g := StableHlo.Predicate.gather_take gather_S43136_S44032x1_S44032_n_0_n_n_0_1_1 rfl rfl rfl rfl x
    (broadcastInDim S44032x1 ![0] Facts.bcast_S44032_S44032x1_0 d) p (by decide)
  have e : (ValueIdx.ix1 p : S44032.Idx) = Shape.Idx.ofFin p := ix1_ofFin p
  have hb : broadcastInDim S44032x1 ![0] Facts.bcast_S44032_S44032x1_0 d (StableHlo.Predicate.ixP p) = d (ValueIdx.ix1 p) := by
    unfold broadcastInDim
    congr 1
    funext a
    match a with
    | ⟨0, _⟩ => rfl
  unfold fn_take
  dsimp only
  refine (congrArg _ e).trans (g.trans ?_)
  refine congrArg x ((ix1_ofFin _).symm.trans (congrArg ValueIdx.ix1 (Fin.ext ?_)))
  change min (BitVec.toInt _).toNat _ = _
  rw [hb]

theorem take0_at (x : IVec S44032 32) (d : IVec S43136 32) (p : Fin 43136) :
    fn_take_0 (F := F) x d (ValueIdx.ix1 p) = x (ValueIdx.ix1 ⟨min (d (ValueIdx.ix1 p)).toInt.toNat (44032 - 1), by omega⟩) := by
  have g := StableHlo.Predicate.gather_take gather_S44032_S43136x1_S43136_n_0_n_n_0_1_1 rfl rfl rfl rfl x
    (broadcastInDim S43136x1 ![0] Facts.bcast_S43136_S43136x1_0 d) p (by decide)
  have e : (ValueIdx.ix1 p : S43136.Idx) = Shape.Idx.ofFin p := ix1_ofFin p
  have hb : broadcastInDim S43136x1 ![0] Facts.bcast_S43136_S43136x1_0 d (StableHlo.Predicate.ixP p) = d (ValueIdx.ix1 p) := by
    unfold broadcastInDim
    congr 1
    funext a
    match a with
    | ⟨0, _⟩ => rfl
  unfold fn_take_0
  dsimp only
  refine (congrArg _ e).trans (g.trans ?_)
  refine congrArg x ((ix1_ofFin _).symm.trans (congrArg ValueIdx.ix1 (Fin.ext ?_)))
  change min (BitVec.toInt _).toNat _ = _
  rw [hb]

theorem says_core (te : IVec S43 32) (na : IVec S1 32) (src dst : IVec S44032 32) (who : IVec S43136 32) (j : S_.Idx)
    (h : fn_part1 (F := F) te na src dst (iotaInDim S44032 32 0) (cmpi .slt (iotaInDim S44032 32 0) (broadcastInDim S44032 ![] Facts.bcast_S_S44032 (cnt na)))
      who (iotaInDim S43136 32 0) (broadcastInDim S43 ![] Facts.bcast_S_S43 (constantI S_ 32 0#32)) j = 1#1) : Says te na src dst := by
  unfold fn_part1 fn_part2 fn_part3 at h
  dsimp only at h
  obtain ⟨h, hcov⟩ := and_split h
  obtain ⟨h, hinj⟩ := and_split h
  obtain ⟨h, hdst⟩ := and_split h
  obtain ⟨h, hsrc⟩ := and_split h
  obtain ⟨hte, hna⟩ := and_split h
  haveI : Subsingleton S_.Idx := ⟨fun a b => funext fun x => x.elim0⟩
  have hte := Host.reduce_andi_all _ _ _ _ j hte
  have hna := Host.reduce_andi_all _ _ _ _ j hna
  have hsrc := Host.reduce_andi_all _ _ _ _ j hsrc
  have hdst := Host.reduce_andi_all _ _ _ _ j hdst
  have hinj := Host.reduce_andi_all _ _ _ _ j hinj
  have hcov := Host.reduce_andi_all _ _ _ _ j hcov
  have n40 : (na (ValueIdx.ix1 0)).toNat ≤ 40 := by
    obtain ⟨a, b⟩ := and_split (hna (ValueIdx.ix1 0)); exact range_le a b
  have dlt : ∀ p : Fin 44032, (dst (ValueIdx.ix1 p)).toNat < 43136 := fun p => by
    obtain ⟨a, b⟩ := and_split (hdst (ValueIdx.ix1 p)); exact range_lt (k := 43136) (by decide) a b
  have used : ∀ p : Fin 44032, p.val < ((na (ValueIdx.ix1 0)).toNat + 1) * 1024 →
      who (ValueIdx.ix1 ⟨(dst (ValueIdx.ix1 p)).toNat, dlt p⟩) = BitVec.ofNat 32 p.val := fun p hp => by
    rcases or_split (hinj (ValueIdx.ix1 p)) with h | h
    · exfalso
      apply not_split h
      change IntOp.cmpi .slt (BitVec.ofNat 32 p.val) (cnt na _) = 1#1
      have e := cnt_eq na j n40
      have pl := p.isLt
      refine (StableHlo.Predicate.slt_iff_toNat ?_ ?_).2 ?_
      · rw [BitVec.toNat_ofNat]; omega
      · rw [cnt_eq na _ n40]; omega
      · rw [cnt_eq na _ n40, BitVec.toNat_ofNat]; omega
    · have h := StableHlo.Predicate.cmpi_eq_iff.1 h
      refine Eq.trans ?_ ((take_at (F := F) who dst p).symm.trans h)
      refine congrArg who (congrArg ValueIdx.ix1 (Fin.ext ?_))
      have dl := dlt p
      have e2 : (dst (ValueIdx.ix1 p)).toInt = ((dst (ValueIdx.ix1 p)).toNat : ℤ) := by
        rw [BitVec.toInt_eq_toNat_cond, if_pos (by omega)]
      change (dst (ValueIdx.ix1 p)).toNat = min (dst (ValueIdx.ix1 p)).toInt.toNat (43136 - 1)
      rw [e2]
      omega
  have cv : ∀ r : Fin 43136, (16512 ≤ r.val ∧ r.val < 26624) ∨
    ∃ p : Fin 44032, p.val < ((na (ValueIdx.ix1 0)).toNat + 1) * 1024 ∧ (dst (ValueIdx.ix1 p)).toNat = r.val := fun r => by
    have rl := r.isLt
    rcases or_split (hcov (ValueIdx.ix1 r)) with h | h
    · left
      obtain ⟨a, b⟩ := and_split h
      have a := (StableHlo.Predicate.sge_iff_toNat (a := BitVec.ofNat 32 r.val) (b := 16512#32) (by rw [BitVec.toNat_ofNat]; omega) (by decide)).1 a
      have b := (StableHlo.Predicate.slt_iff_toNat (a := BitVec.ofNat 32 r.val) (b := 26624#32) (by rw [BitVec.toNat_ofNat]; omega) (by decide)).1 b
      simp only [BitVec.toNat_ofNat] at a b
      omega
    · right
      obtain ⟨a, b⟩ := and_split h
      have b := StableHlo.Predicate.cmpi_eq_iff.1 b
      have a : IntOp.cmpi .slt (who (ValueIdx.ix1 r)) (cnt na (Shape.Idx.first Facts.h_S_)) = 1#1 := a
      have lt := lt_nat a (by rw [cnt_eq na _ n40]; omega)
      rw [cnt_eq na _ n40] at lt
      refine ⟨⟨min (who (ValueIdx.ix1 r)).toInt.toNat (44032 - 1), by omega⟩, by simp only; omega, ?_⟩
      have b' : dst (ValueIdx.ix1 ⟨min (who (ValueIdx.ix1 r)).toInt.toNat (44032 - 1), by omega⟩) = BitVec.ofNat 32 r.val :=
        (take0_at (F := F) dst who r).symm.trans b
      rw [b', BitVec.toNat_ofNat]; omega
  refine ⟨fun t => ?_, n40, fun p => ?_, dlt, fun p q hp hq e => ?_, cv⟩
  · obtain ⟨a, b⟩ := and_split (hte (ValueIdx.ix1 t)); exact range_lt (k := 8) (by decide) a b
  · obtain ⟨a, b⟩ := and_split (hsrc (ValueIdx.ix1 p)); exact range_lt (k := 16512) (by decide) a b
  · have a := used p hp
    have b := used q hq
    have pl := p.isLt
    have ql := q.isLt
    simp only [e] at a
    have c := congrArg BitVec.toNat (a.symm.trans b)
    simp only [BitVec.toNat_ofNat] at c
    exact Fin.ext (by omega)

theorem read_tables (a0 : FVec F S16512x1024 .f32) (te : IVec S43 32) (na : IVec S1 32) (src dst : IVec S44032 32) (a5 a6 : FVec F S8x1024x3584 .f32)
    (a7 : FVec F S8x3584x1024 .f32) (h : fn (F := F) a0 te na src dst a5 a6 a7 = fun _ => 1#1) : Says te na src dst :=
  says_core te na src dst _ (fun x => x.elim0) (congrFun h _)

end Cert.Pre_tables
end
-- ==== Proof.MoeIRows.lean ====
module

public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Batch
public import Idealize.ShloMosaic.Lib.Ring
public import Idealize.ShloMosaic.Lib.Tactic
public import Idealize.ShloMosaic.Lib.ValueLayout

@[expose] public section

/-! The rows that the grouped kernel copies one at a time: which elements a row of each buffer is, and what starting
one copy and waiting for one copy do. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev xsM : Memref sig .tc .vmem S3x1024x1024 .f32 := Memref.whole cc0_scratch0
abbrev obM : Memref sig .tc .vmem S3x1024x1024 .f32 := Memref.whole cc0_scratch2
abbrev bfM : Memref sig .tc .vmem S1024x1024 .bf16 := Memref.whole cc0_scratch1
abbrev hM : Memref sig .tc .hbm S16512x1024 .f32 := Memref.whole main_arg0
abbrev yM : Memref sig .tc .hbm S43136x1024 .f32 := Memref.whole main_v0

/-- The elements of row `r` of slot `s` of a buffer of three slots. -/
def slotRow (s r : ℕ) : Finset S3x1024x1024.Idx := Finset.univ.filter fun p => (p 0).val = s ∧ (p 1).val = r
/-- The elements of slot `s`. -/
def slotAll (s : ℕ) : Finset S3x1024x1024.Idx := Finset.univ.filter fun p => (p 0).val = s
/-- The elements of row `x` of the input. -/
def hRow (x : ℕ) : Finset S16512x1024.Idx := Finset.univ.filter fun p => (p 0).val = x
/-- The elements of row `x` of the result. -/
def yRow (x : ℕ) : Finset S43136x1024.Idx := Finset.univ.filter fun p => (p 0).val = x

abbrev slotM (M : Memref sig .tc .vmem S3x1024x1024 .f32) (o : Fin 3 → ℕ)
    (h : ∀ a, o a + S1x1024x1024.size a ≤ S3x1024x1024.size a) : Memref sig .tc .vmem S1024x1024 .f32 :=
  (M.slice (Rect.unit (s := S3x1024x1024) o S1x1024x1024.size h) (fun _ => rfl)).squeeze S1024x1024
    squeezes_S1x1024x1024_S1024x1024
abbrev rowM (M : Memref sig .tc .vmem S3x1024x1024 .f32) (o : Fin 3 → ℕ)
    (h : ∀ a, o a + S1x1024x1024.size a ≤ S3x1024x1024.size a) (o2 : Fin 2 → ℕ)
    (h2 : ∀ a, o2 a + S1x1024.size a ≤ S1024x1024.size a) : Memref sig .tc .vmem S1x1024 .f32 :=
  (slotM M o h).slice (Rect.unit (s := S1024x1024) o2 S1x1024.size h2) (fun _ => rfl)
abbrev hRowM (o : Fin 2 → ℕ) (h : ∀ a, o a + S1x1024.size a ≤ S16512x1024.size a) : Memref sig .tc .hbm S1x1024 .f32 :=
  hM.slice (Rect.unit (s := S16512x1024) o S1x1024.size h) (fun _ => rfl)
abbrev yRowM (o : Fin 2 → ℕ) (h : ∀ a, o a + S1x1024.size a ≤ S43136x1024.size a) : Memref sig .tc .hbm S1x1024 .f32 :=
  yM.slice (Rect.unit (s := S43136x1024) o S1x1024.size h) (fun _ => rfl)

theorem lt_of_slot {s : ℕ} (h : ∀ a, (![s, 0, 0] : Fin 3 → ℕ) a + S1x1024x1024.size a ≤ S3x1024x1024.size a) : s < 3 :=
  Nat.lt_of_succ_le (h 0)
theorem lt_of_row {r : ℕ} (h : ∀ a, (![r, 0] : Fin 2 → ℕ) a + S1x1024.size a ≤ S1024x1024.size a) : r < 1024 :=
  Nat.lt_of_succ_le (h 0)
theorem lt_of_hrow {r : ℕ} (h : ∀ a, (![r, 0] : Fin 2 → ℕ) a + S1x1024.size a ≤ S16512x1024.size a) : r < 16512 :=
  Nat.lt_of_succ_le (h 0)
theorem lt_of_yrow {r : ℕ} (h : ∀ a, (![r, 0] : Fin 2 → ℕ) a + S1x1024.size a ≤ S43136x1024.size a) : r < 43136 :=
  Nat.lt_of_succ_le (h 0)

theorem eq_first (x : S1x1024.Idx) : x = ix2 (0 : Fin 1) (x 1) := by
  funext a
  fin_cases a
  · exact Subsingleton.elim (α := Fin 1) _ _
  · rfl

theorem emb_row2 {s r : ℕ} (hs : s < 3) (hr : r < 1024)
    (h : ∀ a, (![s, 0, 0] : Fin 3 → ℕ) a + S1x1024x1024.size a ≤ S3x1024x1024.size a)
    (h2 : ∀ a, (![r, 0] : Fin 2 → ℕ) a + S1x1024.size a ≤ S1024x1024.size a) (q : Fin 1024) (b : Ref sig .tc)
    (hb : Memref sig .tc .vmem S3x1024x1024 .f32) :
    (rowM hb ![s, 0, 0] h ![r, 0] h2).view.emb (ix2 (0 : Fin 1) q)
      = hb.view.emb (ix3 ⟨s, hs⟩ ⟨r, hr⟩ q) := by
  show hb.view.emb ((Rect.unit (s := S3x1024x1024) ![s, 0, 0] S1x1024x1024.size h).emb
    (Shape.reshapeEquiv _ ((Rect.unit (s := S1024x1024) ![r, 0] S1x1024.size h2).emb (ix2 (0 : Fin 1) q)))) = _
  have e1 : (Rect.unit (s := S1024x1024) ![r, 0] S1x1024.size h2).emb (ix2 (0 : Fin 1) q) = ix2 (⟨r, hr⟩ : Fin 1024) q := by
    funext a
    apply Fin.ext
    rw [Rect.emb_apply]
    fin_cases a
    · show r + 1 * 0 = r; omega
    · show 0 + 1 * q.val = q.val; omega
  rw [e1]
  refine congrArg hb.view.emb ?_
  refine (congrArg _ (reshapeEquiv_ix2_1ab (a := 1024) (b := 1024) _ _ _)).trans ?_
  funext a
  apply Fin.ext
  rw [Rect.emb_apply]
  fin_cases a
  · show s + 1 * 0 = s; omega
  · show 0 + 1 * r = r; omega
  · show 0 + 1 * q.val = q.val; omega

theorem emb_hrow {x : ℕ} (hx : x < 16512) (h : ∀ a, (![x, 0] : Fin 2 → ℕ) a + S1x1024.size a ≤ S16512x1024.size a)
    (q : Fin 1024) : (hRowM ![x, 0] h).view.emb (ix2 (0 : Fin 1) q) = (ix2 (⟨x, hx⟩ : Fin 16512) q : S16512x1024.Idx) := by
  funext a
  apply Fin.ext
  fin_cases a
  · show x + 1 * 0 = x; omega
  · show 0 + 1 * q.val = q.val; omega

theorem emb_yrow {x : ℕ} (hx : x < 43136) (h : ∀ a, (![x, 0] : Fin 2 → ℕ) a + S1x1024.size a ≤ S43136x1024.size a)
    (q : Fin 1024) : (yRowM ![x, 0] h).view.emb (ix2 (0 : Fin 1) q) = (ix2 (⟨x, hx⟩ : Fin 43136) q : S43136x1024.Idx) := by
  funext a
  apply Fin.ext
  fin_cases a
  · show x + 1 * 0 = x; omega
  · show 0 + 1 * q.val = q.val; omega

theorem set_hrow {x : ℕ} (h : ∀ a, (![x, 0] : Fin 2 → ℕ) a + S1x1024.size a ≤ S16512x1024.size a) :
    (hRowM ![x, 0] h).view.set = hRow x := by
  refine (View.set_slice_whole _ _).trans ?_
  ext p
  rw [Rect.mem_set_unit]
  have h1 : (p 1).val < 1024 := (p 1).isLt
  simp only [hRow, Finset.mem_filter, Finset.mem_univ, _root_.true_and]
  constructor
  · intro hp
    have h0 := hp 0
    change x ≤ (p 0).val ∧ (p 0).val < x + 1 at h0
    omega
  · intro hp a
    fin_cases a
    · change x ≤ (p 0).val ∧ (p 0).val < x + 1; omega
    · change 0 ≤ (p 1).val ∧ (p 1).val < 0 + 1024; omega

theorem set_yrow {x : ℕ} (h : ∀ a, (![x, 0] : Fin 2 → ℕ) a + S1x1024.size a ≤ S43136x1024.size a) :
    (yRowM ![x, 0] h).view.set = yRow x := by
  refine (View.set_slice_whole _ _).trans ?_
  ext p
  rw [Rect.mem_set_unit]
  have h1 : (p 1).val < 1024 := (p 1).isLt
  simp only [yRow, Finset.mem_filter, Finset.mem_univ, _root_.true_and]
  constructor
  · intro hp
    have h0 := hp 0
    change x ≤ (p 0).val ∧ (p 0).val < x + 1 at h0
    omega
  · intro hp a
    fin_cases a
    · change x ≤ (p 0).val ∧ (p 0).val < x + 1; omega
    · change 0 ≤ (p 1).val ∧ (p 1).val < 0 + 1024; omega

theorem set_row {M : Memref sig .tc .vmem S3x1024x1024 .f32} {s r : ℕ}
    (h : ∀ a, (![s, 0, 0] : Fin 3 → ℕ) a + S1x1024x1024.size a ≤ S3x1024x1024.size a)
    (h2 : ∀ a, (![r, 0] : Fin 2 → ℕ) a + S1x1024.size a ≤ S1024x1024.size a) :
    (rowM M ![s, 0, 0] h ![r, 0] h2).view.set = (slotRow s r).map M.view.emb := by
  ext i
  rw [View.set, Finset.mem_map, Finset.mem_map]
  have hs := lt_of_slot h
  have hr := lt_of_row h2
  constructor
  · rintro ⟨x, -, rfl⟩
    refine ⟨ix3 ⟨s, hs⟩ ⟨r, hr⟩ (x 1), ?_, ?_⟩
    · exact Finset.mem_filter.2 ⟨Finset.mem_univ _, rfl, rfl⟩
    · rw [eq_first x]; exact (emb_row2 hs hr h h2 (x 1) cc0_scratch0 M).symm
  · rintro ⟨p, hp, rfl⟩
    replace hp := (Finset.mem_filter.1 hp).2
    refine ⟨ix2 (0 : Fin 1) (p 2), Finset.mem_univ _, ?_⟩
    rw [emb_row2 hs hr h h2 (p 2) cc0_scratch0 M]
    refine congrArg _ ?_
    funext a
    apply Fin.ext
    fin_cases a
    · exact hp.1.symm
    · exact hp.2.symm
    · rfl

theorem set_xrow {s r : ℕ}
    (h : ∀ a, (![s, 0, 0] : Fin 3 → ℕ) a + S1x1024x1024.size a ≤ S3x1024x1024.size a)
    (h2 : ∀ a, (![r, 0] : Fin 2 → ℕ) a + S1x1024.size a ≤ S1024x1024.size a) :
    (rowM xsM ![s, 0, 0] h ![r, 0] h2).view.set = slotRow s r :=
  (set_row h h2).trans (Finset.map_refl)
theorem set_orow {s r : ℕ}
    (h : ∀ a, (![s, 0, 0] : Fin 3 → ℕ) a + S1x1024x1024.size a ≤ S3x1024x1024.size a)
    (h2 : ∀ a, (![r, 0] : Fin 2 → ℕ) a + S1x1024.size a ≤ S1024x1024.size a) :
    (rowM obM ![s, 0, 0] h ![r, 0] h2).view.set = slotRow s r :=
  (set_row h h2).trans (Finset.map_refl)

/-- The amount a row's copy counts on its semaphore. -/
abbrev rowN : ℕ := RefSig.tileCredit S1x1024 .f32

theorem rowN_pos : 0 < rowN := by decide

section Copies

theorem ent_of_eq {P P' : sProp 𝕄} (h : P = P') : P ⊢ P' := h ▸ .rfl

variable (c : Dev nD) {α : Type}

/-- The program run to its post-condition on core `c`. -/
abbrev wpk (p : Prog (TpuEff nD τ sig (Elt F) Λ₀ .tc) α) (Q : α → sProp 𝕄) : sProp 𝕄 :=
  wp frame (wpE (defs₀ (F := F)) Variants.none (c : Thread nD τ) none) Set.univ p Q

abbrev hPt (S : Finset S16512x1024.Idx) (q : PosShare TreeShare) (f : S16512x1024.Idx → Elt F .f32) : sProp 𝕄 :=
  hM.view.loc (c : Thread nD τ) ↦[S]{q} f
abbrev yPt (S : Finset S43136x1024.Idx) (f : S43136x1024.Idx → Elt F .f32) : sProp 𝕄 :=
  yM.view.loc (c : Thread nD τ) ↦[S]{fullShare} f
abbrev xPt (S : Finset S3x1024x1024.Idx) (f : S3x1024x1024.Idx → Elt F .f32) : sProp 𝕄 :=
  xsM.view.loc (c : Thread nD τ) ↦[S]{fullShare} f
abbrev oPt (S : Finset S3x1024x1024.Idx) (f : S3x1024x1024.Idx → Elt F .f32) : sProp 𝕄 :=
  obM.view.loc (c : Thread nD τ) ↦[S]{fullShare} f

abbrev BatchR (sm : DmaSem sig) (D : Fin 1024 → sProp 𝕄) (j u : ℕ) : sProp 𝕄 :=
  Transfers.Batch (countersEmb (U := Pipeline.UD sig nD τ)) (c : Thread nD τ) (.dma sm) () rowN D j u

/-- Starting the copy of one row of the input into a row of a slot. -/
theorem wp_gatherRow (sm : DmaSem sig) (D : Fin 1024 → sProp 𝕄) {j : ℕ} (hj : j < 1024)
    {o : Fin 3 → ℕ} {h : ∀ a, o a + S1x1024x1024.size a ≤ S3x1024x1024.size a}
    {o2 : Fin 2 → ℕ} {h2 : ∀ a, o2 a + S1x1024.size a ≤ S1024x1024.size a}
    {o3 : Fin 2 → ℕ} {h3 : ∀ a, o3 a + S1x1024.size a ≤ S16512x1024.size a}
    {s r x : ℕ} (ho : o = ![s, 0, 0]) (ho2 : o2 = ![r, 0]) (ho3 : o3 = ![x, 0])
    {hsrc : (hRowM o3 h3).view.WordExact} {hdst : (rowM xsM o h o2 h2).view.WordExact}
    {hsem : DmaTarget.Typed (nD := nD) .hbm (.dma sm) (DmaTarget.here (p := (c : Thread nD τ).2) (rowM xsM o h o2 h2))}
    {k : PUnit → Prog (TpuEff nD τ sig (Elt F) Λ₀ .tc) α} {Qa : α → sProp 𝕄} {q : PosShare TreeShare}
    {hv : S16512x1024.Idx → Elt F .f32} {f X : S3x1024x1024.Idx → Elt F .f32}
    (hX : ∀ (hs : s < 3) (hr : r < 1024) (hx : x < 16512) (z : Fin 1024),
      X (ix3 ⟨s, hs⟩ ⟨r, hr⟩ z) = hv (ix2 ⟨x, hx⟩ z))
    (hD : iprop(xPt c (slotRow s r) X ∗ hPt c (hRow x) q hv) ⊢ D ⟨j, hj⟩) :
    iprop(hPt c (hRow x) q hv ∗ xPt c (slotRow s r) f ∗ BatchR c sm D j 0)
      ⊢ iprop((BatchR c sm D (j + 1) 0 -∗ wpk c (k ⟨⟩) Qa)
          -∗ wpk c (.op (.enqueueDmaAs (hRowM o3 h3) (.here (rowM xsM o h o2 h2)) .same (.dma sm) hsrc hdst hsem) k) Qa) := by
  subst ho ho2 ho3
  have hs := lt_of_slot h
  have hr := lt_of_row h2
  have hx := lt_of_hrow h3
  have key := Transfers.wp_dmaBatch (defs := defs₀ (F := F)) (Q := Qa) (hsem := hsem) (hsrc := hsrc) (hdst := hdst) (k := k)
    (countersEmb (U := Pipeline.UD sig nD τ)) Variants.none
    (c : Thread nD τ) none (src := hRowM ![x, 0] h3) (dst := rowM xsM ![s, 0, 0] h ![r, 0] h2) (via := .same)
    (fs := hv) (fd := f) (Sd := slotRow s r) (D := D) (j := j) (u := 0) (q := q) () rowN rfl (set_xrow h h2).subset hj (Nat.zero_le _)
    (by
      rw [set_hrow]
      refine BIBase.Entails.trans (sep_mono_left ?_) hD
      refine ent_of_eq (pointsTo_congr ?_)
      intro p hp
      replace hp := (Finset.mem_filter.1 hp).2
      have e : p = (rowM xsM ![s, 0, 0] h ![r, 0] h2).view.emb (ix2 (0 : Fin 1) (p 2)) := by
        rw [emb_row2 hs hr h h2 (p 2) cc0_scratch0 xsM]
        funext a
        apply Fin.ext
        fin_cases a
        · exact hp.1
        · exact hp.2
        · rfl
      have e2 : p = ix3 ⟨s, hs⟩ ⟨r, hr⟩ (p 2) := e.trans (emb_row2 hs hr h h2 (p 2) cc0_scratch0 xsM)
      refine (congrArg _ e).trans ?_
      refine (View.write_emb_of_mem _ _ (Finset.mem_univ _)).trans ?_
      refine Eq.trans ?_ ((congrArg X e2).trans (hX hs hr hx (p 2))).symm
      exact congrArg hv (emb_hrow hx h3 (p 2)))
  rw [set_hrow] at key
  exact key

/-- Starting the copy of one row of a slot into a row of the result. -/
theorem wp_sendRow (sm : DmaSem sig) (D : Fin 1024 → sProp 𝕄) {j : ℕ} (hj : j < 1024)
    {o : Fin 3 → ℕ} {h : ∀ a, o a + S1x1024x1024.size a ≤ S3x1024x1024.size a}
    {o2 : Fin 2 → ℕ} {h2 : ∀ a, o2 a + S1x1024.size a ≤ S1024x1024.size a}
    {o3 : Fin 2 → ℕ} {h3 : ∀ a, o3 a + S1x1024.size a ≤ S43136x1024.size a}
    {s r x : ℕ} (ho : o = ![s, 0, 0]) (ho2 : o2 = ![r, 0]) (ho3 : o3 = ![x, 0])
    {hsrc : (rowM obM o h o2 h2).view.WordExact} {hdst : (yRowM o3 h3).view.WordExact}
    {hsem : DmaTarget.Typed (nD := nD) .vmem (.dma sm) (DmaTarget.here (p := (c : Thread nD τ).2) (yRowM o3 h3))}
    {k : PUnit → Prog (TpuEff nD τ sig (Elt F) Λ₀ .tc) α} {Qa : α → sProp 𝕄}
    {fo : S3x1024x1024.Idx → Elt F .f32} {f Y : S43136x1024.Idx → Elt F .f32}
    (hY : ∀ (hs : s < 3) (hr : r < 1024) (hx : x < 43136) (z : Fin 1024),
      Y (ix2 ⟨x, hx⟩ z) = fo (ix3 ⟨s, hs⟩ ⟨r, hr⟩ z))
    (hD : iprop(yPt c (yRow x) Y ∗ oPt c (slotRow s r) fo) ⊢ D ⟨j, hj⟩) :
    iprop(oPt c (slotRow s r) fo ∗ yPt c (yRow x) f ∗ BatchR c sm D j 0)
      ⊢ iprop((BatchR c sm D (j + 1) 0 -∗ wpk c (k ⟨⟩) Qa)
          -∗ wpk c (.op (.enqueueDmaAs (rowM obM o h o2 h2) (.here (yRowM o3 h3)) .same (.dma sm) hsrc hdst hsem) k) Qa) := by
  subst ho ho2 ho3
  have hs := lt_of_slot h
  have hr := lt_of_row h2
  have hx := lt_of_yrow h3
  have key := Transfers.wp_dmaBatch (defs := defs₀ (F := F)) (Q := Qa) (hsem := hsem) (hsrc := hsrc) (hdst := hdst) (k := k)
    (countersEmb (U := Pipeline.UD sig nD τ)) Variants.none
    (c : Thread nD τ) none (src := rowM obM ![s, 0, 0] h ![r, 0] h2) (dst := yRowM ![x, 0] h3) (via := .same)
    (fs := fo) (fd := f) (Sd := yRow x) (D := D) (j := j) (u := 0) (q := fullShare) () rowN rfl (set_yrow h3).subset hj (Nat.zero_le _)
    (by
      rw [set_orow]
      refine BIBase.Entails.trans (sep_mono_left ?_) hD
      refine ent_of_eq (pointsTo_congr ?_)
      intro p hp
      replace hp := (Finset.mem_filter.1 hp).2
      have e : p = (yRowM ![x, 0] h3).view.emb (ix2 (0 : Fin 1) (p 1)) := by
        rw [emb_yrow hx h3 (p 1)]
        funext a
        apply Fin.ext
        fin_cases a
        · exact hp
        · rfl
      have e2 : p = ix2 ⟨x, hx⟩ (p 1) := e.trans (emb_yrow hx h3 (p 1))
      refine (congrArg _ e).trans ?_
      refine (View.write_emb_of_mem _ _ (Finset.mem_univ _)).trans ?_
      refine Eq.trans ?_ ((congrArg Y e2).trans (hY hs hr hx (p 1))).symm
      exact congrArg fo (emb_row2 hs hr h h2 (p 1) cc0_scratch0 obM))
  rw [set_orow] at key
  exact key

/-- Waiting for one row of a batch. -/
theorem wp_waitRow (sm : DmaSem sig) (D : Fin 1024 → sProp 𝕄) {j u : ℕ} (hu : u + rowN ≤ rowN * j)
    {sp sp' : Space} {s s' : Shape} {e e' : EltTy} {srcw : Memref sig (c : Thread nD τ).2.kind sp' s' e'} {dstw : Memref sig .tc sp s e}
    {hsrc : srcw.view.WordExact} {hdst : dstw.view.WordExact}
    {k : PUnit → Prog (TpuEff nD τ sig (Elt F) Λ₀ .tc) α} {Qa : α → sProp 𝕄} (hJ : dstw.view.dmaCredit = rowN) :
    iprop(BatchR c sm D j u ∗ (∃ W, owes (c : Thread nD τ) 0 W))
      ⊢ iprop((iprop(BatchR c sm D j (u + rowN) ∗ (∃ W, owes (c : Thread nD τ) 0 W)) -∗ wpk c (k ⟨⟩) Qa)
          -∗ wpk c (.op (.waitDma2 sm srcw dstw hsrc hdst) k) Qa) := by
  iintro ⟨HB, ⟨%W, HW⟩⟩ Hk
  iapply (Transfers.wp_waitBatchMul (countersEmb (U := Pipeline.UD sig nD τ)) Variants.none (c : Thread nD τ) none ()
    (N := rowN) 1 (by rw [hJ, Nat.one_mul]) (D := D) (j := j) (u := u) (by rw [Nat.one_mul]; exact hu)) $$ [HB HW]
  · isplitl [HB]; · iexact HB
    iexact HW
  iintro ⟨HB, HW⟩
  iapply Hk
  rw [Nat.one_mul]
  isplitl [HB]; · iexact HB
  iexists _; iexact HW

end Copies

end Cert.Kernel3Ideal.Moe
-- ==== Proof.MoeIState.lean ====
module

public import proofs.«01_k».proof.Proof.MoeIRows

@[expose] public section

/-! What the grouped kernel holds of its three slots while tiles are being gathered into them and sent out of them. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the run is about: the input's rows, the two row tables, the number of tiles in use, the result before and
after, and each sent tile. Tile `0` is the tile of zeros, tile `T + 1` what tile `T` of the gathered rows becomes. -/
structure Env (F : FTy → Type) where
  hv : S16512x1024.Idx → Elt F .f32
  src : ℕ → ℕ
  dst : ℕ → ℕ
  na : ℕ
  Y0 : S43136x1024.Idx → Elt F .f32
  Yf : S43136x1024.Idx → Elt F .f32
  A : ℕ → FVec F S1x1024x1024 .f32

structure Env.Ok (E : Env F) : Prop where
  na_le : E.na ≤ 40
  src_lt : ∀ p, p < 44032 → E.src p < 16512
  dst_lt : ∀ p, p < 44032 → E.dst p < 43136
  inj : ∀ p q, p < (E.na + 1) * 1024 → q < (E.na + 1) * 1024 → E.dst p = E.dst q → p = q
  yf : ∀ T r (hr : r < 1024) (hx : E.dst (T * 1024 + r) < 43136) (z : Fin 1024), T ≤ E.na →
    E.Yf (ix2 ⟨E.dst (T * 1024 + r), hx⟩ z) = E.A T (ix3 (0 : Fin 1) ⟨r, hr⟩ z)

def gsm (s : ℕ) : DmaSem sig := Fin.ofNat 13 (6 + s)
def ssm (s : ℕ) : DmaSem sig := Fin.ofNat 13 (9 + s)

/-- The row gathered `j`-th: tiles 0 and 1 from the first row on, the later ones from row 1022 on. -/
def rowG (t j : ℕ) : ℕ := if t < 2 then j else (j + 1022) % 1024
/-- The row sent `j`-th: the last tile from the first row on, the earlier ones from row 1022 on. -/
def rowS (E : Env F) (T j : ℕ) : ℕ := if E.na ≤ T then j else (j + 1022) % 1024

theorem rowG_lt (t : ℕ) {j : ℕ} (hj : j < 1024) : rowG t j < 1024 := by unfold rowG; split <;> omega
theorem rowS_lt (E : Env F) (T : ℕ) {j : ℕ} (hj : j < 1024) : rowS E T j < 1024 := by unfold rowS; split <;> omega
theorem rowG_inj (t : ℕ) {j k : ℕ} (hj : j < 1024) (hk : k < 1024) (h : rowG t j = rowG t k) : j = k := by
  unfold rowG at h; split at h <;> omega
theorem rowS_inj (E : Env F) (T : ℕ) {j k : ℕ} (hj : j < 1024) (hk : k < 1024) (h : rowS E T j = rowS E T k) : j = k := by
  unfold rowS at h; split at h <;> omega
theorem rowG_surj (t : ℕ) {r : ℕ} (hr : r < 1024) : ∃ j, j < 1024 ∧ rowG t j = r := by
  unfold rowG; split
  · exact ⟨r, hr, rfl⟩
  · exact ⟨(r + 2) % 1024, by omega, by omega⟩
theorem rowS_surj (E : Env F) (T : ℕ) {r : ℕ} (hr : r < 1024) : ∃ j, j < 1024 ∧ rowS E T j = r := by
  unfold rowS; split
  · exact ⟨r, hr, rfl⟩
  · exact ⟨(r + 2) % 1024, by omega, by omega⟩

/-- A slot's elements are its rows', in any order that meets each row once. -/
theorem slot_union (s : ℕ) (ρ : ℕ → ℕ) (hs : ∀ r, r < 1024 → ∃ j, j < 1024 ∧ ρ j = r) :
    Finset.univ.biUnion (fun j : Fin 1024 => slotRow s (ρ j.val)) = slotAll s := by
  ext p
  simp only [Finset.mem_biUnion, slotRow, slotAll, Finset.mem_filter, Finset.mem_univ, _root_.true_and]
  constructor
  · rintro ⟨j, h, -⟩; exact h
  · intro h
    obtain ⟨j, hj, e⟩ := hs (p 1).val (p 1).isLt
    exact ⟨⟨j, hj⟩, h, e.symm⟩

theorem slot_disj (s : ℕ) (ρ : ℕ → ℕ) (hi : ∀ j k, j < 1024 → k < 1024 → ρ j = ρ k → j = k) (b b' : Fin 1024) (h : b ≠ b') :
    Disjoint (slotRow s (ρ b.val)) (slotRow s (ρ b'.val)) := by
  rw [Finset.disjoint_left]
  intro p hp hp'
  exact h (Fin.ext (hi _ _ b.isLt b'.isLt ((Finset.mem_filter.1 hp).2.2.symm.trans (Finset.mem_filter.1 hp').2.2)))

open Classical in
/-- The result rows that tile `T` is sent to. -/
def tileRows (E : Env F) (T : ℕ) : Finset S43136x1024.Idx :=
  Finset.univ.filter fun p => ∃ r, r < 1024 ∧ (p 0).val = E.dst (T * 1024 + r)

theorem tile_union (E : Env F) (T : ℕ) :
    Finset.univ.biUnion (fun j : Fin 1024 => yRow (E.dst (T * 1024 + rowS E T j.val))) = tileRows E T := by
  ext p
  simp only [Finset.mem_biUnion, yRow, tileRows, Finset.mem_filter, Finset.mem_univ, _root_.true_and]
  constructor
  · rintro ⟨j, h⟩; exact ⟨_, rowS_lt E T j.isLt, h⟩
  · rintro ⟨r, hr, h⟩
    obtain ⟨j, hj, e⟩ := rowS_surj E T hr
    exact ⟨⟨j, hj⟩, by rw [e]; exact h⟩

theorem tile_disj (E : Env F) (ok : E.Ok) (T : ℕ) (hT : T ≤ E.na) (b b' : Fin 1024) (h : b ≠ b') :
    Disjoint (yRow (E.dst (T * 1024 + rowS E T b.val))) (yRow (E.dst (T * 1024 + rowS E T b'.val))) := by
  rw [Finset.disjoint_left]
  intro p hp hp'
  have e := (Finset.mem_filter.1 hp).2.symm.trans (Finset.mem_filter.1 hp').2
  have h1 := rowS_lt E T b.isLt
  have h2 := rowS_lt E T b'.isLt
  have := ok.inj (T * 1024 + rowS E T b.val) (T * 1024 + rowS E T b'.val) (by omega) (by omega) e
  exact h (Fin.ext (rowS_inj E T b.isLt b'.isLt (by omega)))

/-- A gathered tile, as a slot holds it. -/
def XsT (E : Env F) (t : ℕ) : S3x1024x1024.Idx → Elt F .f32 := fun p =>
  E.hv (ix2 (⟨E.src (1024 * t + (p 1).val) % 16512, Nat.mod_lt _ (by decide)⟩ : Fin 16512) (p 2))
/-- A block of one tile, as a slot holds it. -/
def ObA (A : FVec F S1x1024x1024 .f32) : S3x1024x1024.Idx → Elt F .f32 := fun p => A (ix3 (0 : Fin 1) (p 1) (p 2))

section

variable (E : Env F) (c : Dev nD)

abbrev tokS (s : ℕ) : PosShare TreeShare := Transfers.shareTokN fullShare s
abbrev tokR (s j : ℕ) : PosShare TreeShare := Transfers.shareTokN (tokS s) j
abbrev semZ (sm : DmaSem sig) : sProp 𝕄 := semVal ((c : Thread nD τ), SemLoc.dma sm) 0

def GD (t : ℕ) (j : Fin 1024) : sProp 𝕄 :=
  iprop(xPt c (slotRow (t % 3) (rowG t j.val)) (XsT E t)
    ∗ hPt c (hRow (E.src (1024 * t + rowG t j.val))) (tokR (t % 3) j.val) E.hv)
instance (t : ℕ) (j : Fin 1024) : Storable (upEmb : UEmb _ 𝕄) (GD E c t j) := by unfold GD; infer_instance
def SD (T : ℕ) (j : Fin 1024) : sProp 𝕄 :=
  iprop(yPt c (yRow (E.dst (T * 1024 + rowS E T j.val))) E.Yf
    ∗ oPt c (slotRow ((T + 2) % 3) (rowS E T j.val)) (ObA (E.A T)))
instance (T : ℕ) (j : Fin 1024) : Storable (upEmb : UEmb _ 𝕄) (SD E c T j) := by unfold SD; infer_instance

/-- The rest of the input beside a row being read. -/
def restG (t : ℕ) (j : Fin 1024) : sProp 𝕄 :=
  hPt c (Finset.univ \ hRow (E.src (1024 * t + rowG t j.val))) (tokR (t % 3) j.val) E.hv
def todoG (t : ℕ) (f : S3x1024x1024.Idx → Elt F .f32) (j : Fin 1024) : sProp 𝕄 :=
  iprop(xPt c (slotRow (t % 3) (rowG t j.val)) f ∗ hPt c Finset.univ (tokR (t % 3) j.val) E.hv)

/-- A slot of the gather buffer that nothing is using. -/
def GF (s : ℕ) : sProp 𝕄 := iprop((∃ f, xPt c (slotAll s) f) ∗ hPt c Finset.univ (tokS s) E.hv ∗ semZ c (gsm s))
/-- Tile `t` with the copies of its first `k` rows started. -/
def GPart (t k : ℕ) : sProp 𝕄 :=
  iprop(∃ f, BatchR c (gsm (t % 3)) (GD E c t) k 0 ∗ bigSep (Transfers.pending k) (todoG E c t f)
    ∗ bigSep (Transfers.issued k) (restG E c t) ∗ hPt c Finset.univ (Transfers.shareDrop (tokS (t % 3)) 1024) E.hv)
/-- Tile `t` with all its copies started and `k` waited for. -/
def GWait (t k : ℕ) : sProp 𝕄 :=
  iprop(BatchR c (gsm (t % 3)) (GD E c t) 1024 (k * rowN)
    ∗ bigSep Finset.univ (restG E c t) ∗ hPt c Finset.univ (Transfers.shareDrop (tokS (t % 3)) 1024) E.hv)
def GDone (t : ℕ) : sProp 𝕄 :=
  iprop(xPt c (slotAll (t % 3)) (XsT E t) ∗ hPt c Finset.univ (tokS (t % 3)) E.hv ∗ semZ c (gsm (t % 3)))

def todoS (T : ℕ) (j : Fin 1024) : sProp 𝕄 :=
  iprop(oPt c (slotRow ((T + 2) % 3) (rowS E T j.val)) (ObA (E.A T)) ∗ yPt c (yRow (E.dst (T * 1024 + rowS E T j.val))) E.Y0)
/-- A slot of the result buffer that nothing is using. -/
def OFree (s : ℕ) : sProp 𝕄 := iprop((∃ f, oPt c (slotAll s) f) ∗ semZ c (ssm s))
/-- Tile `T` ready to be sent. -/
def OKnown (T : ℕ) : sProp 𝕄 := iprop(oPt c (slotAll ((T + 2) % 3)) (ObA (E.A T)) ∗ semZ c (ssm ((T + 2) % 3)))
/-- Tile `T` with the copies of its first `k` rows started. -/
def SPart (T k : ℕ) : sProp 𝕄 :=
  iprop(BatchR c (ssm ((T + 2) % 3)) (SD E c T) k 0 ∗ bigSep (Transfers.pending k) (todoS E c T))
def SWait (T k : ℕ) : sProp 𝕄 := BatchR c (ssm ((T + 2) % 3)) (SD E c T) 1024 (k * rowN)

variable {E}

theorem bigSep_two {I : Type} (s : Finset I) (P P' : I → sProp 𝕄) :
    bigSep s (fun i => iprop(P i ∗ P' i)) = iprop(bigSep s P ∗ bigSep s P') := BI.bigSep_sep s P P'

theorem xPt_rows (s : ℕ) (ρ : ℕ → ℕ) (hi : ∀ j k, j < 1024 → k < 1024 → ρ j = ρ k → j = k)
    (hs : ∀ r, r < 1024 → ∃ j, j < 1024 ∧ ρ j = r) (f : S3x1024x1024.Idx → Elt F .f32) :
    (xPt c (slotAll s) f : sProp 𝕄) = bigSep Finset.univ fun j : Fin 1024 => xPt c (slotRow s (ρ j.val)) f :=
  Ring.pointsTo_sub_blocks (ℓ := xsM.view.loc (c : Thread nD τ)) (fun j : Fin 1024 => slotRow s (ρ j.val))
    (slot_disj s ρ hi) (slotAll s) (slot_union s ρ hs) f

theorem oPt_rows (s : ℕ) (ρ : ℕ → ℕ) (hi : ∀ j k, j < 1024 → k < 1024 → ρ j = ρ k → j = k)
    (hs : ∀ r, r < 1024 → ∃ j, j < 1024 ∧ ρ j = r) (f : S3x1024x1024.Idx → Elt F .f32) :
    (oPt c (slotAll s) f : sProp 𝕄) = bigSep Finset.univ fun j : Fin 1024 => oPt c (slotRow s (ρ j.val)) f :=
  Ring.pointsTo_sub_blocks (ℓ := obM.view.loc (c : Thread nD τ)) (fun j : Fin 1024 => slotRow s (ρ j.val))
    (slot_disj s ρ hi) (slotAll s) (slot_union s ρ hs) f

theorem yPt_rows (ok : E.Ok) (T : ℕ) (hT : T ≤ E.na) (f : S43136x1024.Idx → Elt F .f32) :
    (yPt c (tileRows E T) f : sProp 𝕄)
      = bigSep Finset.univ fun j : Fin 1024 => yPt c (yRow (E.dst (T * 1024 + rowS E T j.val))) f :=
  Ring.pointsTo_sub_blocks (ℓ := yM.view.loc (c : Thread nD τ))
    (fun j : Fin 1024 => yRow (E.dst (T * 1024 + rowS E T j.val)))
    (tile_disj E ok T hT) (tileRows E T) (tile_union E T) f

theorem h_toks (n : ℕ) (q : PosShare TreeShare) (f : S16512x1024.Idx → Elt F .f32) :
    (hPt c Finset.univ q f : sProp 𝕄)
      ⊣⊢ iprop(hPt c Finset.univ (Transfers.shareDrop q n) f
        ∗ bigSep Finset.univ fun j : Fin n => hPt c Finset.univ (Transfers.shareTokN q j.val) f) := by
  rw [Ring.bigSep_fin_eq_range n _ (fun j => hPt c Finset.univ (Transfers.shareTokN q j) f) fun _ _ => rfl]
  exact Transfers.pointsTo_toks_range q n

theorem gstart (t : ℕ) : GF E c (t % 3) ⊢ (|={Set.univ}=> GPart E c t 0 : sProp 𝕄) := by
  unfold GF GPart
  iintro ⟨⟨%f, Hx⟩, Hh, Hs⟩
  imod (Transfers.batch_alloc' (Lvl := ℕ) (countersEmb (U := Pipeline.UD sig nD τ)) (c : Thread nD τ) () rowN (GD E c t)) $$ Hs with HB
  imodintro
  iexists f
  isplitl [HB]; · iexact HB
  ihave Hh := (h_toks c 1024 (tokS (t % 3)) E.hv).1 $$ Hh
  icases Hh with ⟨Hr, Ht⟩
  isplitr [Hr]
  · iapply (ent_of_eq (Transfers.bigSep_pending_zero (todoG E c t f)))
    iapply (ent_of_eq (bigSep_two _ _ _).symm)
    isplitl [Hx]
    · iapply (ent_of_eq (xPt_rows c (t % 3) (rowG t) (fun j k hj hk => rowG_inj t hj hk) (fun r hr => rowG_surj t hr) f))
      iexact Hx
    · iexact Ht
  · isplitr
    · iapply (ent_of_eq (show (BI.emp : sProp 𝕄) = bigSep (Transfers.issued 0) (restG E c t) by
        rw [Transfers.issued_zero, BI.bigSep_empty]))
      iempintro
    iexact Hr

/-- One more row's copy started. -/
theorem gstep (ok : E.Ok) (t : ℕ) {j : ℕ} (hj : j < 1024) (ht : t < 43) {α : Type}
    {sm : DmaSem sig} (hsm : sm = gsm (t % 3))
    {o : Fin 3 → ℕ} {h : ∀ a, o a + S1x1024x1024.size a ≤ S3x1024x1024.size a}
    {o2 : Fin 2 → ℕ} {h2 : ∀ a, o2 a + S1x1024.size a ≤ S1024x1024.size a}
    {o3 : Fin 2 → ℕ} {h3 : ∀ a, o3 a + S1x1024.size a ≤ S16512x1024.size a}
    (ho : o = ![t % 3, 0, 0]) (ho2 : o2 = ![rowG t j, 0]) (ho3 : o3 = ![E.src (1024 * t + rowG t j), 0])
    {hsrc : (hRowM o3 h3).view.WordExact} {hdst : (rowM xsM o h o2 h2).view.WordExact}
    {hsem : DmaTarget.Typed (nD := nD) .hbm (.dma sm) (DmaTarget.here (p := (c : Thread nD τ).2) (rowM xsM o h o2 h2))}
    {k : PUnit → Prog (TpuEff nD τ sig (Elt F) Λ₀ .tc) α} {Qa : α → sProp 𝕄} :
    GPart E c t j
      ⊢ iprop((GPart E c t (j + 1) -∗ wpk c (k ⟨⟩) Qa)
          -∗ wpk c (.op (.enqueueDmaAs (hRowM o3 h3) (.here (rowM xsM o h o2 h2)) .same (.dma sm) hsrc hdst hsem) k) Qa) := by
  subst hsm
  unfold GPart
  iintro ⟨%f, HB, Hp, Hi, Hr⟩ Hk
  ihave Hp := (ent_of_eq (Transfers.bigSep_pending_step (todoG E c t f) j hj)) $$ Hp
  icases Hp with ⟨Htd, Hp⟩
  unfold todoG
  icases Htd with ⟨Hx, Hh⟩
  ihave Hh := (pointsTo_split_subset (ℓ := hM.view.loc (c : Thread nD τ))
    (Finset.subset_univ (hRow (E.src (1024 * t + rowG t j))))).1 $$ Hh
  icases Hh with ⟨Hh, Hrest⟩
  iapply (wp_gatherRow c (gsm (t % 3)) (GD E c t) hj ho ho2 ho3 (q := tokR (t % 3) j) (hv := E.hv) (f := f) (X := XsT E t)
    (fun hs hr hx z => by
      refine congrArg E.hv ?_
      funext a
      apply Fin.ext
      fin_cases a
      · exact Nat.mod_eq_of_lt hx
      · rfl) .rfl) $$ [Hh Hx HB]
  · isplitl [Hh]; · iexact Hh
    isplitl [Hx]; · iexact Hx
    iexact HB
  iintro HB
  iapply Hk
  iexists f
  isplitl [HB]; · iexact HB
  isplitl [Hp]; · iexact Hp
  isplitl [Hrest Hi]
  · iapply (ent_of_eq (show iprop(restG E c t ⟨j, hj⟩ ∗ bigSep (Transfers.issued j) (restG E c t))
        = bigSep (Transfers.issued (j + 1)) (restG E c t) by
      rw [Transfers.issued_succ hj, BI.bigSep_insert (Transfers.not_mem_issued hj)]
      rfl))
    isplitl [Hrest]; · unfold restG; iexact Hrest
    iexact Hi
  iexact Hr

theorem gfull (t : ℕ) : GPart E c t 1024 ⊢ GWait E c t 0 := by
  unfold GPart GWait
  rw [Transfers.issued_all rfl, Nat.zero_mul]
  iintro ⟨%f, HB, -, Hi, Hr⟩
  isplitl [HB]; · iexact HB
  isplitl [Hi]; · iexact Hi
  iexact Hr

theorem gcollect (t : ℕ) : GWait E c t 1024 ⊢ (|={Set.univ}=> GDone E c t : sProp 𝕄) := by
  unfold GWait GDone
  iintro ⟨HB, Hi, Hr⟩
  rw [Nat.mul_comm 1024 rowN]
  imod (Transfers.batch_collect' (countersEmb (U := Pipeline.UD sig nD τ)) (c : Thread nD τ) rowN_pos) $$ HB with ⟨HD, Hs⟩
  imodintro
  unfold GD
  ihave HD := (ent_of_eq (bigSep_two _ _ _)) $$ HD
  icases HD with ⟨Hx, Hh⟩
  isplitl [Hx]
  · iapply (ent_of_eq (xPt_rows c (t % 3) (rowG t) (fun j k hj hk => rowG_inj t hj hk) (fun r hr => rowG_surj t hr) (XsT E t)).symm)
    iexact Hx
  isplitr [Hs]
  · iapply (h_toks c 1024 (tokS (t % 3)) E.hv).2
    isplitl [Hr]; · iexact Hr
    have e : ∀ j : Fin 1024, iprop(hPt c (hRow (E.src (1024 * t + rowG t j.val))) (tokR (t % 3) j.val) E.hv ∗ restG E c t j)
        ⊢ (hPt c Finset.univ (tokR (t % 3) j.val) E.hv : sProp 𝕄) := fun j =>
      (pointsTo_split_subset (ℓ := hM.view.loc (c : Thread nD τ)) (Finset.subset_univ _)).2
    iapply (show bigSep Finset.univ _ ⊢ bigSep Finset.univ _ from BI.bigSep_mono fun j (_ : j ∈ Finset.univ) => e j)
    iapply (ent_of_eq (bigSep_two _ _ _).symm)
    isplitl [Hh]; · iexact Hh
    iexact Hi
  iexact Hs

theorem gdone_free (t : ℕ) : GDone E c t ⊢ GF E c (t % 3) := by
  unfold GDone GF
  iintro ⟨Hx, H⟩
  isplitl [Hx]; · iexists _; iexact Hx
  iexact H

theorem sstart (ok : E.Ok) (T : ℕ) (hT : T ≤ E.na) :
    iprop(OKnown E c T ∗ yPt c (tileRows E T) E.Y0) ⊢ (|={Set.univ}=> SPart E c T 0 : sProp 𝕄) := by
  unfold OKnown SPart
  iintro ⟨⟨Ho, Hs⟩, Hy⟩
  imod (Transfers.batch_alloc' (Lvl := ℕ) (countersEmb (U := Pipeline.UD sig nD τ)) (c : Thread nD τ) () rowN (SD E c T)) $$ Hs with HB
  imodintro
  isplitl [HB]; · iexact HB
  iapply (ent_of_eq (Transfers.bigSep_pending_zero (todoS E c T)))
  iapply (ent_of_eq (bigSep_two _ _ _).symm)
  isplitl [Ho]
  · iapply (ent_of_eq (oPt_rows c ((T + 2) % 3) (rowS E T) (fun j k hj hk => rowS_inj E T hj hk) (fun r hr => rowS_surj E T hr) _))
    iexact Ho
  · iapply (ent_of_eq (yPt_rows c ok T hT _))
    iexact Hy

theorem sstep (ok : E.Ok) (T : ℕ) (hT : T ≤ E.na) {j : ℕ} (hj : j < 1024) {α : Type}
    {sm : DmaSem sig} (hsm : sm = ssm ((T + 2) % 3))
    {o : Fin 3 → ℕ} {h : ∀ a, o a + S1x1024x1024.size a ≤ S3x1024x1024.size a}
    {o2 : Fin 2 → ℕ} {h2 : ∀ a, o2 a + S1x1024.size a ≤ S1024x1024.size a}
    {o3 : Fin 2 → ℕ} {h3 : ∀ a, o3 a + S1x1024.size a ≤ S43136x1024.size a}
    (ho : o = ![(T + 2) % 3, 0, 0]) (ho2 : o2 = ![rowS E T j, 0]) (ho3 : o3 = ![E.dst (T * 1024 + rowS E T j), 0])
    {hsrc : (rowM obM o h o2 h2).view.WordExact} {hdst : (yRowM o3 h3).view.WordExact}
    {hsem : DmaTarget.Typed (nD := nD) .vmem (.dma sm) (DmaTarget.here (p := (c : Thread nD τ).2) (yRowM o3 h3))}
    {k : PUnit → Prog (TpuEff nD τ sig (Elt F) Λ₀ .tc) α} {Qa : α → sProp 𝕄} :
    SPart E c T j
      ⊢ iprop((SPart E c T (j + 1) -∗ wpk c (k ⟨⟩) Qa)
          -∗ wpk c (.op (.enqueueDmaAs (rowM obM o h o2 h2) (.here (yRowM o3 h3)) .same (.dma sm) hsrc hdst hsem) k) Qa) := by
  subst hsm
  unfold SPart
  iintro ⟨HB, Hp⟩ Hk
  ihave Hp := (ent_of_eq (Transfers.bigSep_pending_step (todoS E c T) j hj)) $$ Hp
  icases Hp with ⟨Htd, Hp⟩
  unfold todoS
  icases Htd with ⟨Ho, Hy⟩
  iapply (wp_sendRow c (ssm ((T + 2) % 3)) (SD E c T) hj ho ho2 ho3 (fo := ObA (E.A T)) (f := E.Y0) (Y := E.Yf)
    (fun hs hr hx z => ok.yf T _ hr hx z hT) .rfl) $$ [Ho Hy HB]
  · isplitl [Ho]; · iexact Ho
    isplitl [Hy]; · iexact Hy
    iexact HB
  iintro HB
  iapply Hk
  isplitl [HB]; · iexact HB
  iexact Hp

theorem sfull (T : ℕ) : SPart E c T 1024 ⊢ SWait E c T 0 := by
  unfold SPart SWait
  rw [Nat.zero_mul]
  iintro ⟨HB, -⟩
  iexact HB

theorem scollect (ok : E.Ok) (T : ℕ) (hT : T ≤ E.na) :
    SWait E c T 1024 ⊢ (|={Set.univ}=> iprop(OFree c ((T + 2) % 3) ∗ yPt c (tileRows E T) E.Yf) : sProp 𝕄) := by
  unfold SWait OFree
  iintro HB
  rw [Nat.mul_comm 1024 rowN]
  imod (Transfers.batch_collect' (countersEmb (U := Pipeline.UD sig nD τ)) (c : Thread nD τ) rowN_pos) $$ HB with ⟨HD, Hs⟩
  imodintro
  unfold SD
  ihave HD := (ent_of_eq (bigSep_two _ _ _)) $$ HD
  icases HD with ⟨Hy, Ho⟩
  isplitr [Hy]
  · isplitl [Ho]
    · iexists _
      iapply (ent_of_eq (oPt_rows c ((T + 2) % 3) (rowS E T) (fun j k hj hk => rowS_inj E T hj hk) (fun r hr => rowS_surj E T hr) _).symm)
      iexact Ho
    iexact Hs
  · iapply (ent_of_eq (yPt_rows c ok T hT _).symm)
    iexact Hy

end

end Cert.Kernel3Ideal.Moe
-- ==== Proof.MoeIOff.lean ====
module

public import proofs.«01_k».proof.Proof.Gen.Kernel3Ideal
public import proofs.«01_k».proof.Proof.Gen.Kernel3Ideal.Launch
public import proofs.«01_k».proof.Proof.Gen.Kernel3Ideal.Loops

@[expose] public section

/-! The row numbers, buffer slots and conditions that the grouped kernel computes from a grid point and from the
number of tiles in use, in closed form: slots are remainders modulo three, rows are plain sums. -/

noncomputable section

namespace Cert.Kernel3Ideal.Moe

open Idealize.ShloMosaic Idealize.ShloMosaic.TcCoe

variable (i : grid0.Coords)

theorem off8_eq : k0_off8 i = ![(i 0).val % 3] := by
  unfold k0_off8
  generalize i 0 = n
  revert n
  decide +kernel

theorem off9_eq : k0_off9 i = ![(i 0).val % 3, 0, 0] := by
  unfold k0_off9
  generalize i 0 = n
  revert n
  decide +kernel

theorem off12_eq : k0_off12 i = ![(i 0).val % 3] := by
  unfold k0_off12
  generalize i 0 = n
  revert n
  decide +kernel

theorem off14_eq : k0_off14 i = ![(i 0).val % 3, 0, 0] := by
  unfold k0_off14
  generalize i 0 = n
  revert n
  decide +kernel

theorem off16_eq : k0_off16 i = ![(i 0).val % 3, 0, 0] := by
  unfold k0_off16
  generalize i 0 = n
  revert n
  decide +kernel

theorem off18_eq : k0_off18 i = ![((i 0).val + 2) % 3] := by
  unfold k0_off18
  generalize i 0 = n
  revert n
  decide +kernel

theorem off19_eq : k0_off19 i = ![((i 0).val + 2) % 3, 0, 0] := by
  unfold k0_off19
  generalize i 0 = n
  revert n
  decide +kernel

theorem off22_eq : k0_off22 i = ![((i 0).val + 2) % 3] := by
  unfold k0_off22
  generalize i 0 = n
  revert n
  decide +kernel

theorem off24_eq : k0_off24 i = ![((i 0).val + 2) % 3, 0, 0] := by
  unfold k0_off24
  generalize i 0 = n
  revert n
  decide +kernel

theorem off26_eq : k0_off26 i = ![((i 0).val + 2) % 3] := by
  unfold k0_off26
  generalize i 0 = n
  revert n
  decide +kernel

theorem off27_eq : k0_off27 i = ![((i 0).val + 2) % 3, 0, 0] := by
  unfold k0_off27
  generalize i 0 = n
  revert n
  decide +kernel

theorem off30_eq : k0_off30 i = ![((i 0).val + 2) % 3] := by
  unfold k0_off30
  generalize i 0 = n
  revert n
  decide +kernel

theorem off32_eq : k0_off32 i = ![((i 0).val + 2) % 3, 0, 0] := by
  unfold k0_off32
  generalize i 0 = n
  revert n
  decide +kernel

theorem off34_eq : k0_off34 i = ![((i 0).val + 2) % 3] := by
  unfold k0_off34
  generalize i 0 = n
  revert n
  decide +kernel

theorem off36_eq : k0_off36 i = ![((i 0).val + 2) % 3, 0, 0] := by
  unfold k0_off36
  generalize i 0 = n
  revert n
  decide +kernel

theorem off39_eq : k0_off39 i = ![((i 0).val + 2) % 3] := by
  unfold k0_off39
  generalize i 0 = n
  revert n
  decide +kernel

theorem off40_eq : k0_off40 i = ![((i 0).val + 2) % 3, 0, 0] := by
  unfold k0_off40
  generalize i 0 = n
  revert n
  decide +kernel

theorem off44_eq : k0_off44 i = ![((i 0).val + 2) % 3] := by
  unfold k0_off44
  generalize i 0 = n
  revert n
  decide +kernel

theorem off46_eq : k0_off46 i = ![((i 0).val + 2) % 3, 0, 0] := by
  unfold k0_off46
  generalize i 0 = n
  revert n
  decide +kernel

theorem off48_eq : k0_off48 i = ![(i 0).val % 3, 0, 0] := by
  unfold k0_off48
  generalize i 0 = n
  revert n
  decide +kernel

theorem off17_eq : k0_off17 i = ![((i 0).val + 2) * 1024 + 1022] := by
  unfold k0_off17
  generalize i 0 = n
  revert n
  decide +kernel

theorem off25_eq : k0_off25 i = ![((i 0).val + 2) * 1024 + 1023] := by
  unfold k0_off25
  generalize i 0 = n
  revert n
  decide +kernel

theorem off38_eq (r : Fin k0_t5_loop.trips) : k0_off38 i r = ![((i 0).val + 2) * 1024 + 146 * (i 1).val + r.val] := by
  have r_i0 : (i 0).val < 43 := (i 0).isLt
  have r_i1 : (i 1).val < 7 := (i 1).isLt
  have r_r : r.val < 146 := r.isLt
  have key : ∀ (a b q : ℕ), a < 43 → b < 7 → q < 146 →
      (BitVec.ofNat 32 a + 2#32) * 1024#32 + (BitVec.ofNat 32 b * 146#32 + (0#32 + BitVec.ofNat 32 q * 1#32))
        = BitVec.ofNat 32 ((a + 2) * 1024 + 146 * b + q) := by
    intro a b q ha hb hq
    apply BitVec.eq_of_toNat_eq
    simp only [BitVec.toNat_add, BitVec.toNat_mul, BitVec.toNat_ofNat]
    omega
  have h2 := key (i 0).val (i 1).val r.val r_i0 r_i1 r_r
  unfold k0_off38
  funext a
  fin_cases a
  show BitVec.toNat _ = _
  refine (congrArg BitVec.toNat h2).trans ?_
  rw [BitVec.toNat_ofNat]
  show _ = ((i 0).val + 2) * 1024 + 146 * (i 1).val + r.val
  omega

theorem cond1_iff : k0_cond1 i = 1#1 ↔ (i 1).val = 0 := by
  unfold k0_cond1
  generalize i 1 = n
  revert n
  decide +kernel

theorem cond2_iff : k0_cond2 i = 1#1 ↔ (i 0).val = 0 := by
  unfold k0_cond2
  generalize i 0 = n
  revert n
  decide +kernel

/-- A word that holds a number up to forty. -/
theorem word_of_le (v : BitVec 32) (h : v.toNat ≤ 40) : ∃ m : Fin 41, v = BitVec.ofNat 32 m.val ∧ v.toNat = m.val :=
  ⟨⟨v.toNat, by omega⟩, by apply BitVec.eq_of_toNat_eq; simp, rfl⟩

theorem cond5_iff (v : BitVec 32) (h : v.toNat ≤ 40) : k0_cond5 i v = 1#1 ↔ (i 0).val < v.toNat := by
  obtain ⟨m, hm, hm'⟩ := word_of_le v h
  rw [hm', hm]
  clear hm hm' h
  unfold k0_cond5
  generalize i 0 = n
  revert n m
  decide +kernel

theorem cond6_iff (v : BitVec 32) (h : v.toNat ≤ 40) : k0_cond6 i v = 1#1 ↔ (i 0).val = v.toNat := by
  obtain ⟨m, hm, hm'⟩ := word_of_le v h
  rw [hm', hm]
  clear hm hm' h
  unfold k0_cond6
  generalize i 0 = n
  revert n m
  decide +kernel

theorem cond7_iff (v : BitVec 32) (h : v.toNat ≤ 40) : k0_cond7 i v = 1#1 ↔ (i 0).val < v.toNat := by
  obtain ⟨m, hm, hm'⟩ := word_of_le v h
  rw [hm', hm]
  clear hm hm' h
  unfold k0_cond7
  generalize i 0 = n
  revert n m
  decide +kernel

theorem off33_eq (r : Fin k0_t4_loop.trips) : k0_off33 i r = ![(i 0).val * 1024 + r.val] := by
  have r_i0 : (i 0).val < 43 := (i 0).isLt
  have r_r : r.val < 1024 := r.isLt
  have key : ∀ (a q : ℕ), a < 43 → q < 1024 →
      (BitVec.ofNat 32 a - 1#32 + 1#32) * 1024#32 + (0#32 + BitVec.ofNat 32 q * 1#32)
        = BitVec.ofNat 32 (a * 1024 + q) := by
    intro a q ha hq
    apply BitVec.eq_of_toNat_eq
    simp only [BitVec.toNat_add, BitVec.toNat_sub, BitVec.toNat_mul, BitVec.toNat_ofNat]
    omega
  unfold k0_off33
  funext a
  fin_cases a
  show BitVec.toNat _ = _
  refine (congrArg BitVec.toNat (key (i 0).val r.val r_i0 r_r)).trans ?_
  rw [BitVec.toNat_ofNat]
  show _ = (i 0).val * 1024 + r.val
  omega

theorem off21_eq : k0_off21 i = ![(i 0).val * 1024 + 1022] := by
  unfold k0_off21
  generalize i 0 = n
  revert n
  decide +kernel

theorem off29_eq : k0_off29 i = ![(i 0).val * 1024 + 1023] := by
  unfold k0_off29
  generalize i 0 = n
  revert n
  decide +kernel

theorem low_word (b q : ℕ) (hb : b < 7) (hq : q < 146) :
    BitVec.ofNat 32 b * 146#32 + (0#32 + BitVec.ofNat 32 q * 1#32) = BitVec.ofNat 32 (146 * b + q) := by
  apply BitVec.eq_of_toNat_eq
  simp only [BitVec.toNat_add, BitVec.toNat_mul, BitVec.toNat_ofNat]
  omega

theorem off41_eq (r : Fin k0_t5_loop.trips) : k0_off41 i r = ![146 * (i 1).val + r.val, 0] := by
  have r_i1 : (i 1).val < 7 := (i 1).isLt
  have r_r : r.val < 146 := r.isLt
  unfold k0_off41
  funext a
  fin_cases a
  · show BitVec.toNat _ = _
    refine (congrArg BitVec.toNat (low_word (i 1).val r.val r_i1 r_r)).trans ?_
    rw [BitVec.toNat_ofNat]
    show _ = 146 * (i 1).val + r.val
    omega
  · rfl

theorem off47_eq (r : Fin k0_t5_loop.trips) : k0_off47 i r = ![146 * (i 1).val + r.val, 0] := off41_eq i r

theorem off43_eq (r : Fin k0_t5_loop.trips) : k0_off43 i r = ![(i 0).val * 1024 + 146 * (i 1).val + r.val] := by
  have r_i0 : (i 0).val < 43 := (i 0).isLt
  have r_i1 : (i 1).val < 7 := (i 1).isLt
  have r_r : r.val < 146 := r.isLt
  have key : ∀ (a b q : ℕ), a < 43 → b < 7 → q < 146 →
      (BitVec.ofNat 32 a - 1#32 + 1#32) * 1024#32 + (BitVec.ofNat 32 b * 146#32 + (0#32 + BitVec.ofNat 32 q * 1#32))
        = BitVec.ofNat 32 (a * 1024 + 146 * b + q) := by
    intro a b q ha hb hq
    rw [low_word b q hb hq]
    apply BitVec.eq_of_toNat_eq
    simp only [BitVec.toNat_add, BitVec.toNat_sub, BitVec.toNat_mul, BitVec.toNat_ofNat]
    omega
  unfold k0_off43
  funext a
  fin_cases a
  show BitVec.toNat _ = _
  refine (congrArg BitVec.toNat (key (i 0).val (i 1).val r.val r_i0 r_i1 r_r)).trans ?_
  rw [BitVec.toNat_ofNat]
  show _ = (i 0).val * 1024 + 146 * (i 1).val + r.val
  omega

theorem off37_eq (r : Fin k0_t4_loop.trips) : k0_off37 r = ![r.val, 0] := by
  have r_r : r.val < 1024 := r.isLt
  unfold k0_off37
  funext a
  fin_cases a
  · show BitVec.toNat (0#32 + BitVec.ofNat 32 r.val * 1#32) = r.val
    simp only [BitVec.toNat_add, BitVec.toNat_mul, BitVec.toNat_ofNat]
    omega
  · rfl

theorem off3_eq (r : Fin k0_t1_loop.trips) : k0_off3 r = ![r.val, 0] := off37_eq r
theorem off6_eq (r : Fin k0_t1_loop.trips) : k0_off6 r = ![r.val, 0] := off37_eq r

theorem off2_eq (r : Fin k0_t1_loop.trips) : k0_off2 r = ![r.val] := by
  have r_r : r.val < 1024 := r.isLt
  unfold k0_off2
  funext a
  fin_cases a
  show BitVec.toNat (0#32 + (0#32 + BitVec.ofNat 32 r.val * 1#32)) = r.val
  simp only [BitVec.toNat_add, BitVec.toNat_mul, BitVec.toNat_ofNat]
  omega

theorem off5_eq (r : Fin k0_t1_loop.trips) : k0_off5 r = ![1024 + r.val] := by
  have r_r : r.val < 1024 := r.isLt
  unfold k0_off5
  funext a
  fin_cases a
  show BitVec.toNat (1024#32 + (0#32 + BitVec.ofNat 32 r.val * 1#32)) = 1024 + r.val
  simp only [BitVec.toNat_add, BitVec.toNat_mul, BitVec.toNat_ofNat]
  omega

/-- Whether the gather of this tile is waited for. -/
theorem took_iff (v : BitVec 32) (h : v.toNat ≤ 40) :
    Scalar.cmpi .ne (Scalar.extui (Scalar.cmpi .slt (BitVec.ofNat 32 (i 0).val) (Scalar.addi v 2#32)) : BitVec 32) 0#32 = 1#1
      ↔ (i 0).val < v.toNat + 2 := by
  obtain ⟨m, hm, hm'⟩ := word_of_le v h
  rw [hm', hm]
  clear hm hm' h
  generalize i 0 = n
  revert n m
  decide +kernel

/-- Whether the tile sent two steps before is waited for. -/
theorem sent_iff (v : BitVec 32) (h : v.toNat ≤ 40) :
    Scalar.cmpi .ne (Scalar.extui (Scalar.andi (Scalar.cmpi .sge (BitVec.ofNat 32 (i 0).val) 2#32)
        (Scalar.cmpi .slt (BitVec.ofNat 32 (i 0).val) (Scalar.addi v 3#32))) : BitVec 32) 0#32 = 1#1
      ↔ 2 ≤ (i 0).val ∧ (i 0).val < v.toNat + 3 := by
  obtain ⟨m, hm, hm'⟩ := word_of_le v h
  rw [hm', hm]
  clear hm hm' h
  generalize i 0 = n
  revert n m
  decide +kernel

end Cert.Kernel3Ideal.Moe
-- ==== Proof.MoeILoops.lean ====
module

public import proofs.«01_k».proof.Proof.MoeIState
public import proofs.«01_k».proof.Proof.MoeIOff
public import proofs.«01_k».proof.Proof.Gen.Kernel3Ideal.Skeleton

@[expose] public section

/-! The five counted loops of the grouped kernel: starting and waiting for the copies of whole tiles, row by row. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The tables the kernel reads: where rows come from, where they go, how many tiles are in use. -/
structure Tab (E : Env F) where
  sv : S44032.Idx → Elt F .i32
  dv : S44032.Idx → Elt F .i32
  nv : S1.Idx → Elt F .i32
  hs : ∀ p (h : p < 44032), (show BitVec 32 from sv (ix1 (⟨p, h⟩ : Fin 44032))).toNat = E.src p
  hd : ∀ p (h : p < 44032), (show BitVec 32 from dv (ix1 (⟨p, h⟩ : Fin 44032))).toNat = E.dst p
  hn : (show BitVec 32 from nv (ix1 (0 : Fin 1))).toNat = E.na

variable {E : Env F} (Tb : Tab E) (c : Dev nD)

abbrev sPt : sProp 𝕄 := (Memref.whole main_arg3).view.loc (c : Thread nD τ) ↦[Finset.univ]{fullShare.right} Tb.sv
abbrev dPt : sProp 𝕄 := (Memref.whole main_arg4).view.loc (c : Thread nD τ) ↦[Finset.univ]{fullShare.right} Tb.dv
abbrev nPt : sProp 𝕄 := (Memref.whole main_arg2).view.loc (c : Thread nD τ) ↦[Finset.univ]{fullShare.right} Tb.nv

theorem idx1_eq {n : ℕ} (o : Fin 1 → ℕ) (p : ℕ) (hp : p < n) (ho : o = ![p])
    (h : ∀ a, o a + S1.size a ≤ (⟨1, ![n]⟩ : Shape).size a) :
    (Rect.unit (s := ⟨1, ![n]⟩) o S1.size h).idx (Shape.Idx.first (s := S1) numel1_S1.ge) = ix1 (⟨p, hp⟩ : Fin n) := by
  subst ho
  funext a
  apply Fin.ext
  fin_cases a
  rfl

/-- Reading one entry of the table of sources. -/
theorem wp_src {α : Type} {o : Fin 1 → ℕ} {h : ∀ a, o a + S1.size a ≤ S44032.size a} {p : ℕ} (hp : p < 44032) (ho : o = ![p])
    {k : Elt F .i32 → Prog (TpuEff nD τ sig (Elt F) Λ₀ .tc) α} {Qa : α → sProp 𝕄} :
    sPt Tb c ⊢ iprop((sPt Tb c -∗ wpk c (k (Tb.sv (ix1 (⟨p, hp⟩ : Fin 44032)))) Qa)
      -∗ wpk c (smemLoad (Memref.whole main_arg3) (Rect.unit (s := S44032) o S1.size h) numel1_S1 rfl >>= k) Qa) := by
  have key : sPt Tb c ⊢ iprop((sPt Tb c -∗ wpk c (k (((Memref.whole main_arg3).access (Rect.unit (s := S44032) o S1.size h)).read (Elt F) Tb.sv
      (Shape.Idx.first (numel1_S1.symm ▸ Nat.one_pos)))) Qa)
      -∗ wpk c (smemLoad (Memref.whole main_arg3) (Rect.unit (s := S44032) o S1.size h) numel1_S1 rfl >>= k) Qa) :=
    wp_smemLoadElt (defs := defs₀ (F := F)) (Q := Qa) (k := k) Variants.none (c : Thread nD τ) none Set.univ
    (m := Memref.whole main_arg3) (r := Rect.unit (s := S44032) o S1.size h) (hw := View.loads_smem_one rfl numel1_S1)
    (x := Shape.Idx.first (numel1_S1.symm ▸ Nat.one_pos)) (f := Tb.sv) (q := fullShare.right)
    (S := Finset.univ) (Finset.subset_univ _)
  have e : ((Memref.whole main_arg3).access (Rect.unit (s := S44032) o S1.size h)).read (Elt F) Tb.sv
      (Shape.Idx.first (numel1_S1.symm ▸ Nat.one_pos)) = Tb.sv (ix1 (⟨p, hp⟩ : Fin 44032)) :=
    congrArg Tb.sv (idx1_eq o p hp ho h)
  rw [e] at key
  exact key
theorem wp_dst {α : Type} {o : Fin 1 → ℕ} {h : ∀ a, o a + S1.size a ≤ S44032.size a} {p : ℕ} (hp : p < 44032) (ho : o = ![p])
    {k : Elt F .i32 → Prog (TpuEff nD τ sig (Elt F) Λ₀ .tc) α} {Qa : α → sProp 𝕄} :
    dPt Tb c ⊢ iprop((dPt Tb c -∗ wpk c (k (Tb.dv (ix1 (⟨p, hp⟩ : Fin 44032)))) Qa)
      -∗ wpk c (smemLoad (Memref.whole main_arg4) (Rect.unit (s := S44032) o S1.size h) numel1_S1 rfl >>= k) Qa) := by
  have key : dPt Tb c ⊢ iprop((dPt Tb c -∗ wpk c (k (((Memref.whole main_arg4).access (Rect.unit (s := S44032) o S1.size h)).read (Elt F) Tb.dv
      (Shape.Idx.first (numel1_S1.symm ▸ Nat.one_pos)))) Qa)
      -∗ wpk c (smemLoad (Memref.whole main_arg4) (Rect.unit (s := S44032) o S1.size h) numel1_S1 rfl >>= k) Qa) :=
    wp_smemLoadElt (defs := defs₀ (F := F)) (Q := Qa) (k := k) Variants.none (c : Thread nD τ) none Set.univ
    (m := Memref.whole main_arg4) (r := Rect.unit (s := S44032) o S1.size h) (hw := View.loads_smem_one rfl numel1_S1)
    (x := Shape.Idx.first (numel1_S1.symm ▸ Nat.one_pos)) (f := Tb.dv) (q := fullShare.right)
    (S := Finset.univ) (Finset.subset_univ _)
  have e : ((Memref.whole main_arg4).access (Rect.unit (s := S44032) o S1.size h)).read (Elt F) Tb.dv
      (Shape.Idx.first (numel1_S1.symm ▸ Nat.one_pos)) = Tb.dv (ix1 (⟨p, hp⟩ : Fin 44032)) :=
    congrArg Tb.dv (idx1_eq o p hp ho h)
  rw [e] at key
  exact key

theorem gsm_eq {s : ℕ} (hs : s < 3) {o : Fin 1 → ℕ} {h : ∀ a, o a + S1.size a ≤ S3.size a} (ho : o = ![s]) :
    ((cc0_scratch3.slice (Rect.unit (s := S3) o S1.size h)).squeeze S_ squeezes_S1_S_).sem = gsm s := by
  subst ho
  interval_cases s
  · exact (show ((cc0_scratch3.slice (Rect.unit (s := S3) ![0] S1.size (by decide))).squeeze S_ squeezes_S1_S_).sem = gsm 0 by decide +kernel)
  · exact (show ((cc0_scratch3.slice (Rect.unit (s := S3) ![1] S1.size (by decide))).squeeze S_ squeezes_S1_S_).sem = gsm 1 by decide +kernel)
  · exact (show ((cc0_scratch3.slice (Rect.unit (s := S3) ![2] S1.size (by decide))).squeeze S_ squeezes_S1_S_).sem = gsm 2 by decide +kernel)
theorem ssm_eq {s : ℕ} (hs : s < 3) {o : Fin 1 → ℕ} {h : ∀ a, o a + S1.size a ≤ S3.size a} (ho : o = ![s]) :
    ((cc0_scratch4.slice (Rect.unit (s := S3) o S1.size h)).squeeze S_ squeezes_S1_S_).sem = ssm s := by
  subst ho
  interval_cases s
  · exact (show ((cc0_scratch4.slice (Rect.unit (s := S3) ![0] S1.size (by decide))).squeeze S_ squeezes_S1_S_).sem = ssm 0 by decide +kernel)
  · exact (show ((cc0_scratch4.slice (Rect.unit (s := S3) ![1] S1.size (by decide))).squeeze S_ squeezes_S1_S_).sem = ssm 1 by decide +kernel)
  · exact (show ((cc0_scratch4.slice (Rect.unit (s := S3) ![2] S1.size (by decide))).squeeze S_ squeezes_S1_S_).sem = ssm 2 by decide +kernel)

theorem fits_h {x : ℕ} (h : x < 16512) : ∀ a, (![x, 0] : Fin 2 → ℕ) a + S1x1024.size a ≤ S16512x1024.size a := by
  intro a
  fin_cases a
  · show x + 1 ≤ 16512; omega
  · exact Nat.le_refl _
theorem fits_y {x : ℕ} (h : x < 43136) : ∀ a, (![x, 0] : Fin 2 → ℕ) a + S1x1024.size a ≤ S43136x1024.size a := by
  intro a
  fin_cases a
  · show x + 1 ≤ 43136; omega
  · exact Nat.le_refl _

theorem src_fits (ok : E.Ok) {p : ℕ} (hp : p < 44032) :
    (show BitVec 32 from Tb.sv (ix1 (⟨p, hp⟩ : Fin 44032))).toNat < 16512 := by rw [Tb.hs p hp]; exact ok.src_lt p hp
theorem dst_fits (ok : E.Ok) {p : ℕ} (hp : p < 44032) :
    (show BitVec 32 from Tb.dv (ix1 (⟨p, hp⟩ : Fin 44032))).toNat < 43136 := by rw [Tb.hd p hp]; exact ok.dst_lt p hp
theorem src_off (p q : ℕ) (hp : p < 44032) (e : p = q) :
    (![(show BitVec 32 from Tb.sv (ix1 (⟨p, hp⟩ : Fin 44032))).toNat, 0] : Fin 2 → ℕ) = ![E.src q, 0] := by rw [Tb.hs p hp, e]
theorem dst_off (p q : ℕ) (hp : p < 44032) (e : p = q) :
    (![(show BitVec 32 from Tb.dv (ix1 (⟨p, hp⟩ : Fin 44032))).toNat, 0] : Fin 2 → ℕ) = ![E.dst q, 0] := by rw [Tb.hd p hp, e]

theorem row_of (n : ℕ) (w : BitVec 32) (hn : n < 1024) (e : w = BitVec.ofNat 32 n) : (![w.toNat, 0] : Fin 2 → ℕ) = ![n, 0] := by
  rw [e, BitVec.toNat_ofNat, Nat.mod_eq_of_lt (by omega)]

variable (i : grid0.Coords)
  (a7 : Memref sig .tc .vmem S1x1024x512 .f32) (h7 : a7.IsWhole) (a8 : Memref sig .tc .vmem S1x1024x512 .f32) (h8 : a8.IsWhole)
  (a9 : Memref sig .tc .vmem S1x512x1024 .f32) (h9 : a9.IsWhole)

theorem iv_eq (n : ℕ) (hn : n < 1024) : (0#32 + BitVec.ofNat 32 n * 1#32) = BitVec.ofNat 32 n := by
  apply BitVec.eq_of_toNat_eq
  simp only [BitVec.toNat_add, BitVec.toNat_mul, BitVec.toNat_ofNat]
  omega

/-- A finished program. -/
theorem wpk_ret {α : Type} {x : α} {Q : α → sProp 𝕄} : Q x ⊢ wpk c (.ret x) Q := fupd_intro

/-- A first part, then the rest from what the first part leaves. -/
theorem wpk_seq {α β : Type} {p : Prog (TpuEff nD τ sig (Elt F) Λ₀ .tc) β} {k : β → Prog (TpuEff nD τ sig (Elt F) Λ₀ .tc) α}
    {P R : sProp 𝕄} {Q : α → sProp 𝕄} (h : P ⊢ wpk c p (fun _ => R)) :
    P ⊢ iprop((R -∗ ∀ a, wpk c (k a) Q) -∗ wpk c (p >>= k) Q) := by
  unfold wpk at h ⊢
  rw [wp_bind]
  iintro HP Hk
  iapply (wp_wand_r frame (wpE (defs₀ (F := F)) Variants.none (c : Thread nD τ) none) Set.univ)
  isplitl [HP]
  · iapply h $$ HP
  iintro %a HR
  iapply Hk $$ HR

theorem gwait (t : ℕ) {k : ℕ} (hk : k < 1024) {α : Type} {sm : DmaSem sig} (hsm : sm = gsm (t % 3))
    {sp sp' : Space} {s s' : Shape} {e e' : EltTy} {srcw : Memref sig (c : Thread nD τ).2.kind sp' s' e'} {dstw : Memref sig .tc sp s e}
    {hsrc : srcw.view.WordExact} {hdst : dstw.view.WordExact} (hJ : dstw.view.dmaCredit = rowN)
    {kk : PUnit → Prog (TpuEff nD τ sig (Elt F) Λ₀ .tc) α} {Qa : α → sProp 𝕄} :
    iprop(GWait E c t k ∗ (∃ W, owes (c : Thread nD τ) 0 W))
      ⊢ iprop((iprop(GWait E c t (k + 1) ∗ (∃ W, owes (c : Thread nD τ) 0 W)) -∗ wpk c (kk ⟨⟩) Qa)
          -∗ wpk c (.op (.waitDma2 sm srcw dstw hsrc hdst) kk) Qa) := by
  subst hsm
  unfold GWait
  iintro ⟨⟨HB, Hr⟩, HW⟩ Hk
  iapply (wp_waitRow c (gsm (t % 3)) (GD E c t) (j := 1024) (u := k * rowN)
    (by rw [Nat.mul_comm rowN]; calc k * rowN + rowN = (k + 1) * rowN := by rw [Nat.succ_mul]
      _ ≤ 1024 * rowN := Nat.mul_le_mul_right _ hk) hJ) $$ [HB HW]
  · isplitl [HB]; · iexact HB
    iexact HW
  iintro ⟨HB, HW⟩
  iapply Hk
  rw [Nat.succ_mul]
  isplitl [HB Hr]
  · isplitl [HB]; · iexact HB
    iexact Hr
  iexact HW

theorem swait (T : ℕ) {k : ℕ} (hk : k < 1024) {α : Type} {sm : DmaSem sig} (hsm : sm = ssm ((T + 2) % 3))
    {sp sp' : Space} {s s' : Shape} {e e' : EltTy} {srcw : Memref sig (c : Thread nD τ).2.kind sp' s' e'} {dstw : Memref sig .tc sp s e}
    {hsrc : srcw.view.WordExact} {hdst : dstw.view.WordExact} (hJ : dstw.view.dmaCredit = rowN)
    {kk : PUnit → Prog (TpuEff nD τ sig (Elt F) Λ₀ .tc) α} {Qa : α → sProp 𝕄} :
    iprop(SWait E c T k ∗ (∃ W, owes (c : Thread nD τ) 0 W))
      ⊢ iprop((iprop(SWait E c T (k + 1) ∗ (∃ W, owes (c : Thread nD τ) 0 W)) -∗ wpk c (kk ⟨⟩) Qa)
          -∗ wpk c (.op (.waitDma2 sm srcw dstw hsrc hdst) kk) Qa) := by
  subst hsm
  unfold SWait
  rw [Nat.succ_mul]
  exact wp_waitRow c (ssm ((T + 2) % 3)) (SD E c T) (j := 1024) (u := k * rowN)
    (by rw [Nat.mul_comm rowN]; calc k * rowN + rowN = (k + 1) * rowN := by rw [Nat.succ_mul]
      _ ≤ 1024 * rowN := Nat.mul_le_mul_right _ hk) hJ

theorem rowG_two {t j : ℕ} (ht : 2 ≤ t) (r : ℕ) (hr : r < 1022) (e : j = 2 + r) : rowG t j = r := by
  unfold rowG
  rw [if_neg (by omega)]
  omega
theorem rowS_lt_na {T j : ℕ} (hT : T < E.na) (r : ℕ) (hr : r < 1022) (e : j = 2 + r) : rowS E T j = r := by
  unfold rowS
  rw [if_neg (by omega)]
  omega
theorem rowS_last (j : ℕ) : rowS E E.na j = j := by
  unfold rowS
  rw [if_pos (Nat.le_refl _)]
theorem rowG_small {t : ℕ} (ht : t < 2) (j : ℕ) : rowG t j = j := by
  unfold rowG
  rw [if_pos ht]

/-- The first loop: the copies of the first two tiles. -/
theorem t1_step (ok : E.Ok) (k0_h1 : k0_cond1 i = 1#1) (k0_h2 : k0_cond2 i = 1#1) (k : Fin k0_t1_loop.trips) (acc : Unit) :
    iprop(sPt Tb c ∗ GPart E c 0 k.val ∗ GPart E c 1 k.val)
      ⊢ wpk c (k0_t1_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 k0_h1 k0_h2 k acc)
        (fun _ => iprop(sPt Tb c ∗ GPart E c 0 (k.val + 1) ∗ GPart E c 1 (k.val + 1)) : Unit → sProp 𝕄) := by
  have hk : k.val < 1024 := k.isLt
  iintro ⟨Hs, H0, H1⟩
  unfold k0_t1_body
  iapply (wp_src Tb c (p := k.val) (by omega) (off2_eq k)) $$ Hs
  iintro Hs
  iapply (wp_assume Variants.none (c : Thread nD τ) none Set.univ (fun _ _ => fits_h (src_fits Tb ok _)))
  iapply (gstep c ok 0 hk (by omega) (gsm_eq (by omega) rfl) rfl
    ((off3_eq k).trans (by rw [rowG_small (by omega)]))
    (src_off Tb _ _ _ (by rw [rowG_small (by omega)]; omega))) $$ H0
  iintro H0
  iapply (wp_src Tb c (p := 1024 + k.val) (by omega) (off5_eq k)) $$ Hs
  iintro Hs
  iapply (wp_assume Variants.none (c : Thread nD τ) none Set.univ (fun _ _ => fits_h (src_fits Tb ok _)))
  iapply (gstep c ok 1 hk (by omega) (gsm_eq (by omega) rfl) rfl
    ((off6_eq k).trans (by rw [rowG_small (by omega)]))
    (src_off Tb _ _ _ (by rw [rowG_small (by omega)]))) $$ H1
  iintro H1
  iapply (wpk_ret c)
  isplitl [Hs]; · iexact Hs
  isplitl [H0]; · iexact H0
  iexact H1

/-- The second loop: waiting for a gathered tile. -/
theorem t2_step (k0_h1 : k0_cond1 i = 1#1) (k : Fin k0_t2_loop.trips) (acc : Unit) :
    iprop(GWait E c (i 0).val k.val ∗ (∃ W, owes (c : Thread nD τ) 0 W))
      ⊢ wpk c (k0_t2_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 k0_h1 k acc)
        (fun _ => iprop(GWait E c (i 0).val (k.val + 1) ∗ (∃ W, owes (c : Thread nD τ) 0 W)) : Unit → sProp 𝕄) := by
  iintro H
  unfold k0_t2_body
  iapply (gwait c (i 0).val (show k.val < 1024 from k.isLt) (gsm_eq (by omega) (off8_eq i)) rfl) $$ H
  iintro H
  iapply (wpk_ret c)
  iexact H

/-- The third loop: waiting for a sent tile. -/
theorem t3_step (T : ℕ) (hT : T + 2 = (i 0).val) (k0_h1 : k0_cond1 i = 1#1) (k : Fin k0_t3_loop.trips) (acc : Unit) :
    iprop(SWait E c T k.val ∗ (∃ W, owes (c : Thread nD τ) 0 W))
      ⊢ wpk c (k0_t3_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 k0_h1 k acc)
        (fun _ => iprop(SWait E c T (k.val + 1) ∗ (∃ W, owes (c : Thread nD τ) 0 W)) : Unit → sProp 𝕄) := by
  iintro H
  unfold k0_t3_body
  iapply (swait c T (show k.val < 1024 from k.isLt) (ssm_eq (by omega) ((off12_eq i).trans (by rw [hT]))) rfl) $$ H
  iintro H
  iapply (wpk_ret c)
  iexact H

/-- The fourth loop: sending the last tile in use. -/
theorem t4_step (ok : E.Ok) (hi : (i 0).val = E.na) (v0 : Elt F .i32) (k0_h1 : k0_cond1 i = 1#1) (k0_h6 : k0_cond6 i v0 = 1#1)
    (k : Fin k0_t4_loop.trips) (acc : Unit) :
    iprop(dPt Tb c ∗ SPart E c E.na k.val)
      ⊢ wpk c (k0_t4_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 v0 k0_h1 k0_h6 k acc)
        (fun _ => iprop(dPt Tb c ∗ SPart E c E.na (k.val + 1)) : Unit → sProp 𝕄) := by
  have hk : k.val < 1024 := k.isLt
  have hn := ok.na_le
  iintro ⟨Hd, H0⟩
  unfold k0_t4_body
  iapply (wp_dst Tb c (p := (i 0).val * 1024 + k.val) (by omega) (off33_eq i k)) $$ Hd
  iintro Hd
  iapply (wp_assume Variants.none (c : Thread nD τ) none Set.univ (fun _ _ => fits_y (dst_fits Tb ok _)))
  iapply (sstep c ok E.na (Nat.le_refl _) hk (ssm_eq (by omega) ((off34_eq i).trans (by rw [hi]))) ((off36_eq i).trans (by rw [hi]))
    ((off37_eq k).trans (by rw [rowS_last]))
    (dst_off Tb _ _ _ (by rw [rowS_last, hi]))) $$ H0
  iintro H0
  iapply (wpk_ret c)
  isplitl [Hd]; · iexact Hd
  iexact H0

theorem part27_spec (ok : E.Ok) (hi : (i 0).val < E.na) (arg0 arg1 : BitVec 32) (v0 : Elt F .i32) (k0_hw3 : k0_chk3 i v0)
    (k0_h7 : k0_cond7 i v0 = 1#1) (b0 b1 : BitVec 32) (k : Fin k0_t5_loop.trips) :
    iprop(sPt Tb c ∗ GPart E c ((i 0).val + 2) (2 + 146 * (i 1).val + k.val))
      ⊢ wpk c (k0_part27 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 arg0 arg1 v0 k0_hw3 k0_h7 b0 b1 k)
        (fun _ => iprop(sPt Tb c ∗ GPart E c ((i 0).val + 2) (2 + 146 * (i 1).val + (k.val + 1))) : _ → sProp 𝕄) := by
  have hk : k.val < 146 := k.isLt
  have hc : (i 1).val < 7 := (i 1).isLt
  have hn := ok.na_le
  iintro ⟨Hs, H0⟩
  rw [k0_part27_eq_skeleton]
  unfold k0_part27_skel
  iapply (wp_src Tb c (p := ((i 0).val + 2) * 1024 + 146 * (i 1).val + k.val) (by omega) (off38_eq i k)) $$ Hs
  iintro Hs
  iapply (wp_assume Variants.none (c : Thread nD τ) none Set.univ (fun _ => fits_h (src_fits Tb ok _)))
  iapply (gstep c ok ((i 0).val + 2) (j := 2 + 146 * (i 1).val + k.val) (by omega) (by omega)
    (gsm_eq (by omega) (off39_eq i)) (off40_eq i)
    ((off41_eq i k).trans (by rw [rowG_two (by omega) (146 * (i 1).val + k.val) (by omega) (by omega)]))
    (src_off Tb _ _ _ (by rw [rowG_two (by omega) (146 * (i 1).val + k.val) (by omega) (by omega)]; omega))) $$ H0
  iintro H0
  iapply (wpk_ret c)
  isplitl [Hs]; · iexact Hs
  iexact H0

/-- The fifth loop: a seventh of the rows of the tile gathered ahead and of the tile sent. -/
theorem t5_step (ok : E.Ok) (hi : (i 0).val < E.na) (arg0 arg1 : BitVec 32) (v0 : Elt F .i32) (k0_hw3 : k0_chk3 i v0)
    (k0_h7 : k0_cond7 i v0 = 1#1) (k : Fin k0_t5_loop.trips) (acc : Unit) :
    iprop((sPt Tb c ∗ dPt Tb c) ∗ GPart E c ((i 0).val + 2) (2 + 146 * (i 1).val + k.val)
        ∗ SPart E c (i 0).val (2 + 146 * (i 1).val + k.val))
      ⊢ wpk c (k0_t5_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 arg0 arg1 v0 k0_hw3 k0_h7 k acc)
        (fun _ => iprop((sPt Tb c ∗ dPt Tb c) ∗ GPart E c ((i 0).val + 2) (2 + 146 * (i 1).val + (k.val + 1))
        ∗ SPart E c (i 0).val (2 + 146 * (i 1).val + (k.val + 1))) : Unit → sProp 𝕄) := by
  have hk : k.val < 146 := k.isLt
  have hc : (i 1).val < 7 := (i 1).isLt
  have hn := ok.na_le
  iintro ⟨⟨Hs, Hd⟩, H0, H1⟩
  unfold k0_t5_body
  iapply (wpk_seq c (part27_spec Tb c i a7 h7 a8 h8 a9 h9 ok hi arg0 arg1 v0 k0_hw3 k0_h7 0#32 1#32 k)) $$ [Hs H0]
  · isplitl [Hs]; · iexact Hs
    iexact H0
  iintro ⟨Hs, H0⟩ %w
  iapply (wp_dst Tb c (p := (i 0).val * 1024 + 146 * (i 1).val + k.val) (by omega) (off43_eq i k)) $$ Hd
  iintro Hd
  iapply (wp_assume Variants.none (c : Thread nD τ) none Set.univ (fun _ => fits_y (dst_fits Tb ok _)))
  iapply (sstep c ok (i 0).val (by omega) (j := 2 + 146 * (i 1).val + k.val) (by omega)
    (ssm_eq (by omega) (off44_eq i)) (off46_eq i)
    ((off47_eq i k).trans (by rw [rowS_lt_na hi (146 * (i 1).val + k.val) (by omega) (by omega)]))
    (dst_off Tb _ _ _ (by rw [rowS_lt_na hi (146 * (i 1).val + k.val) (by omega) (by omega)]; omega))) $$ H1
  iintro H1
  iapply (wpk_ret c)
  isplitl [Hs Hd]
  · isplitl [Hs]; · iexact Hs
    iexact Hd
  isplitl [H0]; · iexact H0
  iexact H1

end Cert.Kernel3Ideal.Moe
-- ==== Proof.MoeISlots.lean ====
module

public import proofs.«01_k».proof.Proof.MoeILoops

@[expose] public section

/-! Loads and stores of whole slots, of the narrowed tile and of the staged weights. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem slot_emb {s : ℕ} (hs : s < 3) (h : ∀ a, (![s, 0, 0] : Fin 3 → ℕ) a + S1x1024x1024.size a ≤ S3x1024x1024.size a)
    (x : S1x1024x1024.Idx) :
    (Rect.unit (s := S3x1024x1024) ![s, 0, 0] S1x1024x1024.size h).emb x = (ix3 ⟨s, hs⟩ (x 1) (x 2) : S3x1024x1024.Idx) := by
  funext a
  apply Fin.ext
  rw [Rect.emb_apply]
  have h0 : (x 0).val < 1 := (x 0).isLt
  fin_cases a
  · show s + 1 * (x 0).val = s; omega
  · show 0 + 1 * (x 1).val = (x 1).val; omega
  · show 0 + 1 * (x 2).val = (x 2).val; omega

theorem slot_set (s : ℕ) (h : ∀ a, (![s, 0, 0] : Fin 3 → ℕ) a + S1x1024x1024.size a ≤ S3x1024x1024.size a) :
    (Rect.unit (s := S3x1024x1024) ![s, 0, 0] S1x1024x1024.size h).set = slotAll s := by
  ext p
  rw [Rect.mem_set_unit]
  have h1 : (p 1).val < 1024 := (p 1).isLt
  have h2 : (p 2).val < 1024 := (p 2).isLt
  simp only [slotAll, Finset.mem_filter, Finset.mem_univ, _root_.true_and]
  constructor
  · intro hp
    have h0 := hp 0
    change s ≤ (p 0).val ∧ (p 0).val < s + 1 at h0
    omega
  · intro hp a
    fin_cases a
    · change s ≤ (p 0).val ∧ (p 0).val < s + 1; omega
    · change 0 ≤ (p 1).val ∧ (p 1).val < 0 + 1024; omega
    · change 0 ≤ (p 2).val ∧ (p 2).val < 0 + 1024; omega

theorem idx1_first (x : S1x1024x1024.Idx) : (ix3 (0 : Fin 1) (x 1) (x 2) : S1x1024x1024.Idx) = x := by
  funext a
  fin_cases a
  · exact Subsingleton.elim (α := Fin 1) _ _
  · rfl
  · rfl

theorem slot_read {s : ℕ} (hs : s < 3) (h : ∀ a, (![s, 0, 0] : Fin 3 → ℕ) a + S1x1024x1024.size a ≤ S3x1024x1024.size a)
    (A : FVec F S1x1024x1024 .f32) :
    (obM.access (Rect.unit (s := S3x1024x1024) ![s, 0, 0] S1x1024x1024.size h)).read (Elt F) (ObA A) = A := by
  funext x
  show ObA A ((Rect.unit (s := S3x1024x1024) ![s, 0, 0] S1x1024x1024.size h).emb x) = A x
  rw [slot_emb hs h x]
  exact congrArg A (idx1_first x)

variable (c : Dev nD)

/-- Loading a slot of the result buffer at any contents. -/
theorem wp_oload_any {s : ℕ} {o : Fin 3 → ℕ} {h : ∀ a, o a + S1x1024x1024.size a ≤ S3x1024x1024.size a} (ho : o = ![s, 0, 0])
    {α : Type} {f : S3x1024x1024.Idx → Elt F .f32}
    {hl : obM.view.LoadsAt (Rect.unit (s := S3x1024x1024) o S1x1024x1024.size h).toLoadRect}
    {k : (S1x1024x1024.Idx → Elt F .f32) → Prog (TpuEff nD τ sig (Elt F) Λ₀ .tc) α} {Qa : α → sProp 𝕄} :
    oPt c (slotAll s) f ⊢ iprop((oPt c (slotAll s) f -∗ ∀ w, wpk c (k w) Qa)
      -∗ wpk c (.op (.load obM (Rect.unit (s := S3x1024x1024) o S1x1024x1024.size h).toLoadRect hl) k) Qa) := by
  subst ho
  iintro H Hk
  iapply (wp_load_rect (defs := defs₀ (F := F)) (Γ := PendingWaitsCtx.empty) (Q := Qa) (k := k) Variants.none (c : Thread nD τ) none Set.univ
    (m := obM) (r := Rect.unit (s := S3x1024x1024) ![s, 0, 0] S1x1024x1024.size h) (hl := hl) (f := f) (q := fullShare)
    (S := slotAll s) ((View.set_slice_whole _ _).trans (slot_set s h)).subset) $$ H
  iintro H
  iapply Hk $$ H

/-- Loading a slot of the result buffer that holds a known tile. -/
theorem wp_oload {s : ℕ} (hs : s < 3) {o : Fin 3 → ℕ} {h : ∀ a, o a + S1x1024x1024.size a ≤ S3x1024x1024.size a} (ho : o = ![s, 0, 0])
    {α : Type} {A : FVec F S1x1024x1024 .f32}
    {hl : obM.view.LoadsAt (Rect.unit (s := S3x1024x1024) o S1x1024x1024.size h).toLoadRect}
    {k : (S1x1024x1024.Idx → Elt F .f32) → Prog (TpuEff nD τ sig (Elt F) Λ₀ .tc) α} {Qa : α → sProp 𝕄} :
    oPt c (slotAll s) (ObA A) ⊢ iprop((oPt c (slotAll s) (ObA A) -∗ wpk c (k A) Qa)
      -∗ wpk c (.op (.load obM (Rect.unit (s := S3x1024x1024) o S1x1024x1024.size h).toLoadRect hl) k) Qa) := by
  subst ho
  have key := wp_load_rect (defs := defs₀ (F := F)) (Γ := PendingWaitsCtx.empty) (Q := Qa) (k := k) Variants.none (c : Thread nD τ) none Set.univ
    (m := obM) (r := Rect.unit (s := S3x1024x1024) ![s, 0, 0] S1x1024x1024.size h) (hl := hl) (f := ObA A) (q := fullShare)
    (S := slotAll s) ((View.set_slice_whole _ _).trans (slot_set s h)).subset
  rw [slot_read hs h A] at key
  exact key

/-- What a tile of gathered rows is. -/
def Xv (E : Env F) (t : ℕ) : FVec F S1x1024x1024 .f32 := fun p =>
  E.hv (ix2 (⟨E.src (1024 * t + (p 1).val) % 16512, Nat.mod_lt _ (by decide)⟩ : Fin 16512) (p 2))

/-- Loading a slot of the gather buffer that holds a known tile. -/
theorem wp_xload {s : ℕ} (hs : s < 3) {o : Fin 3 → ℕ} {h : ∀ a, o a + S1x1024x1024.size a ≤ S3x1024x1024.size a} (ho : o = ![s, 0, 0])
    {α : Type} (E : Env F) (t : ℕ)
    {hl : xsM.view.LoadsAt (Rect.unit (s := S3x1024x1024) o S1x1024x1024.size h).toLoadRect}
    {k : (S1x1024x1024.Idx → Elt F .f32) → Prog (TpuEff nD τ sig (Elt F) Λ₀ .tc) α} {Qa : α → sProp 𝕄} :
    xPt c (slotAll s) (XsT E t) ⊢ iprop((xPt c (slotAll s) (XsT E t) -∗ wpk c (k (Xv E t)) Qa)
      -∗ wpk c (.op (.load xsM (Rect.unit (s := S3x1024x1024) o S1x1024x1024.size h).toLoadRect hl) k) Qa) := by
  subst ho
  have key := wp_load_rect (defs := defs₀ (F := F)) (Γ := PendingWaitsCtx.empty) (Q := Qa) (k := k) Variants.none (c : Thread nD τ) none Set.univ
    (m := xsM) (r := Rect.unit (s := S3x1024x1024) ![s, 0, 0] S1x1024x1024.size h) (hl := hl) (f := XsT E t) (q := fullShare)
    (S := slotAll s) ((View.set_slice_whole _ _).trans (slot_set s h)).subset
  rw [show (xsM.access (Rect.unit (s := S3x1024x1024) ![s, 0, 0] S1x1024x1024.size h)).read (Elt F) (XsT E t) = Xv E t from
    slot_read hs h (Xv E t)] at key
  exact key

/-- Storing a slot of the result buffer. -/
theorem wp_ostore {s : ℕ} {o : Fin 3 → ℕ} {h : ∀ a, o a + S1x1024x1024.size a ≤ S3x1024x1024.size a} (ho : o = ![s, 0, 0])
    {α : Type} {f : S3x1024x1024.Idx → Elt F .f32} {w : FVec F S1x1024x1024 .f32}
    {hx : (obM.access (Rect.unit (s := S3x1024x1024) o S1x1024x1024.size h)).Stores Finset.univ}
    {hm : (Finset.univ : Finset S1x1024x1024.Idx) = Finset.univ ∨ ∀ a, (Rect.unit (s := S3x1024x1024) o S1x1024x1024.size h).stride a = 1}
    {k : PUnit → Prog (TpuEff nD τ sig (Elt F) Λ₀ .tc) α} {Qa : α → sProp 𝕄} :
    oPt c (slotAll s) f ⊢ iprop((oPt c (slotAll s) (ObA w) -∗ wpk c (k ⟨⟩) Qa)
      -∗ wpk c (.op (.store obM (Rect.unit (s := S3x1024x1024) o S1x1024x1024.size h) w Finset.univ hx hm) k) Qa) := by
  subst ho
  have hs := lt_of_slot h
  have key := wp_store (defs := defs₀ (F := F)) (Γ := PendingWaitsCtx.empty) (Q := Qa) (k := k) Variants.none (c : Thread nD τ) none Set.univ
    (m := obM) (r := Rect.unit (s := S3x1024x1024) ![s, 0, 0] S1x1024x1024.size h) (hx := hx) (hm := hm) (w := w) (Mk := Finset.univ) (f := f)
    (S := slotAll s) ((View.set_slice_whole _ _).trans (slot_set s h)).subset
  have e : oPt c (slotAll s) ((obM.access (Rect.unit (s := S3x1024x1024) ![s, 0, 0] S1x1024x1024.size h)).write (Elt F) f w Finset.univ)
      ⊢ oPt c (slotAll s) (ObA w) := by
    refine ent_of_eq (pointsTo_congr ?_)
    intro p hp
    replace hp := (Finset.mem_filter.1 hp).2
    have e : p = (obM.access (Rect.unit (s := S3x1024x1024) ![s, 0, 0] S1x1024x1024.size h)).emb (ix3 (0 : Fin 1) (p 1) (p 2)) := by
      refine Eq.trans ?_ (slot_emb hs h _).symm
      funext a
      apply Fin.ext
      fin_cases a
      · exact hp
      · rfl
      · rfl
    refine (congrArg _ e).trans ?_
    exact View.write_emb_of_mem _ _ (Finset.mem_univ _)
  iintro H Hk
  iapply key $$ H
  iintro H
  iapply Hk
  iapply e $$ H

abbrev bPt (f : S1024x1024.Idx → Elt F .bf16) : sProp 𝕄 := bfM.view.loc (c : Thread nD τ) ↦[Finset.univ]{fullShare} f

theorem z2 : (![0, 0] : Fin 2 → ℕ) = fun _ => 0 := by funext a; fin_cases a <;> rfl
theorem z3 : (![0, 0, 0] : Fin 3 → ℕ) = fun _ => 0 := by funext a; fin_cases a <;> rfl

theorem wp_bload {h : ∀ a, (![0, 0] : Fin 2 → ℕ) a + S1024x1024.size a ≤ S1024x1024.size a} {α : Type}
    {f : FVec F S1024x1024 .bf16}
    {hl : bfM.view.LoadsAt (Rect.unit (s := S1024x1024) ![0, 0] S1024x1024.size h).toLoadRect}
    {k : (S1024x1024.Idx → Elt F .bf16) → Prog (TpuEff nD τ sig (Elt F) Λ₀ .tc) α} {Qa : α → sProp 𝕄} :
    bPt c f ⊢ iprop((bPt c f -∗ wpk c (k f) Qa)
      -∗ wpk c (.op (.load bfM (Rect.unit (s := S1024x1024) ![0, 0] S1024x1024.size h).toLoadRect hl) k) Qa) := by
  have key := wp_load_rect (defs := defs₀ (F := F)) (Γ := PendingWaitsCtx.empty) (Q := Qa) (k := k) Variants.none (c : Thread nD τ) none Set.univ
    (m := bfM) (r := Rect.unit (s := S1024x1024) ![0, 0] S1024x1024.size h) (hl := hl) (f := f) (q := fullShare)
    (S := Finset.univ) (Finset.subset_univ _)
  rw [show (bfM.access (Rect.unit (s := S1024x1024) ![0, 0] S1024x1024.size h)).read (Elt F) f = f from
    Memref.read_access_unit_zero (Elt F) cc0_scratch1 z2 h f] at key
  exact key

theorem wp_bstore {h : ∀ a, (![0, 0] : Fin 2 → ℕ) a + S1024x1024.size a ≤ S1024x1024.size a} {α : Type}
    {f w : FVec F S1024x1024 .bf16}
    {hx : (bfM.access (Rect.unit (s := S1024x1024) ![0, 0] S1024x1024.size h)).Stores Finset.univ}
    {hm : (Finset.univ : Finset S1024x1024.Idx) = Finset.univ ∨ ∀ a, (Rect.unit (s := S1024x1024) ![0, 0] S1024x1024.size h).stride a = 1}
    {k : PUnit → Prog (TpuEff nD τ sig (Elt F) Λ₀ .tc) α} {Qa : α → sProp 𝕄} :
    bPt c f ⊢ iprop((bPt c w -∗ wpk c (k ⟨⟩) Qa)
      -∗ wpk c (.op (.store bfM (Rect.unit (s := S1024x1024) ![0, 0] S1024x1024.size h) w Finset.univ hx hm) k) Qa) := by
  have key := wp_store (defs := defs₀ (F := F)) (Γ := PendingWaitsCtx.empty) (Q := Qa) (k := k) Variants.none (c : Thread nD τ) none Set.univ
    (m := bfM) (r := Rect.unit (s := S1024x1024) ![0, 0] S1024x1024.size h) (hx := hx) (hm := hm) (w := w) (Mk := Finset.univ) (f := f)
    (S := Finset.univ) (Finset.subset_univ _)
  rw [show (bfM.access (Rect.unit (s := S1024x1024) ![0, 0] S1024x1024.size h)).write (Elt F) f w Finset.univ = w from
    Memref.write_access_unit_zero_univ (Elt F) cc0_scratch1 z2 h f w] at key
  exact key

/-- Loading a whole staged block. -/
theorem wp_wload {S : Shape} {e : EltTy} (a : Memref sig .tc .vmem S e) {o : Fin S.rank → ℕ} (ho : o = fun _ => 0)
    {h : ∀ b, o b + S.size b ≤ S.size b} {α : Type} {d : S.Idx → Elt F e}
    {hl : a.view.LoadsAt (Rect.unit (s := S) o S.size h).toLoadRect}
    {k : (S.Idx → Elt F e) → Prog (TpuEff nD τ sig (Elt F) Λ₀ .tc) α} {Qa : α → sProp 𝕄} :
    (owns (c : Thread nD τ) a fullShare d : sProp 𝕄) ⊢ iprop((owns (c : Thread nD τ) a fullShare d -∗ wpk c (k d) Qa)
      -∗ wpk c (.op (.load a (Rect.unit (s := S) o S.size h).toLoadRect hl) k) Qa) := by
  subst ho
  unfold owns
  iintro ⟨%f, %hf, H⟩ Hk
  have key := wp_load_rect (defs := defs₀ (F := F)) (Γ := PendingWaitsCtx.empty) (Q := Qa) (k := k) Variants.none (c : Thread nD τ) none Set.univ
    (m := a) (r := Rect.unit (s := S) (fun _ => 0) S.size h) (hl := hl) (f := f) (q := fullShare)
    (S := a.view.set) (View.set_slice_subset _ _)
  have e : (a.access (Rect.unit (s := S) (fun _ => 0) S.size h)).read (Elt F) f = d := by
    rw [← hf]
    funext x
    show a.view.read (Elt F) f ((Rect.whole S).emb x) = a.view.read (Elt F) f x
    rw [Rect.emb_whole_apply]
  rw [e] at key
  iapply key $$ H
  iintro H
  iapply Hk
  iexists f
  isplitr
  · ipureintro; exact hf
  iexact H

/-- Reading the number of tiles in use. -/
theorem wp_na {E : Env F} (Tb : Tab E) {α : Type} {h : ∀ a, (![0] : Fin 1 → ℕ) a + S1.size a ≤ S1.size a}
    {k : Elt F .i32 → Prog (TpuEff nD τ sig (Elt F) Λ₀ .tc) α} {Qa : α → sProp 𝕄} :
    nPt Tb c ⊢ iprop((nPt Tb c -∗ wpk c (k (Tb.nv (ix1 (0 : Fin 1)))) Qa)
      -∗ wpk c (smemLoad (Memref.whole main_arg2) (Rect.unit (s := S1) ![0] S1.size h) numel1_S1 rfl >>= k) Qa) := by
  have key : nPt Tb c ⊢ iprop((nPt Tb c -∗ wpk c (k (((Memref.whole main_arg2).access (Rect.unit (s := S1) ![0] S1.size h)).read (Elt F) Tb.nv
      (Shape.Idx.first (numel1_S1.symm ▸ Nat.one_pos)))) Qa)
      -∗ wpk c (smemLoad (Memref.whole main_arg2) (Rect.unit (s := S1) ![0] S1.size h) numel1_S1 rfl >>= k) Qa) :=
    wp_smemLoadElt (defs := defs₀ (F := F)) (Q := Qa) (k := k) Variants.none (c : Thread nD τ) none Set.univ
    (m := Memref.whole main_arg2) (r := Rect.unit (s := S1) ![0] S1.size h) (hw := View.loads_smem_one rfl numel1_S1)
    (x := Shape.Idx.first (numel1_S1.symm ▸ Nat.one_pos)) (f := Tb.nv) (q := fullShare.right)
    (S := Finset.univ) (Finset.subset_univ _)
  have e : ((Memref.whole main_arg2).access (Rect.unit (s := S1) ![0] S1.size h)).read (Elt F) Tb.nv
      (Shape.Idx.first (numel1_S1.symm ▸ Nat.one_pos)) = Tb.nv (ix1 (0 : Fin 1)) :=
    congrArg Tb.nv (idx1_eq (n := 1) ![0] 0 (by omega) rfl h)
  rw [e] at key
  exact key

end Cert.Kernel3Ideal.Moe
-- ==== Proof.MoeIFill.lean ====
module

public import proofs.«01_k».proof.Proof.MoeISlots

@[expose] public section

/-! The first copies of the grouped kernel: zeros into the result rows 16512 to 26623, 128 rows at a time. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev topM : Memref sig .tc .vmem S128x1024 .f32 :=
  (obM.slice (Rect.unit (s := S3x1024x1024) ![2, 0, 0] S1x128x1024.size inb_S3x1024x1024_S1x128x1024_2_0_0)
    (fun _ => rfl)).squeeze S128x1024 squeezes_S1x128x1024_S128x1024
abbrev bandM (o : Fin 2 → ℕ) (h : ∀ a, o a + S128x1024.size a ≤ S43136x1024.size a) : Memref sig .tc .hbm S128x1024 .f32 :=
  yM.slice (Rect.unit (s := S43136x1024) o S128x1024.size h) (fun _ => rfl)
abbrev fsm : DmaSem sig := (cc0_scratch5).sem

/-- The rows of slot 2 that the zeros are copied from. -/
def oTop : Finset S3x1024x1024.Idx := topM.view.set
/-- 128 rows of the result from row `x` on. -/
def yBand (x : ℕ) : Finset S43136x1024.Idx := Finset.univ.filter fun p => x ≤ (p 0).val ∧ (p 0).val < x + 128
/-- The result rows set to zero. -/
def yZero : Finset S43136x1024.Idx := Finset.univ.filter fun p => 16512 ≤ (p 0).val ∧ (p 0).val < 26624

theorem oTop_sub : oTop ⊆ slotAll 2 := by
  intro p hp
  unfold oTop at hp
  rw [View.set, Finset.mem_map] at hp
  obtain ⟨y, -, rfl⟩ := hp
  refine Finset.mem_filter.2 ⟨Finset.mem_univ _, ?_⟩
  show ((Rect.unit (s := S3x1024x1024) ![2, 0, 0] S1x128x1024.size inb_S3x1024x1024_S1x128x1024_2_0_0).emb
    (Shape.reshapeEquiv _ y) 0).val = 2
  rw [Rect.emb_apply]
  have h0 : ((Shape.reshapeEquiv squeezes_S1x128x1024_S128x1024.numel_eq y : S1x128x1024.Idx) 0).val < 1 :=
    ((Shape.reshapeEquiv squeezes_S1x128x1024_S128x1024.numel_eq y : S1x128x1024.Idx) 0).isLt
  show 2 + 1 * ((Shape.reshapeEquiv squeezes_S1x128x1024_S128x1024.numel_eq y : S1x128x1024.Idx) 0).val = 2
  omega

theorem set_band {x : ℕ} (h : ∀ a, (![x, 0] : Fin 2 → ℕ) a + S128x1024.size a ≤ S43136x1024.size a) :
    (bandM ![x, 0] h).view.set = yBand x := by
  refine (View.set_slice_whole _ _).trans ?_
  ext p
  rw [Rect.mem_set_unit]
  have h1 : (p 1).val < 1024 := (p 1).isLt
  simp only [yBand, Finset.mem_filter, Finset.mem_univ, _root_.true_and]
  constructor
  · intro hp
    exact hp 0
  · intro hp a
    fin_cases a
    · exact hp
    · change 0 ≤ (p 1).val ∧ (p 1).val < 0 + 1024; omega

theorem band_union : Finset.univ.biUnion (fun j : Fin 79 => yBand (16512 + 128 * j.val)) = yZero := by
  ext p
  simp only [Finset.mem_biUnion, yBand, yZero, Finset.mem_filter, Finset.mem_univ, _root_.true_and]
  constructor
  · rintro ⟨j, h⟩; have := j.isLt; omega
  · intro h
    exact ⟨⟨((p 0).val - 16512) / 128, by omega⟩, by show 16512 + 128 * (((p 0).val - 16512) / 128) ≤ _ ∧ _ < 16512 + 128 * (((p 0).val - 16512) / 128) + 128; omega⟩

theorem band_disj (b b' : Fin 79) (h : b ≠ b') : Disjoint (yBand (16512 + 128 * b.val)) (yBand (16512 + 128 * b'.val)) := by
  rw [Finset.disjoint_left]
  intro p hp hp'
  have e := (Finset.mem_filter.1 hp).2
  have e' := (Finset.mem_filter.1 hp').2
  exact h (Fin.ext (by omega))

/-- The value zero, as the kernel writes it. -/
def zv : Elt F .f32 := (Scalar.ofBits .f32 0x00000000#32 : F .f32)
theorem pay2_at (x : S1x1024x1024.Idx) : k0_pay2 (F := F) x = zv := rfl

abbrev fillN : ℕ := RefSig.tileCredit S128x1024 .f32
theorem fillN_pos : 0 < fillN := by decide

section

variable (E : Env F) (c : Dev nD) (V : S43136x1024.Idx → Elt F .f32)

abbrev zPt (S : Finset S3x1024x1024.Idx) (q : PosShare TreeShare) : sProp 𝕄 :=
  obM.view.loc (c : Thread nD τ) ↦[S]{q} (ObA (k0_pay2 (F := F)))

def FD (j : Fin 79) : sProp 𝕄 :=
  iprop(yPt c (yBand (16512 + 128 * j.val)) E.Y0 ∗ zPt c oTop (Transfers.shareTokN fullShare j.val))
instance (j : Fin 79) : Storable (upEmb : UEmb _ 𝕄) (FD E c j) := by unfold FD; infer_instance
def todoF (j : Fin 79) : sProp 𝕄 :=
  iprop(yPt c (yBand (16512 + 128 * j.val)) V ∗ zPt c oTop (Transfers.shareTokN fullShare j.val))
abbrev BatchF (j u : ℕ) : sProp 𝕄 :=
  Transfers.Batch (countersEmb (U := Pipeline.UD sig nD τ)) (c : Thread nD τ) (.dma fsm) () fillN (FD E c) j u
def FRest : sProp 𝕄 := iprop(zPt c (slotAll 2 \ oTop) fullShare ∗ zPt c oTop (Transfers.shareDrop fullShare 79))
/-- The first `j` copies of zeros started. -/
def FPart (j : ℕ) : sProp 𝕄 := iprop(BatchF E c j 0 ∗ bigSep (Transfers.pending j) (todoF c V) ∗ FRest c)
/-- All of them started and `k` waited for. -/
def FWait (k : ℕ) : sProp 𝕄 := iprop(BatchF E c 79 (k * fillN) ∗ FRest c)

variable {E}

theorem y_bands (f : S43136x1024.Idx → Elt F .f32) :
    (yPt c yZero f : sProp 𝕄) = bigSep Finset.univ fun j : Fin 79 => yPt c (yBand (16512 + 128 * j.val)) f :=
  Ring.pointsTo_sub_blocks (ℓ := yM.view.loc (c : Thread nD τ)) (fun j : Fin 79 => yBand (16512 + 128 * j.val))
    band_disj yZero band_union f

theorem z_toks : (zPt c oTop fullShare : sProp 𝕄)
      ⊣⊢ iprop(zPt c oTop (Transfers.shareDrop fullShare 79)
        ∗ bigSep Finset.univ fun j : Fin 79 => zPt c oTop (Transfers.shareTokN fullShare j.val)) := by
  rw [Ring.bigSep_fin_eq_range 79 _ (fun j => zPt c oTop (Transfers.shareTokN fullShare j)) fun _ _ => rfl]
  exact Transfers.pointsTo_toks_range fullShare 79

theorem fstart : iprop(oPt c (slotAll 2) (ObA (k0_pay2 (F := F))) ∗ yPt c yZero V ∗ semZ c fsm)
    ⊢ (|={Set.univ}=> FPart E c V 0 : sProp 𝕄) := by
  unfold FPart FRest
  iintro ⟨Ho, Hy, Hs⟩
  imod (Transfers.batch_alloc' (Lvl := ℕ) (countersEmb (U := Pipeline.UD sig nD τ)) (c : Thread nD τ) () fillN (FD E c)) $$ Hs with HB
  imodintro
  isplitl [HB]; · iexact HB
  ihave Ho := (pointsTo_split_subset (ℓ := obM.view.loc (c : Thread nD τ)) oTop_sub).1 $$ Ho
  icases Ho with ⟨Ho, Hr⟩
  ihave Ho := (z_toks c).1 $$ Ho
  icases Ho with ⟨Hd, Ht⟩
  isplitl [Hy Ht]
  · iapply (ent_of_eq (Transfers.bigSep_pending_zero (todoF c V)))
    iapply (ent_of_eq (bigSep_two _ _ _).symm)
    isplitl [Hy]
    · iapply (ent_of_eq (y_bands c V))
      iexact Hy
    · iexact Ht
  isplitl [Hr]; · iexact Hr
  iexact Hd

theorem fstep (hY : ∀ p ∈ yZero, E.Y0 p = zv) {j : ℕ} (hj : j < 79) {α : Type}
    {o : Fin 2 → ℕ} {h : ∀ a, o a + S128x1024.size a ≤ S43136x1024.size a} (ho : o = ![16512 + 128 * j, 0])
    {hsrc : topM.view.WordExact} {hdst : (bandM o h).view.WordExact}
    {hsem : DmaTarget.Typed (nD := nD) .vmem (.dma fsm) (DmaTarget.here (p := (c : Thread nD τ).2) (bandM o h))}
    {k : PUnit → Prog (TpuEff nD τ sig (Elt F) Λ₀ .tc) α} {Qa : α → sProp 𝕄} :
    FPart E c V j
      ⊢ iprop((FPart E c V (j + 1) -∗ wpk c (k ⟨⟩) Qa)
          -∗ wpk c (.op (.enqueueDmaAs topM (.here (bandM o h)) .same (.dma fsm) hsrc hdst hsem) k) Qa) := by
  subst ho
  have hD : iprop(yPt c (yBand (16512 + 128 * j)) ((bandM ![16512 + 128 * j, 0] h).view.write (Elt F) V
        (ReadAs.same.apply (topM.view.read (Elt F) (ObA (k0_pay2 (F := F))))) Finset.univ)
      ∗ zPt c oTop (Transfers.shareTokN fullShare j)) ⊢ FD E c ⟨j, hj⟩ := by
    unfold FD
    refine sep_mono_left (ent_of_eq (pointsTo_congr ?_))
    intro p hp
    have hz : p ∈ yZero := by
      have := (Finset.mem_filter.1 hp).2
      exact Finset.mem_filter.2 ⟨Finset.mem_univ _, by omega⟩
    rw [hY p hz]
    rw [← set_band h, View.set, Finset.mem_map] at hp
    obtain ⟨y, -, e⟩ := hp
    refine (congrArg _ e.symm).trans ?_
    refine (View.write_emb_of_mem _ _ (Finset.mem_univ _)).trans ?_
    rfl
  have key := Transfers.wp_dmaBatch (defs := defs₀ (F := F)) (Q := Qa) (hsem := hsem) (hsrc := hsrc) (hdst := hdst) (k := k)
    (countersEmb (U := Pipeline.UD sig nD τ)) Variants.none
    (c : Thread nD τ) none (src := topM) (dst := bandM ![16512 + 128 * j, 0] h) (via := .same)
    (fs := ObA (k0_pay2 (F := F))) (fd := V) (Sd := yBand (16512 + 128 * j)) (D := FD E c) (j := j) (u := 0)
    (q := Transfers.shareTokN fullShare j) () fillN rfl (set_band h).subset hj (Nat.zero_le _) hD
  unfold FPart
  iintro ⟨HB, Hp, Hr⟩ Hk
  ihave Hp := (ent_of_eq (Transfers.bigSep_pending_step (todoF c V) j hj)) $$ Hp
  icases Hp with ⟨Htd, Hp⟩
  unfold todoF
  icases Htd with ⟨Hy, Hz⟩
  iapply key $$ [HB Hy Hz]
  · isplitl [Hz]; · iexact Hz
    isplitl [Hy]; · iexact Hy
    iexact HB
  iintro HB
  iapply Hk
  isplitl [HB]; · iexact HB
  isplitl [Hp]; · iexact Hp
  iexact Hr

theorem ffull : FPart E c V 79 ⊢ FWait E c 0 := by
  unfold FPart FWait
  rw [Nat.zero_mul]
  iintro ⟨HB, -, Hr⟩
  isplitl [HB]; · iexact HB
  iexact Hr

theorem fwait {k : ℕ} (hk : k < 79) {α : Type}
    {sp sp' : Space} {s s' : Shape} {e e' : EltTy} {srcw : Memref sig (c : Thread nD τ).2.kind sp' s' e'} {dstw : Memref sig .tc sp s e}
    {hsrc : srcw.view.WordExact} {hdst : dstw.view.WordExact} (hJ : dstw.view.dmaCredit = fillN)
    {kk : PUnit → Prog (TpuEff nD τ sig (Elt F) Λ₀ .tc) α} {Qa : α → sProp 𝕄} :
    iprop(FWait E c k ∗ (∃ W, owes (c : Thread nD τ) 0 W))
      ⊢ iprop((iprop(FWait E c (k + 1) ∗ (∃ W, owes (c : Thread nD τ) 0 W)) -∗ wpk c (kk ⟨⟩) Qa)
          -∗ wpk c (.op (.waitDma2 fsm srcw dstw hsrc hdst) kk) Qa) := by
  unfold FWait
  iintro ⟨⟨HB, Hr⟩, ⟨%W, HW⟩⟩ Hk
  iapply (Transfers.wp_waitBatchMul (countersEmb (U := Pipeline.UD sig nD τ)) Variants.none (c : Thread nD τ) none ()
    (N := fillN) 1 (by rw [hJ, Nat.one_mul]) (D := FD E c) (j := 79) (u := k * fillN)
    (by rw [Nat.one_mul, Nat.mul_comm fillN]; calc k * fillN + fillN = (k + 1) * fillN := by rw [Nat.succ_mul]
      _ ≤ 79 * fillN := Nat.mul_le_mul_right _ hk)) $$ [HB HW]
  · isplitl [HB]; · iexact HB
    iexact HW
  iintro ⟨HB, HW⟩
  iapply Hk
  rw [Nat.one_mul, Nat.succ_mul]
  isplitl [HB Hr]
  · isplitl [HB]; · iexact HB
    iexact Hr
  iexists _; iexact HW

theorem fcollect : FWait E c 79 ⊢ (|={Set.univ}=> iprop(oPt c (slotAll 2) (ObA (k0_pay2 (F := F))) ∗ yPt c yZero E.Y0 ∗ semZ c fsm) : sProp 𝕄) := by
  unfold FWait FRest
  iintro ⟨HB, Hr, Hd⟩
  rw [Nat.mul_comm 79 fillN]
  imod (Transfers.batch_collect' (countersEmb (U := Pipeline.UD sig nD τ)) (c : Thread nD τ) fillN_pos) $$ HB with ⟨HD, Hs⟩
  imodintro
  unfold FD
  ihave HD := (ent_of_eq (bigSep_two _ _ _)) $$ HD
  icases HD with ⟨Hy, Ht⟩
  isplitr [Hy Hs]
  · iapply (pointsTo_split_subset (ℓ := obM.view.loc (c : Thread nD τ)) oTop_sub).2
    isplitr [Hr]
    · iapply (z_toks c).2
      isplitl [Hd]; · iexact Hd
      iexact Ht
    iexact Hr
  isplitl [Hy]
  · iapply (ent_of_eq (y_bands c E.Y0).symm)
    iexact Hy
  iexact Hs

variable (i : grid0.Coords)
  (a7 : Memref sig .tc .vmem S1x1024x512 .f32) (h7 : a7.IsWhole) (a8 : Memref sig .tc .vmem S1x1024x512 .f32) (h8 : a8.IsWhole)
  (a9 : Memref sig .tc .vmem S1x512x1024 .f32) (h9 : a9.IsWhole)

/-- Before the copies of zeros: the slot they come from and the rows they go to. -/
def FInit : sProp 𝕄 := iprop((∃ f, oPt c (slotAll 2) f) ∗ yPt c yZero V ∗ semZ c fsm)

theorem part1_spec (hY : ∀ p ∈ yZero, E.Y0 p = zv) :
    FInit c V ⊢ wpk c (k0_part1 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 5) := by
  unfold FInit
  iintro ⟨⟨%f, Ho⟩, Hy, Hs⟩
  rw [k0_part1_eq_skeleton]
  unfold k0_part1_skel
  iapply (wp_oload_any c (s := 2) rfl) $$ Ho
  iintro Ho %w
  iapply (wp_ostore c (s := 2) rfl) $$ Ho
  iintro Ho
  iapply fupd_wp
  imod (fstart (E := E) c V) $$ [Ho Hy Hs] with H
  · isplitl [Ho]; · iexact Ho
    isplitl [Hy]; · iexact Hy
    iexact Hs
  imodintro
  iapply (fstep c V hY (j := 0) (by omega) rfl) $$ H
  iintro H
  iapply (fstep c V hY (j := 1) (by omega) rfl) $$ H
  iintro H
  iapply (fstep c V hY (j := 2) (by omega) rfl) $$ H
  iintro H
  iapply (fstep c V hY (j := 3) (by omega) rfl) $$ H
  iintro H
  iapply (fstep c V hY (j := 4) (by omega) rfl) $$ H
  iintro H
  iapply (wpk_ret c)
  iexact H

theorem part2_spec (hY : ∀ p ∈ yZero, E.Y0 p = zv) :
    FPart E c V 5 ⊢ wpk c (k0_part2 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 12) := by
  iintro H
  rw [k0_part2_eq_skeleton]
  unfold k0_part2_skel
  iapply (fstep c V hY (j := 5) (by omega) rfl) $$ H
  iintro H
  iapply (fstep c V hY (j := 6) (by omega) rfl) $$ H
  iintro H
  iapply (fstep c V hY (j := 7) (by omega) rfl) $$ H
  iintro H
  iapply (fstep c V hY (j := 8) (by omega) rfl) $$ H
  iintro H
  iapply (fstep c V hY (j := 9) (by omega) rfl) $$ H
  iintro H
  iapply (fstep c V hY (j := 10) (by omega) rfl) $$ H
  iintro H
  iapply (fstep c V hY (j := 11) (by omega) rfl) $$ H
  iintro H
  iapply (wpk_ret c)
  iexact H

theorem part3_spec (hY : ∀ p ∈ yZero, E.Y0 p = zv) :
    FPart E c V 12 ⊢ wpk c (k0_part3 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 19) := by
  iintro H
  rw [k0_part3_eq_skeleton]
  unfold k0_part3_skel
  iapply (fstep c V hY (j := 12) (by omega) rfl) $$ H
  iintro H
  iapply (fstep c V hY (j := 13) (by omega) rfl) $$ H
  iintro H
  iapply (fstep c V hY (j := 14) (by omega) rfl) $$ H
  iintro H
  iapply (fstep c V hY (j := 15) (by omega) rfl) $$ H
  iintro H
  iapply (fstep c V hY (j := 16) (by omega) rfl) $$ H
  iintro H
  iapply (fstep c V hY (j := 17) (by omega) rfl) $$ H
  iintro H
  iapply (fstep c V hY (j := 18) (by omega) rfl) $$ H
  iintro H
  iapply (wpk_ret c)
  iexact H

theorem part4_spec (hY : ∀ p ∈ yZero, E.Y0 p = zv) :
    FPart E c V 19 ⊢ wpk c (k0_part4 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 25) := by
  iintro H
  rw [k0_part4_eq_skeleton]
  unfold k0_part4_skel
  iapply (fstep c V hY (j := 19) (by omega) rfl) $$ H
  iintro H
  iapply (fstep c V hY (j := 20) (by omega) rfl) $$ H
  iintro H
  iapply (fstep c V hY (j := 21) (by omega) rfl) $$ H
  iintro H
  iapply (fstep c V hY (j := 22) (by omega) rfl) $$ H
  iintro H
  iapply (fstep c V hY (j := 23) (by omega) rfl) $$ H
  iintro H
  iapply (fstep c V hY (j := 24) (by omega) rfl) $$ H
  iintro H
  iapply (wpk_ret c)
  iexact H

theorem part5_spec (hY : ∀ p ∈ yZero, E.Y0 p = zv) :
    FPart E c V 25 ⊢ wpk c (k0_part5 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 32) := by
  iintro H
  rw [k0_part5_eq_skeleton]
  unfold k0_part5_skel
  iapply (fstep c V hY (j := 25) (by omega) rfl) $$ H
  iintro H
  iapply (fstep c V hY (j := 26) (by omega) rfl) $$ H
  iintro H
  iapply (fstep c V hY (j := 27) (by omega) rfl) $$ H
  iintro H
  iapply (fstep c V hY (j := 28) (by omega) rfl) $$ H
  iintro H
  iapply (fstep c V hY (j := 29) (by omega) rfl) $$ H
  iintro H
  iapply (fstep c V hY (j := 30) (by omega) rfl) $$ H
  iintro H
  iapply (fstep c V hY (j := 31) (by omega) rfl) $$ H
  iintro H
  iapply (wpk_ret c)
  iexact H

theorem part6_spec (hY : ∀ p ∈ yZero, E.Y0 p = zv) :
    FPart E c V 32 ⊢ wpk c (k0_part6 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 39) := by
  iintro H
  rw [k0_part6_eq_skeleton]
  unfold k0_part6_skel
  iapply (fstep c V hY (j := 32) (by omega) rfl) $$ H
  iintro H
  iapply (fstep c V hY (j := 33) (by omega) rfl) $$ H
  iintro H
  iapply (fstep c V hY (j := 34) (by omega) rfl) $$ H
  iintro H
  iapply (fstep c V hY (j := 35) (by omega) rfl) $$ H
  iintro H
  iapply (fstep c V hY (j := 36) (by omega) rfl) $$ H
  iintro H
  iapply (fstep c V hY (j := 37) (by omega) rfl) $$ H
  iintro H
  iapply (fstep c V hY (j := 38) (by omega) rfl) $$ H
  iintro H
  iapply (wpk_ret c)
  iexact H

theorem part7_spec (hY : ∀ p ∈ yZero, E.Y0 p = zv) :
    FPart E c V 39 ⊢ wpk c (k0_part7 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 45) := by
  iintro H
  rw [k0_part7_eq_skeleton]
  unfold k0_part7_skel
  iapply (fstep c V hY (j := 39) (by omega) rfl) $$ H
  iintro H
  iapply (fstep c V hY (j := 40) (by omega) rfl) $$ H
  iintro H
  iapply (fstep c V hY (j := 41) (by omega) rfl) $$ H
  iintro H
  iapply (fstep c V hY (j := 42) (by omega) rfl) $$ H
  iintro H
  iapply (fstep c V hY (j := 43) (by omega) rfl) $$ H
  iintro H
  iapply (fstep c V hY (j := 44) (by omega) rfl) $$ H
  iintro H
  iapply (wpk_ret c)
  iexact H

theorem part8_spec (hY : ∀ p ∈ yZero, E.Y0 p = zv) :
    FPart E c V 45 ⊢ wpk c (k0_part8 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 52) := by
  iintro H
  rw [k0_part8_eq_skeleton]
  unfold k0_part8_skel
  iapply (fstep c V hY (j := 45) (by omega) rfl) $$ H
  iintro H
  iapply (fstep c V hY (j := 46) (by omega) rfl) $$ H
  iintro H
  iapply (fstep c V hY (j := 47) (by omega) rfl) $$ H
  iintro H
  iapply (fstep c V hY (j := 48) (by omega) rfl) $$ H
  iintro H
  iapply (fstep c V hY (j := 49) (by omega) rfl) $$ H
  iintro H
  iapply (fstep c V hY (j := 50) (by omega) rfl) $$ H
  iintro H
  iapply (fstep c V hY (j := 51) (by omega) rfl) $$ H
  iintro H
  iapply (wpk_ret c)
  iexact H

theorem part9_spec (hY : ∀ p ∈ yZero, E.Y0 p = zv) :
    FPart E c V 52 ⊢ wpk c (k0_part9 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 59) := by
  iintro H
  rw [k0_part9_eq_skeleton]
  unfold k0_part9_skel
  iapply (fstep c V hY (j := 52) (by omega) rfl) $$ H
  iintro H
  iapply (fstep c V hY (j := 53) (by omega) rfl) $$ H
  iintro H
  iapply (fstep c V hY (j := 54) (by omega) rfl) $$ H
  iintro H
  iapply (fstep c V hY (j := 55) (by omega) rfl) $$ H
  iintro H
  iapply (fstep c V hY (j := 56) (by omega) rfl) $$ H
  iintro H
  iapply (fstep c V hY (j := 57) (by omega) rfl) $$ H
  iintro H
  iapply (fstep c V hY (j := 58) (by omega) rfl) $$ H
  iintro H
  iapply (wpk_ret c)
  iexact H

theorem part10_spec (hY : ∀ p ∈ yZero, E.Y0 p = zv) :
    FPart E c V 59 ⊢ wpk c (k0_part10 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 65) := by
  iintro H
  rw [k0_part10_eq_skeleton]
  unfold k0_part10_skel
  iapply (fstep c V hY (j := 59) (by omega) rfl) $$ H
  iintro H
  iapply (fstep c V hY (j := 60) (by omega) rfl) $$ H
  iintro H
  iapply (fstep c V hY (j := 61) (by omega) rfl) $$ H
  iintro H
  iapply (fstep c V hY (j := 62) (by omega) rfl) $$ H
  iintro H
  iapply (fstep c V hY (j := 63) (by omega) rfl) $$ H
  iintro H
  iapply (fstep c V hY (j := 64) (by omega) rfl) $$ H
  iintro H
  iapply (wpk_ret c)
  iexact H

theorem part11_spec (hY : ∀ p ∈ yZero, E.Y0 p = zv) :
    FPart E c V 65 ⊢ wpk c (k0_part11 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 72) := by
  iintro H
  rw [k0_part11_eq_skeleton]
  unfold k0_part11_skel
  iapply (fstep c V hY (j := 65) (by omega) rfl) $$ H
  iintro H
  iapply (fstep c V hY (j := 66) (by omega) rfl) $$ H
  iintro H
  iapply (fstep c V hY (j := 67) (by omega) rfl) $$ H
  iintro H
  iapply (fstep c V hY (j := 68) (by omega) rfl) $$ H
  iintro H
  iapply (fstep c V hY (j := 69) (by omega) rfl) $$ H
  iintro H
  iapply (fstep c V hY (j := 70) (by omega) rfl) $$ H
  iintro H
  iapply (fstep c V hY (j := 71) (by omega) rfl) $$ H
  iintro H
  iapply (wpk_ret c)
  iexact H

theorem part12_spec (hY : ∀ p ∈ yZero, E.Y0 p = zv) :
    FPart E c V 72 ⊢ wpk c (k0_part12 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FPart E c V 79) := by
  iintro H
  rw [k0_part12_eq_skeleton]
  unfold k0_part12_skel
  iapply (fstep c V hY (j := 72) (by omega) rfl) $$ H
  iintro H
  iapply (fstep c V hY (j := 73) (by omega) rfl) $$ H
  iintro H
  iapply (fstep c V hY (j := 74) (by omega) rfl) $$ H
  iintro H
  iapply (fstep c V hY (j := 75) (by omega) rfl) $$ H
  iintro H
  iapply (fstep c V hY (j := 76) (by omega) rfl) $$ H
  iintro H
  iapply (fstep c V hY (j := 77) (by omega) rfl) $$ H
  iintro H
  iapply (fstep c V hY (j := 78) (by omega) rfl) $$ H
  iintro H
  iapply (wpk_ret c)
  iexact H

/-- `k` of the copies waited for. -/
abbrev FW (E : Env F) (k : ℕ) : sProp 𝕄 := iprop(FWait E c k ∗ (∃ W, owes (c : Thread nD τ) 0 W))

theorem part13_spec :
    FW c E 0 ⊢ wpk c (k0_part13 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 6) := by
  iintro H
  rw [k0_part13_eq_skeleton]
  unfold k0_part13_skel
  iapply (fwait c (k := 0) (by omega) rfl) $$ H
  iintro H
  iapply (fwait c (k := 1) (by omega) rfl) $$ H
  iintro H
  iapply (fwait c (k := 2) (by omega) rfl) $$ H
  iintro H
  iapply (fwait c (k := 3) (by omega) rfl) $$ H
  iintro H
  iapply (fwait c (k := 4) (by omega) rfl) $$ H
  iintro H
  iapply (fwait c (k := 5) (by omega) rfl) $$ H
  iintro H
  iapply (wpk_ret c)
  iexact H

theorem part14_spec :
    FW c E 6 ⊢ wpk c (k0_part14 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 13) := by
  iintro H
  rw [k0_part14_eq_skeleton]
  unfold k0_part14_skel
  iapply (fwait c (k := 6) (by omega) rfl) $$ H
  iintro H
  iapply (fwait c (k := 7) (by omega) rfl) $$ H
  iintro H
  iapply (fwait c (k := 8) (by omega) rfl) $$ H
  iintro H
  iapply (fwait c (k := 9) (by omega) rfl) $$ H
  iintro H
  iapply (fwait c (k := 10) (by omega) rfl) $$ H
  iintro H
  iapply (fwait c (k := 11) (by omega) rfl) $$ H
  iintro H
  iapply (fwait c (k := 12) (by omega) rfl) $$ H
  iintro H
  iapply (wpk_ret c)
  iexact H

theorem part15_spec :
    FW c E 13 ⊢ wpk c (k0_part15 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 20) := by
  iintro H
  rw [k0_part15_eq_skeleton]
  unfold k0_part15_skel
  iapply (fwait c (k := 13) (by omega) rfl) $$ H
  iintro H
  iapply (fwait c (k := 14) (by omega) rfl) $$ H
  iintro H
  iapply (fwait c (k := 15) (by omega) rfl) $$ H
  iintro H
  iapply (fwait c (k := 16) (by omega) rfl) $$ H
  iintro H
  iapply (fwait c (k := 17) (by omega) rfl) $$ H
  iintro H
  iapply (fwait c (k := 18) (by omega) rfl) $$ H
  iintro H
  iapply (fwait c (k := 19) (by omega) rfl) $$ H
  iintro H
  iapply (wpk_ret c)
  iexact H

theorem part16_spec :
    FW c E 20 ⊢ wpk c (k0_part16 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 26) := by
  iintro H
  rw [k0_part16_eq_skeleton]
  unfold k0_part16_skel
  iapply (fwait c (k := 20) (by omega) rfl) $$ H
  iintro H
  iapply (fwait c (k := 21) (by omega) rfl) $$ H
  iintro H
  iapply (fwait c (k := 22) (by omega) rfl) $$ H
  iintro H
  iapply (fwait c (k := 23) (by omega) rfl) $$ H
  iintro H
  iapply (fwait c (k := 24) (by omega) rfl) $$ H
  iintro H
  iapply (fwait c (k := 25) (by omega) rfl) $$ H
  iintro H
  iapply (wpk_ret c)
  iexact H

theorem part17_spec :
    FW c E 26 ⊢ wpk c (k0_part17 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 33) := by
  iintro H
  rw [k0_part17_eq_skeleton]
  unfold k0_part17_skel
  iapply (fwait c (k := 26) (by omega) rfl) $$ H
  iintro H
  iapply (fwait c (k := 27) (by omega) rfl) $$ H
  iintro H
  iapply (fwait c (k := 28) (by omega) rfl) $$ H
  iintro H
  iapply (fwait c (k := 29) (by omega) rfl) $$ H
  iintro H
  iapply (fwait c (k := 30) (by omega) rfl) $$ H
  iintro H
  iapply (fwait c (k := 31) (by omega) rfl) $$ H
  iintro H
  iapply (fwait c (k := 32) (by omega) rfl) $$ H
  iintro H
  iapply (wpk_ret c)
  iexact H

theorem part18_spec :
    FW c E 33 ⊢ wpk c (k0_part18 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 40) := by
  iintro H
  rw [k0_part18_eq_skeleton]
  unfold k0_part18_skel
  iapply (fwait c (k := 33) (by omega) rfl) $$ H
  iintro H
  iapply (fwait c (k := 34) (by omega) rfl) $$ H
  iintro H
  iapply (fwait c (k := 35) (by omega) rfl) $$ H
  iintro H
  iapply (fwait c (k := 36) (by omega) rfl) $$ H
  iintro H
  iapply (fwait c (k := 37) (by omega) rfl) $$ H
  iintro H
  iapply (fwait c (k := 38) (by omega) rfl) $$ H
  iintro H
  iapply (fwait c (k := 39) (by omega) rfl) $$ H
  iintro H
  iapply (wpk_ret c)
  iexact H

theorem part19_spec :
    FW c E 40 ⊢ wpk c (k0_part19 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 46) := by
  iintro H
  rw [k0_part19_eq_skeleton]
  unfold k0_part19_skel
  iapply (fwait c (k := 40) (by omega) rfl) $$ H
  iintro H
  iapply (fwait c (k := 41) (by omega) rfl) $$ H
  iintro H
  iapply (fwait c (k := 42) (by omega) rfl) $$ H
  iintro H
  iapply (fwait c (k := 43) (by omega) rfl) $$ H
  iintro H
  iapply (fwait c (k := 44) (by omega) rfl) $$ H
  iintro H
  iapply (fwait c (k := 45) (by omega) rfl) $$ H
  iintro H
  iapply (wpk_ret c)
  iexact H

theorem part20_spec :
    FW c E 46 ⊢ wpk c (k0_part20 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 53) := by
  iintro H
  rw [k0_part20_eq_skeleton]
  unfold k0_part20_skel
  iapply (fwait c (k := 46) (by omega) rfl) $$ H
  iintro H
  iapply (fwait c (k := 47) (by omega) rfl) $$ H
  iintro H
  iapply (fwait c (k := 48) (by omega) rfl) $$ H
  iintro H
  iapply (fwait c (k := 49) (by omega) rfl) $$ H
  iintro H
  iapply (fwait c (k := 50) (by omega) rfl) $$ H
  iintro H
  iapply (fwait c (k := 51) (by omega) rfl) $$ H
  iintro H
  iapply (fwait c (k := 52) (by omega) rfl) $$ H
  iintro H
  iapply (wpk_ret c)
  iexact H

theorem part21_spec :
    FW c E 53 ⊢ wpk c (k0_part21 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 60) := by
  iintro H
  rw [k0_part21_eq_skeleton]
  unfold k0_part21_skel
  iapply (fwait c (k := 53) (by omega) rfl) $$ H
  iintro H
  iapply (fwait c (k := 54) (by omega) rfl) $$ H
  iintro H
  iapply (fwait c (k := 55) (by omega) rfl) $$ H
  iintro H
  iapply (fwait c (k := 56) (by omega) rfl) $$ H
  iintro H
  iapply (fwait c (k := 57) (by omega) rfl) $$ H
  iintro H
  iapply (fwait c (k := 58) (by omega) rfl) $$ H
  iintro H
  iapply (fwait c (k := 59) (by omega) rfl) $$ H
  iintro H
  iapply (wpk_ret c)
  iexact H

theorem part22_spec :
    FW c E 60 ⊢ wpk c (k0_part22 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 66) := by
  iintro H
  rw [k0_part22_eq_skeleton]
  unfold k0_part22_skel
  iapply (fwait c (k := 60) (by omega) rfl) $$ H
  iintro H
  iapply (fwait c (k := 61) (by omega) rfl) $$ H
  iintro H
  iapply (fwait c (k := 62) (by omega) rfl) $$ H
  iintro H
  iapply (fwait c (k := 63) (by omega) rfl) $$ H
  iintro H
  iapply (fwait c (k := 64) (by omega) rfl) $$ H
  iintro H
  iapply (fwait c (k := 65) (by omega) rfl) $$ H
  iintro H
  iapply (wpk_ret c)
  iexact H

theorem part23_spec :
    FW c E 66 ⊢ wpk c (k0_part23 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 73) := by
  iintro H
  rw [k0_part23_eq_skeleton]
  unfold k0_part23_skel
  iapply (fwait c (k := 66) (by omega) rfl) $$ H
  iintro H
  iapply (fwait c (k := 67) (by omega) rfl) $$ H
  iintro H
  iapply (fwait c (k := 68) (by omega) rfl) $$ H
  iintro H
  iapply (fwait c (k := 69) (by omega) rfl) $$ H
  iintro H
  iapply (fwait c (k := 70) (by omega) rfl) $$ H
  iintro H
  iapply (fwait c (k := 71) (by omega) rfl) $$ H
  iintro H
  iapply (fwait c (k := 72) (by omega) rfl) $$ H
  iintro H
  iapply (wpk_ret c)
  iexact H

theorem part24_spec (hY : ∀ p ∈ yZero, E.Y0 p = zv) :
    iprop(FInit c V ∗ (∃ W, owes (c : Thread nD τ) 0 W)) ⊢ wpk c (k0_part24 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5) (fun _ => FW c E 77) := by
  iintro ⟨H, HW⟩
  rw [k0_part24_eq_skeleton]
  unfold k0_part24_skel
  iapply (wpk_seq c (part1_spec c V i a7 h7 a8 h8 a9 h9 hY)) $$ H
  iintro H %_
  iapply (wpk_seq c (part2_spec c V i a7 h7 a8 h8 a9 h9 hY)) $$ H
  iintro H %_
  iapply (wpk_seq c (part3_spec c V i a7 h7 a8 h8 a9 h9 hY)) $$ H
  iintro H %_
  iapply (wpk_seq c (part4_spec c V i a7 h7 a8 h8 a9 h9 hY)) $$ H
  iintro H %_
  iapply (wpk_seq c (part5_spec c V i a7 h7 a8 h8 a9 h9 hY)) $$ H
  iintro H %_
  iapply (wpk_seq c (part6_spec c V i a7 h7 a8 h8 a9 h9 hY)) $$ H
  iintro H %_
  iapply (wpk_seq c (part7_spec c V i a7 h7 a8 h8 a9 h9 hY)) $$ H
  iintro H %_
  iapply (wpk_seq c (part8_spec c V i a7 h7 a8 h8 a9 h9 hY)) $$ H
  iintro H %_
  iapply (wpk_seq c (part9_spec c V i a7 h7 a8 h8 a9 h9 hY)) $$ H
  iintro H %_
  iapply (wpk_seq c (part10_spec c V i a7 h7 a8 h8 a9 h9 hY)) $$ H
  iintro H %_
  iapply (wpk_seq c (part11_spec c V i a7 h7 a8 h8 a9 h9 hY)) $$ H
  iintro H %_
  iapply (wpk_seq c (part12_spec c V i a7 h7 a8 h8 a9 h9 hY)) $$ H
  iintro H %_
  ihave H := (ffull c V) $$ H
  icombine H HW as H
  iapply (wpk_seq c (part13_spec (E := E) c i a7 h7 a8 h8 a9 h9)) $$ H
  iintro H %_
  iapply (wpk_seq c (part14_spec (E := E) c i a7 h7 a8 h8 a9 h9)) $$ H
  iintro H %_
  iapply (wpk_seq c (part15_spec (E := E) c i a7 h7 a8 h8 a9 h9)) $$ H
  iintro H %_
  iapply (wpk_seq c (part16_spec (E := E) c i a7 h7 a8 h8 a9 h9)) $$ H
  iintro H %_
  iapply (wpk_seq c (part17_spec (E := E) c i a7 h7 a8 h8 a9 h9)) $$ H
  iintro H %_
  iapply (wpk_seq c (part18_spec (E := E) c i a7 h7 a8 h8 a9 h9)) $$ H
  iintro H %_
  iapply (wpk_seq c (part19_spec (E := E) c i a7 h7 a8 h8 a9 h9)) $$ H
  iintro H %_
  iapply (wpk_seq c (part20_spec (E := E) c i a7 h7 a8 h8 a9 h9)) $$ H
  iintro H %_
  iapply (wpk_seq c (part21_spec (E := E) c i a7 h7 a8 h8 a9 h9)) $$ H
  iintro H %_
  iapply (wpk_seq c (part22_spec (E := E) c i a7 h7 a8 h8 a9 h9)) $$ H
  iintro H %_
  iapply (wpk_seq c (part23_spec (E := E) c i a7 h7 a8 h8 a9 h9)) $$ H
  iintro H %_
  iapply (fwait c (k := 73) (by omega) rfl) $$ H
  iintro H
  iapply (fwait c (k := 74) (by omega) rfl) $$ H
  iintro H
  iapply (fwait c (k := 75) (by omega) rfl) $$ H
  iintro H
  iapply (fwait c (k := 76) (by omega) rfl) $$ H
  iintro H
  iapply (wpk_ret c)
  iexact H

end

end Cert.Kernel3Ideal.Moe
-- ==== Proof.MoeIBody.lean ====
module

public import proofs.«01_k».proof.Proof.MoeIFill

@[expose] public section

/-! One grid step of the grouped kernel: what the buffers hold between steps, and that each part of the body takes one
such state to the next. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### Putting parts of a program together -/

section Parts

theorem seq_dite (c : Dev nD) {α : Type} {P R : sProp 𝕄} {Q : α → sProp 𝕄} {b : Prop} [Decidable b] {p : b → Prog (TpuEff nD τ sig (Elt F) Λ₀ .tc) α} {r : Prog (TpuEff nD τ sig (Elt F) Λ₀ .tc) α}
    (hR : R ⊢ wpk c r Q) (hT : ∀ h : b, (R ⊢ wpk c r Q) → P ⊢ wpk c (p h) Q) (hF : ¬ b → P ⊢ R) :
    P ⊢ wpk c (if h : b then p h else r) Q := by
  by_cases h : b
  · rw [dif_pos h]; exact hT h hR
  · rw [dif_neg h]; exact (hF h).trans hR

theorem seq_ite (c : Dev nD) {α : Type} {P R : sProp 𝕄} {Q : α → sProp 𝕄} {b : Prop} [Decidable b] {p r : Prog (TpuEff nD τ sig (Elt F) Λ₀ .tc) α}
    (hR : R ⊢ wpk c r Q) (hT : b → (R ⊢ wpk c r Q) → P ⊢ wpk c p Q) (hF : ¬ b → P ⊢ R) :
    P ⊢ wpk c (if b then p else r) Q := by
  by_cases h : b
  · rw [if_pos h]; exact hT h hR
  · rw [if_neg h]; exact (hF h).trans hR

theorem seq_assume (c : Dev nD) {α : Type} {P : sProp 𝕄} {Q : α → sProp 𝕄} {φ : Prop} {d : Decidable φ} {k : PLift φ → Prog (TpuEff nD τ sig (Elt F) Λ₀ .tc) α} (h : φ)
    (hk : P ⊢ wpk c (k ⟨h⟩) Q) : P ⊢ wpk c (Prog.lift (TpuEff.assume φ d) >>= k) Q := by
  iintro H
  iapply (wp_assume Variants.none (c : Thread nD τ) none Set.univ h)
  iapply hk $$ H

theorem wpk_loop (c : Dev nD) {α : Type} {Q : α → sProp 𝕄} {L : Scf.Loop 32} {ok : L.OK} {body : Fin L.trips → Unit → Prog (TpuEff nD τ sig (Elt F) Λ₀ .tc) Unit}
    {kk : Unit → Prog (TpuEff nD τ sig (Elt F) Λ₀ .tc) α} (n : ℕ) (hn : L.trips = n) (I : ℕ → sProp 𝕄)
    (hstep : ∀ k acc, I k.val ⊢ wpk c (body k acc) (fun _ => I (k.val + 1))) :
    I 0 ⊢ iprop((I n -∗ wpk c (kk ⟨⟩) Q) -∗ wpk c (L.for ok ⟨⟩ body >>= kk) Q) := by
  subst hn
  iintro H Hk
  iapply (Scf.wp_for_bind frame (wpE (defs₀ (F := F)) Variants.none (c : Thread nD τ) none) Set.univ L.lb L.ub L.st ok ⟨⟩ body
    (fun k _ => I k) hstep) $$ H
  iintro %_ H
  iapply Hk $$ H

end Parts

/-! ### The states -/

/-- The blocks of the three weights at each step. -/
structure Wts (F : FTy → Type) where
  g : ℕ → ℕ → Vec F S1x1024x512 .f32
  u : ℕ → ℕ → Vec F S1x1024x512 .f32
  d : ℕ → ℕ → Vec F S1x512x1024 .f32

section States

variable (E : Env F) (B : Wts F) (c : Dev nD)

/-- Tile `t` of the gathered rows, narrowed. -/
def hbv (t : ℕ) : FVec F S1024x1024 .bf16 := k0_pay4 (Xv E t)
/-- The sum for tile `t` after `k` of the seven parts. -/
def acc (t : ℕ) : ℕ → FVec F S1x1024x1024 .f32
  | 0 => k0_pay3
  | k + 1 => k0_pay1 (hbv E t) (B.g t k) (B.u t k) (acc t k) (B.d t k)

/-- The tiles are the tile of zeros and then the finished sums; the result starts at zero on its middle rows. -/
structure Good : Prop where
  ok : E.Ok
  a0 : E.A 0 = k0_pay2
  an : ∀ T, T < E.na → E.A (T + 1) = acc E B T 7
  y0 : ∀ p ∈ yZero, E.Y0 p = zv

def Gst (t : ℕ) : sProp 𝕄 := if t < E.na + 2 then GPart E c t 1024 else GF E c (t % 3)
def GM (t : ℕ) : sProp 𝕄 := if t < E.na then GDone E c t else GF E c (t % 3)
def GP (i k : ℕ) : sProp 𝕄 := if i < E.na then GPart E c (i + 2) (2 + 146 * k) else GF E c ((i + 2) % 3)
def SS (j : ℕ) : sProp 𝕄 := if 2 ≤ j ∧ j ≤ E.na + 2 then SPart E c (j - 2) 1024 else OFree c (j % 3)
def SX (i : ℕ) : sProp 𝕄 := if i ≤ E.na then OKnown E c i else OFree c ((i + 2) % 3)
def SP (i k : ℕ) : sProp 𝕄 :=
  if i < E.na then SPart E c i (2 + 146 * k) else if i = E.na then SPart E c E.na 1024 else OFree c ((i + 2) % 3)
def OA (i k : ℕ) : sProp 𝕄 :=
  if i < E.na then iprop(oPt c (slotAll (i % 3)) (ObA (acc E B i k)) ∗ semZ c (ssm (i % 3))) else OFree c (i % 3)
def YT (n : ℕ) : sProp 𝕄 := bigSep ((Finset.range (E.na + 1)).filter (n ≤ ·)) fun T => yPt c (tileRows E T) E.Y0
def YD (n : ℕ) : sProp 𝕄 := bigSep ((Finset.range (E.na + 1)).filter (· + 2 < n)) fun T => yPt c (tileRows E T) E.Yf
def BF (i : ℕ) : sProp 𝕄 := if i < E.na then bPt c (hbv E i) else iprop(∃ f, bPt c f)

/-- Before the first part of row `i` of the grid. -/
def S0 (i : ℕ) : sProp 𝕄 :=
  iprop(Gst E c i ∗ Gst E c (i + 1) ∗ GF E c ((i + 2) % 3) ∗ SX E c i ∗ SS E c (i + 1) ∗ SS E c i ∗ YT E c i ∗ YD E c i ∗ ∃ f, bPt c f)
/-- Once tile `i` has arrived. -/
def S2 (i : ℕ) : sProp 𝕄 :=
  iprop(GM E c i ∗ Gst E c (i + 1) ∗ GF E c ((i + 2) % 3) ∗ SX E c i ∗ SS E c (i + 1) ∗ SS E c i ∗ YT E c i ∗ YD E c i ∗ ∃ f, bPt c f)
/-- Once tile `i - 2` has been sent. -/
def S3 (i : ℕ) : sProp 𝕄 :=
  iprop(GM E c i ∗ Gst E c (i + 1) ∗ GF E c ((i + 2) % 3) ∗ SX E c i ∗ SS E c (i + 1) ∗ OFree c (i % 3) ∗ YT E c i ∗ YD E c (i + 1)
    ∗ ∃ f, bPt c f)
/-- With `k` of the seven parts of row `i` done. -/
def MC (i k : ℕ) : sProp 𝕄 :=
  iprop(GF E c (i % 3) ∗ Gst E c (i + 1) ∗ GP E c i k ∗ SP E c i k ∗ SS E c (i + 1) ∗ OA E B c i k ∗ YT E c (i + 1) ∗ YD E c (i + 1)
    ∗ BF E c i)

variable {E}

theorem YT_pop (i : ℕ) (hi : i ≤ E.na) : YT E c i = iprop(yPt c (tileRows E i) E.Y0 ∗ YT E c (i + 1)) := by
  unfold YT
  have e : (Finset.range (E.na + 1)).filter (i ≤ ·) = insert i ((Finset.range (E.na + 1)).filter (i + 1 ≤ ·)) := by
    ext T
    simp only [Finset.mem_insert, Finset.mem_filter, Finset.mem_range]
    omega
  rw [e, BI.bigSep_insert (by simp only [Finset.mem_filter, Finset.mem_range]; omega)]
  rfl
theorem YT_none (i : ℕ) (hi : E.na < i) : YT E c i = YT E c (i + 1) := by
  unfold YT
  have e : (Finset.range (E.na + 1)).filter (i ≤ ·) = (Finset.range (E.na + 1)).filter (i + 1 ≤ ·) := by
    ext T
    simp only [Finset.mem_filter, Finset.mem_range]
    omega
  rw [e]
theorem YD_push (T : ℕ) (hT : T ≤ E.na) : YD E c (T + 2 + 1) = iprop(yPt c (tileRows E T) E.Yf ∗ YD E c (T + 2)) := by
  unfold YD
  have e : (Finset.range (E.na + 1)).filter (· + 2 < T + 2 + 1) = insert T ((Finset.range (E.na + 1)).filter (· + 2 < T + 2)) := by
    ext T
    simp only [Finset.mem_insert, Finset.mem_filter, Finset.mem_range]
    omega
  rw [e, BI.bigSep_insert (by simp only [Finset.mem_filter, Finset.mem_range]; omega)]
  rfl
theorem YD_none (i : ℕ) (hi : ¬ (2 ≤ i ∧ i < E.na + 3)) : YD E c (i + 1) = YD E c i := by
  unfold YD
  have e : (Finset.range (E.na + 1)).filter (· + 2 < i + 1) = (Finset.range (E.na + 1)).filter (· + 2 < i) := by
    ext T
    simp only [Finset.mem_filter, Finset.mem_range]
    omega
  rw [e]

/-- The end of one row is the start of the next. -/
theorem MC_next (G : Good E B) (i : ℕ) : MC E B c i 7 ⊢ S0 E c (i + 1) := by
  unfold MC S0
  have e1 : GP E c i 7 = Gst E c (i + 1 + 1) := by
    unfold GP Gst
    by_cases h : i < E.na
    · rw [if_pos h, if_pos (by omega)]
    · rw [if_neg h, if_neg (by omega)]
  have e2 : SP E c i 7 = SS E c (i + 1 + 1) := by
    unfold SP SS
    by_cases h : i < E.na
    · rw [if_pos h, if_pos (by omega)]; rfl
    · by_cases h' : i = E.na
      · rw [if_neg h, if_pos h', if_pos (by omega), h']; rfl
      · rw [if_neg h, if_neg h', if_neg (by omega)]
  have e3 : OA E B c i 7 = SX E c (i + 1) := by
    unfold OA SX OKnown
    have e : (i + 1 + 2) % 3 = i % 3 := by omega
    rw [e]
    by_cases h : i < E.na
    · rw [if_pos h, if_pos (by omega), G.an i h]
    · rw [if_neg h, if_neg (by omega)]
  have e4 : BF E c i ⊢ iprop(∃ f, bPt c f) := by
    unfold BF
    by_cases h : i < E.na
    · rw [if_pos h]; iintro H; iexists _; iexact H
    · rw [if_neg h]
  rw [e1, e2, e3, show (i + 1 + 2) % 3 = i % 3 by omega]
  iintro ⟨H1, H2, H3, H4, H5, H6, H7, H8, H9⟩
  isplitl [H2]; · iexact H2
  isplitl [H3]; · iexact H3
  isplitl [H1]; · iexact H1
  isplitl [H6]; · iexact H6
  isplitl [H4]; · iexact H4
  isplitl [H5]; · iexact H5
  isplitl [H7]; · iexact H7
  isplitl [H8]; · iexact H8
  iapply e4 $$ H9

end States

section Steps

variable {E : Env F} (Tb : Tab E) {B : Wts F} (c : Dev nD) (G : Good E B) (i : grid0.Coords)
  (a7 : Memref sig .tc .vmem S1x1024x512 .f32) (h7 : a7.IsWhole) (a8 : Memref sig .tc .vmem S1x1024x512 .f32) (h8 : a8.IsWhole)
  (a9 : Memref sig .tc .vmem S1x512x1024 .f32) (h9 : a9.IsWhole)

/-- What a step reads and gives back, and its account of waits. -/
abbrev Tbs : sProp 𝕄 := iprop(sPt Tb c ∗ dPt Tb c ∗ nPt Tb c)
abbrev Ow : sProp 𝕄 := iprop(∃ W, owes (c : Thread nD τ) 0 W)

theorem t2_spec (k0_h1 : k0_cond1 i = 1#1) (hi : (i 0).val < E.na + 2) {α : Type} {K : sProp 𝕄}
    {kk : Unit → Prog (TpuEff nD τ sig (Elt F) Λ₀ .tc) α} {Q : α → sProp 𝕄}
    (hR : iprop(S2 E c (i 0).val ∗ Ow c ∗ K) ⊢ wpk c (kk ⟨⟩) Q) :
    iprop(S0 E c (i 0).val ∗ Ow c ∗ K)
      ⊢ wpk c (Scf.Loop.for k0_t2_loop (k0_t2_ok i k0_h1) ⟨⟩ (k0_t2_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 k0_h1) >>= kk) Q := by
  unfold S0 S2 at *
  iintro ⟨⟨H1, H2⟩, HW, HK⟩
  ihave H1 := (show Gst E c (i 0).val ⊢ GPart E c (i 0).val 1024 by unfold Gst; rw [if_pos hi]) $$ H1
  ihave H1 := (gfull c (i 0).val) $$ H1
  iapply (wpk_loop c 1024 rfl (fun k => iprop(GWait E c (i 0).val k ∗ Ow c))
    (t2_step c i a7 h7 a8 h8 a9 h9 k0_h1)) $$ [H1 HW]
  · isplitl [H1]; · iexact H1
    iexact HW
  iintro ⟨H1, HW⟩
  iapply fupd_wp
  imod (gcollect c (i 0).val) $$ H1 with H1
  imodintro
  iapply hR
  isplitl [H1 H2]
  · isplitl [H1]
    · iapply (show GDone E c (i 0).val ⊢ GM E c (i 0).val by
        unfold GM
        by_cases h : (i 0).val < E.na
        · rw [if_pos h]
        · rw [if_neg h]; exact gdone_free c _) $$ H1
    iexact H2
  isplitl [HW]; · iexact HW
  iexact HK

theorem t2_skip (j : ℕ) (hi : ¬ j < E.na + 2) : S0 E c j ⊢ S2 E c j := by
  unfold S0 S2
  refine sep_mono_left ?_
  unfold Gst GM
  rw [if_neg hi, if_neg (by omega)]

theorem t3_spec (ok : E.Ok) (k0_h1 : k0_cond1 i = 1#1) (hi : 2 ≤ (i 0).val ∧ (i 0).val < E.na + 3) {α : Type} {K : sProp 𝕄}
    {kk : Unit → Prog (TpuEff nD τ sig (Elt F) Λ₀ .tc) α} {Q : α → sProp 𝕄}
    (hR : iprop(S3 E c (i 0).val ∗ Ow c ∗ K) ⊢ wpk c (kk ⟨⟩) Q) :
    iprop(S2 E c (i 0).val ∗ Ow c ∗ K)
      ⊢ wpk c (Scf.Loop.for k0_t3_loop (k0_t3_ok i k0_h1) ⟨⟩ (k0_t3_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 k0_h1) >>= kk) Q := by
  obtain ⟨T, hT⟩ : ∃ T, T + 2 = (i 0).val := ⟨(i 0).val - 2, by omega⟩
  have hstep := t3_step (E := E) c i a7 h7 a8 h8 a9 h9 T hT k0_h1
  have hTn : T ≤ E.na := by omega
  unfold S3 S2 at *
  rw [← hT] at hR ⊢
  iintro ⟨⟨H1, H2, H3, H4, H5, H6, H7, H8, H9⟩, HW, HK⟩
  ihave H6 := (show SS E c (T + 2) ⊢ SPart E c T 1024 by unfold SS; rw [if_pos (by omega)]; exact .rfl) $$ H6
  ihave H6 := (sfull c T) $$ H6
  iapply (wpk_loop c 1024 rfl (fun k => iprop(SWait E c T k ∗ Ow c)) hstep) $$ [H6 HW]
  · isplitl [H6]; · iexact H6
    iexact HW
  iintro ⟨H6, HW⟩
  iapply fupd_wp
  imod (scollect c ok T hTn) $$ H6 with ⟨H6, Hy⟩
  imodintro
  iapply hR
  isplitr [HW HK]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8 Hy]
    · iapply (ent_of_eq (YD_push c T hTn).symm)
      isplitl [Hy]; · iexact Hy
      iexact H8
    iexact H9
  isplitl [HW]; · iexact HW
  iexact HK

theorem t3_skip (j : ℕ) (hi : ¬ (2 ≤ j ∧ j < E.na + 3)) : S2 E c j ⊢ S3 E c j := by
  unfold S2 S3
  rw [YD_none c j hi]
  rw [show SS E c j = OFree c (j % 3) from by unfold SS; rw [if_neg (by omega)]]

/-- After the fifth conditional. -/
def S5 (E : Env F) (B : Wts F) (i : ℕ) : sProp 𝕄 := if i < E.na then MC E B c i 0 else S3 E c i

/-- Rows in no use: nothing is left to send. -/
theorem t6_skip (j : ℕ) (hi : ¬ j = E.na) : S5 c E B j ⊢ MC E B c j 0 := by
  unfold S5
  by_cases h : j < E.na
  · rw [if_pos h]
  · rw [if_neg h]
    unfold S3 MC GM GP SX SP OA BF
    rw [if_neg h, if_neg h, if_neg (by omega), if_neg h, if_neg hi, if_neg h, if_neg h, YT_none c j (by omega)]

theorem t4_spec (G : Good E B) (v0 : Elt F .i32) (k0_h1 : k0_cond1 i = 1#1) (k0_h6 : k0_cond6 i v0 = 1#1) (hi : (i 0).val = E.na)
    {α : Type} {K : sProp 𝕄} {kk : Unit → Prog (TpuEff nD τ sig (Elt F) Λ₀ .tc) α} {Q : α → sProp 𝕄}
    (hR : iprop(MC E B c (i 0).val 0 ∗ Ow c ∗ Tbs Tb c ∗ K) ⊢ wpk c (kk ⟨⟩) Q) :
    iprop(S5 c E B (i 0).val ∗ Ow c ∗ Tbs Tb c ∗ K)
      ⊢ wpk c (Scf.Loop.for k0_t4_loop (k0_t4_ok i k0_h1) ⟨⟩ (k0_t4_body (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 v0 k0_h1 k0_h6) >>= kk) Q := by
  have ok := G.ok
  have hstep := t4_step Tb c i a7 h7 a8 h8 a9 h9 ok hi v0 k0_h1 k0_h6
  rw [hi] at hR ⊢
  unfold S5
  rw [if_neg (Nat.lt_irrefl _)]
  unfold S3
  iintro ⟨⟨H1, H2, H3, H4, H5, H6, H7, H8, H9⟩, HW, ⟨Hs, Hd, Hn⟩, HK⟩
  ihave H4 := (show SX E c E.na ⊢ OKnown E c E.na by unfold SX; rw [if_pos (Nat.le_refl _)]) $$ H4
  ihave H7 := (ent_of_eq (YT_pop c E.na (Nat.le_refl _))) $$ H7
  icases H7 with ⟨Hy, H7⟩
  iapply fupd_wp
  imod (sstart c ok E.na (Nat.le_refl _)) $$ [H4 Hy] with H4
  · isplitl [H4]; · iexact H4
    iexact Hy
  imodintro
  iapply (wpk_loop c 1024 rfl (fun k => iprop(dPt Tb c ∗ SPart E c E.na k)) hstep) $$ [H4 Hd]
  · isplitl [Hd]; · iexact Hd
    iexact H4
  iintro ⟨Hd, H4⟩
  iapply hR
  unfold MC
  isplitr [HW Hs Hd Hn HK]
  · isplitl [H1]; · iapply (show GM E c E.na ⊢ GF E c (E.na % 3) by unfold GM; rw [if_neg (Nat.lt_irrefl _)]) $$ H1
    isplitl [H2]; · iexact H2
    isplitl [H3]; · iapply (show GF E c ((E.na + 2) % 3) ⊢ GP E c E.na 0 by unfold GP; rw [if_neg (Nat.lt_irrefl _)]) $$ H3
    isplitl [H4]; · iapply (show SPart E c E.na 1024 ⊢ SP E c E.na 0 by unfold SP; rw [if_neg (Nat.lt_irrefl _), if_pos rfl]) $$ H4
    isplitl [H5]; · iexact H5
    isplitl [H6]; · iapply (show OFree c (E.na % 3) ⊢ OA E B c E.na 0 by unfold OA; rw [if_neg (Nat.lt_irrefl _)]) $$ H6
    isplitl [H7]; · iexact H7
    isplitl [H8]; · iexact H8
    iapply (show iprop(∃ f, bPt c f) ⊢ BF E c E.na by unfold BF; rw [if_neg (Nat.lt_irrefl _)]) $$ H9
  isplitl [HW]; · iexact HW
  isplitl [Hs Hd Hn]
  · isplitl [Hs]; · iexact Hs
    isplitl [Hd]; · iexact Hd
    iexact Hn
  iexact HK

end Steps

end Cert.Kernel3Ideal.Moe
-- ==== Proof.MoeIStep.lean ====
module

public import proofs.«01_k».proof.Proof.MoeIBody

@[expose] public section

/-! One grid step of the grouped kernel, from its first operation to its last. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {E : Env F} (Tb : Tab E) {B : Wts F} (c : Dev nD) (i : grid0.Coords)
  (a7 : Memref sig .tc .vmem S1x1024x512 .f32) (h7 : a7.IsWhole) (a8 : Memref sig .tc .vmem S1x1024x512 .f32) (h8 : a8.IsWhole)
  (a9 : Memref sig .tc .vmem S1x512x1024 .f32) (h9 : a9.IsWhole)

theorem rowG_one {t : ℕ} (ht : 2 ≤ t) {j : ℕ} (hj : j < 2) : rowG t j = 1022 + j := by
  unfold rowG
  rw [if_neg (by omega)]
  omega
theorem rowS_one {T j : ℕ} (hT : T < E.na) (hj : j < 2) : rowS E T j = 1022 + j := by
  unfold rowS
  rw [if_neg (by omega)]
  omega

theorem part25_spec (ok : E.Ok) (hi : (i 0).val < E.na) (arg0 : BitVec 32) (v0 : Elt F .i32) (k0_hw3 : k0_chk3 i v0) (v10 : BitVec 32)
    (k0_h1 : k0_cond1 i = 1#1) (k0_h5 : k0_cond5 i v0 = 1#1) :
    iprop(sPt Tb c ∗ (∃ f, oPt c (slotAll ((i 0).val % 3)) f) ∗ GDone E c (i 0).val ∗ (∃ f, bPt c f) ∗ GPart E c ((i 0).val + 2) 0)
      ⊢ wpk c (k0_part25 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 arg0 v0 k0_hw3 v10 k0_h1 k0_h5)
        (fun _ => iprop(sPt Tb c ∗ oPt c (slotAll ((i 0).val % 3)) (ObA (acc E B (i 0).val 0)) ∗ GDone E c (i 0).val
          ∗ bPt c (hbv E (i 0).val) ∗ GPart E c ((i 0).val + 2) 1) : _ → sProp 𝕄) := by
  have hn := ok.na_le
  unfold GDone
  iintro ⟨Hs, ⟨%fo, Ho⟩, ⟨Hx, Hr⟩, ⟨%fb, Hb⟩, Hg⟩
  rw [k0_part25_eq_skeleton]
  unfold k0_part25_skel
  iapply (wp_oload_any c (s := (i 0).val % 3) (off16_eq i)) $$ Ho
  iintro Ho %w
  iapply (wp_ostore c (s := (i 0).val % 3) (off16_eq i)) $$ Ho
  iintro Ho
  iapply (wp_xload c (s := (i 0).val % 3) (Nat.mod_lt _ (by decide)) (off16_eq i) E (i 0).val) $$ Hx
  iintro Hx
  iapply (wp_bload c) $$ Hb
  iintro Hb
  iapply (wp_bstore c) $$ Hb
  iintro Hb
  iapply (wp_src Tb c (p := ((i 0).val + 2) * 1024 + 1022) (by omega) (off17_eq i)) $$ Hs
  iintro Hs
  iapply (wp_assume Variants.none (c : Thread nD τ) none Set.univ (fun _ _ => fits_h (src_fits Tb ok _)))
  iapply (gstep c ok ((i 0).val + 2) (j := 0) (by omega) (by omega)
    (gsm_eq (by omega) (off18_eq i)) (off19_eq i)
    (by rw [rowG_one (by omega) (by omega)])
    (src_off Tb _ _ _ (by rw [rowG_one (by omega) (by omega)]; omega))) $$ Hg
  iintro Hg
  iapply (wpk_ret c)
  isplitl [Hs]; · iexact Hs
  isplitl [Ho]; · iexact Ho
  isplitl [Hx Hr]
  · isplitl [Hx]; · iexact Hx
    iexact Hr
  isplitl [Hb]; · iexact Hb
  iexact Hg

theorem part26_spec (ok : E.Ok) (hi : (i 0).val < E.na) (arg0 : BitVec 32) (v0 : Elt F .i32)
    (k0_h1 : k0_cond1 i = 1#1) (k0_h5 : k0_cond5 i v0 = 1#1) (v69 : BitVec 32) :
    iprop(dPt Tb c ∗ SPart E c (i 0).val 0)
      ⊢ wpk c (k0_part26 (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5 arg0 v0 k0_h1 k0_h5 v69)
        (fun _ => iprop(dPt Tb c ∗ SPart E c (i 0).val 1) : _ → sProp 𝕄) := by
  have hn := ok.na_le
  iintro ⟨Hd, H1⟩
  rw [k0_part26_eq_skeleton]
  unfold k0_part26_skel
  iapply (wp_dst Tb c (p := (i 0).val * 1024 + 1022) (by omega) (off21_eq i)) $$ Hd
  iintro Hd
  iapply (wp_assume Variants.none (c : Thread nD τ) none Set.univ (fun _ _ => fits_y (dst_fits Tb ok _)))
  iapply (sstep c ok (i 0).val (by omega) (j := 0) (by omega)
    (ssm_eq (by omega) (off22_eq i)) (off24_eq i)
    (by rw [rowS_one hi (by omega)])
    (dst_off Tb _ _ _ (by rw [rowS_one hi (by omega)]))) $$ H1
  iintro H1
  iapply (wpk_ret c)
  isplitl [Hd]; · iexact Hd
  iexact H1

theorem chk3_ok (ok : E.Ok) (v0 : Elt F .i32) (hv : (show BitVec 32 from v0).toNat = E.na) : k0_chk3 i v0 := by
  have hn := ok.na_le
  have hv' : (show BitVec 32 from v0).toNat ≤ 40 := by omega
  refine ⟨fun _ h a => ?_, fun _ h a => ?_, fun r h a => ?_⟩
  · have h := (cond5_iff i _ hv').1 h
    rw [hv] at h
    rw [off17_eq]
    fin_cases a
    refine (show ((i 0).val + 2) * 1024 + 1022 + 1 ≤ 44032 from ?_)
    omega
  · have h := (cond5_iff i _ hv').1 h
    rw [hv] at h
    rw [off25_eq]
    fin_cases a
    refine (show ((i 0).val + 2) * 1024 + 1023 + 1 ≤ 44032 from ?_)
    omega
  · have h := (cond7_iff i _ hv').1 h
    rw [hv] at h
    have hc : (i 1).val < 7 := (i 1).isLt
    have hr : r.val < 146 := r.isLt
    rw [off38_eq]
    fin_cases a
    show ((i 0).val + 2) * 1024 + 146 * (i 1).val + r.val + 1 ≤ 44032
    omega

theorem seq_na {α : Type} {P P' K : sProp 𝕄} {Q : α → sProp 𝕄} {h : ∀ a, (![0] : Fin 1 → ℕ) a + S1.size a ≤ S1.size a}
    {k : Elt F .i32 → Prog (TpuEff nD τ sig (Elt F) Λ₀ .tc) α}
    (hk : iprop(P ∗ P' ∗ Tbs Tb c ∗ K) ⊢ wpk c (k (Tb.nv (ix1 (0 : Fin 1)))) Q) :
    iprop(P ∗ P' ∗ Tbs Tb c ∗ K)
      ⊢ wpk c (smemLoad (Memref.whole main_arg2) (Rect.unit (s := S1) ![0] S1.size h) numel1_S1 rfl >>= k) Q := by
  iintro ⟨HP, HW, ⟨Hs, Hd, Hn⟩, HK⟩
  iapply (wp_na c Tb) $$ Hn
  iintro Hn
  iapply hk
  isplitl [HP]; · iexact HP
  isplitl [HW]; · iexact HW
  isplitl [Hs Hd Hn]
  · isplitl [Hs]; · iexact Hs
    isplitl [Hd]; · iexact Hd
    iexact Hn
  iexact HK

/-- The rows of the result that are never sent to. -/
def yLeft (E : Env F) : Finset S43136x1024.Idx := Finset.univ \ (Finset.univ.biUnion fun T : Fin (E.na + 1) => tileRows E T.val)

/-- The result before the tiles are sent, tile by tile. -/
theorem y_tiles (ok : E.Ok) : (yPt c Finset.univ E.Y0 : sProp 𝕄) ⊢ iprop(YT E c 0 ∗ yPt c (yLeft E) E.Y0) := by
  have hd : ∀ T T' : Fin (E.na + 1), T ≠ T' → Disjoint (tileRows E T.val) (tileRows E T'.val) := by
    intro T T' hne
    rw [Finset.disjoint_left]
    intro p hp hp'
    simp only [tileRows, Finset.mem_filter, Finset.mem_univ, _root_.true_and] at hp hp'
    obtain ⟨r, hr, e⟩ := hp
    obtain ⟨r', hr', e'⟩ := hp'
    have h1 := T.isLt
    have h2 := T'.isLt
    have := ok.inj (T.val * 1024 + r) (T'.val * 1024 + r') (by omega) (by omega) (e.symm.trans e')
    exact hne (Fin.ext (by omega))
  refine (pointsTo_split_subset (ℓ := yM.view.loc (c : Thread nD τ))
    (Finset.subset_univ (Finset.univ.biUnion fun T : Fin (E.na + 1) => tileRows E T.val))).1.trans (sep_mono_left ?_)
  refine ent_of_eq ((Ring.pointsTo_sub_blocks (ℓ := yM.view.loc (c : Thread nD τ)) (fun T : Fin (E.na + 1) => tileRows E T.val) hd _ rfl _).trans ?_)
  rw [Ring.bigSep_fin_eq_range (E.na + 1) _ (fun T => yPt c (tileRows E T) E.Y0) fun _ _ => rfl]
  unfold YT
  rw [Finset.filter_true_of_mem fun _ _ => Nat.zero_le _]

/-- What is held before the first step. -/
def Init (E : Env F) (V : S43136x1024.Idx → Elt F .f32) : sProp 𝕄 :=
  iprop(FInit c V ∗ yPt c (Finset.univ \ yZero) V ∗ GF E c 0 ∗ GF E c 1 ∗ GF E c 2 ∗ semZ c (ssm 2) ∗ OFree c 1 ∗ OFree c 0 ∗ ∃ f, bPt c f)
/-- What is left untouched after it. -/
def Left (E : Env F) : sProp 𝕄 := iprop(semZ c fsm ∗ yPt c (yLeft E) E.Y0)
/-- What is held after `t` steps. -/
def St (E : Env F) (B : Wts F) (V : S43136x1024.Idx → Elt F .f32) : ℕ → sProp 𝕄
  | 0 => Init c E V
  | t + 1 => iprop(MC E B c (t / 7) (t % 7 + 1) ∗ Left c E)

theorem mc_skip (j k k' : ℕ) (hj : ¬ j < E.na) : MC E B c j k ⊢ MC E B c j k' := by
  unfold MC GP SP OA
  rw [if_neg hj, if_neg hj, if_neg hj, if_neg hj, if_neg hj, if_neg hj]

theorem ow_of : iprop(∃ W, owes (c : Thread nD τ) 0 W) ⊢ (Ow c : sProp 𝕄) := .rfl

/-- One grid step. -/
theorem body_spec (G : Good E B) (V : S43136x1024.Idx → Elt F .f32) (hV : ∀ p, p ∉ yZero → E.Y0 p = V p) (t : ℕ)
    (ht : t = 7 * (i 0).val + (i 1).val) (Fr : sProp 𝕄) :
    iprop(St c E B V t ∗ Ow c ∗ Tbs Tb c ∗ owns (c : Thread nD τ) a7 fullShare (B.g (i 0).val (i 1).val)
        ∗ owns (c : Thread nD τ) a8 fullShare (B.u (i 0).val (i 1).val) ∗ owns (c : Thread nD τ) a9 fullShare (B.d (i 0).val (i 1).val) ∗ Fr)
      ⊢ wpk c (cc0_moe_grouped_skel (F := F) i (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) a7 h7 a8 h8 a9 h9 (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5)
        (fun _ => iprop(St c E B V (t + 1) ∗ Ow c ∗ Tbs Tb c ∗ owns (c : Thread nD τ) a7 fullShare (B.g (i 0).val (i 1).val)
        ∗ owns (c : Thread nD τ) a8 fullShare (B.u (i 0).val (i 1).val) ∗ owns (c : Thread nD τ) a9 fullShare (B.d (i 0).val (i 1).val) ∗ Fr)
          : _ → sProp 𝕄) := by
  have ok := G.ok
  have hn := ok.na_le
  have hc : (i 1).val < 7 := (i 1).isLt
  have hna : (show BitVec 32 from Tb.nv (ix1 (0 : Fin 1))).toNat = E.na := Tb.hn
  have hna40 : (show BitVec 32 from Tb.nv (ix1 (0 : Fin 1))).toNat ≤ 40 := by omega
  have w5 := cond5_iff i _ hna40
  have w6 := cond6_iff i _ hna40
  have w7 := cond7_iff i _ hna40
  have wt := took_iff i _ hna40
  have ws := sent_iff i _ hna40
  rw [hna] at w5 w6 w7 wt ws
  have es : St c E B V (t + 1) = iprop(MC E B c (i 0).val ((i 1).val + 1) ∗ Left c E) := by
    show iprop(MC E B c (t / 7) (t % 7 + 1) ∗ Left c E) = _
    rw [show t / 7 = (i 0).val by omega, show t % 7 = (i 1).val by omega]
  rw [es]
  unfold cc0_moe_grouped_skel
  refine seq_na Tb c ?_
  refine seq_assume c (chk3_ok i ok _ hna) ?_
  refine seq_dite c (R := iprop(MC E B c (i 0).val (i 1).val ∗ Ow c ∗ Tbs Tb c ∗ Left c E ∗ owns (c : Thread nD τ) a7 fullShare (B.g (i 0).val (i 1).val)
        ∗ owns (c : Thread nD τ) a8 fullShare (B.u (i 0).val (i 1).val) ∗ owns (c : Thread nD τ) a9 fullShare (B.d (i 0).val (i 1).val) ∗ Fr))
    ?p7 ?p1 ?n1
  case p7 =>
    refine seq_dite c (R := iprop(MC E B c (i 0).val ((i 1).val + 1) ∗ Ow c ∗ Tbs Tb c ∗ Left c E ∗ owns (c : Thread nD τ) a7 fullShare (B.g (i 0).val (i 1).val)
        ∗ owns (c : Thread nD τ) a8 fullShare (B.u (i 0).val (i 1).val) ∗ owns (c : Thread nD τ) a9 fullShare (B.d (i 0).val (i 1).val) ∗ Fr))
      ?c0 ?c1 ?c2
    case c0 =>
      iintro ⟨HM, HW, HT, HL, H⟩
      iapply (wpk_ret c)
      isplitl [HM HL]
      · isplitl [HM]; · iexact HM
        iexact HL
      isplitl [HW]; · iexact HW
      isplitl [HT]; · iexact HT
      iexact H
    case c2 =>
      intro h7n
      exact sep_mono_left (mc_skip c _ _ _ fun h => h7n (w7.2 h))
    case c1 =>
      intro k0_h7 hR
      have hi := w7.1 k0_h7
      have e1 : MC E B c (i 0).val (i 1).val ⊢ iprop(GF E c ((i 0).val % 3) ∗ Gst E c ((i 0).val + 1)
          ∗ GPart E c ((i 0).val + 2) (2 + 146 * (i 1).val) ∗ SPart E c (i 0).val (2 + 146 * (i 1).val) ∗ SS E c ((i 0).val + 1)
          ∗ (oPt c (slotAll ((i 0).val % 3)) (ObA (acc E B (i 0).val (i 1).val)) ∗ semZ c (ssm ((i 0).val % 3)))
          ∗ YT E c ((i 0).val + 1) ∗ YD E c ((i 0).val + 1) ∗ bPt c (hbv E (i 0).val)) := by
        unfold MC GP SP OA BF
        rw [if_pos hi, if_pos hi, if_pos hi, if_pos hi]
      iintro ⟨HM, HW, ⟨Hs, Hd, Hn⟩, HL, Hg, Hu, Hdn, HF⟩
      ihave HM := e1 $$ HM
      icases HM with ⟨H1, H2, H3, H4, H5, ⟨Ho, Hos⟩, H7, H8, Hb⟩
      iapply (wpk_loop c 146 rfl (fun k => iprop((sPt Tb c ∗ dPt Tb c) ∗ GPart E c ((i 0).val + 2) (2 + 146 * (i 1).val + k)
        ∗ SPart E c (i 0).val (2 + 146 * (i 1).val + k)))
        (fun k acc => t5_step Tb c i a7 h7 a8 h8 a9 h9 ok hi _ _ _ _ k0_h7 k acc)) $$ [Hs Hd H3 H4]
      · isplitl [Hs Hd]
        · isplitl [Hs]; · iexact Hs
          iexact Hd
        isplitl [H3]; · iexact H3
        iexact H4
      iintro ⟨⟨Hs, Hd⟩, H3, H4⟩
      iapply (wp_bload c) $$ Hb
      iintro Hb
      iapply (wp_wload c a7 z3) $$ Hg
      iintro Hg
      iapply (wp_wload c a8 z3) $$ Hu
      iintro Hu
      iapply (wp_oload c (s := (i 0).val % 3) (Nat.mod_lt _ (by decide)) (off48_eq i)) $$ Ho
      iintro Ho
      iapply (wp_wload c a9 z3) $$ Hdn
      iintro Hdn
      iapply (wp_oload c (s := (i 0).val % 3) (Nat.mod_lt _ (by decide)) (off48_eq i)) $$ Ho
      iintro Ho
      iapply (wp_ostore c (s := (i 0).val % 3) (off48_eq i)) $$ Ho
      iintro Ho
      iapply hR
      isplitr [HW Hs Hd Hn HL Hg Hu Hdn HF]
      · unfold MC GP SP OA BF
        rw [if_pos hi, if_pos hi, if_pos hi, if_pos hi]
        isplitl [H1]; · iexact H1
        isplitl [H2]; · iexact H2
        isplitl [H3]; · iexact H3
        isplitl [H4]; · iexact H4
        isplitl [H5]; · iexact H5
        isplitl [Ho Hos]
        · isplitl [Ho]; · iexact Ho
          iexact Hos
        isplitl [H7]; · iexact H7
        isplitl [H8]; · iexact H8
        iexact Hb
      isplitl [HW]; · iexact HW
      isplitl [Hs Hd Hn]
      · isplitl [Hs]; · iexact Hs
        isplitl [Hd]; · iexact Hd
        iexact Hn
      isplitl [HL]; · iexact HL
      isplitl [Hg]; · iexact Hg
      isplitl [Hu]; · iexact Hu
      isplitl [Hdn]; · iexact Hdn
      iexact HF
  case n1 =>
    intro h1
    have h1' : ¬ (i 1).val = 0 := fun h => h1 ((cond1_iff i).2 h)
    obtain ⟨s, hs⟩ : ∃ s, t = s + 1 := ⟨t - 1, by omega⟩
    rw [hs]
    have e : St c E B V (s + 1) = iprop(MC E B c (i 0).val (i 1).val ∗ Left c E) := by
      show iprop(MC E B c (s / 7) (s % 7 + 1) ∗ Left c E) = _
      rw [show s / 7 = (i 0).val by omega, show s % 7 + 1 = (i 1).val by omega]
    rw [e]
    iintro ⟨⟨HM, HL⟩, HW, HT, H⟩
    isplitl [HM]; · iexact HM
    isplitl [HW]; · iexact HW
    isplitl [HT]; · iexact HT
    isplitl [HL]; · iexact HL
    iexact H
  case p1 =>
    intro k0_h1 hR7
    have h1 := (cond1_iff i).1 k0_h1
    rw [h1] at hR7 ⊢
    refine seq_dite c (R := iprop(S0 E c (i 0).val ∗ Ow c ∗ Tbs Tb c ∗ Left c E ∗ owns (c : Thread nD τ) a7 fullShare (B.g (i 0).val 0)
        ∗ owns (c : Thread nD τ) a8 fullShare (B.u (i 0).val 0) ∗ owns (c : Thread nD τ) a9 fullShare (B.d (i 0).val 0) ∗ Fr))
      ?p3 ?p2 ?n2
    case n2 =>
      intro h2
      have h2' : ¬ (i 0).val = 0 := fun h => h2 ((cond2_iff i).2 h)
      obtain ⟨s, hs⟩ : ∃ s, t = s + 1 := ⟨t - 1, by omega⟩
      obtain ⟨j, hj⟩ : ∃ j, (i 0).val = j + 1 := ⟨(i 0).val - 1, by omega⟩
      rw [hs, hj]
      have e : St c E B V (s + 1) = iprop(MC E B c j 7 ∗ Left c E) := by
        show iprop(MC E B c (s / 7) (s % 7 + 1) ∗ Left c E) = _
        rw [show s / 7 = j by omega, show s % 7 + 1 = 7 by omega]
      rw [e]
      iintro ⟨⟨HM, HL⟩, HW, HT, H⟩
      isplitl [HM]; · iapply (MC_next B c G j) $$ HM
      isplitl [HW]; · iexact HW
      isplitl [HT]; · iexact HT
      isplitl [HL]; · iexact HL
      iexact H
    case p2 =>
      intro k0_h2 hR
      have h2 := (cond2_iff i).1 k0_h2
      have ht0 : t = 0 := by omega
      rw [ht0]
      rw [h2] at hR ⊢
      show iprop(Init c E V ∗ _) ⊢ _
      unfold Init
      iintro ⟨⟨HI, Hy, G0, G1, G2, Hs2, O1, O0, Hb⟩, HW, ⟨Hs, Hd, Hn⟩, HF⟩
      iapply (wpk_seq c (part24_spec (E := E) c V i a7 h7 a8 h8 a9 h9 G.y0)) $$ [HI HW]
      · isplitl [HI]; · iexact HI
        iexact HW
      iintro H %_
      unfold FW
      iapply (fwait (E := E) c (k := 77) (by omega) rfl) $$ H
      iintro H
      iapply (fwait (E := E) c (k := 78) (by omega) rfl) $$ H
      iintro ⟨H, HW⟩
      iapply fupd_wp
      imod (fcollect (E := E) c) $$ H with ⟨Ho, Hz, Hf⟩
      imod (gstart (E := E) c 0) $$ G0 with G0
      imod (gstart (E := E) c 1) $$ G1 with G1
      imodintro
      ihave Hy := (show yPt c (Finset.univ \ yZero) V ⊢ (yPt c (Finset.univ \ yZero) E.Y0 : sProp 𝕄) from
        ent_of_eq (pointsTo_congr fun p hp => (hV p (Finset.mem_sdiff.1 hp).2).symm)) $$ Hy
      icombine Hz Hy as Hy
      ihave Hy := (pointsTo_split_subset (ℓ := yM.view.loc (c : Thread nD τ)) (Finset.subset_univ yZero)).2 $$ Hy
      ihave Hy := (y_tiles c ok) $$ Hy
      icases Hy with ⟨Hy, Hyl⟩
      iapply (wpk_loop c 1024 rfl (fun k => iprop(sPt Tb c ∗ GPart E c 0 k ∗ GPart E c 1 k))
        (fun k acc => t1_step Tb c i a7 h7 a8 h8 a9 h9 ok k0_h1 k0_h2 k acc)) $$ [Hs G0 G1]
      · isplitl [Hs]; · iexact Hs
        isplitl [G0]; · iexact G0
        iexact G1
      iintro ⟨Hs, G0, G1⟩
      iapply hR
      isplitr [HW Hs Hd Hn Hf Hyl HF]
      · unfold S0
        isplitl [G0]; · iapply (show GPart E c 0 1024 ⊢ Gst E c 0 by unfold Gst; rw [if_pos (by omega)]) $$ G0
        isplitl [G1]; · iapply (show GPart E c 1 1024 ⊢ Gst E c (0 + 1) by unfold Gst; rw [if_pos (by omega)]) $$ G1
        isplitl [G2]; · iexact G2
        isplitl [Ho Hs2]
        · unfold SX OKnown
          rw [if_pos (Nat.zero_le _), G.a0]
          isplitl [Ho]; · iexact Ho
          iexact Hs2
        isplitl [O1]; · iapply (show OFree c 1 ⊢ SS E c (0 + 1) by unfold SS; rw [if_neg (by omega)]) $$ O1
        isplitl [O0]; · iapply (show OFree c 0 ⊢ SS E c 0 by unfold SS; rw [if_neg (by omega)]) $$ O0
        isplitl [Hy]; · iexact Hy
        isplitr [Hb]
        · iapply (show (BI.emp : sProp 𝕄) ⊢ YD E c 0 by
            unfold YD
            rw [show (Finset.range (E.na + 1)).filter (· + 2 < 0) = ∅ from Finset.filter_false_of_mem fun _ _ => by omega, BI.bigSep_empty])
          iempintro
        iexact Hb
      isplitl [HW]; · iexact HW
      isplitl [Hs Hd Hn]
      · isplitl [Hs]; · iexact Hs
        isplitl [Hd]; · iexact Hd
        iexact Hn
      isplitl [Hf Hyl]
      · unfold Left
        isplitl [Hf]; · iexact Hf
        iexact Hyl
      iexact HF
    case p3 =>
      refine seq_ite c (R := iprop(S2 E c (i 0).val ∗ Ow c ∗ Tbs Tb c ∗ Left c E ∗ owns (c : Thread nD τ) a7 fullShare (B.g (i 0).val 0)
        ∗ owns (c : Thread nD τ) a8 fullShare (B.u (i 0).val 0) ∗ owns (c : Thread nD τ) a9 fullShare (B.d (i 0).val 0) ∗ Fr))
        ?_ (fun h hR => t2_spec c i a7 h7 a8 h8 a9 h9 k0_h1 (wt.1 h) hR)
        (fun h => sep_mono_left (t2_skip c _ fun h' => h (wt.2 h')))
      refine seq_ite c (R := iprop(S3 E c (i 0).val ∗ Ow c ∗ Tbs Tb c ∗ Left c E ∗ owns (c : Thread nD τ) a7 fullShare (B.g (i 0).val 0)
        ∗ owns (c : Thread nD τ) a8 fullShare (B.u (i 0).val 0) ∗ owns (c : Thread nD τ) a9 fullShare (B.d (i 0).val 0) ∗ Fr))
        ?_ (fun h hR => t3_spec c i a7 h7 a8 h8 a9 h9 ok k0_h1 (ws.1 h) hR)
        (fun h => sep_mono_left (t3_skip c _ fun h' => h (ws.2 h')))
      refine seq_dite c (R := iprop(S5 c E B (i 0).val ∗ Ow c ∗ Tbs Tb c ∗ Left c E ∗ owns (c : Thread nD τ) a7 fullShare (B.g (i 0).val 0)
        ∗ owns (c : Thread nD τ) a8 fullShare (B.u (i 0).val 0) ∗ owns (c : Thread nD τ) a9 fullShare (B.d (i 0).val 0) ∗ Fr))
        ?p6 ?p5 ?n5
      case n5 =>
        intro h
        refine sep_mono_left ?_
        unfold S5
        rw [if_neg fun h' => h (w5.2 h')]
      case p6 =>
        refine seq_dite c (R := iprop(MC E B c (i 0).val 0 ∗ Ow c ∗ Tbs Tb c ∗ Left c E ∗ owns (c : Thread nD τ) a7 fullShare (B.g (i 0).val 0)
        ∗ owns (c : Thread nD τ) a8 fullShare (B.u (i 0).val 0) ∗ owns (c : Thread nD τ) a9 fullShare (B.d (i 0).val 0) ∗ Fr))
          hR7 ?_ (fun h => sep_mono_left (t6_skip c _ fun h' => h (w6.2 h')))
        intro k0_h6 hR
        exact t4_spec Tb c i a7 h7 a8 h8 a9 h9 G _ k0_h1 k0_h6 (w6.1 k0_h6) hR
      case p5 =>
        intro k0_h5 hR
        have hi := w5.1 k0_h5
        unfold S3 GM SX OFree
        rw [if_pos hi, if_pos (Nat.le_of_lt hi), YT_pop c (i 0).val (Nat.le_of_lt hi)]
        iintro ⟨⟨H1, H2, H3, H4, H5, ⟨H6, H6s⟩, ⟨Hy, H7⟩, H8, Hb⟩, HW, ⟨Hs, Hd, Hn⟩, HF⟩
        iapply fupd_wp
        imod (sstart c ok (i 0).val (Nat.le_of_lt hi)) $$ [H4 Hy] with H4
        · isplitl [H4]; · iexact H4
          iexact Hy
        imod (gstart (E := E) c ((i 0).val + 2)) $$ H3 with H3
        imodintro
        iapply (wpk_seq c (part25_spec Tb c i a7 h7 a8 h8 a9 h9 (B := B) ok hi _ _ _ _ k0_h1 k0_h5)) $$ [Hs H6 H1 Hb H3]
        · isplitl [Hs]; · iexact Hs
          isplitl [H6]; · iexact H6
          isplitl [H1]; · iexact H1
          isplitl [Hb]; · iexact Hb
          iexact H3
        iintro ⟨Hs, H6, H1, Hb, H3⟩ %v69
        iapply (wpk_seq c (part26_spec Tb c i a7 h7 a8 h8 a9 h9 ok hi _ _ k0_h1 k0_h5 v69)) $$ [Hd H4]
        · isplitl [Hd]; · iexact Hd
          iexact H4
        iintro ⟨Hd, H4⟩ %v103
        iapply (wp_src Tb c (p := ((i 0).val + 2) * 1024 + 1023) (by omega) (off25_eq i)) $$ Hs
        iintro Hs
        iapply (wp_assume Variants.none (c : Thread nD τ) none Set.univ (fun _ _ => fits_h (src_fits Tb ok _)))
        iapply (gstep c ok ((i 0).val + 2) (j := 1) (by omega) (by omega)
          (gsm_eq (by omega) (off26_eq i)) (off27_eq i)
          (by rw [rowG_one (by omega) (by omega)])
          (src_off Tb _ _ _ (by rw [rowG_one (by omega) (by omega)]; omega))) $$ H3
        iintro H3
        iapply (wp_dst Tb c (p := (i 0).val * 1024 + 1023) (by omega) (off29_eq i)) $$ Hd
        iintro Hd
        iapply (wp_assume Variants.none (c : Thread nD τ) none Set.univ (fun _ _ => fits_y (dst_fits Tb ok _)))
        iapply (sstep c ok (i 0).val (by omega) (j := 1) (by omega)
          (ssm_eq (by omega) (off30_eq i)) (off32_eq i)
          (by rw [rowS_one hi (by omega)])
          (dst_off Tb _ _ _ (by rw [rowS_one hi (by omega)]))) $$ H4
        iintro H4
        iapply hR
        isplitr [HW Hs Hd Hn HF]
        · unfold S5
          rw [if_pos hi]
          unfold MC GP SP OA BF
          rw [if_pos hi, if_pos hi, if_pos hi, if_pos hi]
          isplitl [H1]; · iapply (gdone_free (E := E) c (i 0).val) $$ H1
          isplitl [H2]; · iexact H2
          isplitl [H3]; · iexact H3
          isplitl [H4]; · iexact H4
          isplitl [H5]; · iexact H5
          isplitl [H6 H6s]
          · isplitl [H6]; · iexact H6
            iexact H6s
          isplitl [H7]; · iexact H7
          isplitl [H8]; · iexact H8
          iexact Hb
        isplitl [HW]; · iexact HW
        isplitl [Hs Hd Hn]
        · isplitl [Hs]; · iexact Hs
          isplitl [Hd]; · iexact Hd
          iexact Hn
        iexact HF

end Cert.Kernel3Ideal.Moe
-- ==== Proof.MoeIEnv.lean ====
module

public import proofs.«01_k».proof.Proof.MoeIStep
public import proofs.«01_k».proof.Proof.MoeTables

@[expose] public section

/-! What the grouped kernel's run is about, from the contents of its arguments. -/

noncomputable section

namespace Cert.Kernel3Ideal.Moe

open Cert.Kernel3Ideal Cert.Kernel3Ideal.Gen
open Idealize.ShloMosaic Idealize.ShloMosaic.TcCoe Idealize.ShloMosaic.ValueIdx

variable {F : FTy → Type} [FloatOps F]

/-- The sums depend on the run only through the rows that are gathered. -/
theorem acc_congr (E E' : Env F) (B : Wts F) (h1 : E.hv = E'.hv) (h2 : E.src = E'.src) (t k : ℕ) : acc E B t k = acc E' B t k := by
  have hx : hbv E t = hbv E' t := by
    obtain ⟨hv, src, dst, na, Y0, Yf, A⟩ := E
    obtain ⟨hv', src', dst', na', Y0', Yf', A'⟩ := E'
    change hv = hv' at h1
    change src = src' at h2
    subst h1
    subst h2
    rfl
  induction k with
  | zero => rfl
  | succ k ih =>
    unfold acc
    rw [ih, hx]

/-- An entry of the sent tiles, all tiles in one column of rows. -/
def cell (A : ℕ → FVec F S1x1024x1024 .f32) (q : ℕ) (z : Fin 1024) : Elt F .f32 :=
  A (q / 1024) (ix3 (0 : Fin 1) (⟨q % 1024, Nat.mod_lt _ (by decide)⟩ : Fin 1024) z)

theorem cell_at (A : ℕ → FVec F S1x1024x1024 .f32) (T r : ℕ) (hr : r < 1024) (z : Fin 1024) :
    cell A (T * 1024 + r) z = A T (ix3 (0 : Fin 1) (⟨r, hr⟩ : Fin 1024) z) := by
  have h1 : (T * 1024 + r) / 1024 = T := by omega
  have h2 : (T * 1024 + r) % 1024 = r := by omega
  unfold cell
  simp only [h1, h2]

/-- A row table as numbers. -/
def numOf (v : S44032.Idx → BitVec 32) (p : ℕ) : ℕ := if h : p < 44032 then (v (ix1 (⟨p, h⟩ : Fin 44032))).toNat else 0

theorem numOf_at (v : S44032.Idx → BitVec 32) (p : ℕ) (h : p < 44032) : numOf v p = (v (ix1 (⟨p, h⟩ : Fin 44032))).toNat := dif_pos h

section

variable (hv : S16512x1024.Idx → Elt F .f32) (na : S1.Idx → BitVec 32) (src dst : S44032.Idx → BitVec 32)
  (y : S43136x1024.Idx → Elt F .f32) (B : Wts F)

open Classical in
/-- The result with its middle rows zero. -/
def yStart : S43136x1024.Idx → Elt F .f32 := fun p => if p ∈ yZero then zv else y p

theorem yStart_on (p) (hp : p ∈ yZero) : yStart y p = zv := by
  unfold yStart
  exact if_pos hp
theorem yStart_off (p) (hp : p ∉ yZero) : yStart y p = y p := by
  unfold yStart
  exact if_neg hp

/-- The run but for the tiles and the final result. -/
def base : Env F where
  hv := hv
  src := numOf src
  dst := numOf dst
  na := (na (ix1 (0 : Fin 1))).toNat
  Y0 := yStart y
  Yf := yStart y
  A := fun _ => k0_pay2

/-- The sent tiles: the tile of zeros, then the finished sums. -/
def tiles : ℕ → FVec F S1x1024x1024 .f32
  | 0 => k0_pay2
  | T + 1 => acc (base hv na src dst y) B T 7

open Classical in
/-- The result at the end. -/
def yEnd : S43136x1024.Idx → Elt F .f32 := fun p =>
  if h : ∃ q, q < ((na (ix1 (0 : Fin 1))).toNat + 1) * 1024 ∧ numOf dst q = (p 0).val then cell (tiles hv na src dst y B) h.choose (p 1)
  else yStart y p

/-- The run. -/
def envOf : Env F := { base hv na src dst y with Yf := yEnd hv na src dst y B, A := tiles hv na src dst y B }

theorem env_Y0 : (envOf hv na src dst y B).Y0 = yStart y := by simp only [envOf, base]
theorem env_Yf : (envOf hv na src dst y B).Yf = yEnd hv na src dst y B := by unfold envOf; rfl
theorem env_A : (envOf hv na src dst y B).A = tiles hv na src dst y B := by unfold envOf; rfl
theorem env_na : (envOf hv na src dst y B).na = (na (ix1 (0 : Fin 1))).toNat := by unfold envOf base; rfl
theorem env_src : (envOf hv na src dst y B).src = numOf src := by unfold envOf base; rfl
theorem env_dst : (envOf hv na src dst y B).dst = numOf dst := by unfold envOf base; rfl
theorem env_hv : (envOf hv na src dst y B).hv = hv := by unfold envOf base; rfl

variable {te : S43.Idx → BitVec 32}

theorem yEnd_at (h : Pre_tables.Says te na src dst) (q : ℕ) (hq : q < ((na (ix1 (0 : Fin 1))).toNat + 1) * 1024) (hx : numOf dst q < 43136)
    (z : Fin 1024) : yEnd hv na src dst y B (ix2 (⟨numOf dst q, hx⟩ : Fin 43136) z) = cell (tiles hv na src dst y B) q z := by
  have hn := h.na_le
  have ex : ∃ q', q' < ((na (ix1 (0 : Fin 1))).toNat + 1) * 1024 ∧ numOf dst q' = numOf dst q := ⟨q, hq, rfl⟩
  have e : ex.choose = q := by
    have h1 := ex.choose_spec.1
    have h2 := ex.choose_spec.2
    generalize ex.choose = q' at h1 h2 ⊢
    rw [numOf_at dst q (by omega), numOf_at dst q' (by omega)] at h2
    exact congrArg Fin.val (h.inj ⟨q', by omega⟩ ⟨q, by omega⟩ h1 hq h2)
  unfold yEnd
  refine (dif_pos ex).trans ?_
  change cell _ ex.choose z = _
  rw [e]

theorem envOf_ok (h : Pre_tables.Says te na src dst) : (envOf hv na src dst y B).Ok := by
  have hn := h.na_le
  refine ⟨?_, ?_, ?_, ?_, ?_⟩
  · rw [env_na]; exact h.na_le
  · intro p hp
    rw [env_src, numOf_at src p hp]; exact h.src_lt _
  · intro p hp
    rw [env_dst, numOf_at dst p hp]; exact h.dst_lt _
  · intro p q hp hq e
    rw [env_na] at hp hq
    rw [env_dst, numOf_at dst p (by omega), numOf_at dst q (by omega)] at e
    exact congrArg Fin.val (h.inj ⟨p, by omega⟩ ⟨q, by omega⟩ hp hq e)
  · intro T r hr
    rw [env_na, env_dst, env_Yf, env_A]
    intro hx z hT
    refine (yEnd_at hv na src dst y B h (T * 1024 + r) (by omega) hx z).trans ?_
    exact cell_at _ T r hr z

theorem envOf_good (h : Pre_tables.Says te na src dst) : Good (envOf hv na src dst y B) B := by
  refine ⟨envOf_ok hv na src dst y B h, ?_, ?_, ?_⟩
  · rw [env_A]
    unfold tiles
    rfl
  · intro T _
    rw [env_A]
    unfold tiles
    exact acc_congr _ _ B (by rw [env_hv]; unfold base; rfl) (by rw [env_src]; unfold base; rfl) T 7
  · intro p hp
    rw [env_Y0]; exact yStart_on y p hp

theorem envOf_off (p) (hp : p ∉ yZero) : (envOf hv na src dst y B).Y0 p = y p := by
  rw [env_Y0]; exact yStart_off y p hp

/-- Off the rows sent to, the result is as it started. -/
theorem yEnd_left (p) (hp : p ∈ yLeft (envOf hv na src dst y B)) : (envOf hv na src dst y B).Yf p = (envOf hv na src dst y B).Y0 p := by
  rw [env_Yf, env_Y0]
  unfold yEnd
  refine dif_neg fun hq => ?_
  obtain ⟨q, hq, e⟩ := hq
  simp only [yLeft, Finset.mem_sdiff, Finset.mem_biUnion, Finset.mem_univ, _root_.true_and] at hp
  have hT : q / 1024 < (envOf hv na src dst y B).na + 1 := by rw [env_na]; omega
  refine hp ⟨⟨q / 1024, hT⟩, ?_⟩
  simp only [tileRows, Finset.mem_filter, Finset.mem_univ, _root_.true_and]
  refine ⟨q % 1024, Nat.mod_lt _ (by decide), e.symm.trans ?_⟩
  rw [env_dst]
  congr 1
  omega

/-- The three tables the kernel's body reads. -/
def tabOf : Tab (envOf hv na src dst y B) where
  sv := src
  dv := dst
  nv := na
  hs := fun p h => by rw [env_src]; exact (numOf_at src p h).symm
  hd := fun p h => by rw [env_dst]; exact (numOf_at dst p h).symm
  hn := by rw [env_na]

end

end Cert.Kernel3Ideal.Moe
end
-- ==== Proof.MoeILaunch.lean ====
module

public import proofs.«01_k».proof.Proof.MoeIEnv
public import proofs.«01_k».proof.Proof.Gen.Kernel3Ideal.Launch
public import Idealize.ShloMosaic.Lib.Pipeline.FrameBody
public import Idealize.ShloMosaic.Lib.Pipeline.FrameValue

@[expose] public section

/-! The grouped kernel's launch: the windows' blocks, what is held between steps, and the run. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

abbrev V (c : Dev nD) (b : Ref sig .tc) : Buf (Elt F) ((c : Thread nD τ).loc b) := m ((c : Thread nD τ).loc b)

/-- The tables' contents. -/
def tbl : pre0.Contents (Elt F) := fun k => m (((0 : Dev nD) : Thread nD τ).loc (pre0.ref k))

abbrev teV (c : Dev nD) : S43.Idx → BitVec 32 := V m c main_arg1
abbrev naV (c : Dev nD) : S1.Idx → BitVec 32 := V m c main_arg2
abbrev srcV (c : Dev nD) : S44032.Idx → BitVec 32 := V m c main_arg3
abbrev dstV (c : Dev nD) : S44032.Idx → BitVec 32 := V m c main_arg4

/-- The tables are as the precondition says. -/
def Good0 : Prop := ∀ c : Dev nD, Pre_tables.Says (teV m c) (naV m c) (srcV m c) (dstV m c)

theorem dev_eq (c : Dev nD) : c = 0 := Subsingleton.elim _ _

theorem chunk_le (b : BitVec 1) (k : ℕ) (hk : k < 7) : (Scalar.select b (BitVec.ofNat 32 k) 6#32).toNat ≤ 6 := by
  unfold Scalar.select
  split
  · rw [BitVec.toNat_ofNat]; omega
  · decide

theorem te_at (h : Good0 m) (x : S43.Idx) : (teV m 0 x).toNat < 8 := by
  have e : x = ix1 (x 0) := by
    funext a
    match a with
    | ⟨0, _⟩ => rfl
  rw [e]
  exact (h 0).te_lt _

theorem ok_of (h : Good0 m) : ok0 (tbl m) := by
  unfold ok0
  have hc : ∀ i : grid0.Coords, (i 1).val < 7 := fun i => (i 1).isLt
  refine ⟨fun i => ⟨fun a => ?_, Or.inl rfl⟩, fun i => ⟨fun a => ?_, Or.inl rfl⟩, fun i => ⟨fun a => ?_, Or.inl rfl⟩⟩
  · have h1 : cc0_transform_1 k0_off1_inb numel1_S1 inb_S1_S1_0 (tbl m) i 0 < 8 := te_at m h _
    have h3 : cc0_transform_1 k0_off1_inb numel1_S1 inb_S1_S1_0 (tbl m) i 2 ≤ 6 := chunk_le _ _ (hc i)
    match a with
    | ⟨0, _⟩ => change (cc0_transform_1 k0_off1_inb numel1_S1 inb_S1_S1_0 (tbl m) i 0 + 1) * 1 ≤ 8; omega
    | ⟨1, _⟩ => change (0 + 1) * 1024 ≤ 1024; omega
    | ⟨2, _⟩ => change (cc0_transform_1 k0_off1_inb numel1_S1 inb_S1_S1_0 (tbl m) i 2 + 1) * 512 ≤ 3584; omega
  · have h1 : cc0_transform_2 k0_off1_inb numel1_S1 inb_S1_S1_0 (tbl m) i 0 < 8 := te_at m h _
    have h3 : cc0_transform_2 k0_off1_inb numel1_S1 inb_S1_S1_0 (tbl m) i 2 ≤ 6 := chunk_le _ _ (hc i)
    match a with
    | ⟨0, _⟩ => change (cc0_transform_2 k0_off1_inb numel1_S1 inb_S1_S1_0 (tbl m) i 0 + 1) * 1 ≤ 8; omega
    | ⟨1, _⟩ => change (0 + 1) * 1024 ≤ 1024; omega
    | ⟨2, _⟩ => change (cc0_transform_2 k0_off1_inb numel1_S1 inb_S1_S1_0 (tbl m) i 2 + 1) * 512 ≤ 3584; omega
  · have h1 : cc0_transform_3 k0_off1_inb numel1_S1 inb_S1_S1_0 (tbl m) i 0 < 8 := te_at m h _
    have h3 : cc0_transform_3 k0_off1_inb numel1_S1 inb_S1_S1_0 (tbl m) i 1 ≤ 6 := chunk_le _ _ (hc i)
    match a with
    | ⟨0, _⟩ => change (cc0_transform_3 k0_off1_inb numel1_S1 inb_S1_S1_0 (tbl m) i 0 + 1) * 1 ≤ 8; omega
    | ⟨1, _⟩ => change (cc0_transform_3 k0_off1_inb numel1_S1 inb_S1_S1_0 (tbl m) i 1 + 1) * 512 ≤ 3584; omega
    | ⟨2, _⟩ => change (0 + 1) * 1024 ≤ 1024; omega

/-- The pipeline at these tables. -/
def adm (h : Good0 m) (_ : Fin 1) : (pcfg0 (F := F)).Adm := ⟨tbl m, ok_of m h⟩

variable (h : Good0 m)

abbrev cfgA : Cfg sig Λ₀ := cfg0 (adm m h 0)

/-- What a window's buffer holds at a step. -/
def blkA (c : Dev nD) (w : Fin 3) (n : ℕ) (hn : n < (cfgA m h).N) :=
  Pipeline.heldIn (c := c) (τ := τ) (cfgA m h) (fun w => V m c (Pipeline.arrRef spec0 w)) w n hn

theorem blkA_congr (c : Dev nD) (w : Fin 3) {n n' : ℕ} (e : n = n') (hn : n < (cfgA m h).N) (hn' : n' < (cfgA m h).N) :
    blkA m h c w n hn = blkA m h c w n' hn' := by subst e; rfl

theorem N_eq : (cfgA m h).N = 301 := N_0

theorem step_lt {i k : ℕ} (hi : i < 43) (hk : k < 7) : 7 * i + k < (cfgA m h).N := by rw [N_eq]; omega

/-- The weights' blocks, step by step. -/
def wts (c : Dev nD) : Wts F where
  g i k := if hh : i < 43 ∧ k < 7 then blkA m h c 0 (7 * i + k) (step_lt m h hh.1 hh.2) else fun _ => zv
  u i k := if hh : i < 43 ∧ k < 7 then blkA m h c 1 (7 * i + k) (step_lt m h hh.1 hh.2) else fun _ => zv
  d i k := if hh : i < 43 ∧ k < 7 then blkA m h c 2 (7 * i + k) (step_lt m h hh.1 hh.2) else fun _ => zv

/-- The run's particulars, from the memory. -/
abbrev envA (c : Dev nD) : Env F := envOf (V m c main_arg0) (naV m c) (srcV m c) (dstV m c) (V m c main_v0) (wts m h c)
abbrev tabA (c : Dev nD) : Tab (envA m h c) := tabOf (V m c main_arg0) (naV m c) (srcV m c) (dstV m c) (V m c main_v0) (wts m h c)

theorem goodA (c : Dev nD) : Good (envA m h c) (wts m h c) := envOf_good _ _ _ _ _ _ (h c)

/-- The table of experts, which only the windows read. -/
abbrev tePt (c : Dev nD) : sProp 𝕄 := (Memref.whole main_arg1).view.loc (c : Thread nD τ) ↦[Finset.univ]{fullShare.right} teV m c

/-- What is held throughout and not used by the body. -/
def rest (c : Dev nD) : sProp 𝕄 :=
  iprop(tePt m c ∗ (∃ r, prngReg c r) ∗ hPt c Finset.univ (Transfers.shareDrop fullShare 3) (V m c main_arg0))

def dats (_ : Fin 1) (c : Dev nD) : Dat τ (Elt F) Unit ℕ (Pipeline.UD sig nD τ) ℕ (cfgA m h) c where
  A w := V m c (Pipeline.arrRef spec0 w)
  after w t := blkA m h c w t.val t.isLt
  Φ t := iprop(St c (envA m h c) (wts m h c) (V m c main_v0) t.val ∗ Tbs (tabA m h c) c ∗ rest m c)
  q _ := fullShare
  owed _ := 0

theorem A_eq (c : Dev nD) (w : Fin 3) : (dats m h 0 c).A w = V m c (Pipeline.arrRef spec0 w) := by
  dsimp only [dats]

theorem after_eq (c : Dev nD) (w : Fin 3) (t : Fin (cfgA m h).N) : (dats m h 0 c).after w t = blkA m h c w t.val t.isLt := by
  dsimp only [dats]

theorem before_eq (c : Dev nD) (w : Fin 3) (t : Fin (cfgA m h).N) (d) : (dats m h 0 c).before w t d = blkA m h c w t.val t.isLt := by
  refine (dats m h 0 c).before_eq_heldIn w ?_ (fun _ => rfl) ?_ (fun t => after_eq m h c w t) t d
  · match w with
    | ⟨0, _⟩ => rfl
    | ⟨1, _⟩ => rfl
    | ⟨2, _⟩ => rfl
  · match w with
    | ⟨0, _⟩ => exact fun _ _ => rfl
    | ⟨1, _⟩ => exact fun _ _ => rfl
    | ⟨2, _⟩ => exact fun _ _ => rfl

/-- A step's number from its place in the grid. -/
theorem step_val (t : Fin (cfgA m h).N) : t.val = 7 * ((cfgA m h).grid.coords t 0).val + ((cfgA m h).grid.coords t 1).val := by
  have ht : t.val < 301 := by
    have := t.isLt
    exact this.trans_eq (N_eq m h)
  have s0 : grid0.stride 0 = 7 := by decide
  have s1 : grid0.stride 1 = 1 := by decide
  have h0 : (grid0.coords t 0).val = t.val / 7 % 43 := Pipeline.Grid.coords_val (G := grid0) t 0 s0 rfl
  have h1 : (grid0.coords t 1).val = t.val / 1 % 7 := Pipeline.Grid.coords_val (G := grid0) t 1 s1 rfl
  change t.val = 7 * (grid0.coords t 0).val + (grid0.coords t 1).val
  omega

abbrev ms0 (t : Fin (cfgA m h).N) : Memref sig .tc .vmem S1x1024x512 .f32 := (win0 (adm m h 0) 0).stage ((cfgA m h).slots t 0)
abbrev ms1 (t : Fin (cfgA m h).N) : Memref sig .tc .vmem S1x1024x512 .f32 := (win0 (adm m h 0) 1).stage ((cfgA m h).slots t 1)
abbrev ms2 (t : Fin (cfgA m h).N) : Memref sig .tc .vmem S1x512x1024 .f32 := (win0 (adm m h 0) 2).stage ((cfgA m h).slots t 2)

def bodyPre (c : Dev nD) (t : Fin (cfgA m h).N) : sProp 𝕄 :=
  iprop((dats m h 0 c).Φ t.castSucc ∗ (dats m h 0 c).owesAt () t.castSucc
    ∗ (∃ d, owns (c : Thread nD τ) (ms0 m h t) fullShare ((dats m h 0 c).before 0 t d))
    ∗ (∃ d, owns (c : Thread nD τ) (ms1 m h t) fullShare ((dats m h 0 c).before 1 t d))
    ∗ (∃ d, owns (c : Thread nD τ) (ms2 m h t) fullShare ((dats m h 0 c).before 2 t d)))
def bodyPost (c : Dev nD) (t : Fin (cfgA m h).N) : sProp 𝕄 :=
  iprop((dats m h 0 c).Φ t.succ ∗ (dats m h 0 c).owesAt () t.succ
    ∗ owns (c : Thread nD τ) (ms0 m h t) fullShare ((dats m h 0 c).after 0 t)
    ∗ owns (c : Thread nD τ) (ms1 m h t) fullShare ((dats m h 0 c).after 1 t)
    ∗ owns (c : Thread nD τ) (ms2 m h t) fullShare ((dats m h 0 c).after 2 t))

/-- The body at a step. -/
abbrev bodyAt (t : Fin (cfgA m h).N) : Prog (TpuEff nD τ sig (Elt F) Λ₀ .tc) Unit :=
  cc0_moe_grouped (F := F) (grid0.coords t) (Memref.whole main_arg1) (Memref.isWhole_whole _) (Memref.whole main_arg2) (Memref.isWhole_whole _)
    (Memref.whole main_arg3) (Memref.isWhole_whole _) (Memref.whole main_arg4) (Memref.isWhole_whole _) (Memref.whole main_arg0)
    (Memref.isWhole_whole _) (ms0 m h t) (hstage0_0 (((cfgA m h).slots t 0).cast nbuf0_0)) (ms1 m h t) (hstage0_1 (((cfgA m h).slots t 1).cast nbuf0_1))
    (ms2 m h t) (hstage0_2 (((cfgA m h).slots t 2).cast nbuf0_2)) (Memref.whole main_v0) (Memref.isWhole_whole _) (Memref.whole cc0_scratch0)
    (Memref.isWhole_whole _) (Memref.whole cc0_scratch1) (Memref.isWhole_whole _) (Memref.whole cc0_scratch2)
    (Memref.isWhole_whole _) cc0_scratch3 cc0_scratch4 cc0_scratch5

theorem sound_body (c : Dev nD) (t : Fin (cfgA m h).N) :
    bodyPre m h c t ⊢ wpk c (bodyAt m h t) (fun _ => bodyPost m h c t) := by
  have hs := step_val m h t
  have hi : ((cfgA m h).grid.coords t 0).val < 43 := ((cfgA m h).grid.coords t 0).isLt
  have hk : ((cfgA m h).grid.coords t 1).val < 7 := ((cfgA m h).grid.coords t 1).isLt
  have eg : (wts m h c).g ((cfgA m h).grid.coords t 0).val ((cfgA m h).grid.coords t 1).val = blkA m h c 0 t.val t.isLt := by
    unfold wts
    refine (dif_pos ⟨hi, hk⟩).trans ?_
    exact blkA_congr m h c _ hs.symm _ _
  have eu : (wts m h c).u ((cfgA m h).grid.coords t 0).val ((cfgA m h).grid.coords t 1).val = blkA m h c 1 t.val t.isLt := by
    unfold wts
    refine (dif_pos ⟨hi, hk⟩).trans ?_
    exact blkA_congr m h c _ hs.symm _ _
  have ed : (wts m h c).d ((cfgA m h).grid.coords t 0).val ((cfgA m h).grid.coords t 1).val = blkA m h c 2 t.val t.isLt := by
    unfold wts
    refine (dif_pos ⟨hi, hk⟩).trans ?_
    exact blkA_congr m h c _ hs.symm _ _
  have key := body_spec (tabA m h c) c (grid0.coords t) (ms0 m h t) (hstage0_0 (((cfgA m h).slots t 0).cast nbuf0_0))
    (ms1 m h t) (hstage0_1 (((cfgA m h).slots t 1).cast nbuf0_1)) (ms2 m h t) (hstage0_2 (((cfgA m h).slots t 2).cast nbuf0_2))
    (goodA m h c) (V m c main_v0) (fun p hp => envOf_off _ _ _ _ _ _ p hp) t.val hs (rest m c)
  rw [eg, eu, ed] at key
  unfold bodyPre bodyPost bodyAt
  rw [cc0_moe_grouped_eq_skeleton]
  rw [after_eq, after_eq, after_eq]
  unfold Dat.owesAt Pipeline.owesWithin
  rw [show (dats m h 0 c).owed t.castSucc = 0 from rfl, show (dats m h 0 c).owed t.succ = 0 from rfl]
  rw [show (dats m h 0 c).Φ t.castSucc = iprop(St c (envA m h c) (wts m h c) (V m c main_v0) t.val ∗ Tbs (tabA m h c) c ∗ rest m c) from rfl,
    show (dats m h 0 c).Φ t.succ = iprop(St c (envA m h c) (wts m h c) (V m c main_v0) (t.val + 1) ∗ Tbs (tabA m h c) c ∗ rest m c) from rfl]
  refine BIBase.Entails.trans ?_ (key.trans (wp_mono _ _ _ fun _ => ?_))
  · iintro ⟨⟨HS, HT, HR⟩, ⟨%W, -, HW⟩, ⟨%d0, H0⟩, ⟨%d1, H1⟩, ⟨%d2, H2⟩⟩
    ihave H0 := (ent_of_eq (congrArg (owns (c : Thread nD τ) (ms0 m h t) fullShare) (before_eq m h c 0 t d0))) $$ H0
    ihave H1 := (ent_of_eq (congrArg (owns (c : Thread nD τ) (ms1 m h t) fullShare) (before_eq m h c 1 t d1))) $$ H1
    ihave H2 := (ent_of_eq (congrArg (owns (c : Thread nD τ) (ms2 m h t) fullShare) (before_eq m h c 2 t d2))) $$ H2
    isplitl [HS]; · iexact HS
    isplitl [HW]; · iexists W; iexact HW
    isplitl [HT]; · iexact HT
    isplitl [H0]; · iexact H0
    isplitl [H1]; · iexact H1
    isplitl [H2]; · iexact H2
    iexact HR
  · iintro ⟨HS, ⟨%W, HW⟩, HT, H0, H1, H2, HR⟩
    isplitl [HS HT HR]
    · isplitl [HS]; · iexact HS
      isplitl [HT]; · iexact HT
      iexact HR
    isplitl [HW]
    · iexists W
      isplitr; · ipureintro; exact fun _ _ => Or.inl trivial
      iexact HW
    isplitl [H0]; · iexact H0
    isplitl [H1]; · iexact H1
    iexact H2

theorem defs₀_row (t : Fin (cfgA m h).N) :
    defs₀ (F := F) .tc (cfgA m h).body ((cfgA m h).bodyArgs t ((cfgA m h).slots t)) = bodyAt m h t := by
  unfold defs₀; rw [Defs.onTc_tc]

theorem body_obligation (c : Dev nD) : BodyObligation (dats (F := F) m h 0 c) (defs₀ (F := F)) Variants.none () Set.univ := fun t => by
  rw [bigSep_W0, bigSep_W0, defs₀_row]
  exact triple_restated (sound_body m h c t) rfl .rfl fun _ => .rfl

end Cert.Kernel3Ideal.Moe
end
-- ==== Proof.MoeIEnds.lean ====
module

public import proofs.«01_k».proof.Proof.MoeILaunch

@[expose] public section

/-! What the grouped kernel's launch takes and gives back, and the run. -/

noncomputable section

namespace Cert.Kernel3Ideal.Moe

open Cert.Kernel3Ideal Cert.Kernel3Ideal.Gen
open Idealize.ShloMosaic Idealize.ShloMosaic.TcCoe Idealize.ShloMosaic.Tactic Idealize.ShloMosaic.ValueIdx
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (h : Good0 m)

/-! ## The slots of a three-slot buffer -/

theorem slots_sub : slotAll 1 ⊆ (Finset.univ \ slotAll 0 : Finset S3x1024x1024.Idx) := by
  intro p hp
  simp only [slotAll, Finset.mem_sdiff, Finset.mem_filter, Finset.mem_univ, _root_.true_and] at hp ⊢
  omega

theorem slots_two : (Finset.univ \ slotAll 0) \ slotAll 1 = slotAll 2 := by
  ext p
  have h3 : (p 0).val < 3 := (p 0).isLt
  simp only [slotAll, Finset.mem_sdiff, Finset.mem_filter, Finset.mem_univ, _root_.true_and]
  omega

theorem slots_d01 : Disjoint (slotAll 0) (slotAll 1) := by
  rw [Finset.disjoint_left]
  intro p hp hp'
  simp only [slotAll, Finset.mem_filter, Finset.mem_univ, _root_.true_and] at hp hp'
  omega

theorem slots_d012 : Disjoint (slotAll 0 ∪ slotAll 1) (slotAll 2) := by
  rw [Finset.disjoint_left]
  intro p hp hp'
  simp only [slotAll, Finset.mem_union, Finset.mem_filter, Finset.mem_univ, _root_.true_and] at hp hp'
  omega

theorem slots_all : slotAll 0 ∪ slotAll 1 ∪ slotAll 2 = Finset.univ := by
  ext p
  have h3 : (p 0).val < 3 := (p 0).isLt
  simp only [slotAll, Finset.mem_union, Finset.mem_filter, Finset.mem_univ, _root_.true_and, _root_.iff_true]
  omega

variable (c : Dev nD)

theorem x_split (f : S3x1024x1024.Idx → Elt F .f32) : (xPt c Finset.univ f : sProp 𝕄)
    ⊢ iprop(xPt c (slotAll 0) f ∗ xPt c (slotAll 1) f ∗ xPt c (slotAll 2) f) := by
  refine (pointsTo_split_subset (ℓ := xsM.view.loc (c : Thread nD τ)) (Finset.subset_univ (slotAll 0))).1.trans (sep_mono_right ?_)
  refine (pointsTo_split_subset (ℓ := xsM.view.loc (c : Thread nD τ)) slots_sub).1.trans (sep_mono_right ?_)
  rw [slots_two]

theorem o_split (f : S3x1024x1024.Idx → Elt F .f32) : (oPt c Finset.univ f : sProp 𝕄)
    ⊢ iprop(oPt c (slotAll 0) f ∗ oPt c (slotAll 1) f ∗ oPt c (slotAll 2) f) := by
  refine (pointsTo_split_subset (ℓ := obM.view.loc (c : Thread nD τ)) (Finset.subset_univ (slotAll 0))).1.trans (sep_mono_right ?_)
  refine (pointsTo_split_subset (ℓ := obM.view.loc (c : Thread nD τ)) slots_sub).1.trans (sep_mono_right ?_)
  rw [slots_two]

theorem x_join : iprop((∃ f, xPt c (slotAll 0) f) ∗ (∃ f, xPt c (slotAll 1) f) ∗ (∃ f, xPt c (slotAll 2) f))
    ⊢ (iprop(∃ f, xPt c Finset.univ f) : sProp 𝕄) := by
  iintro ⟨⟨%f0, H0⟩, ⟨%f1, H1⟩, ⟨%f2, H2⟩⟩
  ihave H := (pointsTo_join (ℓ := xsM.view.loc (c : Thread nD τ)) slots_d01) $$ [H0 H1]
  · isplitl [H0]; · iexact H0
    iexact H1
  ihave H := (pointsTo_join (ℓ := xsM.view.loc (c : Thread nD τ)) slots_d012) $$ [H H2]
  · isplitl [H]; · iexact H
    iexact H2
  ihave H := (ent_of_eq (congrArg (fun S => (xsM.view.loc (c : Thread nD τ) ↦[S]{fullShare} _ : sProp 𝕄)) slots_all)) $$ H
  iexists _
  iexact H

theorem o_join : iprop((∃ f, oPt c (slotAll 0) f) ∗ (∃ f, oPt c (slotAll 1) f) ∗ (∃ f, oPt c (slotAll 2) f))
    ⊢ (iprop(∃ f, oPt c Finset.univ f) : sProp 𝕄) := by
  iintro ⟨⟨%f0, H0⟩, ⟨%f1, H1⟩, ⟨%f2, H2⟩⟩
  ihave H := (pointsTo_join (ℓ := obM.view.loc (c : Thread nD τ)) slots_d01) $$ [H0 H1]
  · isplitl [H0]; · iexact H0
    iexact H1
  ihave H := (pointsTo_join (ℓ := obM.view.loc (c : Thread nD τ)) slots_d012) $$ [H H2]
  · isplitl [H]; · iexact H
    iexact H2
  ihave H := (ent_of_eq (congrArg (fun S => (obM.view.loc (c : Thread nD τ) ↦[S]{fullShare} _ : sProp 𝕄)) slots_all)) $$ H
  iexists _
  iexact H

theorem h_three (f : S16512x1024.Idx → Elt F .f32) : (hPt c Finset.univ fullShare f : sProp 𝕄)
    ⊣⊢ iprop(hPt c Finset.univ (Transfers.shareDrop fullShare 3) f ∗ hPt c Finset.univ (tokS 0) f ∗ hPt c Finset.univ (tokS 1) f
      ∗ hPt c Finset.univ (tokS 2) f) := by
  refine (h_toks c 3 fullShare f).trans ?_
  rw [bigSep_univ_eq_bigSepL [0, 1, 2] (by decide) (by decide)]
  exact .rfl

/-! ## The result, put back together -/

theorem y_back (E : Env F) (ok : E.Ok) (hY : ∀ p, p ∈ yLeft E → E.Yf p = E.Y0 p) :
    iprop(YD E c 43 ∗ yPt c (yLeft E) E.Y0) ⊢ (yPt c Finset.univ E.Yf : sProp 𝕄) := by
  have hd : ∀ T T' : Fin (E.na + 1), T ≠ T' → Disjoint (tileRows E T.val) (tileRows E T'.val) := by
    intro T T' hne
    rw [Finset.disjoint_left]
    intro p hp hp'
    simp only [tileRows, Finset.mem_filter, Finset.mem_univ, _root_.true_and] at hp hp'
    obtain ⟨r, hr, e⟩ := hp
    obtain ⟨r', hr', e'⟩ := hp'
    have h1 := T.isLt
    have h2 := T'.isLt
    have := ok.inj (T.val * 1024 + r) (T'.val * 1024 + r') (by omega) (by omega) (e.symm.trans e')
    exact hne (Fin.ext (by omega))
  have hn := ok.na_le
  have e1 : (YD E c 43 : sProp 𝕄) = yPt c (Finset.univ.biUnion fun T : Fin (E.na + 1) => tileRows E T.val) E.Yf := by
    refine Eq.trans ?_ (Ring.pointsTo_sub_blocks (ℓ := yM.view.loc (c : Thread nD τ)) (fun T : Fin (E.na + 1) => tileRows E T.val) hd _ rfl _).symm
    rw [Ring.bigSep_fin_eq_range (E.na + 1) _ (fun T => yPt c (tileRows E T) E.Yf) fun _ _ => rfl]
    unfold YD
    rw [Finset.filter_true_of_mem fun T hT => by have := Finset.mem_range.1 hT; omega]
  have e2 : (yPt c (yLeft E) E.Y0 : sProp 𝕄) = yPt c (yLeft E) E.Yf :=
    pointsTo_congr (ℓ := yM.view.loc (c : Thread nD τ)) fun p hp => (hY p hp).symm
  rw [e1, e2]
  exact (pointsTo_split_subset (ℓ := yM.view.loc (c : Thread nD τ)) (Finset.subset_univ _)).2

/-! ## The launch's parts, named -/

def osem0 : Fin 7 → SemLoc sig := fun k => .dma ⟨6 + k.val, by have := k.isLt; show 6 + k.val < 13; omega⟩
theorem ownSemFacts0 : Pipeline.OwnSemFacts spec0 osem0 := by decide
theorem ownSems00_eq :
    (Pipeline.ownSems0 (Ix := Unit) (Name := ℕ) (U := Pipeline.UD sig nD τ) (Lvl := ℕ) (Val := Elt F) (τ := τ) osem0 c : sProp 𝕄)
      = iprop(semZ c (gsm 0) ∗ semZ c (gsm 1) ∗ semZ c (gsm 2) ∗ semZ c (ssm 0) ∗ semZ c (ssm 1) ∗ semZ c (ssm 2) ∗ semZ c fsm) := by
  rw [Pipeline.ownSems0_eq_of_list c osem0 [0, 1, 2, 3, 4, 5, 6] (by decide) (by decide)]; rfl

def H0 : Finset (Ref sig .tc) := {main_arg0}
def R0 : Finset (Ref sig .tc) := {main_v0}
theorem H0_sub : H0 ⊆ Pipeline.restRefsP sig pre0 spec0 := by decide
theorem R0_sub : R0 ⊆ Pipeline.restRefsP sig pre0 spec0 \ H0 := by decide

theorem hPts_eq : (bigSep H0 (fun b => ((c : Thread nD τ).loc b) ↦{fullShare} V m c b) : sProp 𝕄)
    = hPt c Finset.univ fullShare (V m c main_arg0) := by
  rw [BI.bigSep_eq_bigSepL_of_eq [main_arg0] (by decide) (by decide)]; rfl

theorem yPts_eq (G : (b : Ref sig .tc) → Buf (Elt F) ((c : Thread nD τ).loc b)) :
    (Pipeline.routed R0 c G : sProp 𝕄) = yPt c Finset.univ (G main_v0) := by
  unfold Pipeline.routed
  rw [BI.bigSep_eq_bigSepL_of_eq [main_v0] (by decide) (by decide)]; rfl

theorem tabs_eq : (Pipeline.ΦT (U := Pipeline.UD sig nD τ) pre0 (tbl m) c : sProp 𝕄)
    = iprop(tePt m c ∗ nPt (tabA m h c) c ∗ sPt (tabA m h c) c ∗ dPt (tabA m h c) c) := by
  obtain rfl := dev_eq c
  unfold Pipeline.ΦT Pipeline.prefHeld
  rw [bigSep_univ_eq_bigSepL [0, 1, 2, 3] (by decide) (by decide)]; rfl

/-! ## In and out -/

theorem phi_in : iprop(Pipeline.ΦDRG osem0 spec0 H0 R0 (V m) (V m) c ∗ Pipeline.ΦT (U := Pipeline.UD sig nD τ) pre0 (tbl m) c)
    ⊢ (dats (F := F) m h 0 c).Φ 0 := by
  rw [Pipeline.ΦDRG_eq, scopedRest0_eq, ownSems00_eq, hPts_eq, yPts_eq, tabs_eq m h]
  change _ ⊢ iprop(Init c (envA m h c) (V m c main_v0) ∗ Tbs (tabA m h c) c ∗ rest m c)
  unfold Init FInit GF OFree rest
  rw [env_hv]
  iintro ⟨⟨⟨⟨%fx, Hx⟩, ⟨%fb, Hb⟩, ⟨%fo, Ho⟩⟩, HP, ⟨G0, G1, G2, S0, S1, S2, HF⟩, Hh, Hy⟩, HTe, HN, HS, HD⟩
  ihave ⟨X0, X1, X2⟩ := (x_split c fx) $$ Hx
  ihave ⟨O0, O1, O2⟩ := (o_split c fo) $$ Ho
  ihave ⟨HR, T0, T1, T2⟩ := (h_three c (V m c main_arg0)).1 $$ Hh
  ihave ⟨Y0, Y1⟩ := (pointsTo_split_subset (ℓ := yM.view.loc (c : Thread nD τ)) (Finset.subset_univ yZero)).1 $$ Hy
  isplitr [HTe HN HS HD HP HR]
  · isplitl [O2 Y0 HF]
    · isplitl [O2]; · iexists fo; iexact O2
      isplitl [Y0]; · iexact Y0
      iexact HF
    isplitl [Y1]; · iexact Y1
    isplitl [X0 T0 G0]
    · isplitl [X0]; · iexists fx; iexact X0
      isplitl [T0]; · iexact T0
      iexact G0
    isplitl [X1 T1 G1]
    · isplitl [X1]; · iexists fx; iexact X1
      isplitl [T1]; · iexact T1
      iexact G1
    isplitl [X2 T2 G2]
    · isplitl [X2]; · iexists fx; iexact X2
      isplitl [T2]; · iexact T2
      iexact G2
    isplitl [S2]; · iexact S2
    isplitl [O1 S1]
    · isplitl [O1]; · iexists fo; iexact O1
      iexact S1
    isplitl [O0 S0]
    · isplitl [O0]; · iexists fo; iexact O0
      iexact S0
    iexists fb
    iexact Hb
  · isplitl [HN HS HD]
    · isplitl [HS]; · iexact HS
      isplitl [HD]; · iexact HD
      iexact HN
    isplitl [HTe]; · iexact HTe
    isplitl [HP]; · iexact HP
    iexact HR

/-- What the launch ends with: the result at its end, everything else as it was. -/
def Gout (b : Ref sig .tc) : Buf (Elt F) ((c : Thread nD τ).loc b) :=
  if e : b = main_v0 then e ▸ (envA m h c).Yf else V m c b

theorem Gout_v0 : Gout m h c main_v0 = (envA m h c).Yf := by
  unfold Gout
  exact dif_pos rfl

theorem s0_end (E : Env F) (hn : E.na ≤ 40) : S0 E c 43 ⊢ iprop(GF E c 1 ∗ GF E c 2 ∗ GF E c 0 ∗ OFree c 0 ∗ OFree c 2 ∗ OFree c 1
    ∗ YD E c 43 ∗ ∃ f, bPt c f) := by
  unfold S0 Gst SX SS
  rw [if_neg (by omega), if_neg (by omega), if_neg (by omega), if_neg (by omega), if_neg (by omega)]
  iintro ⟨A, B, C, D, E, F, -, H⟩
  isplitl [A]; · iexact A
  isplitl [B]; · iexact B
  isplitl [C]; · iexact C
  isplitl [D]; · iexact D
  isplitl [E]; · iexact E
  isplitl [F]; · iexact F
  iexact H

theorem phi_out : (dats (F := F) m h 0 c).Φ (Fin.last (cfgA m h).N) ⊢ Pipeline.ΦDRG osem0 spec0 H0 R0 (V m) (fun c => Gout m h c) c := by
  rw [Pipeline.ΦDRG_eq, scopedRest0_eq, ownSems00_eq, hPts_eq, yPts_eq, Gout_v0]
  have e : (dats (F := F) m h 0 c).Φ (Fin.last (cfgA m h).N)
      = iprop(St c (envA m h c) (wts m h c) (V m c main_v0) 301 ∗ Tbs (tabA m h c) c ∗ rest m c) := rfl
  rw [e]
  have G := goodA m h c
  have k1 : (St c (envA m h c) (wts m h c) (V m c main_v0) 301 : sProp 𝕄) ⊢ iprop(S0 (envA m h c) c 43 ∗ Left c (envA m h c)) :=
    sep_mono_left (MC_next (wts m h c) c G 42)
  refine (sep_mono_left (k1.trans (sep_mono_left (s0_end c _ G.ok.na_le)))).trans ?_
  unfold Left GF OFree rest
  rw [env_hv]
  iintro ⟨⟨⟨⟨X1, T1, G1⟩, ⟨X2, T2, G2⟩, ⟨X0, T0, G0⟩, ⟨O0, S0⟩, ⟨O2, S2⟩, ⟨O1, S1⟩, HY, Hb⟩, HF, HL⟩, -, -, HP, HR⟩
  ihave Hx := (x_join c) $$ [X0 X1 X2]
  · isplitl [X0]; · iexact X0
    isplitl [X1]; · iexact X1
    iexact X2
  ihave Ho := (o_join c) $$ [O0 O1 O2]
  · isplitl [O0]; · iexact O0
    isplitl [O1]; · iexact O1
    iexact O2
  ihave Hy := (y_back c _ G.ok fun p hp => yEnd_left _ _ _ _ _ _ p hp) $$ [HY HL]
  · isplitl [HY]; · iexact HY
    iexact HL
  ihave Hh := (h_three c (V m c main_arg0)).2 $$ [HR T0 T1 T2]
  · isplitl [HR]; · iexact HR
    isplitl [T0]; · iexact T0
    isplitl [T1]; · iexact T1
    iexact T2
  isplitl [Hx Hb Ho]
  · isplitl [Hx]; · iexact Hx
    isplitl [Hb]; · iexact Hb
    iexact Ho
  isplitl [HP]; · iexact HP
  isplitr [Hh Hy]
  · isplitl [G0]; · iexact G0
    isplitl [G1]; · iexact G1
    isplitl [G2]; · iexact G2
    isplitl [S0]; · iexact S0
    isplitl [S1]; · iexact S1
    isplitl [S2]; · iexact S2
    iexact HF
  isplitl [Hh]; · iexact Hh
  iexact Hy

set_option backward.isDefEq.respectTransparency.types false in
theorem run_main : θ_run defs (onTc (τ := τ) (main (F := F))) (s₀ m ρ)
    (fun r => Pipeline.FramePostRG (Pipeline.pin pcfgs (adm m h)) (dats m h) (0 : Fin 1) R0 (V m) (fun c => Gout m h c) r
      ∧ r.2.sem = fun _ => 0) :=
  Pipeline.θ_run_frameP_dmaRG (Q' := _) pcfgs (adm m h) (dats m h) (0 : Fin 1) launch0 osem0 defs₀ Variants.none ownSemFacts0 H0 R0
    H0_sub R0_sub m ρ main (hbody := fun c => (body_obligation m h c).loose) (hshare := fun c => (dats m h 0 c).share_full fun _ => rfl)
    (howed := fun _ _ => rfl) (V := V m) (hmain := Pipeline.hmainP_region pcfgs 0 defs₀ Variants.none m main (fun c => (main_chain c).trans rfl))
    (hA := A_eq m h) (hpf := fun c k => by obtain rfl := dev_eq c; rfl) (G := fun c => Gout m h c)
    (hin := fun c => phi_in m h c) (hout := fun c => phi_out m h c)

theorem kept (c : Dev nD) (b : Ref sig .tc) (hb : b ∈ Pipeline.restRefs sig spec0 \ R0) {r : PUnit × MemSt nD τ sig (Elt F)}
    (hr : Pipeline.FramePostRG (Pipeline.pin pcfgs (adm m h)) (dats m h) (0 : Fin 1) R0 (V m) (fun c => Gout m h c) r) :
    r.2.mem ((c : Thread nD τ).loc b) = m ((c : Thread nD τ).loc b) := (hr.1 c).2 b hb

/-- The run: the arguments end as they were, the result as the tiles say, every semaphore at zero. -/
theorem run_all : θ_run defs (onTc (τ := τ) (main (F := F))) ⟨m, fun _ => 0, ρ⟩ (fun r => (∀ c : Dev nD,
      r.2.mem ((c : Thread nD τ).loc main_v0) = (envA m h c).Yf
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run _ _ _).mono (fun r hr => ⟨fun c => ⟨(hr.1.2 c main_v0 (by decide)).trans (Gout_v0 m h c),
      kept m h c main_arg0 (by decide) hr.1, kept m h c main_arg1 (by decide) hr.1, kept m h c main_arg2 (by decide) hr.1,
      kept m h c main_arg3 (by decide) hr.1, kept m h c main_arg4 (by decide) hr.1,
      ((hr.1.1 c).1 0).trans ((dats m h 0 c).arrAt_in 0 rfl _), ((hr.1.1 c).1 1).trans ((dats m h 0 c).arrAt_in 1 rfl _),
      ((hr.1.1 c).1 2).trans ((dats m h 0 c).arrAt_in 2 rfl _)⟩, hr.2⟩) (run_main m ρ h)

end Cert.Kernel3Ideal.Moe
end
-- ==== Proof.MoeVal.lean ====
module

public import proofs.«01_k».proof.Proof.MoeIEnds
public import proofs.«01_k».proof.Proof.Rows

@[expose] public section

set_option maxRecDepth 16384

/-! What the grouped kernel computes: a row of the gated layer, summed in seven parts. -/

noncomputable section

open Idealize.ShloMosaic Idealize.ShloMosaic.TcCoe Idealize.SL.Sem

namespace Cert.Proof

/-- One row of an expert's gated layer. -/
def moeRow (x : Fin 1024 → EReal) (wg wu : Fin 1024 → Fin 3584 → EReal) (wd : Fin 3584 → Fin 1024 → EReal) (z : Fin 1024) : EReal :=
  ∑ f, gated x (fun k => wg k f) (fun k => wu k f) * wd f z

/-- The first `n` terms of a sum of 3584. -/
def firsts (f : Fin 3584 → EReal) (n : ℕ) : EReal := ∑ k ∈ Finset.range n, if h : k < 3584 then f ⟨k, h⟩ else 0

theorem firsts_zero (f : Fin 3584 → EReal) : firsts f 0 = 0 := by unfold firsts; exact Finset.sum_range_zero _

theorem firsts_all (f : Fin 3584 → EReal) : firsts f 3584 = ∑ k, f k := by
  unfold firsts
  rw [Finset.sum_range]
  exact Finset.sum_congr rfl fun k _ => dif_pos k.isLt

theorem firsts_step (f : Fin 3584 → EReal) (k : ℕ) (hk : k < 7) :
    firsts f (512 * (k + 1)) = firsts f (512 * k) + ∑ j : Fin 512, f ⟨512 * k + j.val, by omega⟩ := by
  unfold firsts
  rw [show 512 * (k + 1) = 512 * k + 512 by omega, Finset.sum_range_add]
  congr 1
  rw [Finset.sum_range]
  exact Finset.sum_congr rfl fun j _ => dif_pos _

end Cert.Proof

namespace Cert.Kernel3Ideal.Moe
open Cert.Kernel3Ideal Cert.Kernel3Ideal.Gen Cert.Proof

theorem pay1_at (hb : FVec Ideal S1024x1024 .bf16) (g u : FVec Ideal S1x1024x512 .f32) (a : FVec Ideal S1x1024x1024 .f32)
    (d : FVec Ideal S1x512x1024 .f32) (r z : Fin 1024) :
    k0_pay1 (F := Ideal) hb g u a d (ix3 0 r z) = a (ix3 0 r z)
      + ∑ j : Fin 512, gated (fun k => hb (ix2 r k)) (fun k => g (ix3 0 k j)) (fun k => u (ix3 0 k j)) * d (ix3 0 j z) := by
  pointwise [k0_pay1, gated]

theorem pay4_at (x : FVec Ideal S1x1024x1024 .f32) (r k : Fin 1024) : k0_pay4 (F := Ideal) x (ix2 r k) = x (ix3 0 r k) := by
  pointwise [k0_pay4]

theorem pay3_at (r z : Fin 1024) : k0_pay3 (F := Ideal) (ix3 0 r z) = 0 := by
  pointwise [k0_pay3]

theorem pay2_zero (r z : Fin 1024) : k0_pay2 (F := Ideal) (ix3 0 r z) = 0 := by
  pointwise [k0_pay2]

end Cert.Kernel3Ideal.Moe
-- ==== Proof.MoeBlocks.lean ====
module

public import proofs.«01_k».proof.Proof.MoeVal

@[expose] public section

set_option maxRecDepth 16384

/-! Where the grouped kernel's weight blocks lie in their arrays. -/

noncomputable section

open Idealize.ShloMosaic hiding ix1 ix2 ix3
open Idealize.ShloMosaic.TcCoe Idealize.SL.Sem Idealize.ShloMosaic.ValueIdx
open Idealize.ShloMosaic.Pipeline (Dat Cfg Window)

namespace Cert.Kernel3Ideal.Moe
open Cert.Kernel3Ideal Cert.Kernel3Ideal.Gen Cert.Proof

variable {F : FTy → Type} [FloatOps F]
variable (m : (ℓ : Loc nD τ sig) → Buf (Elt F) ℓ) (h : Good0 m)

/-- The tile's expert. -/
theorem tr1_0 (i : grid0.Coords) : cc0_transform_1 k0_off1_inb numel1_S1 inb_S1_S1_0 (tbl m) i 0 = (teV m 0 (ix1 (i 0))).toNat := by
  change (teV m 0 _).toNat = _
  congr 2
  funext a
  have hi : (i 0).val < 43 := (i 0).isLt
  match a with
  | ⟨0, _⟩ =>
    refine Fin.ext ?_
    change (BitVec.ofNat 32 (i 0).val).toNat + 1 * 0 = (i 0).val
    rw [BitVec.toNat_ofNat]; omega

/-- The part of the features, while the tiles last. -/
theorem part_at (a k : ℕ) (x : BitVec 32) (ha : a < x.toNat) (hx : x.toNat ≤ 40) (hk : k < 7) :
    (Scalar.select (Scalar.cmpi .slt (BitVec.ofNat 32 a) x) (BitVec.ofNat 32 k) 6#32).toNat = k := by
  have hc : Scalar.cmpi .slt (BitVec.ofNat 32 a) x = 1#1 := by
    change IntOp.cmpi .slt _ _ = _
    have : (BitVec.ofNat 32 a).slt x = true := by
      rw [BitVec.slt_iff_toInt_lt, BitVec.toInt_eq_toNat_of_lt, BitVec.toInt_eq_toNat_of_lt, BitVec.toNat_ofNat]
      · omega
      · omega
      · rw [BitVec.toNat_ofNat]; omega
    unfold IntOp.cmpi
    simp [this]
  rw [hc]
  change (BitVec.ofNat 32 k).toNat = _
  rw [BitVec.toNat_ofNat]; omega

theorem na_part (hg : Good0 m) (i : grid0.Coords) (hi : (i 0).val < (naV m 0 (ix1 0)).toNat) (z : S1.Idx) :
    (Scalar.select (Scalar.cmpi .slt (BitVec.ofNat 32 (i 0).val) (naV m 0 z)) (BitVec.ofNat 32 (i 1).val) 6#32).toNat = (i 1).val := by
  have e : z = ix1 0 := by
    funext a
    match a with
    | ⟨0, _⟩ => exact Subsingleton.elim (α := Fin 1) _ _
  subst e
  exact part_at _ _ _ hi (hg 0).na_le (i 1).isLt

/-- The blocks' places, while the tiles last. -/
theorem tr1 (hg : Good0 m) (i : grid0.Coords) (hi : (i 0).val < (naV m 0 (ix1 0)).toNat) :
    cc0_transform_1 k0_off1_inb numel1_S1 inb_S1_S1_0 (tbl m) i = ![(teV m 0 (ix1 (i 0))).toNat, 0, (i 1).val] := by
  funext a
  match a with
  | ⟨0, _⟩ => exact tr1_0 m i
  | ⟨1, _⟩ => rfl
  | ⟨2, _⟩ => exact na_part m hg i hi _

theorem tr2 (hg : Good0 m) (i : grid0.Coords) (hi : (i 0).val < (naV m 0 (ix1 0)).toNat) :
    cc0_transform_2 k0_off1_inb numel1_S1 inb_S1_S1_0 (tbl m) i = ![(teV m 0 (ix1 (i 0))).toNat, 0, (i 1).val] := tr1 m hg i hi

theorem tr3 (hg : Good0 m) (i : grid0.Coords) (hi : (i 0).val < (naV m 0 (ix1 0)).toNat) :
    cc0_transform_3 k0_off1_inb numel1_S1 inb_S1_S1_0 (tbl m) i = ![(teV m 0 (ix1 (i 0))).toNat, (i 1).val, 0] := by
  funext a
  match a with
  | ⟨0, _⟩ => exact tr1_0 m i
  | ⟨1, _⟩ => exact na_part m hg i hi _
  | ⟨2, _⟩ => rfl

theorem place0 (t : Fin (cfgA m h).N) (hi : ((cfgA m h).grid.coords t 0).val < (naV m 0 (ix1 0)).toNat) :
    ((cfgA m h).win 0).index t = ![(teV m 0 (ix1 ((cfgA m h).grid.coords t 0))).toNat, 0, ((cfgA m h).grid.coords t 1).val] := tr1 m h _ hi
theorem place1 (t : Fin (cfgA m h).N) (hi : ((cfgA m h).grid.coords t 0).val < (naV m 0 (ix1 0)).toNat) :
    ((cfgA m h).win 1).index t = ![(teV m 0 (ix1 ((cfgA m h).grid.coords t 0))).toNat, 0, ((cfgA m h).grid.coords t 1).val] := tr2 m h _ hi
theorem place2 (t : Fin (cfgA m h).N) (hi : ((cfgA m h).grid.coords t 0).val < (naV m 0 (ix1 0)).toNat) :
    ((cfgA m h).win 2).index t = ![(teV m 0 (ix1 ((cfgA m h).grid.coords t 0))).toNat, ((cfgA m h).grid.coords t 1).val, 0] := tr3 m h _ hi

/-- A step's place in the grid from its number. -/
theorem coord0 (t : Fin (cfgA m h).N) : ((cfgA m h).grid.coords t 0).val = t.val / 7 := by
  have h1 := step_val m h t
  have h2 : ((cfgA m h).grid.coords t 1).val < 7 := ((cfgA m h).grid.coords t 1).isLt
  omega
theorem coord1 (t : Fin (cfgA m h).N) : ((cfgA m h).grid.coords t 1).val = t.val % 7 := by
  have h1 := step_val m h t
  have h2 : ((cfgA m h).grid.coords t 1).val < 7 := ((cfgA m h).grid.coords t 1).isLt
  omega

theorem fetch0 (t : Fin (cfgA m h).N) (hi : t.val / 7 < (naV m 0 (ix1 0)).toNat) : ((cfgA m h).win 0).fetch t = true := by
  refine (Window.fetch_in _ rfl t).mpr ?_
  by_cases h0 : t.val = 0
  · exact Or.inl h0
  · refine Or.inr ⟨by omega, fun e => ?_⟩
    rw [place0 m h t (by rw [coord0]; exact hi), place0 m h _ (by rw [coord0]; change (t.val - 1) / 7 < _; omega)] at e
    have e2 : ((cfgA m h).grid.coords t 1).val = ((cfgA m h).grid.coords ⟨t.val - 1, _⟩ 1).val := congrFun e 2
    rw [coord1, coord1] at e2
    change t.val % 7 = (t.val - 1) % 7 at e2
    omega
theorem fetch1 (t : Fin (cfgA m h).N) (hi : t.val / 7 < (naV m 0 (ix1 0)).toNat) : ((cfgA m h).win 1).fetch t = true := by
  refine (Window.fetch_in _ rfl t).mpr ?_
  by_cases h0 : t.val = 0
  · exact Or.inl h0
  · refine Or.inr ⟨by omega, fun e => ?_⟩
    rw [place1 m h t (by rw [coord0]; exact hi), place1 m h _ (by rw [coord0]; change (t.val - 1) / 7 < _; omega)] at e
    have e2 : ((cfgA m h).grid.coords t 1).val = ((cfgA m h).grid.coords ⟨t.val - 1, _⟩ 1).val := congrFun e 2
    rw [coord1, coord1] at e2
    change t.val % 7 = (t.val - 1) % 7 at e2
    omega
theorem fetch2 (t : Fin (cfgA m h).N) (hi : t.val / 7 < (naV m 0 (ix1 0)).toNat) : ((cfgA m h).win 2).fetch t = true := by
  refine (Window.fetch_in _ rfl t).mpr ?_
  by_cases h0 : t.val = 0
  · exact Or.inl h0
  · refine Or.inr ⟨by omega, fun e => ?_⟩
    rw [place2 m h t (by rw [coord0]; exact hi), place2 m h _ (by rw [coord0]; change (t.val - 1) / 7 < _; omega)] at e
    have e2 : ((cfgA m h).grid.coords t 1).val = ((cfgA m h).grid.coords ⟨t.val - 1, _⟩ 1).val := congrFun e 1
    rw [coord1, coord1] at e2
    change t.val % 7 = (t.val - 1) % 7 at e2
    omega

theorem te_lt8 (hg : Good0 m) (i : Fin 43) : (teV m 0 (ix1 i)).toNat < 8 := te_at m hg _

theorem at0 {i k : ℕ} (hi : i < 43) (hk : k < 7) : (cfgA m h).grid.coords ⟨7 * i + k, step_lt m h hi hk⟩ 0 = ⟨i, hi⟩ :=
  Fin.ext ((coord0 m h _).trans (by change (7 * i + k) / 7 = i; omega))
theorem at1 {i k : ℕ} (hi : i < 43) (hk : k < 7) : ((cfgA m h).grid.coords ⟨7 * i + k, step_lt m h hi hk⟩ 1).val = k :=
  (coord1 m h _).trans (by change (7 * i + k) % 7 = k; omega)

/-- The weights' blocks, while the tiles last. -/
theorem g_at (c : Dev nD) (i k : ℕ) (hi : i < 43) (hk : k < 7) (hn : i < (naV m 0 (ix1 0)).toNat) (a : Fin 1024) (j : Fin 512) :
    (wts m h c).g i k (ix3 0 a j) = V m c main_arg5 (ix3 ⟨(teV m 0 (ix1 ⟨i, hi⟩)).toNat, te_lt8 m h _⟩ a ⟨512 * k + j.val, by omega⟩) := by
  have e : (wts m h c).g i k = blkA m h c 0 (7 * i + k) (step_lt m h hi hk) := dif_pos ⟨hi, hk⟩
  rw [e]
  refine (congrFun (Pipeline.heldIn_of_fetch (cfg := cfgA m h) (c := c) (τ := τ) (fun w => V m c (Pipeline.arrRef spec0 w)) 0 ⟨7 * i + k, step_lt m h hi hk⟩
    (fetch0 m h _ (by change (7 * i + k) / 7 < _; omega))) (ix3 0 a j)).trans ?_
  change V m c main_arg5 _ = _
  congr 1
  funext x
  refine Fin.ext ?_
  have hp := place0 m h ⟨7 * i + k, step_lt m h hi hk⟩ (by rw [coord0]; change (7 * i + k) / 7 < _; omega)
  refine (Window.rect_emb_val ((cfgA m h).win 0) ⟨7 * i + k, step_lt m h hi hk⟩ (ix3 0 a j) x rfl).trans ?_
  rw [hp]
  have e0 := at0 m h hi hk
  have e1 := at1 m h hi hk
  match x with
  | ⟨0, _⟩ =>
    change (teV m 0 (ix1 ((cfgA m h).grid.coords ⟨7 * i + k, step_lt m h hi hk⟩ 0))).toNat * 1 + 0 = (teV m 0 (ix1 ⟨i, hi⟩)).toNat
    rw [Nat.mul_one, Nat.add_zero]
    exact congrArg (fun b => (teV m 0 (ix1 b)).toNat) e0
  | ⟨1, _⟩ =>
    change 0 * 1024 + a.val = a.val
    omega
  | ⟨2, _⟩ =>
    change ((cfgA m h).grid.coords ⟨7 * i + k, step_lt m h hi hk⟩ 1).val * 512 + j.val = 512 * k + j.val
    omega

theorem u_at (c : Dev nD) (i k : ℕ) (hi : i < 43) (hk : k < 7) (hn : i < (naV m 0 (ix1 0)).toNat) (a : Fin 1024) (j : Fin 512) :
    (wts m h c).u i k (ix3 0 a j) = V m c main_arg6 (ix3 ⟨(teV m 0 (ix1 ⟨i, hi⟩)).toNat, te_lt8 m h _⟩ a ⟨512 * k + j.val, by omega⟩) := by
  have e : (wts m h c).u i k = blkA m h c 1 (7 * i + k) (step_lt m h hi hk) := dif_pos ⟨hi, hk⟩
  rw [e]
  refine (congrFun (Pipeline.heldIn_of_fetch (cfg := cfgA m h) (c := c) (τ := τ) (fun w => V m c (Pipeline.arrRef spec0 w)) 1 ⟨7 * i + k, step_lt m h hi hk⟩
    (fetch1 m h _ (by change (7 * i + k) / 7 < _; omega))) (ix3 0 a j)).trans ?_
  change V m c main_arg6 _ = _
  congr 1
  funext x
  refine Fin.ext ?_
  have hp := place1 m h ⟨7 * i + k, step_lt m h hi hk⟩ (by rw [coord0]; change (7 * i + k) / 7 < _; omega)
  refine (Window.rect_emb_val ((cfgA m h).win 1) ⟨7 * i + k, step_lt m h hi hk⟩ (ix3 0 a j) x rfl).trans ?_
  rw [hp]
  have e0 := at0 m h hi hk
  have e1 := at1 m h hi hk
  match x with
  | ⟨0, _⟩ =>
    change (teV m 0 (ix1 ((cfgA m h).grid.coords ⟨7 * i + k, step_lt m h hi hk⟩ 0))).toNat * 1 + 0 = (teV m 0 (ix1 ⟨i, hi⟩)).toNat
    rw [Nat.mul_one, Nat.add_zero]
    exact congrArg (fun b => (teV m 0 (ix1 b)).toNat) e0
  | ⟨1, _⟩ =>
    change 0 * 1024 + a.val = a.val
    omega
  | ⟨2, _⟩ =>
    change ((cfgA m h).grid.coords ⟨7 * i + k, step_lt m h hi hk⟩ 1).val * 512 + j.val = 512 * k + j.val
    omega

theorem d_at (c : Dev nD) (i k : ℕ) (hi : i < 43) (hk : k < 7) (hn : i < (naV m 0 (ix1 0)).toNat) (a : Fin 1024) (j : Fin 512) :
    (wts m h c).d i k (ix3 0 j a) = V m c main_arg7 (ix3 ⟨(teV m 0 (ix1 ⟨i, hi⟩)).toNat, te_lt8 m h _⟩ ⟨512 * k + j.val, by omega⟩ a) := by
  have e : (wts m h c).d i k = blkA m h c 2 (7 * i + k) (step_lt m h hi hk) := dif_pos ⟨hi, hk⟩
  rw [e]
  refine (congrFun (Pipeline.heldIn_of_fetch (cfg := cfgA m h) (c := c) (τ := τ) (fun w => V m c (Pipeline.arrRef spec0 w)) 2 ⟨7 * i + k, step_lt m h hi hk⟩
    (fetch2 m h _ (by change (7 * i + k) / 7 < _; omega))) (ix3 0 j a)).trans ?_
  change V m c main_arg7 _ = _
  congr 1
  funext x
  refine Fin.ext ?_
  have hp := place2 m h ⟨7 * i + k, step_lt m h hi hk⟩ (by rw [coord0]; change (7 * i + k) / 7 < _; omega)
  refine (Window.rect_emb_val ((cfgA m h).win 2) ⟨7 * i + k, step_lt m h hi hk⟩ (ix3 0 j a) x rfl).trans ?_
  rw [hp]
  have e0 := at0 m h hi hk
  have e1 := at1 m h hi hk
  match x with
  | ⟨0, _⟩ =>
    change (teV m 0 (ix1 ((cfgA m h).grid.coords ⟨7 * i + k, step_lt m h hi hk⟩ 0))).toNat * 1 + 0 = (teV m 0 (ix1 ⟨i, hi⟩)).toNat
    rw [Nat.mul_one, Nat.add_zero]
    exact congrArg (fun b => (teV m 0 (ix1 b)).toNat) e0
  | ⟨1, _⟩ =>
    change ((cfgA m h).grid.coords ⟨7 * i + k, step_lt m h hi hk⟩ 1).val * 512 + j.val = 512 * k + j.val
    omega
  | ⟨2, _⟩ =>
    change 0 * 1024 + a.val = a.val
    omega

end Cert.Kernel3Ideal.Moe
end
-- ==== Proof.MoeRow.lean ====
module

public import proofs.«01_k».proof.Proof.MoeBlocks

@[expose] public section

set_option maxRecDepth 16384

/-! The grouped kernel's rows. -/

noncomputable section

open Idealize.ShloMosaic Idealize.ShloMosaic.TcCoe Idealize.SL.Sem

namespace Cert.Kernel3Ideal.Moe
open Cert.Kernel3Ideal Cert.Kernel3Ideal.Gen Cert.Proof

theorem v1_eq {a : ℕ} (i : Fin a) : ValueIdx.ix1 i = ix1 i := rfl
theorem v2_eq {a b : ℕ} (i : Fin a) (j : Fin b) : ValueIdx.ix2 i j = ix2 i j := rfl
theorem v3_eq {a b c : ℕ} (i : Fin a) (j : Fin b) (k : Fin c) : ValueIdx.ix3 i j k = ix3 i j k := rfl

/-- A tile's sum after some of the seven parts, one entry. -/
theorem acc_at (E : Env Ideal) (B : Wts Ideal) (T : ℕ) (wg wu : Fin 1024 → Fin 3584 → EReal) (wd : Fin 3584 → Fin 1024 → EReal)
    (hg : ∀ k (hk : k < 7) (a : Fin 1024) (j : Fin 512), B.g T k (ix3 0 a j) = wg a ⟨512 * k + j.val, by omega⟩)
    (hu : ∀ k (hk : k < 7) (a : Fin 1024) (j : Fin 512), B.u T k (ix3 0 a j) = wu a ⟨512 * k + j.val, by omega⟩)
    (hd : ∀ k (hk : k < 7) (a : Fin 1024) (j : Fin 512), B.d T k (ix3 0 j a) = wd ⟨512 * k + j.val, by omega⟩ a)
    (r z : Fin 1024) (k : ℕ) (hk : k ≤ 7) :
    acc E B T k (ix3 0 r z) = firsts (fun f => gated (fun k => Xv E T (ix3 0 r k)) (fun k => wg k f) (fun k => wu k f) * wd f z) (512 * k) := by
  induction k with
  | zero => exact (pay3_at r z).trans (firsts_zero _).symm
  | succ k ih =>
    rw [firsts_step _ k (by omega)]
    unfold acc
    refine (pay1_at _ _ _ _ _ r z).trans ?_
    rw [ih (by omega)]
    congr 1
    refine Finset.sum_congr rfl fun j _ => ?_
    simp only [hg k (by omega), hu k (by omega), hd k (by omega)]
    congr 2
    funext k
    exact pay4_at _ r k

theorem tile_at (E : Env Ideal) (B : Wts Ideal) (T : ℕ) (wg wu : Fin 1024 → Fin 3584 → EReal) (wd : Fin 3584 → Fin 1024 → EReal)
    (hg : ∀ k (hk : k < 7) (a : Fin 1024) (j : Fin 512), B.g T k (ix3 0 a j) = wg a ⟨512 * k + j.val, by omega⟩)
    (hu : ∀ k (hk : k < 7) (a : Fin 1024) (j : Fin 512), B.u T k (ix3 0 a j) = wu a ⟨512 * k + j.val, by omega⟩)
    (hd : ∀ k (hk : k < 7) (a : Fin 1024) (j : Fin 512), B.d T k (ix3 0 j a) = wd ⟨512 * k + j.val, by omega⟩ a)
    (r z : Fin 1024) : acc E B T 7 (ix3 0 r z) = moeRow (fun k => Xv E T (ix3 0 r k)) wg wu wd z :=
  (acc_at E B T wg wu wd hg hu hd r z 7 (le_refl _)).trans (firsts_all _)

/-- What the layer's result is: the gated layer's row sent to row `r`, or zero. -/
structure IsMoe (x : FVec Ideal S16512x1024 .f32) (te : IVec S43 32) (na : IVec S1 32) (src dst : IVec S44032 32)
    (wg wu : FVec Ideal S8x1024x3584 .f32) (wd : FVec Ideal S8x3584x1024 .f32) (y : FVec Ideal S43136x1024 .f32) : Prop where
  /-- The first 1024 destinations take zeros. -/
  head : ∀ (q : Fin 44032) (r : Fin 43136) (z : Fin 1024), q.val < 1024 → (dst (ix1 q)).toNat = r.val → y (ix2 r z) = 0
  /-- The others, while the tiles last, take the rows of the gated layer. -/
  row : ∀ (T : Fin 43) (p : Fin 1024) (q : Fin 44032) (s : Fin 16512) (e : Fin 8) (r : Fin 43136) (z : Fin 1024), T.val < (na (ix1 0)).toNat →
    q.val = (T.val + 1) * 1024 + p.val → (dst (ix1 q)).toNat = r.val →
    (∀ q' : Fin 44032, q'.val = T.val * 1024 + p.val → (src (ix1 q')).toNat = s.val) → (te (ix1 T)).toNat = e.val →
    y (ix2 r z) = moeRow (fun k => x (ix2 s k)) (fun k f => wg (ix3 e k f)) (fun k f => wu (ix3 e k f)) (fun f k => wd (ix3 e f k)) z
  /-- The rows nothing is sent to are zero. -/
  off : ∀ (r : Fin 43136) (z : Fin 1024), (∀ q : Fin 44032, q.val < ((na (ix1 0)).toNat + 1) * 1024 → (dst (ix1 q)).toNat ≠ r.val) → y (ix2 r z) = 0

variable (m : (ℓ : Loc nD τ sig) → Buf (Elt Ideal) ℓ) (h : Good0 m)

theorem yf_is (c : Dev nD) : IsMoe (V m c main_arg0) (teV m c) (naV m c) (srcV m c) (dstV m c) (V m c main_arg5) (V m c main_arg6) (V m c main_arg7)
    (envA m h c).Yf := by
  have hna := (h c).na_le
  have hc := dev_eq c
  subst hc
  rw [env_Yf]
  constructor
  · intro q r z hq hr
    have e := numOf_at (dstV m 0) q.val q.isLt
    have e' : numOf (dstV m 0) q.val = r.val := e.trans hr
    have := yEnd_at (V m 0 main_arg0) (naV m 0) (srcV m 0) (dstV m 0) (V m 0 main_v0) (wts m h 0) (h 0) q.val (by omega) (by omega) z
    have er : (⟨numOf (dstV m 0) q.val, by omega⟩ : Fin 43136) = r := Fin.ext e'
    rw [er] at this
    refine this.trans ?_
    have h0 : q.val / 1024 = 0 := by omega
    unfold cell
    simp only [h0]
    exact pay2_zero _ z
  · intro T p q s e r z hT hq hr hs he
    have hn := numOf_at (dstV m 0) q.val q.isLt
    have e' : numOf (dstV m 0) q.val = r.val := hn.trans hr
    have hT' : T.val < (naV m 0 (ValueIdx.ix1 0)).toNat := hT
    have := yEnd_at (V m 0 main_arg0) (naV m 0) (srcV m 0) (dstV m 0) (V m 0 main_v0) (wts m h 0) (h 0) q.val (by omega) (by omega) z
    have er : (⟨numOf (dstV m 0) q.val, by omega⟩ : Fin 43136) = r := Fin.ext e'
    rw [er] at this
    refine this.trans ?_
    rw [hq]
    refine (cell_at _ (T.val + 1) p.val p.isLt z).trans ?_
    unfold tiles
    refine (tile_at _ _ T.val (fun k f => V m 0 main_arg5 (ix3 e k f)) (fun k f => V m 0 main_arg6 (ix3 e k f)) (fun f k => V m 0 main_arg7 (ix3 e f k)) ?_ ?_ ?_ p z).trans ?_
    · intro k hk a j
      refine (g_at m h 0 T.val k T.isLt hk hT a j).trans ?_
      exact congrArg (fun b => V m 0 main_arg5 (ix3 b a ⟨512 * k + j.val, by omega⟩)) (Fin.ext he)
    · intro k hk a j
      refine (u_at m h 0 T.val k T.isLt hk hT a j).trans ?_
      exact congrArg (fun b => V m 0 main_arg6 (ix3 b a ⟨512 * k + j.val, by omega⟩)) (Fin.ext he)
    · intro k hk a j
      refine (d_at m h 0 T.val k T.isLt hk hT a j).trans ?_
      exact congrArg (fun b => V m 0 main_arg7 (ix3 b ⟨512 * k + j.val, by omega⟩ a)) (Fin.ext he)
    · congr 1
      funext k
      have hs' := hs ⟨T.val * 1024 + p.val, by omega⟩ rfl
      have hn2 := numOf_at (srcV m 0) (1024 * T.val + p.val) (by omega)
      change V m 0 main_arg0 (ix2 ⟨numOf (srcV m 0) (1024 * T.val + p.val) % 16512, _⟩ k) = _
      refine congrArg (fun b => V m 0 main_arg0 (ix2 b k)) (Fin.ext ?_)
      change numOf (srcV m 0) (1024 * T.val + p.val) % 16512 = s.val
      have e2 : numOf (srcV m 0) (1024 * T.val + p.val) = s.val := by
        refine hn2.trans (Eq.trans ?_ hs')
        refine congrArg (fun b => (srcV m 0 (ix1 b)).toNat) (Fin.ext ?_)
        change 1024 * T.val + p.val = T.val * 1024 + p.val
        omega
      rw [e2]
      exact Nat.mod_eq_of_lt s.isLt
  · intro r z hr
    unfold yEnd
    refine (dif_neg ?_).trans ?_
    · rintro ⟨q, hq, e⟩
      have hq' : q < 44032 := by omega
      rw [numOf_at _ q hq'] at e
      exact hr ⟨q, hq'⟩ hq e
    · refine (yStart_on _ _ ?_).trans ?_
      · rcases (h 0).cover r with hh | ⟨p, hp, e⟩
        · simp only [yZero, Finset.mem_filter, Finset.mem_univ, _root_.true_and]
          exact hh
        · exact absurd e (hr p hp)
      · exact pay2_zero 0 z

end Cert.Kernel3Ideal.Moe
end
-- ==== Proof.MoeReference.lean ====
module

public import proofs.«01_k».proof.Proof.MoeRow
public import proofs.«01_k».proof.Proof.Gen.Reference3Ideal.Read
public import Idealize.ShloMosaic.Lib.Routing.OpsPair
public import Idealize.ShloMosaic.Lib.Routing.OpsSet

@[expose] public section

set_option maxRecDepth 16384

/-! The grouped layer's reference, row by row. -/

noncomputable section

open Idealize.ShloMosaic Idealize.ShloMosaic.TcCoe Idealize.SL.Sem

namespace Cert.Reference3Ideal.Read
open Cert.Reference3Ideal Cert.Reference3Ideal.Gen Cert.Proof

/-- How the rows are sent. -/
abbrev sc : ScatterDims S43136x1024 S44032x1 S44032x1024 := scatter_S43136x1024_S44032x1_S44032x1024_1_0_0_1

theorem win0 (k : S44032x1024.Idx) : ScatterDims.window sc k 0 = 0 := rfl
theorem win1 (k : S44032x1024.Idx) : ScatterDims.window sc k 1 = (k 1).val := rfl
theorem start1 (k : S44032x1024.Idx) (idx : IVec S44032x1 32) : ScatterDims.start sc k idx 1 = 0 := rfl
theorem start0 (k : S44032x1024.Idx) (idx : IVec S44032x1 32) : ScatterDims.start sc k idx 0 = (idx (ix2 (k 0) 0)).toInt := by
  have : ScatterDims.siIdx sc k ⟨0, by decide⟩ = ix2 (k 0) 0 := by
    funext b
    match b with
    | ⟨0, _⟩ => rfl
    | ⟨1, _⟩ => rfl
  exact congrArg (fun i => (idx i).toInt) this

theorem word_toInt (e : BitVec 32) (b : ℕ) (hb : b < 2 ^ 31) (h : e.toNat = b) : e.toInt.toNat = b := by
  rw [BitVec.toInt_eq_toNat_of_lt (by omega)]
  omega

theorem take3 {α : Type} (x : S8x1024x3584.Idx → α) (idx : IVec S43x1 32) (t : Fin 43) (a : Fin 1024) (f : Fin 3584) (e : Fin 8)
    (he : (idx (ix2 t 0)).toNat = e.val) :
    Host.gather gather_S8x1024x3584_S43x1_S43x1024x3584_12_0_n_n_0_1_110243584 x idx (ix3 t a f) = x (ix3 e a f) := by
  unfold Host.gather
  refine congrArg x (funext fun b => Fin.ext ?_)
  match b with
  | ⟨0, _⟩ =>
    have : GatherDims.siIdx gather_S8x1024x3584_S43x1_S43x1024x3584_12_0_n_n_0_1_110243584 (ix3 t a f) ⟨0, by decide⟩ = ix2 t 0 := by
      funext b
      match b with
      | ⟨0, _⟩ => rfl
      | ⟨1, _⟩ => rfl
    change min (idx (GatherDims.siIdx gather_S8x1024x3584_S43x1_S43x1024x3584_12_0_n_n_0_1_110243584 (ix3 t a f) ⟨0, by decide⟩)).toInt.toNat 7 + 0 + 0 = e.val
    rw [this, word_toInt _ e.val (by omega) he]
    omega
  | ⟨1, _⟩ => change 0 + 0 + a.val = a.val; omega
  | ⟨2, _⟩ => change 0 + 0 + f.val = f.val; omega

theorem take3' {α : Type} (x : S8x3584x1024.Idx → α) (idx : IVec S43x1 32) (t : Fin 43) (a : Fin 3584) (f : Fin 1024) (e : Fin 8)
    (he : (idx (ix2 t 0)).toNat = e.val) :
    Host.gather gather_S8x3584x1024_S43x1_S43x3584x1024_12_0_n_n_0_1_135841024 x idx (ix3 t a f) = x (ix3 e a f) := by
  unfold Host.gather
  refine congrArg x (funext fun b => Fin.ext ?_)
  match b with
  | ⟨0, _⟩ =>
    have : GatherDims.siIdx gather_S8x3584x1024_S43x1_S43x3584x1024_12_0_n_n_0_1_135841024 (ix3 t a f) ⟨0, by decide⟩ = ix2 t 0 := by
      funext b
      match b with
      | ⟨0, _⟩ => rfl
      | ⟨1, _⟩ => rfl
    change min (idx (GatherDims.siIdx gather_S8x3584x1024_S43x1_S43x3584x1024_12_0_n_n_0_1_135841024 (ix3 t a f) ⟨0, by decide⟩)).toInt.toNat 7 + 0 + 0 = e.val
    rw [this, word_toInt _ e.val (by omega) he]
    omega
  | ⟨1, _⟩ => change 0 + 0 + a.val = a.val; omega
  | ⟨2, _⟩ => change 0 + 0 + f.val = f.val; omega

theorem take2 {α : Type} (x : S16512x1024.Idx → α) (idx : IVec S44032x1 32) (t : Fin 44032) (a : Fin 1024) (e : Fin 16512)
    (he : (idx (ix2 t 0)).toNat = e.val) :
    Host.gather gather_S16512x1024_S44032x1_S44032x1024_1_0_n_n_0_1_11024 x idx (ix2 t a) = x (ix2 e a) := by
  unfold Host.gather
  refine congrArg x (funext fun b => Fin.ext ?_)
  match b with
  | ⟨0, _⟩ =>
    have : GatherDims.siIdx gather_S16512x1024_S44032x1_S44032x1024_1_0_n_n_0_1_11024 (ix2 t a) ⟨0, by decide⟩ = ix2 t 0 := by
      funext b
      match b with
      | ⟨0, _⟩ => rfl
      | ⟨1, _⟩ => rfl
    change min (idx (GatherDims.siIdx gather_S16512x1024_S44032x1_S44032x1024_1_0_n_n_0_1_11024 (ix2 t a) ⟨0, by decide⟩)).toInt.toNat 16511 + 0 + 0 = e.val
    rw [this, word_toInt _ e.val (by omega) he]
    omega
  | ⟨1, _⟩ => change 0 + 0 + a.val = a.val; omega

section

variable (x0 : FVec Ideal S16512x1024 .f32) (x1 : IVec S43 32) (x2 : IVec S1 32) (x3 x4 : IVec S44032 32)
  (x5 x6 : FVec Ideal S8x1024x3584 .f32) (x7 : FVec Ideal S8x3584x1024 .f32)

theorem rows_at (t : Fin 43) (r k : Fin 1024) (s : Fin 16512)
    (hs : ∀ q : Fin 44032, q.val = t.val * 1024 + r.val → (x3 (ix1 q)).toNat = s.val) :
    val_main_v1 (F := Ideal) x0 x3 (ix3 t r k) = x0 (ix2 s k) := by
  rw [val_main_v1_apply]
  have ei : idx_main_v1 (ix3 t r k) = ix2 (⟨t.val * 1024 + r.val, by omega⟩ : Fin 44032) k := by
    funext b
    refine Fin.ext ?_
    match b with
    | ⟨0, _⟩ => change ((t.val * 1024 + r.val) * 1024 + k.val) / 1024 = t.val * 1024 + r.val; omega
    | ⟨1, _⟩ => change ((t.val * 1024 + r.val) * 1024 + k.val) % 1024 = k.val; omega
  rw [ei]
  unfold val_main_v0
  refine take2 x0 _ _ k s ?_
  rw [val_main_call0_v0_apply]
  refine Eq.trans (congrArg (fun i => (x3 i).toNat) ?_) (hs ⟨t.val * 1024 + r.val, by omega⟩ rfl)
  funext b
  match b with
  | ⟨0, _⟩ => rfl

theorem expert_at (t : Fin 43) : val_main_call1_v0 (F := Ideal) x1 (ix2 t 0) = x1 (ix1 t) := by
  rw [val_main_call1_v0_apply]
  refine congrArg x1 (funext fun b => ?_)
  match b with
  | ⟨0, _⟩ => rfl
theorem expert_at2 (t : Fin 43) : val_main_call2_v0 (F := Ideal) x1 (ix2 t 0) = x1 (ix1 t) := expert_at x1 t
theorem expert_at4 (t : Fin 43) : val_main_call4_v0 (F := Ideal) x1 (ix2 t 0) = x1 (ix1 t) := expert_at x1 t

theorem gate_at (t : Fin 43) (a : Fin 1024) (f : Fin 3584) (e : Fin 8) (he : (x1 (ix1 t)).toNat = e.val) :
    val_main_v2 (F := Ideal) x1 x5 (ix3 t a f) = x5 (ix3 e a f) := take3 x5 _ t a f e (by rw [expert_at]; exact he)
theorem up_at (t : Fin 43) (a : Fin 1024) (f : Fin 3584) (e : Fin 8) (he : (x1 (ix1 t)).toNat = e.val) :
    val_main_v4 (F := Ideal) x1 x6 (ix3 t a f) = x6 (ix3 e a f) := take3 x6 _ t a f e (by rw [expert_at2]; exact he)
theorem down_at (t : Fin 43) (f : Fin 3584) (a : Fin 1024) (e : Fin 8) (he : (x1 (ix1 t)).toNat = e.val) :
    val_main_v8 (F := Ideal) x1 x7 (ix3 t f a) = x7 (ix3 e f a) := take3' x7 _ t f a e (by rw [expert_at4]; exact he)

theorem layer_at (t : Fin 43) (r z : Fin 1024) (s : Fin 16512) (e : Fin 8) (he : (x1 (ix1 t)).toNat = e.val)
    (hs : ∀ q : Fin 44032, q.val = t.val * 1024 + r.val → (x3 (ix1 q)).toNat = s.val) :
    val_main_v9 (F := Ideal) x0 x1 x3 x5 x6 x7 (ix3 t r z)
      = moeRow (fun k => x0 (ix2 s k)) (fun k f => x5 (ix3 e k f)) (fun k f => x6 (ix3 e k f)) (fun f k => x7 (ix3 e f k)) z := by
  have h1 := fun k => rows_at x0 x3 t r k s hs
  have h2 := fun a f => gate_at x1 x5 t a f e he
  have h3 := fun a f => up_at x1 x6 t a f e he
  have h4 := fun a f => down_at x1 x7 t a f e he
  unfold moeRow
  pointwise [val_main_v9, val_main_v7, val_main_v6, val_main_v5, val_main_v3, val_main_call3_v5, val_main_call3_v4, val_main_call3_v3,
    val_main_call3_v2, val_main_call3_v1, val_main_call3_v0, val_main_call3_cst, val_main_call3_cst_0, h1, h2, h3, h4, gated, Ideal.logistic]

/-- The rows sent: zeros first. -/
theorem sent_head (q : Fin 44032) (z : Fin 1024) (hq : q.val < 1024) : val_main_v13 (F := Ideal) x0 x1 x3 x5 x6 x7 (ix2 q z) = 0 := by
  unfold val_main_v13
  refine (concatenate_pair_apply_left (t := S44032x1024) (s₁ := S1024x1024) (s₂ := S43008x1024) 0 _ _ _ (ix2 q z) rfl (ix2 ⟨q.val, hq⟩ z) ?_).trans ?_
  · intro b
    match b with
    | ⟨0, _⟩ => rfl
    | ⟨1, _⟩ => rfl
  · pointwise [val_main_v10, val_main_cst]

theorem sent_row (q : Fin 44032) (z : Fin 1024) (t : Fin 43) (p : Fin 1024) (hq : q.val = (t.val + 1) * 1024 + p.val) :
    val_main_v13 (F := Ideal) x0 x1 x3 x5 x6 x7 (ix2 q z) = val_main_v9 (F := Ideal) x0 x1 x3 x5 x6 x7 (ix3 t p z) := by
  unfold val_main_v13
  refine (concatenate_pair_apply_right (t := S44032x1024) (s₁ := S1024x1024) (s₂ := S43008x1024) 0 _ _ _ (ix2 q z) rfl rfl (ix2 ⟨q.val - 1024, by omega⟩ z) ?_ ?_).trans ?_
  · intro b hb
    match b with
    | ⟨0, _⟩ => exact absurd rfl hb
    | ⟨1, _⟩ => rfl
  · change q.val - 1024 + 1024 = q.val; omega
  · rw [val_main_v12_apply, val_main_v11_apply]
    refine congrArg (val_main_v9 (F := Ideal) x0 x1 x3 x5 x6 x7) (funext fun b => Fin.ext ?_)
    match b with
    | ⟨0, _⟩ => change ((q.val - 1024) * 1024 + z.val) / 1048576 = t.val; omega
    | ⟨1, _⟩ => change ((q.val - 1024) * 1024 + z.val) / 1024 % 1024 = p.val; omega
    | ⟨2, _⟩ => change ((q.val - 1024) * 1024 + z.val) % 1024 = z.val; omega

/-- Where a row is sent. -/
theorem at_word (q : Fin 44032) (hn : (x2 (ix1 0)).toNat ≤ 40) (hd : (x4 (ix1 q)).toNat < 43136) :
    (val_main_v27 (F := Ideal) x2 x4 (ix2 q 0)).toInt = if q.val < ((x2 (ix1 0)).toNat + 1) * 1024 then ((x4 (ix1 q)).toNat : Int) else 43136 := by
  have e15 : ∀ i, val_main_v15 (F := Ideal) x2 i = x2 (ix1 0) := fun i => by
    unfold val_main_v15
    exact shapeCast_apply x2 _ _ _ rfl
  have e18 : val_main_v18 (F := Ideal) x2 (ix1 q) = BitVec.ofNat 32 (((x2 (ix1 0)).toNat + 1) * 1024) := by
    rw [val_main_v18_apply, val_main_v17_apply, val_main_v16_apply, e15]
    refine BitVec.eq_of_toNat_eq ?_
    change ((x2 (ix1 0) + 1#32) * 1024#32).toNat = _
    rw [BitVec.toNat_mul, BitVec.toNat_add, BitVec.toNat_ofNat, BitVec.toNat_ofNat, BitVec.toNat_ofNat]
    omega
  have e20 : val_main_v20 (F := Ideal) x2 x4 (ix1 q) = if q.val < ((x2 (ix1 0)).toNat + 1) * 1024 then x4 (ix1 q) else 43136#32 := by
    rw [val_main_v20_apply, val_main_v19_apply, e18]
    change Scalar.select (IntOp.cmpi .slt (BitVec.ofNat 32 q.val) _) _ 43136#32 = _
    have hs : (BitVec.ofNat 32 q.val).slt (BitVec.ofNat 32 (((x2 (ix1 0)).toNat + 1) * 1024)) = decide (q.val < ((x2 (ix1 0)).toNat + 1) * 1024) := by
      rw [BitVec.slt, BitVec.toInt_eq_toNat_of_lt, BitVec.toInt_eq_toNat_of_lt, BitVec.toNat_ofNat, BitVec.toNat_ofNat]
      · refine decide_eq_decide.2 ?_
        omega
      · rw [BitVec.toNat_ofNat]; omega
      · rw [BitVec.toNat_ofNat]; omega
    unfold IntOp.cmpi Scalar.select
    by_cases hq : q.val < ((x2 (ix1 0)).toNat + 1) * 1024 <;> simp [hs, hq]
  have e26 : val_main_v26 (F := Ideal) x2 x4 (ix1 q) = val_main_v20 (F := Ideal) x2 x4 (ix1 q) := by
    rw [val_main_v26_apply, val_main_v23_apply]
    refine Routing.wrap_of_lt _ _ ?_
    rw [e20]
    split
    · omega
    · decide
  have e27 : val_main_v27 (F := Ideal) x2 x4 (ix2 q 0) = val_main_v26 (F := Ideal) x2 x4 (ix1 q) := by
    rw [val_main_v27_apply]
    refine congrArg (val_main_v26 (F := Ideal) x2 x4) (funext fun b => ?_)
    match b with
    | ⟨0, _⟩ => rfl
  rw [e27, e26, e20]
  split
  · exact BitVec.toInt_eq_toNat_of_lt (by omega)
  · decide

theorem lands (k : S44032x1024.Idx) (r : Fin 43136) (z : Fin 1024) (hn : (x2 (ix1 0)).toNat ≤ 40) (hd : ∀ q, (x4 (ix1 q)).toNat < 43136) :
    ScatterDims.resultIdx? sc k (val_main_v27 (F := Ideal) x2 x4) = some (ix2 r z)
      ↔ ((k 0).val < ((x2 (ix1 0)).toNat + 1) * 1024 ∧ (x4 (ix1 (k 0))).toNat = r.val) ∧ k 1 = z := by
  refine (Routing.resultIdx?_ix2 sc k _ r z).trans ?_
  rw [win0, win1, start1, start0, at_word x2 x4 (k 0) hn (hd _)]
  have hr := r.isLt
  constructor
  · rintro ⟨h1, h2⟩
    refine ⟨?_, Fin.ext (by omega)⟩
    split at h1
    · next hh => exact ⟨hh, by omega⟩
    · omega
  · rintro ⟨⟨h1, h2⟩, h3⟩
    rw [if_pos h1, h3]
    exact ⟨by omega, by omega⟩

theorem out_is (h : Pre_tables.Says x1 x2 x3 x4) :
    Kernel3Ideal.Moe.IsMoe x0 x1 x2 x3 x4 x5 x6 x7 (val_main_v28 (F := Ideal) x0 x1 x2 x3 x4 x5 x6 x7) := by
  have hn : (x2 (ix1 0)).toNat ≤ 40 := h.na_le
  have hd : ∀ q, (x4 (ix1 q)).toNat < 43136 := h.dst_lt
  have hit : ∀ (q : Fin 44032) (r : Fin 43136) (z : Fin 1024), q.val < ((x2 (ix1 0)).toNat + 1) * 1024 → (x4 (ix1 q)).toNat = r.val →
      val_main_v28 (F := Ideal) x0 x1 x2 x3 x4 x5 x6 x7 (ix2 r z) = val_main_v13 (F := Ideal) x0 x1 x3 x5 x6 x7 (ix2 q z) := by
    intro q r z hq hr
    unfold val_main_v28
    refine Routing.scatter_set_hit sc _ _ _ _ _ ?_ (ix2 q z) ((lands x2 x4 _ r z hn hd).2 ⟨⟨hq, hr⟩, rfl⟩)
    intro k hk
    obtain ⟨⟨h1, h2⟩, h3⟩ := (lands x2 x4 k r z hn hd).1 hk
    have e0 : k 0 = q := h.inj (k 0) q h1 hq (h2.trans hr.symm)
    refine congrArg _ (funext fun b => ?_)
    match b with
    | ⟨0, _⟩ => exact e0
    | ⟨1, _⟩ => exact h3
  constructor
  · intro q r z hq hr
    rw [hit q r z (by omega) hr]
    exact sent_head x0 x1 x3 x5 x6 x7 q z hq
  · intro T p q s e r z hT hq hr hs he
    rw [hit q r z (by omega) hr, sent_row x0 x1 x3 x5 x6 x7 q z T p hq]
    exact layer_at x0 x1 x3 x5 x6 x7 T p z s e he hs
  · intro r z hr
    unfold val_main_v28
    refine (Routing.scatter_set_miss sc _ _ _ _ fun k hk => ?_).trans ?_
    · obtain ⟨⟨h1, h2⟩, h3⟩ := (lands x2 x4 k r z hn hd).1 hk
      exact hr _ h1 h2
    · pointwise [val_main_v21, val_main_cst_2]

end

end Cert.Reference3Ideal.Read

namespace Cert.Kernel3Ideal.Moe
open Cert.Kernel3Ideal Cert.Kernel3Ideal.Gen Cert.Proof

/-- There is one such result. -/
theorem moe_unique {x : FVec Ideal S16512x1024 .f32} {te : IVec S43 32} {na : IVec S1 32} {src dst : IVec S44032 32}
    {wg wu : FVec Ideal S8x1024x3584 .f32} {wd : FVec Ideal S8x3584x1024 .f32} {y y' : FVec Ideal S43136x1024 .f32}
    (hs : Pre_tables.Says te na src dst) (h : IsMoe x te na src dst wg wu wd y) (h' : IsMoe x te na src dst wg wu wd y') : y = y' := by
  funext i
  have ei : i = ix2 (i 0) (i 1) := by
    funext b
    match b with
    | ⟨0, _⟩ => rfl
    | ⟨1, _⟩ => rfl
  rw [ei]
  have hn : (na (ix1 0)).toNat ≤ 40 := hs.na_le
  by_cases hq : ∃ q : Fin 44032, q.val < ((na (ix1 0)).toNat + 1) * 1024 ∧ (dst (ix1 q)).toNat = (i 0).val
  · obtain ⟨q, hq, hr⟩ := hq
    by_cases h0 : q.val < 1024
    · exact (h.head q (i 0) (i 1) h0 hr).trans (h'.head q (i 0) (i 1) h0 hr).symm
    · have hT : q.val / 1024 - 1 < (na (ix1 0)).toNat := by omega
      have hp : q.val = (q.val / 1024 - 1 + 1) * 1024 + q.val % 1024 := by omega
      have hsrc : ∀ q' : Fin 44032, q'.val = (q.val / 1024 - 1) * 1024 + q.val % 1024 →
          (src (ix1 q')).toNat = (src (ix1 ⟨(q.val / 1024 - 1) * 1024 + q.val % 1024, by omega⟩)).toNat := fun q' e => by
        congr 3
        exact Fin.ext e
      have hsl := hs.src_lt ⟨(q.val / 1024 - 1) * 1024 + q.val % 1024, by omega⟩
      have htl := hs.te_lt ⟨q.val / 1024 - 1, by omega⟩
      exact (h.row ⟨q.val / 1024 - 1, by omega⟩ ⟨q.val % 1024, by omega⟩ q ⟨_, hsl⟩ ⟨_, htl⟩ (i 0) (i 1) hT hp hr hsrc rfl).trans
        (h'.row ⟨q.val / 1024 - 1, by omega⟩ ⟨q.val % 1024, by omega⟩ q ⟨_, hsl⟩ ⟨_, htl⟩ (i 0) (i 1) hT hp hr hsrc rfl).symm
  · have hq' : ∀ q : Fin 44032, q.val < ((na (ix1 0)).toNat + 1) * 1024 → (dst (ix1 q)).toNat ≠ (i 0).val := fun q h1 h2 => hq ⟨q, h1, h2⟩
    exact (h.off (i 0) (i 1) hq').trans (h'.off (i 0) (i 1) hq').symm

end Cert.Kernel3Ideal.Moe
end
-- ==== Proof.MoeClaim.lean ====
module

public import proofs.«01_k».proof.Defs
public import proofs.«01_k».proof.Proof.MoeEnds
public import proofs.«01_k».proof.Proof.MoeReference
public import proofs.«01_k».proof.Proof.Gen.Reference3Ideal.Run
public import proofs.«01_k».proof.Proof.Gen.Pre_tables

@[expose] public section

/-! The claims about the grouped kernel. -/

noncomputable section

open Idealize.ShloMosaic Idealize.ShloMosaic.TcCoe Idealize.SL.Sem

namespace Cert.Proof

/-- Under the tables' ranges the grouped kernel ends without fault, its arguments unchanged, its semaphores at zero. -/
theorem moe_frame : Cert.quiescent_Kernel3 := fun m g hp =>
  (θ_run _ _ _).mono (fun _ h => ⟨fun c => (h.1 c).2, h.2⟩)
    (Cert.Kernel3.Moe.run_all m g fun c => Cert.Pre_tables.read_tables _ _ _ _ _ _ _ _ (hp c))

/-- The same of the grouped kernel over the extended reals. -/
theorem moe_ideal_frame : Cert.quiescent_Kernel3Ideal := fun m g hp =>
  (θ_run _ _ _).mono (fun _ h => ⟨fun c => (h.1 c).2, h.2⟩)
    (Cert.Kernel3Ideal.Moe.run_all m g fun c => Cert.Pre_tables.read_tables _ _ _ _ _ _ _ _ (hp c))

/-- The reference of the grouped kernel ends without fault and leaves its arguments. -/
theorem moe_reference_frame : Cert.quiescent_Reference3Ideal := fun m g _ =>
  (θ_run _ _ _).mono (fun _ h => ⟨fun c => (h c).2, sem_eq_zero_of_no_sems (by decide) _⟩) (Cert.Reference3Ideal.Value.run m g)

/-- The grouped kernel and its reference leave the same array: each of its rows is the experts' feed-forward of the row
that the tables send there, or zero. -/
theorem moe : Cert.algebraic_Kernel3Ideal_Reference3Ideal := by
  intro m g m' g' hpre hagree
  have hg : Cert.Kernel3Ideal.Moe.Good0 m := fun c => Cert.Pre_tables.read_tables _ _ _ _ _ _ _ _ (hpre c)
  refine ⟨fun c => (Cert.Kernel3Ideal.Moe.envA m hg c).Yf, ?_, ?_⟩
  · exact (θ_run _ _ _).mono (fun _ h => h.1) (Cert.Kernel3Ideal.Moe.run_all m g hg)
  · refine (θ_run _ _ _).mono (fun r h c => ⟨?_, (h c).2⟩) (Cert.Reference3Ideal.Value.run m' g')
    refine (h c).1.trans ?_
    rw [Cert.Reference3Ideal.Read.val_main_v28_eq]
    obtain ⟨h0, h1, h2, h3, h4, h5, h6, h7⟩ := hagree c
    rw [h0, h1, h2, h3, h4, h5, h6, h7]
    exact Cert.Kernel3Ideal.Moe.moe_unique (hg c) (Cert.Reference3Ideal.Read.out_is _ _ _ _ _ _ _ _ (hg c)) (Cert.Kernel3Ideal.Moe.yf_is m hg c)

end Cert.Proof
end
-- ==== Proof.SampleRows.lean ====
module

public import proofs.«01_k».proof.Proof.MixSums

@[expose] public section

set_option maxRecDepth 16384

noncomputable section

open Idealize.ShloMosaic

namespace Cert.Proof

/-- One entry of the projection of one modulated row. -/
def rowProj (x g sc sh : Fin 1024 → EReal) (win : Fin 1024 → Fin 2048 → EReal) (n : Fin 2048) : EReal :=
  ∑ k, modRow x g sc sh k * win k n

/-- The gated value the convolution reads, from the projected row. -/
def gateOf (p : Fin 2048 → EReal) (c : Fin 512) : EReal := p ⟨512 + c.val, by omega⟩ * p ⟨1024 + c.val, by omega⟩

/-- The value the windows read, from the projected row. -/
def poolOf (p : Fin 2048 → EReal) (c : Fin 512) : EReal := p ⟨1536 + c.val, by omega⟩

/-- A new value and the history before it, counted backwards from the new value. -/
def hist {N : ℕ} (new : EReal) (old : Fin N → EReal) (k : ℕ) : EReal :=
  if h : k = 0 then new else if h' : k ≤ N then old ⟨N - k, by omega⟩ else 0

/-- The same in the order of time, the new value last. -/
def seq {N : ℕ} (new : EReal) (old : Fin N → EReal) (n : ℕ) : EReal :=
  if h : n < N then old ⟨n, h⟩ else new

theorem seq_hist {N : ℕ} (new : EReal) (old : Fin N → EReal) (n k : ℕ) (h : n + k = N) : seq new old n = hist new old k := by
  unfold seq hist
  by_cases hk : k = 0
  · rw [dif_pos hk, dif_neg (by omega)]
  · rw [dif_neg hk, dif_pos (by omega), dif_pos (by omega)]
    congr 1
    exact Fin.ext (by show n = N - k; omega)

theorem seq_fin {N : ℕ} (new : EReal) (old : Fin N → EReal) (hn : Fin' new) (ho : ∀ k, Fin' (old k)) (n : ℕ) :
    Fin' (seq new old n) := by
  unfold seq
  split
  · exact ho _
  · exact hn

/-- A difference of two running sums over the history is the sum of the last rows. -/
theorem seq_sub (new : EReal) (old : Fin 15 → EReal) (hn : Fin' new) (ho : ∀ k, Fin' (old k)) (m w : ℕ) (h : m + w = 16) :
    csum (seq new old) 16 - csum (seq new old) m = ∑ j ∈ Finset.range w, hist new old j := by
  have e : csum (seq new old) 16 = csum (seq new old) (m + w) := by rw [h]
  rw [e, csum, Finset.sum_range_add, ← csum, sub_cancel (csum_fin _ (seq_fin new old hn ho) m), ← Finset.sum_range_reflect]
  refine Finset.sum_congr rfl fun j hj => seq_hist new old _ j ?_
  have := Finset.mem_range.mp hj
  omega

theorem rowProj_fin (x g sc sh : Fin 1024 → EReal) (win : Fin 1024 → Fin 2048 → EReal)
    (hx : ∀ d, Fin' (x d)) (hg : ∀ d, Fin' (g d)) (hsc : ∀ d, Fin' (sc d)) (hsh : ∀ d, Fin' (sh d))
    (hw : ∀ k n, Fin' (win k n)) (n : Fin 2048) : Fin' (rowProj x g sc sh win n) :=
  fin_sum _ _ fun k _ => fin_mul (modRow_fin _ _ _ _ hx hg hsc hsh k) (hw k n)

theorem cnt_two : Ideal.ofBits .f32 0x40000000#32 = cnt 2 16384 := by
  have e : IntOp.minsi (IntOp.addi (BitVec.ofNat 32 16384) 1#32) (BitVec.ofNat 32 2) = 2#32 := by decide
  unfold cnt
  rw [e]
  show _ = (((2#32 : BitVec 32).toInt : ℝ) : EReal)
  simp [Ideal.ofBits, Ideal.ieee, -EReal.coe_mul]
  try norm_num

theorem cnt_four : Ideal.ofBits .f32 0x40800000#32 = cnt 4 16384 := by
  have e : IntOp.minsi (IntOp.addi (BitVec.ofNat 32 16384) 1#32) (BitVec.ofNat 32 4) = 4#32 := by decide
  unfold cnt
  rw [e]
  show _ = (((4#32 : BitVec 32).toInt : ℝ) : EReal)
  simp [Ideal.ofBits, Ideal.ieee, -EReal.coe_mul]
  try norm_num

theorem cnt_eight : Ideal.ofBits .f32 0x41000000#32 = cnt 8 16384 := by
  have e : IntOp.minsi (IntOp.addi (BitVec.ofNat 32 16384) 1#32) (BitVec.ofNat 32 8) = 8#32 := by decide
  unfold cnt
  rw [e]
  show _ = (((8#32 : BitVec 32).toInt : ℝ) : EReal)
  simp [Ideal.ofBits, Ideal.ieee, -EReal.coe_mul]
  try norm_num

theorem cnt_sixteen : Ideal.ofBits .f32 0x41800000#32 = cnt 16 16384 := by
  have e : IntOp.minsi (IntOp.addi (BitVec.ofNat 32 16384) 1#32) (BitVec.ofNat 32 16) = 16#32 := by decide
  unfold cnt
  rw [e]
  show _ = (((16#32 : BitVec 32).toInt : ℝ) : EReal)
  simp [Ideal.ofBits, Ideal.ieee, -EReal.coe_mul]
  try norm_num

end Cert.Proof
-- ==== Proof.SampleKernel.lean ====
module

public import proofs.«01_k».proof.Proof.Gen.Kernel4Ideal.Frame
public import proofs.«01_k».proof.Proof.SampleRows
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen Cert.Proof

/-- The projection of one sequence's row, from the body's blocks. -/
def prj (x0 x1 x2 : FVec Ideal S128x1024 .f32) (x4 : FVec Ideal S1x1024 .f32) (x5 : FVec Ideal S1024x2048 .bf16) (r : Fin 128) :
    Fin 2048 → EReal :=
  rowProj (fun d => x0 (ix2 r d)) (fun k => x4 (ix2 0 k)) (fun k => x2 (ix2 r k)) (fun k => x1 (ix2 r k)) fun k n => x5 (ix2 k n)

section
variable (x0 x1 x2 : FVec Ideal S128x1024 .f32) (x4 : FVec Ideal S1x1024 .f32) (x5 : FVec Ideal S1024x2048 .bf16) (r : Fin 128)

theorem proj_at (n : Fin 2048) : k0_pay1 (F := Ideal) x0 x4 x2 x1 x5 (ix2 r n) = prj x0 x1 x2 x4 x5 r n := by
  pointwise [k0_pay1, prj, rowProj, modRow, invRms]
  refine Finset.sum_congr rfl fun k _ => ?_
  rw [mul_assoc _ (x4 _)]

theorem bgate_at (n : Fin 512) : k0_pay2 (F := Ideal) x0 x4 x2 x1 x5 (ix2 r n) = prj x0 x1 x2 x4 x5 r ⟨n.val, by omega⟩ := by
  pointwise [k0_pay2, proj_at]

theorem gate_at (n : Fin 512) : k0_pay3 (F := Ideal) x0 x4 x2 x1 x5 (ix2 r n) = gateOf (prj x0 x1 x2 x4 x5 r) n := by
  pointwise [k0_pay3, proj_at, gateOf]

theorem pool_at (n : Fin 512) : k0_pay4 (F := Ideal) x0 x4 x2 x1 x5 (ix2 r n) = poolOf (prj x0 x1 x2 x4 x5 r) n := by
  pointwise [k0_pay4, proj_at, poolOf]

end

/-- What the body leaves in the first output block. -/
theorem out_at (x0 x1 x2 x3 : FVec Ideal S128x1024 .f32) (x4 : FVec Ideal S1x1024 .f32) (x5 : FVec Ideal S1024x2048 .bf16)
    (x6 : FVec Ideal S3x512 .f32) (x7 : FVec Ideal S4x128x128 .bf16) (x8 x9 x10 : FVec Ideal S1x512 .f32)
    (x11 : FVec Ideal S1024x1024 .bf16) (x12 : FVec Ideal S2x128x512 .f32) (x13 : FVec Ideal S15x128x512 .f32) (r : Fin 128) (d : Fin 1024) :
    out0_14 (F := Ideal) x0 x1 x2 x3 x4 x5 x6 x7 x8 x9 x10 x11 x12 x13 (ix2 r d)
      = mixRow (fun d => x0 (ix2 r d)) (fun d => x3 (ix2 r d)) (fun c => prj x0 x1 x2 x4 x5 r ⟨c.val, by omega⟩)
        (fun k c => x6 (ix2 k c)) (fun k c => hist (gateOf (prj x0 x1 x2 x4 x5 r) c) (fun k => x12 (ix3 k r c)) k.val)
        (fun k c => hist (poolOf (prj x0 x1 x2 x4 x5 r) c) (fun k => x13 (ix3 k r c)) k.val) (fun w => cnt w 16384)
        (fun g i j => x7 (ix3 g i j)) (fun c => x8 (ix2 0 c)) (fun c => x9 (ix2 0 c)) (fun c => x10 (ix2 0 c))
        (fun k d => x11 (ix2 k d)) d := by
  unfold mixRow
  unfold_out out0_14
  frame_out
  pointwise [bgate_at, gate_at, pool_at, k0_pay5, k0_pay6, k0_pay7, k0_pay8, k0_pay9, k0_pay10, k0_pay11, k0_pay12, k0_pay13,
    k0_pay14, k0_pay15, k0_pay16, k0_pay17, k0_pay18, k0_pay19, rms512, convRow, poolOut, cat4, win2, win4, win8, win16, hist,
    cnt_two, cnt_four, cnt_eight, cnt_sixteen]

theorem v_at (x0 x1 x2 x3 : FVec Ideal S128x1024 .f32) (x4 : FVec Ideal S1x1024 .f32) (x5 : FVec Ideal S1024x2048 .bf16)
    (x6 : FVec Ideal S3x512 .f32) (x7 : FVec Ideal S4x128x128 .bf16) (x8 x9 x10 : FVec Ideal S1x512 .f32)
    (x11 : FVec Ideal S1024x1024 .bf16) (x12 : FVec Ideal S2x128x512 .f32) (x13 : FVec Ideal S15x128x512 .f32) (y : S128x512.Idx) :
    out0_15 (F := Ideal) x0 x1 x2 x3 x4 x5 x6 x7 x8 x9 x10 x11 x12 x13 y = gateOf (prj x0 x1 x2 x4 x5 (y 0)) (y 1) := by
  unfold_out out0_15
  frame_out
  idx_vars y
  pointwise [gate_at]

theorem u_at (x0 x1 x2 x3 : FVec Ideal S128x1024 .f32) (x4 : FVec Ideal S1x1024 .f32) (x5 : FVec Ideal S1024x2048 .bf16)
    (x6 : FVec Ideal S3x512 .f32) (x7 : FVec Ideal S4x128x128 .bf16) (x8 x9 x10 : FVec Ideal S1x512 .f32)
    (x11 : FVec Ideal S1024x1024 .bf16) (x12 : FVec Ideal S2x128x512 .f32) (x13 : FVec Ideal S15x128x512 .f32) (y : S128x512.Idx) :
    out0_16 (F := Ideal) x0 x1 x2 x3 x4 x5 x6 x7 x8 x9 x10 x11 x12 x13 y = poolOf (prj x0 x1 x2 x4 x5 (y 0)) (y 1) := by
  unfold_out out0_16
  frame_out
  idx_vars y
  pointwise [pool_at]

/-- The projection of one sequence's row, from whole arrays. -/
def prjArr (X SH SC : FVec Ideal S128x1024 .f32) (G : FVec Ideal S1024 .f32) (W : FVec Ideal S1024x2048 .f32) (r : Fin 128) :
    Fin 2048 → EReal :=
  rowProj (fun d => X (ix2 r d)) (fun k => G (ix1 k)) (fun k => SC (ix2 r k)) (fun k => SH (ix2 r k)) fun k n => W (ix2 k n)

/-- The row that the gated history gains. -/
def vArr (X SH SC : FVec Ideal S128x1024 .f32) (G : FVec Ideal S1024 .f32) (W : FVec Ideal S1024x2048 .f32) :
    FVec Ideal S128x512 .f32 := fun i => gateOf (prjArr X SH SC G W (i 0)) (i 1)

/-- The row that the pooled history gains. -/
def uArr (X SH SC : FVec Ideal S128x1024 .f32) (G : FVec Ideal S1024 .f32) (W : FVec Ideal S1024x2048 .f32) :
    FVec Ideal S128x512 .f32 := fun i => poolOf (prjArr X SH SC G W (i 0)) (i 1)

/-- The mixing layer for one new row of each sequence. -/
def sampleArr (X SH SC GT : FVec Ideal S128x1024 .f32) (G : FVec Ideal S1024 .f32) (W : FVec Ideal S1024x2048 .f32)
    (CW : FVec Ideal S3x512 .f32) (PW : FVec Ideal S4x128x128 .f32) (PS GCO GPO : FVec Ideal S512 .f32)
    (WO : FVec Ideal S1024x1024 .f32) (SV : FVec Ideal S128x2x512 .f32) (SU : FVec Ideal S128x15x512 .f32) :
    FVec Ideal S128x1024 .f32 := fun i =>
  mixRow (fun d => X (ix2 (i 0) d)) (fun d => GT (ix2 (i 0) d)) (fun c => prjArr X SH SC G W (i 0) ⟨c.val, by omega⟩)
    (fun k c => CW (ix2 k c)) (fun k c => hist (gateOf (prjArr X SH SC G W (i 0)) c) (fun k => SV (ix3 (i 0) k c)) k.val)
    (fun k c => hist (poolOf (prjArr X SH SC G W (i 0)) c) (fun k => SU (ix3 (i 0) k c)) k.val) (fun w => cnt w 16384)
    (fun g i j => PW (ix3 g i j)) (fun c => PS (ix1 c)) (fun c => GCO (ix1 c)) (fun c => GPO (ix1 c))
    (fun k d => WO (ix2 k d)) (i 1)

variable (m : (ℓ : Loc nD τ sig) → Buf (Elt Ideal) ℓ)

/-- The windows' block indices at the one grid point. -/
theorem idx : ∀ t : Fin cfg0.N,
    win0_0.index t = ![0, 0]
      ∧ win0_1.index t = ![0, 0]
      ∧ win0_2.index t = ![0, 0]
      ∧ win0_3.index t = ![0, 0]
      ∧ win0_4.index t = ![0, 0]
      ∧ win0_5.index t = ![0, 0]
      ∧ win0_6.index t = ![0, 0]
      ∧ win0_7.index t = ![0, 0, 0]
      ∧ win0_8.index t = ![0, 0]
      ∧ win0_9.index t = ![0, 0]
      ∧ win0_10.index t = ![0, 0]
      ∧ win0_11.index t = ![0, 0]
      ∧ win0_12.index t = ![0, 0, 0]
      ∧ win0_13.index t = ![0, 0, 0]
      ∧ win0_14.index t = ![0, 0]
      ∧ win0_15.index t = ![0, 0]
      ∧ win0_16.index t = ![0, 0] :=
  (by decide +kernel : ∀ t : Fin grid0.N, _)

theorem entry3 (c : Dev nD) : V m c main_v3 = transpose S2x128x512 [1, 0, 2] (m ((c : Thread nD τ).loc main_arg12)) transposes_S128x2x512_S2x128x512_1_0_2 := by
  show StableHlo.after hostOps0 (fun b => m (c, b)) (Proc.devRef .tc main_v3) = _
  after_results
  first | done | rfl

theorem entry4 (c : Dev nD) : V m c main_v4 = transpose S15x128x512 [1, 0, 2] (m ((c : Thread nD τ).loc main_arg13)) transposes_S128x15x512_S15x128x512_1_0_2 := by
  show StableHlo.after hostOps0 (fun b => m (c, b)) (Proc.devRef .tc main_v4) = _
  after_results
  first | done | rfl

theorem entry5 (c : Dev nD) : V m c main_v5 = shapeCast S1x1024 (m ((c : Thread nD τ).loc main_arg4)) shapeCasts_S1024_S1x1024 := by
  show StableHlo.after hostOps0 (fun b => m (c, b)) (Proc.devRef .tc main_v5) = _
  after_results
  first | done | rfl

theorem entry6 (c : Dev nD) : V m c main_v6 = shapeCast S1x512 (m ((c : Thread nD τ).loc main_arg8)) shapeCasts_S512_S1x512 := by
  show StableHlo.after hostOps0 (fun b => m (c, b)) (Proc.devRef .tc main_v6) = _
  after_results
  first | done | rfl

theorem entry7 (c : Dev nD) : V m c main_v7 = shapeCast S1x512 (m ((c : Thread nD τ).loc main_arg9)) shapeCasts_S512_S1x512 := by
  show StableHlo.after hostOps0 (fun b => m (c, b)) (Proc.devRef .tc main_v7) = _
  after_results
  first | done | rfl

theorem entry8 (c : Dev nD) : V m c main_v8 = shapeCast S1x512 (m ((c : Thread nD τ).loc main_arg10)) shapeCasts_S512_S1x512 := by
  show StableHlo.after hostOps0 (fun b => m (c, b)) (Proc.devRef .tc main_v8) = _
  after_results
  first | done | rfl

theorem w0 (c : Dev nD) (t : Fin cfg0.N) (r : Fin 128) (k : Fin 1024) : iblk m c 0 t (ix2 r k) = m ((c : Thread nD τ).loc main_arg0) (ix2 r k) := by
  blk_point [iblk, V, idx t]

theorem w1 (c : Dev nD) (t : Fin cfg0.N) (r : Fin 128) (k : Fin 1024) : iblk m c 1 t (ix2 r k) = m ((c : Thread nD τ).loc main_arg1) (ix2 r k) := by
  blk_point [iblk, V, idx t]

theorem w2 (c : Dev nD) (t : Fin cfg0.N) (r : Fin 128) (k : Fin 1024) : iblk m c 2 t (ix2 r k) = m ((c : Thread nD τ).loc main_arg2) (ix2 r k) := by
  blk_point [iblk, V, idx t]

theorem w3 (c : Dev nD) (t : Fin cfg0.N) (r : Fin 128) (k : Fin 1024) : iblk m c 3 t (ix2 r k) = m ((c : Thread nD τ).loc main_arg3) (ix2 r k) := by
  blk_point [iblk, V, idx t]

theorem w4 (c : Dev nD) (t : Fin cfg0.N) (k : Fin 1024) : iblk m c 4 t (ix2 0 k) = m ((c : Thread nD τ).loc main_arg4) (ix1 k) := by
  show V m c main_v5 (((cfg0.win 4).blk t).view.emb (ix2 0 k)) = _
  rw [show ((cfg0.win 4).blk t).view.emb (ix2 0 k) = (ix2 0 k) from by blk_point [idx t], entry5]
  pointwise []

theorem w5 (c : Dev nD) (t : Fin cfg0.N) (k : Fin 1024) (n : Fin 2048) : iblk m c 5 t (ix2 k n) = m ((c : Thread nD τ).loc main_arg5) (ix2 k n) := by
  blk_point [iblk, V, idx t]

theorem w6 (c : Dev nD) (t : Fin cfg0.N) (k : Fin 3) (n : Fin 512) : iblk m c 6 t (ix2 k n) = m ((c : Thread nD τ).loc main_arg6) (ix2 k n) := by
  blk_point [iblk, V, idx t]

theorem w7 (c : Dev nD) (t : Fin cfg0.N) (g : Fin 4) (i j : Fin 128) : iblk m c 7 t (ix3 g i j) = m ((c : Thread nD τ).loc main_arg7) (ix3 g i j) := by
  blk_point [iblk, V, idx t]

theorem w8 (c : Dev nD) (t : Fin cfg0.N) (k : Fin 512) : iblk m c 8 t (ix2 0 k) = m ((c : Thread nD τ).loc main_arg8) (ix1 k) := by
  show V m c main_v6 (((cfg0.win 8).blk t).view.emb (ix2 0 k)) = _
  rw [show ((cfg0.win 8).blk t).view.emb (ix2 0 k) = (ix2 0 k) from by blk_point [idx t], entry6]
  pointwise []

theorem w9 (c : Dev nD) (t : Fin cfg0.N) (k : Fin 512) : iblk m c 9 t (ix2 0 k) = m ((c : Thread nD τ).loc main_arg9) (ix1 k) := by
  show V m c main_v7 (((cfg0.win 9).blk t).view.emb (ix2 0 k)) = _
  rw [show ((cfg0.win 9).blk t).view.emb (ix2 0 k) = (ix2 0 k) from by blk_point [idx t], entry7]
  pointwise []

theorem w10 (c : Dev nD) (t : Fin cfg0.N) (k : Fin 512) : iblk m c 10 t (ix2 0 k) = m ((c : Thread nD τ).loc main_arg10) (ix1 k) := by
  show V m c main_v8 (((cfg0.win 10).blk t).view.emb (ix2 0 k)) = _
  rw [show ((cfg0.win 10).blk t).view.emb (ix2 0 k) = (ix2 0 k) from by blk_point [idx t], entry8]
  pointwise []

theorem w11 (c : Dev nD) (t : Fin cfg0.N) (k n : Fin 1024) : iblk m c 11 t (ix2 k n) = m ((c : Thread nD τ).loc main_arg11) (ix2 k n) := by
  blk_point [iblk, V, idx t]

theorem w12 (c : Dev nD) (t : Fin cfg0.N) (k : Fin 2) (r : Fin 128) (n : Fin 512) : iblk m c 12 t (ix3 k r n) = m ((c : Thread nD τ).loc main_arg12) (ix3 r k n) := by
  show V m c main_v3 (((cfg0.win 12).blk t).view.emb (ix3 k r n)) = _
  rw [show ((cfg0.win 12).blk t).view.emb (ix3 k r n) = (ix3 k r n) from by blk_point [idx t], entry3]
  pointwise []

theorem w13 (c : Dev nD) (t : Fin cfg0.N) (k : Fin 15) (r : Fin 128) (n : Fin 512) : iblk m c 13 t (ix3 k r n) = m ((c : Thread nD τ).loc main_arg13) (ix3 r k n) := by
  show V m c main_v4 (((cfg0.win 13).blk t).view.emb (ix3 k r n)) = _
  rw [show ((cfg0.win 13).blk t).view.emb (ix3 k r n) = (ix3 k r n) from by blk_point [idx t], entry4]
  pointwise []

theorem prj_blk (c : Dev nD) (t : Fin cfg0.N) : prj (iblk m c 0 t) (iblk m c 1 t) (iblk m c 2 t) (iblk m c 4 t) (iblk m c 5 t)
    = prjArr (m ((c : Thread nD τ).loc main_arg0)) (m ((c : Thread nD τ).loc main_arg1)) (m ((c : Thread nD τ).loc main_arg2)) (m ((c : Thread nD τ).loc main_arg4)) (m ((c : Thread nD τ).loc main_arg5)) := by
  funext r n
  unfold prj prjArr
  simp only [w0, w1, w2, w4, w5]

theorem final14 (c : Dev nD) : (dats m 0 c).arrAt 14 (cfgs 0).N
    = sampleArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t _ y => ?_
  blk_simp
  rw [after0_14]
  idx_vars y
  rw [show ((cfg0.win 14).blk t).view.emb (ix2 y0 y1) = ix2 y0 y1 from by
    blk_point [idx t]]
  refine (out_at ..).trans ?_
  unfold sampleArr
  rw [prj_blk m c t]
  simp only [w0, w3, w6, w7, w8, w9, w10, w11, w12, w13]
  rfl

theorem final15 (c : Dev nD) : (dats m 0 c).arrAt 15 (cfgs 0).N = vArr (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 15 _ (by decide +kernel) fun t _ y => ?_
  blk_simp
  rw [after0_15]
  rw [show ((cfg0.win 15).blk t).view.emb y = ix2 (y 0) (y 1) from by
    idx_vars y
    blk_point [idx t]]
  refine (v_at ..).trans ?_
  unfold vArr
  rw [prj_blk m c t]
  rfl

theorem final16 (c : Dev nD) : (dats m 0 c).arrAt 16 (cfgs 0).N = uArr (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 16 _ (by decide +kernel) fun t _ y => ?_
  blk_simp
  rw [after0_16]
  rw [show ((cfg0.win 16).blk t).view.emb y = ix2 (y 0) (y 1) from by
    idx_vars y
    blk_point [idx t]]
  refine (u_at ..).trans ?_
  unfold uArr
  rw [prj_blk m c t]
  rfl

/-- The gated history after the step: the oldest row dropped, the new row last. -/
def vHist (X SH SC : FVec Ideal S128x1024 .f32) (G : FVec Ideal S1024 .f32) (W : FVec Ideal S1024x2048 .f32)
    (SV : FVec Ideal S128x2x512 .f32) : FVec Ideal S128x2x512 .f32 := fun i =>
  seq (gateOf (prjArr X SH SC G W (i 0)) (i 2)) (fun k => SV (ix3 (i 0) k (i 2))) (1 + (i 1).val)

/-- The pooled history after the step. -/
def uHist (X SH SC : FVec Ideal S128x1024 .f32) (G : FVec Ideal S1024 .f32) (W : FVec Ideal S1024x2048 .f32)
    (SU : FVec Ideal S128x15x512 .f32) : FVec Ideal S128x15x512 .f32 := fun i =>
  seq (poolOf (prjArr X SH SC G W (i 0)) (i 2)) (fun k => SU (ix3 (i 0) k (i 2))) (1 + (i 1).val)

/-- The buffers the host operations after the region start from. -/
abbrev atExit (c : Dev nD) : Valuation τ sig (Elt Ideal) :=
  Pipeline.withArrays (cfgs 0).spec c (V0 m c) fun w => (dats m 0 c).arrAt w (cfgs 0).N

theorem exit_v (c : Dev nD) : atExit m c (Proc.devRef .tc main_v9_1) = vArr (m ((c : Thread nD τ).loc main_arg0)) (m ((c : Thread nD τ).loc main_arg1)) (m ((c : Thread nD τ).loc main_arg2)) (m ((c : Thread nD τ).loc main_arg4)) (m ((c : Thread nD τ).loc main_arg5)) :=
  (Pipeline.withArrays_arr (cfgs 0).spec launch0.win.arr_inj c (V0 m c) (fun w => (dats m 0 c).arrAt w (cfgs 0).N) 15).trans (final15 m c)

theorem exit_u (c : Dev nD) : atExit m c (Proc.devRef .tc main_v9_2) = uArr (m ((c : Thread nD τ).loc main_arg0)) (m ((c : Thread nD τ).loc main_arg1)) (m ((c : Thread nD τ).loc main_arg2)) (m ((c : Thread nD τ).loc main_arg4)) (m ((c : Thread nD τ).loc main_arg5)) :=
  (Pipeline.withArrays_arr (cfgs 0).spec launch0.win.arr_inj c (V0 m c) (fun w => (dats m 0 c).arrAt w (cfgs 0).N) 16).trans (final16 m c)

theorem exit_sv (c : Dev nD) : atExit m c (Proc.devRef .tc main_arg12) = m ((c : Thread nD τ).loc main_arg12) :=
  (Pipeline.withArrays_of_ne _ c (V0 m c) _ main_arg12 (by exact (by decide : ∀ w, Pipeline.arrRef spec0 w ≠ main_arg12))).trans (V_main_arg12 m c)

theorem exit_su (c : Dev nD) : atExit m c (Proc.devRef .tc main_arg13) = m ((c : Thread nD τ).loc main_arg13) :=
  (Pipeline.withArrays_of_ne _ c (V0 m c) _ main_arg13 (by exact (by decide : ∀ w, Pipeline.arrRef spec0 w ≠ main_arg13))).trans (V_main_arg13 m c)

theorem tail_v (c : Dev nD) : Pipeline.afterTail₀ cfgs (dats m) 0 (V0 m) [hostOps1] c main_v12
    = vHist (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg12)) := by
  have e : Pipeline.afterTail₀ cfgs (dats m) 0 (V0 m) [hostOps1] c main_v12
      = StableHlo.after hostOps1 (atExit m c) (Proc.devRef .tc main_v12) := rfl
  rw [e]
  unfold hostOps1
  have hv := exit_v m c
  have hs := exit_sv m c
  generalize atExit m c = V at hv hs ⊢
  after_results
  rw [hv, hs]
  funext i
  rw [eq_ix3 i]
  pointwise [vHist, vArr, seq]
  by_cases h : (i 1).val < 1
  · rw [dif_pos h, dif_pos (by omega)]
  · rw [dif_neg h, dif_neg (by omega)]

theorem tail_u (c : Dev nD) : Pipeline.afterTail₀ cfgs (dats m) 0 (V0 m) [hostOps1] c main_v15
    = uHist (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg13)) := by
  have e : Pipeline.afterTail₀ cfgs (dats m) 0 (V0 m) [hostOps1] c main_v15
      = StableHlo.after hostOps1 (atExit m c) (Proc.devRef .tc main_v15) := rfl
  rw [e]
  unfold hostOps1
  have hv := exit_u m c
  have hs := exit_su m c
  generalize atExit m c = V at hv hs ⊢
  after_results
  rw [hv, hs]
  funext i
  rw [eq_ix3 i]
  pointwise [uHist, uArr, seq]
  by_cases h : (i 1).val < 14
  · rw [dif_pos h, dif_pos (by omega)]
  · rw [dif_neg h, dif_neg (by omega)]

end Cert.Kernel4Ideal.Value
-- ==== Proof.SampleReference.lean ====
module

public import proofs.«01_k».proof.Proof.Gen.Reference4Ideal.Read
public import proofs.«01_k».proof.Proof.SampleRows
public import proofs.«01_k».proof.Proof.MixReference

@[expose] public section

set_option maxRecDepth 16384

noncomputable section

open Idealize.ShloMosaic Idealize.ShloMosaic.TcCoe Idealize.SL.Sem

namespace Cert.Reference4Ideal.Read
open Cert.Reference4Ideal Cert.Reference4Ideal.Gen Cert.Proof

/-- The reference's modulated row. -/
theorem norm_at (x0 x1 x2 : FVec Ideal S128x1024 .f32) (x4 : FVec Ideal S1024 .f32) (s : Fin 128) (d : Fin 1024) :
    val_main_v16 (F := Ideal) x0 x1 x2 x4 (ix2 s d) = modRow (fun k => x0 (ix2 s k)) (fun k => x4 (ix1 k))
      (fun k => x2 (ix2 s k)) (fun k => x1 (ix2 s k)) d := by
  pointwise [val_main_v16, val_main_v15, val_main_v14, val_main_v13, val_main_v12, val_main_v11,
    val_main_v10, val_main_v9, val_main_v8, val_main_v7, val_main_v6, val_main_v5, val_main_v4, val_main_v3, val_main_v2,
    val_main_v1, val_main_v0, val_main_cst, val_main_cst_0, val_main_cst_1, val_main_cst_2, modRow, invRms]

/-- The projection of one sequence's row, from the arguments. -/
def prjOf (x0 x1 x2 : FVec Ideal S128x1024 .f32) (x4 : FVec Ideal S1024 .f32) (x5 : FVec Ideal S1024x2048 .f32)
    (s : Fin 128) : Fin 2048 → EReal :=
  rowProj (fun d => x0 (ix2 s d)) (fun k => x4 (ix1 k)) (fun k => x2 (ix2 s k)) (fun k => x1 (ix2 s k)) fun k n => x5 (ix2 k n)

section
variable (x0 x1 x2 : FVec Ideal S128x1024 .f32) (x4 : FVec Ideal S1024 .f32) (x5 : FVec Ideal S1024x2048 .f32)
    (x12 : FVec Ideal S128x2x512 .f32) (x13 : FVec Ideal S128x15x512 .f32) (s : Fin 128)

theorem proj_at (n : Fin 2048) :
    val_main_v17 (F := Ideal) x0 x1 x2 x4 x5 (ix2 s n) = prjOf x0 x1 x2 x4 x5 s n := by
  pointwise [val_main_v17, norm_at, prjOf, rowProj]

theorem bgate_at (c : Fin 512) :
    val_main_v18 (F := Ideal) x0 x1 x2 x4 x5 (ix2 s c) = prjOf x0 x1 x2 x4 x5 s ⟨c.val, by omega⟩ := by
  pointwise [val_main_v18, proj_at]

theorem gate_at (c : Fin 512) :
    val_main_v22 (F := Ideal) x0 x1 x2 x4 x5 (ix2 s c) = gateOf (prjOf x0 x1 x2 x4 x5 s) c := by
  pointwise [val_main_v22, val_main_v19, val_main_v20, proj_at, gateOf]

theorem pool_at (c : Fin 512) :
    val_main_v21 (F := Ideal) x0 x1 x2 x4 x5 (ix2 s c) = poolOf (prjOf x0 x1 x2 x4 x5 s) c := by
  pointwise [val_main_v21, proj_at, poolOf]

/-- The gated rows, the history first. -/
theorem gates_at (n : Fin 3) (c : Fin 512) :
    val_main_v24 (F := Ideal) x0 x1 x2 x4 x5 x12 (ix3 s n c)
      = seq (gateOf (prjOf x0 x1 x2 x4 x5 s) c) (fun k => x12 (ix3 s k c)) n.val := by
  pointwise [val_main_v24, val_main_v23, gate_at, seq]

/-- The pooled rows, the history first. -/
theorem pools_at (n : Fin 16) (c : Fin 512) :
    val_main_v50 (F := Ideal) x0 x1 x2 x4 x5 x13 (ix3 s n c)
      = seq (poolOf (prjOf x0 x1 x2 x4 x5 s) c) (fun k => x13 (ix3 s k c)) n.val := by
  pointwise [val_main_v50, val_main_v49, pool_at, seq]

/-- The gated short convolution. -/
theorem conv_at (x6 : FVec Ideal S3x512 .f32) (c : Fin 512) :
    val_main_v48 (F := Ideal) x0 x1 x2 x4 x5 x6 x12 (ix2 s c) = prjOf x0 x1 x2 x4 x5 s ⟨c.val, by omega⟩
      * convRow (fun k => x6 (ix2 k c)) fun k => hist (gateOf (prjOf x0 x1 x2 x4 x5 s) c) (fun k => x12 (ix3 s k c)) k.val := by
  pointwise [val_main_v48, val_main_v47, val_main_v46, val_main_v45, val_main_v44, val_main_v43, val_main_v42, val_main_v41, val_main_v40,
    val_main_v39, val_main_v38, val_main_v37, val_main_v36, val_main_v35, val_main_v34, val_main_v33, val_main_v32,
    val_main_v31, val_main_v30, val_main_v29, val_main_v28, val_main_v27, val_main_v26, val_main_v25, bgate_at, gates_at, convRow]
  rw [seq_hist _ _ 0 2 rfl, seq_hist _ _ 1 1 rfl, seq_hist _ _ 2 0 rfl]
  congr 1
  simp only [mul_comm (x6 _)]
  abel

/-- The running sums. -/
theorem run_at (n : Fin 16) (c : Fin 512) :
    val_main_v51 (F := Ideal) x0 x1 x2 x4 x5 x13 (ix3 s n c)
      = csum (seq (poolOf (prjOf x0 x1 x2 x4 x5 s) c) (fun k => x13 (ix3 s k c))) (n.val + 1) := by
  have hx := fun k => pools_at x0 x1 x2 x4 x5 x13 s k c
  have hi : ∀ i, val_main_call0_call0_v0 (F := Ideal) i = 0 := fun i => by
    pointwise [val_main_call0_call0_v0, val_main_call0_call0_cst]
  unfold val_main_v51
  generalize val_main_v50 (F := Ideal) x0 x1 x2 x4 x5 x13 = y at hx ⊢
  generalize val_main_call0_call0_v0 (F := Ideal) = z at hi ⊢
  exact running_mid (A := 128) (M := 15) (N := 16) (C := 512) rfl y _ z hi _ _ s n c hx

/-- The running sums with a row of zeros before them. -/
theorem runs_at (n : Fin 17) (c : Fin 512) :
    val_main_v52 (F := Ideal) x0 x1 x2 x4 x5 x13 (ix3 s n c)
      = csum (seq (poolOf (prjOf x0 x1 x2 x4 x5 s) c) (fun k => x13 (ix3 s k c))) n.val := by
  pointwise [val_main_v52, val_main_call1_v0, val_main_c, run_at]
  by_cases h : 1 ≤ n.val
  · rw [dif_pos (by omega), Nat.sub_add_cancel h]
  · rw [dif_neg (by omega), show n.val = 0 by omega]
    rw [csum, Finset.range_zero, Finset.sum_empty]
    show (((0#32 : BitVec 32).toInt : ℝ) : EReal) = 0
    simp

/-- The pooled value and its history, counted backwards. -/
def poolHist (k : ℕ) (c : Fin 512) : EReal := hist (poolOf (prjOf x0 x1 x2 x4 x5 s) c) (fun k => x13 (ix3 s k c)) k

theorem poolHist_zero (c : Fin 512) : poolHist x0 x1 x2 x4 x5 x13 s 0 c = poolOf (prjOf x0 x1 x2 x4 x5 s) c := by
  unfold poolHist hist
  rw [dif_pos rfl]

theorem pos_zero : IntOp.addi 16384#32 0#32 = 16384#32 := by decide

/-- The mean over 2 rows, less the row. -/
theorem g0_at (hf : ∀ n, Fin' (prjOf x0 x1 x2 x4 x5 s n)) (ho : ∀ i, Fin' (x13 i)) (i : Fin 128) :
    val_main_v70 (F := Ideal) x0 x1 x2 x4 x5 x13 (ix2 s i)
      = Ideal.div (win2 fun k => poolHist x0 x1 x2 x4 x5 x13 s k.val ⟨i.val, by omega⟩) (cnt 2 16384)
        - poolHist x0 x1 x2 x4 x5 x13 s 0 ⟨i.val, by omega⟩ := by
  rw [poolHist_zero]
  unfold poolHist
  rw [← sum_win2, ← seq_sub (poolOf (prjOf x0 x1 x2 x4 x5 s) ⟨i.val, by omega⟩) (fun k => x13 (ix3 s k ⟨i.val, by omega⟩))
    (hf _) (fun _ => ho _) 14 2 rfl]
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_c_3,
    val_main_c_4, val_main_c_5, runs_at, pool_at, cnt]
  rw [pos_zero]

theorem m0_at (x7 : FVec Ideal S4x128x128 .f32) (hf : ∀ n, Fin' (prjOf x0 x1 x2 x4 x5 s n)) (ho : ∀ i, Fin' (x13 i)) (j : Fin 128) :
    val_main_v73 (F := Ideal) x0 x1 x2 x4 x5 x7 x13 (ix2 s j) = ∑ i : Fin 128,
      (Ideal.div (win2 fun k => poolHist x0 x1 x2 x4 x5 x13 s k.val ⟨i.val, by omega⟩) (cnt 2 16384)
        - poolHist x0 x1 x2 x4 x5 x13 s 0 ⟨i.val, by omega⟩) * x7 (ix3 0 i j) := by
  have h := fun i => g0_at x0 x1 x2 x4 x5 x13 s hf ho i
  pointwise [val_main_v73, val_main_v72, val_main_v71, h]

/-- The mean over 4 rows, less the row. -/
theorem g1_at (hf : ∀ n, Fin' (prjOf x0 x1 x2 x4 x5 s n)) (ho : ∀ i, Fin' (x13 i)) (i : Fin 128) :
    val_main_v88 (F := Ideal) x0 x1 x2 x4 x5 x13 (ix2 s i)
      = Ideal.div (win4 fun k => poolHist x0 x1 x2 x4 x5 x13 s k.val ⟨128 + i.val, by omega⟩) (cnt 4 16384)
        - poolHist x0 x1 x2 x4 x5 x13 s 0 ⟨128 + i.val, by omega⟩ := by
  rw [poolHist_zero]
  unfold poolHist
  rw [← sum_win4, ← seq_sub (poolOf (prjOf x0 x1 x2 x4 x5 s) ⟨128 + i.val, by omega⟩) (fun k => x13 (ix3 s k ⟨128 + i.val, by omega⟩))
    (hf _) (fun _ => ho _) 12 4 rfl]
  pointwise [val_main_v88, val_main_v87, val_main_v86, val_main_v85, val_main_v84, val_main_v83, val_main_v82, val_main_v81, val_main_v80, val_main_v79, val_main_v78, val_main_v77, val_main_v76, val_main_v75, val_main_v74, val_main_v55, val_main_v54, val_main_v53, val_main_c_3,
    val_main_c_6, val_main_c_7, runs_at, pool_at, cnt]
  rw [pos_zero]

theorem m1_at (x7 : FVec Ideal S4x128x128 .f32) (hf : ∀ n, Fin' (prjOf x0 x1 x2 x4 x5 s n)) (ho : ∀ i, Fin' (x13 i)) (j : Fin 128) :
    val_main_v91 (F := Ideal) x0 x1 x2 x4 x5 x7 x13 (ix2 s j) = ∑ i : Fin 128,
      (Ideal.div (win4 fun k => poolHist x0 x1 x2 x4 x5 x13 s k.val ⟨128 + i.val, by omega⟩) (cnt 4 16384)
        - poolHist x0 x1 x2 x4 x5 x13 s 0 ⟨128 + i.val, by omega⟩) * x7 (ix3 1 i j) := by
  have h := fun i => g1_at x0 x1 x2 x4 x5 x13 s hf ho i
  pointwise [val_main_v91, val_main_v90, val_main_v89, h]

/-- The mean over 8 rows, less the row. -/
theorem g2_at (hf : ∀ n, Fin' (prjOf x0 x1 x2 x4 x5 s n)) (ho : ∀ i, Fin' (x13 i)) (i : Fin 128) :
    val_main_v106 (F := Ideal) x0 x1 x2 x4 x5 x13 (ix2 s i)
      = Ideal.div (win8 fun k => poolHist x0 x1 x2 x4 x5 x13 s k.val ⟨256 + i.val, by omega⟩) (cnt 8 16384)
        - poolHist x0 x1 x2 x4 x5 x13 s 0 ⟨256 + i.val, by omega⟩ := by
  rw [poolHist_zero]
  unfold poolHist
  rw [← sum_win8, ← seq_sub (poolOf (prjOf x0 x1 x2 x4 x5 s) ⟨256 + i.val, by omega⟩) (fun k => x13 (ix3 s k ⟨256 + i.val, by omega⟩))
    (hf _) (fun _ => ho _) 8 8 rfl]
  pointwise [val_main_v106, val_main_v105, val_main_v104, val_main_v103, val_main_v102, val_main_v101, val_main_v100, val_main_v99, val_main_v98, val_main_v97, val_main_v96, val_main_v95, val_main_v94, val_main_v93, val_main_v92, val_main_v55, val_main_v54, val_main_v53, val_main_c_3,
    val_main_c_8, val_main_c_9, runs_at, pool_at, cnt]
  rw [pos_zero]

theorem m2_at (x7 : FVec Ideal S4x128x128 .f32) (hf : ∀ n, Fin' (prjOf x0 x1 x2 x4 x5 s n)) (ho : ∀ i, Fin' (x13 i)) (j : Fin 128) :
    val_main_v109 (F := Ideal) x0 x1 x2 x4 x5 x7 x13 (ix2 s j) = ∑ i : Fin 128,
      (Ideal.div (win8 fun k => poolHist x0 x1 x2 x4 x5 x13 s k.val ⟨256 + i.val, by omega⟩) (cnt 8 16384)
        - poolHist x0 x1 x2 x4 x5 x13 s 0 ⟨256 + i.val, by omega⟩) * x7 (ix3 2 i j) := by
  have h := fun i => g2_at x0 x1 x2 x4 x5 x13 s hf ho i
  pointwise [val_main_v109, val_main_v108, val_main_v107, h]

/-- The mean over 16 rows, less the row. -/
theorem g3_at (hf : ∀ n, Fin' (prjOf x0 x1 x2 x4 x5 s n)) (ho : ∀ i, Fin' (x13 i)) (i : Fin 128) :
    val_main_v124 (F := Ideal) x0 x1 x2 x4 x5 x13 (ix2 s i)
      = Ideal.div (win16 fun k => poolHist x0 x1 x2 x4 x5 x13 s k.val ⟨384 + i.val, by omega⟩) (cnt 16 16384)
        - poolHist x0 x1 x2 x4 x5 x13 s 0 ⟨384 + i.val, by omega⟩ := by
  rw [poolHist_zero]
  unfold poolHist
  rw [← sum_win16, ← seq_sub (poolOf (prjOf x0 x1 x2 x4 x5 s) ⟨384 + i.val, by omega⟩) (fun k => x13 (ix3 s k ⟨384 + i.val, by omega⟩))
    (hf _) (fun _ => ho _) 0 16 rfl]
  pointwise [val_main_v124, val_main_v123, val_main_v122, val_main_v121, val_main_v120, val_main_v119, val_main_v118, val_main_v117, val_main_v116, val_main_v115, val_main_v114, val_main_v113, val_main_v112, val_main_v111, val_main_v110, val_main_v55, val_main_v54, val_main_v53, val_main_c_3,
    val_main_c_10, val_main_c_11, runs_at, pool_at, cnt]
  rw [pos_zero]

theorem m3_at (x7 : FVec Ideal S4x128x128 .f32) (hf : ∀ n, Fin' (prjOf x0 x1 x2 x4 x5 s n)) (ho : ∀ i, Fin' (x13 i)) (j : Fin 128) :
    val_main_v127 (F := Ideal) x0 x1 x2 x4 x5 x7 x13 (ix2 s j) = ∑ i : Fin 128,
      (Ideal.div (win16 fun k => poolHist x0 x1 x2 x4 x5 x13 s k.val ⟨384 + i.val, by omega⟩) (cnt 16 16384)
        - poolHist x0 x1 x2 x4 x5 x13 s 0 ⟨384 + i.val, by omega⟩) * x7 (ix3 3 i j) := by
  have h := fun i => g3_at x0 x1 x2 x4 x5 x13 s hf ho i
  pointwise [val_main_v127, val_main_v126, val_main_v125, h]

/-- The four window means through their matrices, scaled. -/
theorem scaled_at (x7 : FVec Ideal S4x128x128 .f32) (x8 : FVec Ideal S512 .f32)
    (hf : ∀ n, Fin' (prjOf x0 x1 x2 x4 x5 s n)) (ho : ∀ i, Fin' (x13 i)) (c : Fin 512) :
    val_main_v131 (F := Ideal) x0 x1 x2 x4 x5 x7 x8 x13 (ix2 s c)
      = poolOut (fun k c => poolHist x0 x1 x2 x4 x5 x13 s k.val c) (fun w => cnt w 16384)
        (fun g i j => x7 (ix3 g i j)) (fun c => x8 (ix1 c)) c := by
  have h0 := fun j => m0_at x0 x1 x2 x4 x5 x13 s x7 hf ho j
  have h1 := fun j => m1_at x0 x1 x2 x4 x5 x13 s x7 hf ho j
  have h2 := fun j => m2_at x0 x1 x2 x4 x5 x13 s x7 hf ho j
  have h3 := fun j => m3_at x0 x1 x2 x4 x5 x13 s x7 hf ho j
  pointwise [val_main_v131, val_main_v130, val_main_v129, val_main_v128, h0, h1, h2, h3, poolOut, cat4]

theorem rmsA_at (x6 : FVec Ideal S3x512 .f32) (x9 : FVec Ideal S512 .f32) (c : Fin 512) :
    val_main_v144 (F := Ideal) x0 x1 x2 x4 x5 x6 x9 x12 (ix2 s c)
      = rms512 (fun c => prjOf x0 x1 x2 x4 x5 s ⟨c.val, by omega⟩ * convRow (fun k => x6 (ix2 k c)) fun k =>
        hist (gateOf (prjOf x0 x1 x2 x4 x5 s) c) (fun k => x12 (ix3 s k c)) k.val) (fun c => x9 (ix1 c)) c := by
  pointwise [val_main_v144, val_main_v143, val_main_v142, val_main_v141, val_main_v140, val_main_v139, val_main_v138, val_main_v137, val_main_v136, val_main_v135, val_main_v134, val_main_v133, val_main_v132, val_main_cst_12, val_main_cst_13, val_main_cst_14, conv_at, rms512]

theorem rmsB_at (x7 : FVec Ideal S4x128x128 .f32) (x8 x10 : FVec Ideal S512 .f32)
    (hf : ∀ n, Fin' (prjOf x0 x1 x2 x4 x5 s n)) (ho : ∀ i, Fin' (x13 i)) (c : Fin 512) :
    val_main_v157 (F := Ideal) x0 x1 x2 x4 x5 x7 x8 x10 x13 (ix2 s c)
      = rms512 (poolOut (fun k c => poolHist x0 x1 x2 x4 x5 x13 s k.val c) (fun w => cnt w 16384)
        (fun g i j => x7 (ix3 g i j)) (fun c => x8 (ix1 c))) (fun c => x10 (ix1 c)) c := by
  have h := fun c => scaled_at x0 x1 x2 x4 x5 x13 s x7 x8 hf ho c
  pointwise [val_main_v157, val_main_v156, val_main_v155, val_main_v154, val_main_v153, val_main_v152, val_main_v151, val_main_v150, val_main_v149, val_main_v148, val_main_v147, val_main_v146, val_main_v145, val_main_cst_15, val_main_cst_16, val_main_cst_17, h, rms512]

/-- The two normalised halves, side by side. -/
theorem halves_at (x6 : FVec Ideal S3x512 .f32) (x7 : FVec Ideal S4x128x128 .f32) (x8 x9 x10 : FVec Ideal S512 .f32)
    (c : Fin 512) :
    val_main_v158 (F := Ideal) x0 x1 x2 x4 x5 x6 x7 x8 x9 x10 x12 x13 (ix2 s ⟨c.val, by omega⟩)
      = val_main_v144 (F := Ideal) x0 x1 x2 x4 x5 x6 x9 x12 (ix2 s c)
    ∧ val_main_v158 (F := Ideal) x0 x1 x2 x4 x5 x6 x7 x8 x9 x10 x12 x13 (ix2 s ⟨512 + c.val, by omega⟩)
      = val_main_v157 (F := Ideal) x0 x1 x2 x4 x5 x7 x8 x10 x13 (ix2 s c) := by
  have hc := c.isLt
  constructor
  · pointwise [val_main_v158]
  · pointwise [val_main_v158]

theorem out_at (x3 : FVec Ideal S128x1024 .f32) (x6 : FVec Ideal S3x512 .f32) (x7 : FVec Ideal S4x128x128 .f32)
    (x8 x9 x10 : FVec Ideal S512 .f32) (x11 : FVec Ideal S1024x1024 .f32) (hf : ∀ n, Fin' (prjOf x0 x1 x2 x4 x5 s n))
    (ho : ∀ i, Fin' (x13 i)) (d : Fin 1024) :
    val_main_v161 (F := Ideal) x0 x1 x2 x3 x4 x5 x6 x7 x8 x9 x10 x11 x12 x13 (ix2 s d)
      = mixRow (fun d => x0 (ix2 s d)) (fun d => x3 (ix2 s d)) (fun c => prjOf x0 x1 x2 x4 x5 s ⟨c.val, by omega⟩)
        (fun k c => x6 (ix2 k c)) (fun k c => hist (gateOf (prjOf x0 x1 x2 x4 x5 s) c) (fun k => x12 (ix3 s k c)) k.val)
        (fun k c => poolHist x0 x1 x2 x4 x5 x13 s k.val c) (fun w => cnt w 16384)
        (fun g i j => x7 (ix3 g i j)) (fun c => x8 (ix1 c)) (fun c => x9 (ix1 c)) (fun c => x10 (ix1 c))
        (fun k d => x11 (ix2 k d)) d := by
  pointwise [val_main_v161, val_main_v160, val_main_v159, mixRow]
  rw [Cert.ReferenceIdeal.Read.sum_halves]
  simp only [(halves_at x0 x1 x2 x4 x5 x12 x13 s x6 x7 x8 x9 x10 _).1, (halves_at x0 x1 x2 x4 x5 x12 x13 s x6 x7 x8 x9 x10 _).2,
    rmsA_at, rmsB_at _ _ _ _ _ _ _ _ _ _ hf ho]

end

end Cert.Reference4Ideal.Read
-- ==== Proof.SampleClaim.lean ====
module

public import proofs.«01_k».proof.Defs
public import proofs.«01_k».proof.Proof.SampleKernel
public import proofs.«01_k».proof.Proof.SampleReference
public import proofs.«01_k».proof.Proof.MixClaim
public import proofs.«01_k».proof.Proof.Gen.Kernel4Ideal.Frame
public import proofs.«01_k».proof.Proof.Gen.Reference4Ideal.Run
public import proofs.«01_k».proof.Proof.Gen.Pre_bounded
public import Idealize.ShloMosaic.Lib.ReduceAll

@[expose] public section

set_option maxRecDepth 16384

noncomputable section

open Idealize.ShloMosaic Idealize.ShloMosaic.TcCoe Idealize.SL.Sem

namespace Cert.Proof

/-- What the precondition says of the six arrays it reads. -/
theorem bounded_fin [hP : Cert.Pre_bounded.Facts] (x0 x1 x2 x3 : FVec Ideal ⟨2, ![128, 1024]⟩ .f32) (x4 : FVec Ideal ⟨1, ![1024]⟩ .f32) (x5 : FVec Ideal ⟨2, ![1024, 2048]⟩ .f32)
    (x6 : FVec Ideal ⟨2, ![3, 512]⟩ .f32) (x7 : FVec Ideal ⟨3, ![4, 128, 128]⟩ .f32) (x8 x9 x10 : FVec Ideal ⟨1, ![512]⟩ .f32)
    (x11 : FVec Ideal ⟨2, ![1024, 1024]⟩ .f32) (x12 : FVec Ideal ⟨3, ![128, 2, 512]⟩ .f32) (x13 : FVec Ideal ⟨3, ![128, 15, 512]⟩ .f32)
    (h : Cert.Pre_bounded.fn (F := Ideal) x0 x1 x2 x3 x4 x5 x6 x7 x8 x9 x10 x11 x12 x13 ix0 = 1#1) :
    (∀ i, Fin' (x0 i)) ∧ (∀ i, Fin' (x1 i)) ∧ (∀ i, Fin' (x2 i)) ∧ (∀ i, Fin' (x4 i)) ∧ (∀ i, Fin' (x5 i))
      ∧ ∀ i, Fin' (x13 i) := by
  have e : ∀ a b : BitVec 1, IntOp.andi a b = 1#1 → a = 1#1 ∧ b = 1#1 := by decide
  unfold Cert.Pre_bounded.fn Cert.Pre_bounded.fn_part1 at h
  dsimp only at h
  obtain ⟨h, h13⟩ := e _ _ h
  obtain ⟨h, h5⟩ := e _ _ h
  obtain ⟨h, h4⟩ := e _ _ h
  obtain ⟨h, h2⟩ := e _ _ h
  obtain ⟨h0, h1⟩ := e _ _ h
  haveI : Subsingleton Cert.Pre_bounded.S_.Idx := ⟨fun a b => funext fun k => k.elim0⟩
  exact ⟨fun i => fin_of_olt _ _ i top_bits (Host.reduce_andi_all _ _ _ _ _ h0 i),
    fun i => fin_of_olt _ _ i top_bits (Host.reduce_andi_all _ _ _ _ _ h1 i),
    fun i => fin_of_olt _ _ i top_bits (Host.reduce_andi_all _ _ _ _ _ h2 i),
    fun i => fin_of_olt _ _ i top_bits (Host.reduce_andi_all _ _ _ _ _ h4 i),
    fun i => fin_of_olt _ _ i top_bits (Host.reduce_andi_all _ _ _ _ _ h5 i),
    fun i => fin_of_olt _ _ i top_bits (Host.reduce_andi_all _ _ _ _ _ h13 i)⟩

open Cert.Kernel4Ideal.Value Cert.Reference4Ideal.Read in
theorem sample_eq [hP : Cert.Pre_bounded.Facts] (x0 x1 x2 x3 : FVec Ideal ⟨2, ![128, 1024]⟩ .f32) (x4 : FVec Ideal ⟨1, ![1024]⟩ .f32) (x5 : FVec Ideal ⟨2, ![1024, 2048]⟩ .f32)
    (x6 : FVec Ideal ⟨2, ![3, 512]⟩ .f32) (x7 : FVec Ideal ⟨3, ![4, 128, 128]⟩ .f32) (x8 x9 x10 : FVec Ideal ⟨1, ![512]⟩ .f32)
    (x11 : FVec Ideal ⟨2, ![1024, 1024]⟩ .f32) (x12 : FVec Ideal ⟨3, ![128, 2, 512]⟩ .f32) (x13 : FVec Ideal ⟨3, ![128, 15, 512]⟩ .f32)
    (h : Cert.Pre_bounded.fn (F := Ideal) x0 x1 x2 x3 x4 x5 x6 x7 x8 x9 x10 x11 x12 x13 ix0 = 1#1) :
    val_main_v161 (F := Ideal) x0 x1 x2 x3 x4 x5 x6 x7 x8 x9 x10 x11 x12 x13 = sampleArr x0 x1 x2 x3 x4 x5 x6 x7 x8 x9 x10 x11 x12 x13 := by
  obtain ⟨h0, h1, h2, h4, h5, h13⟩ := bounded_fin x0 x1 x2 x3 x4 x5 x6 x7 x8 x9 x10 x11 x12 x13 h
  funext i
  rw [eq_ix2 i]
  exact out_at x0 x1 x2 x4 x5 x12 x13 (i 0) x3 x6 x7 x8 x9 x10 x11
    (rowProj_fin _ _ _ _ _ (fun _ => h0 _) (fun _ => h4 _) (fun _ => h2 _) (fun _ => h1 _) fun _ _ => h5 _) h13 (i 1)

open Cert.Kernel4Ideal.Value Cert.Reference4Ideal.Read in
theorem sample_v_eq (x0 x1 x2 : FVec Ideal ⟨2, ![128, 1024]⟩ .f32) (x4 : FVec Ideal ⟨1, ![1024]⟩ .f32) (x5 : FVec Ideal ⟨2, ![1024, 2048]⟩ .f32) (x12 : FVec Ideal ⟨3, ![128, 2, 512]⟩ .f32) :
    val_main_v162 (F := Ideal) x0 x1 x2 x4 x5 x12 = vHist x0 x1 x2 x4 x5 x12 := by
  funext i
  rw [eq_ix3 i]
  refine (?_ : _ = val_main_v24 (F := Ideal) x0 x1 x2 x4 x5 x12 (ix3 (i 0) ⟨1 + (i 1).val, by have := (i 1).isLt; change _ < 2 at this; omega⟩ (i 2))).trans
    (gates_at x0 x1 x2 x4 x5 x12 (i 0) _ (i 2))
  pointwise [val_main_v162]

open Cert.Kernel4Ideal.Value Cert.Reference4Ideal.Read in
theorem sample_u_eq (x0 x1 x2 : FVec Ideal ⟨2, ![128, 1024]⟩ .f32) (x4 : FVec Ideal ⟨1, ![1024]⟩ .f32) (x5 : FVec Ideal ⟨2, ![1024, 2048]⟩ .f32) (x13 : FVec Ideal ⟨3, ![128, 15, 512]⟩ .f32) :
    val_main_v163 (F := Ideal) x0 x1 x2 x4 x5 x13 = uHist x0 x1 x2 x4 x5 x13 := by
  funext i
  rw [eq_ix3 i]
  refine (?_ : _ = val_main_v50 (F := Ideal) x0 x1 x2 x4 x5 x13 (ix3 (i 0) ⟨1 + (i 1).val, by have := (i 1).isLt; change _ < 15 at this; omega⟩ (i 2))).trans
    (pools_at x0 x1 x2 x4 x5 x13 (i 0) _ (i 2))
  pointwise [val_main_v163]

section
open Cert.Reference4Ideal Cert.Reference4Ideal.Gen Cert.Reference4Ideal.Read Cert.Kernel4Ideal.Value

/-- The reference's run, with its three results as the layer's arrays. -/
theorem sample_run [hP : Cert.Pre_bounded.Facts] (m : (ℓ : Loc nD τ sig) → Buf (Elt Ideal) ℓ) (ρ : Dev nD → PrngReg)
    (h : ∀ c : Dev nD, Cert.Pre_bounded.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) ix0 = 1#1) :
    θ_run defs (onTc (τ := τ) (main (F := Ideal))) ⟨m, fun _ => 0, ρ⟩ fun r => ∀ c : Dev nD,
      r.2.mem ((c.tc : Thread nD τ).loc main_v161) = sampleArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v162) = vHist (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg12))
      ∧ r.2.mem ((c.tc : Thread nD τ).loc main_v163) = uHist (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ k c => ⟨((k c).1.trans (val_main_v161_eq (StableHlo.launchContents m c))).trans
      (sample_eq _ _ _ _ _ _ _ _ _ _ _ _ _ _ (h c)),
    ((k c).2.1.trans (val_main_v162_eq (StableHlo.launchContents m c))).trans (sample_v_eq _ _ _ _ _ _),
    ((k c).2.2.1.trans (val_main_v163_eq (StableHlo.launchContents m c))).trans (sample_u_eq _ _ _ _ _ _), (k c).2.2.2⟩)
    (Cert.Reference4Ideal.Value.run m ρ)

end

/-- The precondition says the same of equal arrays. -/
theorem bounded_congr {x0 y0 : FVec Ideal ⟨2, ![128, 1024]⟩ .f32} {x1 y1 : FVec Ideal ⟨2, ![128, 1024]⟩ .f32} {x2 y2 : FVec Ideal ⟨2, ![128, 1024]⟩ .f32} {x3 y3 : FVec Ideal ⟨2, ![128, 1024]⟩ .f32} {x4 y4 : FVec Ideal ⟨1, ![1024]⟩ .f32} {x5 y5 : FVec Ideal ⟨2, ![1024, 2048]⟩ .f32} {x6 y6 : FVec Ideal ⟨2, ![3, 512]⟩ .f32} {x7 y7 : FVec Ideal ⟨3, ![4, 128, 128]⟩ .f32} {x8 y8 : FVec Ideal ⟨1, ![512]⟩ .f32} {x9 y9 : FVec Ideal ⟨1, ![512]⟩ .f32} {x10 y10 : FVec Ideal ⟨1, ![512]⟩ .f32} {x11 y11 : FVec Ideal ⟨2, ![1024, 1024]⟩ .f32} {x12 y12 : FVec Ideal ⟨3, ![128, 2, 512]⟩ .f32} {x13 y13 : FVec Ideal ⟨3, ![128, 15, 512]⟩ .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13)
    (h : Cert.Pre_bounded.fn (F := Ideal) y0 y1 y2 y3 y4 y5 y6 y7 y8 y9 y10 y11 y12 y13 ix0 = 1#1) : Cert.Pre_bounded.fn (F := Ideal) x0 x1 x2 x3 x4 x5 x6 x7 x8 x9 x10 x11 x12 x13 ix0 = 1#1 := by
  subst h0 h1 h2 h3 h4 h5 h6 h7 h8 h9 h10 h11 h12 h13
  exact h

open Cert.Kernel4Ideal.Value in
theorem sample_congr {x0 y0 : FVec Ideal ⟨2, ![128, 1024]⟩ .f32} {x1 y1 : FVec Ideal ⟨2, ![128, 1024]⟩ .f32} {x2 y2 : FVec Ideal ⟨2, ![128, 1024]⟩ .f32} {x3 y3 : FVec Ideal ⟨2, ![128, 1024]⟩ .f32} {x4 y4 : FVec Ideal ⟨1, ![1024]⟩ .f32} {x5 y5 : FVec Ideal ⟨2, ![1024, 2048]⟩ .f32} {x6 y6 : FVec Ideal ⟨2, ![3, 512]⟩ .f32} {x7 y7 : FVec Ideal ⟨3, ![4, 128, 128]⟩ .f32} {x8 y8 : FVec Ideal ⟨1, ![512]⟩ .f32} {x9 y9 : FVec Ideal ⟨1, ![512]⟩ .f32} {x10 y10 : FVec Ideal ⟨1, ![512]⟩ .f32} {x11 y11 : FVec Ideal ⟨2, ![1024, 1024]⟩ .f32} {x12 y12 : FVec Ideal ⟨3, ![128, 2, 512]⟩ .f32} {x13 y13 : FVec Ideal ⟨3, ![128, 15, 512]⟩ .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    sampleArr x0 x1 x2 x3 x4 x5 x6 x7 x8 x9 x10 x11 x12 x13 = sampleArr y0 y1 y2 y3 y4 y5 y6 y7 y8 y9 y10 y11 y12 y13 := by
  subst h0 h1 h2 h3 h4 h5 h6 h7 h8 h9 h10 h11 h12 h13
  rfl

open Cert.Kernel4Ideal.Value in
theorem sample_vu_congr {x0 y0 : FVec Ideal ⟨2, ![128, 1024]⟩ .f32} {x1 y1 : FVec Ideal ⟨2, ![128, 1024]⟩ .f32} {x2 y2 : FVec Ideal ⟨2, ![128, 1024]⟩ .f32} {x4 y4 : FVec Ideal ⟨1, ![1024]⟩ .f32} {x5 y5 : FVec Ideal ⟨2, ![1024, 2048]⟩ .f32} {x12 y12 : FVec Ideal ⟨3, ![128, 2, 512]⟩ .f32} {x13 y13 : FVec Ideal ⟨3, ![128, 15, 512]⟩ .f32}
    (h0 : x0 = y0) (h1 : x1 = y1) (h2 : x2 = y2) (h4 : x4 = y4) (h5 : x5 = y5) (h12 : x12 = y12) (h13 : x13 = y13) : vHist x0 x1 x2 x4 x5 x12 = vHist y0 y1 y2 y4 y5 y12 ∧ uHist x0 x1 x2 x4 x5 x13 = uHist y0 y1 y2 y4 y5 y13 := by
  subst h0 h1 h2 h4 h5 h12 h13
  exact ⟨rfl, rfl⟩

section
open Cert.Kernel4Ideal Cert.Kernel4Ideal.Gen Cert.Kernel4Ideal.Value

/-- The kernel's run, with its three results as the layer's arrays. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9_0) = sampleArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v12) = vHist (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg12))
      ∧ r.2.mem ((c.tc : Thread nD τ).loc main_v15) = uHist (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨((h.1 c).1 14).trans (final14 m c),
      ((h.1 c).2 main_v12 (Pipeline.mem_restRefs_of main_v12 (by decide) (by decide))).trans (tail_v m c),
      ((h.1 c).2 main_v15 (Pipeline.mem_restRefs_of main_v15 (by decide) (by decide))).trans (tail_u m c), h.2 c⟩)
    (θ_run_and (run_main m ρ) (unchanged m ρ))

end

set_option maxHeartbeats 1600000 in
/-- The mixing sub-layer for one new row of each sequence. -/
theorem sample : Cert.algebraic_Kernel4Ideal_Reference4Ideal_pre_bounded := by
  pair_intro
  · exact kernel_run m g
  · refine (θ_run Cert.Reference4Ideal.defs _ _).mono (fun r h c => ?_) (sample_run m' g' fun c => ?_)
    · obtain ⟨h0, h1, h2, h3, h4, h5, h6, h7, h8, h9, h10, h11, h12, h13⟩ := hagree c
      obtain ⟨r0, r1, r2, r3⟩ := h c
      have e := sample_vu_congr h0 h1 h2 h4 h5 h12 h13
      exact ⟨r0.trans (sample_congr h0 h1 h2 h3 h4 h5 h6 h7 h8 h9 h10 h11 h12 h13), r1.trans e.1, r2.trans e.2, r3⟩
    · obtain ⟨h0, h1, h2, h3, h4, h5, h6, h7, h8, h9, h10, h11, h12, h13⟩ := hagree c
      exact bounded_congr h0 h1 h2 h3 h4 h5 h6 h7 h8 h9 h10 h11 h12 h13 (congrFun (hpre c) ix0)

theorem sample_reference_frame : Cert.quiescent_Reference4Ideal := fun m g _ =>
  (θ_run _ _ _).mono (fun _ h => ⟨fun c => (h c).2.2.2, sem_eq_zero_of_no_sems (by decide) _⟩) (Cert.Reference4Ideal.Value.run m g)

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.MixClaim
public import proofs.«01_k».proof.Proof.FfnClaim
public import proofs.«01_k».proof.Proof.Gen.Kernel3
public import proofs.«01_k».proof.Proof.Gen.Kernel3.Launch
public import proofs.«01_k».proof.Proof.Gen.Kernel3.Loops
public import proofs.«01_k».proof.Proof.Gen.Kernel3Ideal
public import proofs.«01_k».proof.Proof.Gen.Kernel3Ideal.Launch
public import proofs.«01_k».proof.Proof.Gen.Kernel3Ideal.Loops
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_tables
public import proofs.«01_k».proof.Proof.MoeClaim
public import proofs.«01_k».proof.Proof.SampleClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_bounded
public import Idealize.ShloMosaic.Adequacy
public import Idealize.ShloMosaic.Init

@[expose] public section

noncomputable section

namespace Cert.Proof

open Idealize.ShloMosaic Idealize.SL.Sem Cert.Kernel

instance prefacts : Cert.Pre_finite.Facts where
  bcast_S_S8x2048x1024 := by decide
  reducesTo_S8x2048x1024_S_d0_1_2 := by decide
  h_S_ := by decide
  bcast_S_S8x1x1024 := by decide
  reducesTo_S8x1x1024_S_d0_1_2 := by decide
  bcast_S_S1024 := by decide
  reducesTo_S1024_S_d0 := by decide
  bcast_S_S1024x2048 := by decide
  reducesTo_S1024x2048_S_d0_1 := by decide

/-- The gated feed-forward sub-layer. -/
theorem ffn : Cert.algebraic_Kernel2Ideal_Reference2Ideal := by
  pair_intro
  · run_from Cert.Kernel2Ideal.Gen.run_main m g
  · run_from Cert.Reference2Ideal.Value.run m' g'
    rw [Cert.Kernel2Ideal.Value.final m c, Cert.Reference2Ideal.Read.val_main_v26_eq]
    obtain ⟨h0, h1, h2, h3, h4, h5, h6, h7⟩ := hagree c
    rw [h0, h1, h2, h3, h4, h5, h6, h7]
    exact ffn_eq _ _ _ _ _ _ _ _

/-- The precondition says the same of equal arrays. -/
theorem pre_congr {x0 y0 : FVec Ideal ⟨3, ![8, 2048, 1024]⟩ .f32} {x1 y1 : FVec Ideal ⟨3, ![8, 1, 1024]⟩ .f32} {x2 y2 : FVec Ideal ⟨3, ![8, 1, 1024]⟩ .f32} {x3 y3 : FVec Ideal ⟨3, ![8, 1, 1024]⟩ .f32} {x4 y4 : FVec Ideal ⟨1, ![1024]⟩ .f32} {x5 y5 : FVec Ideal ⟨2, ![1024, 2048]⟩ .f32} {x6 y6 : FVec Ideal ⟨2, ![3, 512]⟩ .f32} {x7 y7 : FVec Ideal ⟨3, ![4, 128, 128]⟩ .f32} {x8 y8 : FVec Ideal ⟨1, ![512]⟩ .f32} {x9 y9 : FVec Ideal ⟨1, ![512]⟩ .f32} {x10 y10 : FVec Ideal ⟨1, ![512]⟩ .f32} {x11 y11 : FVec Ideal ⟨2, ![1024, 1024]⟩ .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11)
    (h : Cert.Pre_finite.fn (F := Ideal) y0 y1 y2 y3 y4 y5 y6 y7 y8 y9 y10 y11 ix0 = 1#1) :
    Cert.Pre_finite.fn (F := Ideal) x0 x1 x2 x3 x4 x5 x6 x7 x8 x9 x10 x11 ix0 = 1#1 := by
  subst h0 h1 h2 h3 h4 h5 h6 h7 h8 h9 h10 h11
  exact h

open Cert.KernelIdeal.Value in
theorem mix_congr {x0 y0 : FVec Ideal ⟨3, ![8, 2048, 1024]⟩ .f32} {x1 y1 : FVec Ideal ⟨3, ![8, 1, 1024]⟩ .f32} {x2 y2 : FVec Ideal ⟨3, ![8, 1, 1024]⟩ .f32} {x3 y3 : FVec Ideal ⟨3, ![8, 1, 1024]⟩ .f32} {x4 y4 : FVec Ideal ⟨1, ![1024]⟩ .f32} {x5 y5 : FVec Ideal ⟨2, ![1024, 2048]⟩ .f32} {x6 y6 : FVec Ideal ⟨2, ![3, 512]⟩ .f32} {x7 y7 : FVec Ideal ⟨3, ![4, 128, 128]⟩ .f32} {x8 y8 : FVec Ideal ⟨1, ![512]⟩ .f32} {x9 y9 : FVec Ideal ⟨1, ![512]⟩ .f32} {x10 y10 : FVec Ideal ⟨1, ![512]⟩ .f32} {x11 y11 : FVec Ideal ⟨2, ![1024, 1024]⟩ .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) :
    mixArr x0 x1 x2 x3 x4 x5 x6 x7 x8 x9 x10 x11 = mixArr y0 y1 y2 y3 y4 y5 y6 y7 y8 y9 y10 y11 := by
  subst h0 h1 h2 h3 h4 h5 h6 h7 h8 h9 h10 h11
  rfl

open Cert.KernelIdeal.Value in
theorem conv_congr {x0 y0 : FVec Ideal ⟨3, ![8, 2048, 1024]⟩ .f32} {x1 y1 : FVec Ideal ⟨3, ![8, 1, 1024]⟩ .f32} {x2 y2 : FVec Ideal ⟨3, ![8, 1, 1024]⟩ .f32} {x4 y4 : FVec Ideal ⟨1, ![1024]⟩ .f32} {x5 y5 : FVec Ideal ⟨2, ![1024, 2048]⟩ .f32}
    (h0 : x0 = y0) (h1 : x1 = y1) (h2 : x2 = y2) (h4 : x4 = y4) (h5 : x5 = y5) : convArr x0 x1 x2 x4 x5 = convArr y0 y1 y2 y4 y5 := by
  subst h0 h1 h2 h4 h5
  rfl

open Cert.KernelIdeal.Value in
theorem pool_congr {x0 y0 : FVec Ideal ⟨3, ![8, 2048, 1024]⟩ .f32} {x1 y1 : FVec Ideal ⟨3, ![8, 1, 1024]⟩ .f32} {x2 y2 : FVec Ideal ⟨3, ![8, 1, 1024]⟩ .f32} {x4 y4 : FVec Ideal ⟨1, ![1024]⟩ .f32} {x5 y5 : FVec Ideal ⟨2, ![1024, 2048]⟩ .f32}
    (h0 : x0 = y0) (h1 : x1 = y1) (h2 : x2 = y2) (h4 : x4 = y4) (h5 : x5 = y5) : poolArr x0 x1 x2 x4 x5 = poolArr y0 y1 y2 y4 y5 := by
  subst h0 h1 h2 h4 h5
  rfl

set_option maxHeartbeats 1600000 in
/-- The mixing sub-layer over the prompts. -/
theorem mix : Cert.algebraic_KernelIdeal_ReferenceIdeal_pre_finite := by
  pair_intro
  · run_from Cert.KernelIdeal.Gen.run_main m g
  · refine (θ_run Cert.ReferenceIdeal.defs _ _).mono (fun r h c => ?_) (mix_run m' g' fun c => ?_)
    · obtain ⟨h0, h1, h2, h3, h4, h5, h6, h7, h8, h9, h10, h11⟩ := hagree c
      obtain ⟨r0, r1, r2, r3⟩ := h c
      exact ⟨r0.trans ((mix_congr h0 h1 h2 h3 h4 h5 h6 h7 h8 h9 h10 h11).trans (Cert.KernelIdeal.Value.final12 m c).symm),
        r1.trans ((conv_congr h0 h1 h2 h4 h5).trans (Cert.KernelIdeal.Value.final13 m c).symm),
        r2.trans ((pool_congr h0 h1 h2 h4 h5).trans (Cert.KernelIdeal.Value.final14 m c).symm), r3⟩
    · obtain ⟨h0, h1, h2, h3, h4, h5, h6, h7, h8, h9, h10, h11⟩ := hagree c
      exact pre_congr h0 h1 h2 h3 h4 h5 h6 h7 h8 h9 h10 h11 (congrFun (hpre c) ix0)

theorem mix_reference_frame : Cert.quiescent_ReferenceIdeal := fun m g _ =>
  (θ_run _ _ _).mono (fun _ h => ⟨fun c => (h c).2.2.2, sem_eq_zero_of_no_sems (by decide) _⟩) (Cert.ReferenceIdeal.Value.run m g)

theorem ffn_reference_frame : Cert.quiescent_Reference2Ideal := fun m g _ =>
  (θ_run _ _ _).mono (fun _ h => ⟨fun c => (h c).2, sem_eq_zero_of_no_sems (by decide) _⟩) (Cert.Reference2Ideal.Value.run m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, prefacts, Cert.Pre_tables.Gen.facts, Cert.Pre_bounded.Gen.facts,
    fun m g _ => Cert.Kernel.Gen.frame m g,
    fun m g _ => Cert.KernelIdeal.Gen.frame m g, fun m g _ => Cert.KernelIdeal.Gen.frame m g, mix_reference_frame,
    fun m g _ => mix_reference_frame m g trivial, fun m g _ => Cert.Kernel2.Gen.frame m g,
    fun m g _ => Cert.Kernel2Ideal.Gen.frame m g, ffn_reference_frame, moe_frame, moe_ideal_frame, moe_reference_frame,
    fun m g _ => moe_reference_frame m g trivial, fun m g _ => Cert.Kernel4.Gen.frame m g,
    fun m g _ => Cert.Kernel4Ideal.Gen.frame m g, fun m g _ => Cert.Kernel4Ideal.Gen.frame m g, sample_reference_frame,
    fun m g _ => sample_reference_frame m g trivial, trivial, mix, trivial, ffn, trivial, moe, trivial, sample⟩

end Cert.Proof

end
